-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v62)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v62) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v100) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v44)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v44) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v15) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v79) = v0 c
          ∧ r.2.mem ((c.tc : Thread Cert.Reference6Ideal.nD Cert.Reference6Ideal.τ).loc Cert.Reference6Ideal.main_v80) = v1 c
          ∧ r.2.mem ((c.tc : Thread Cert.Reference6Ideal.nD Cert.Reference6Ideal.τ).loc Cert.Reference6Ideal.main_v83) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v12_0)) (v1 : (c : Dev Cert.Kernel8Ideal.nD) → Buf (Elt Ideal) ((c.tc : Thread Cert.Kernel8Ideal.nD Cert.Kernel8Ideal.τ).loc Cert.Kernel8Ideal.main_v12_1)) (v2 : (c : Dev Cert.Kernel8Ideal.nD) → Buf (Elt Ideal) ((c.tc : Thread Cert.Kernel8Ideal.nD Cert.Kernel8Ideal.τ).loc Cert.Kernel8Ideal.main_v15)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12_0) = v0 c
          ∧ r.2.mem ((c.tc : Thread Cert.Kernel8Ideal.nD Cert.Kernel8Ideal.τ).loc Cert.Kernel8Ideal.main_v12_1) = v1 c
          ∧ r.2.mem ((c.tc : Thread Cert.Kernel8Ideal.nD Cert.Kernel8Ideal.τ).loc Cert.Kernel8Ideal.main_v15) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_v43) = v1 c
          ∧ r.2.mem ((c.tc : Thread Cert.Reference8Ideal.nD Cert.Reference8Ideal.τ).loc Cert.Reference8Ideal.main_v46) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hPre_finite : Cert.Pre_finite.Facts) (hPre_finite6 : Cert.Pre_finite6.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S4x4352x6144 : Shape := ⟨3, ![4, 4352, 6144]⟩
abbrev S8x15x31 : Shape := ⟨3, ![8, 15, 31]⟩
abbrev S_ : Shape := ⟨0, ![]⟩

class Facts : Prop where
  bcast_S_S4x4352x6144 : S_.BroadcastsInDim S4x4352x6144 (![] : Fin 0 → Fin S4x4352x6144.rank)
  reducesTo_S4x4352x6144_S_d0_1_2 : S4x4352x6144.ReducesTo [0, 1, 2] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S4x4352x6144 .bf16) (main_arg1 : FVec F S8x15x31 .f32) : IVec S_ 1 :=
  let main_cst : FVec F S_ .bf16 := constant S_ .bf16 0xFF80#16
  let main_v0 : FVec F S4x4352x6144 .bf16 := broadcastInDim S4x4352x6144 ![] bcast_S_S4x4352x6144 main_cst
  let main_v1 : IVec S4x4352x6144 1 := cmpf .ogt main_arg0 main_v0
  let main_cst_0 : FVec F S_ .bf16 := constant S_ .bf16 0x7F80#16
  let main_v2 : FVec F S4x4352x6144 .bf16 := broadcastInDim S4x4352x6144 ![] bcast_S_S4x4352x6144 main_cst_0
  let main_v3 : IVec S4x4352x6144 1 := cmpf .olt main_arg0 main_v2
  let main_v4 : IVec S4x4352x6144 1 := andi main_v1 main_v3
  let main_c : IVec S_ 1 := constantI S_ 1 1#1
  let main_v5 : IVec S_ 1 := (fun x v => Host.reduce IntOp.andi x v reducesTo_S4x4352x6144_S_d0_1_2 h_S_) main_v4 main_c
  let main_cst_1 : FVec F S_ .f32 := constant S_ .f32 0xFF800000#32
  let main_v6 : FVec F S8x15x31 .f32 := broadcastInDim S8x15x31 ![] bcast_S_S8x15x31 main_cst_1
  let main_v7 : IVec S8x15x31 1 := cmpf .ogt main_arg1 main_v6
  let main_cst_2 : FVec F S_ .f32 := constant S_ .f32 0x7F800000#32
  let main_v8 : FVec F S8x15x31 .f32 := broadcastInDim S8x15x31 ![] bcast_S_S8x15x31 main_cst_2
  let main_v9 : IVec S8x15x31 1 := cmpf .olt main_arg1 main_v8
  let main_v10 : IVec S8x15x31 1 := andi main_v7 main_v9
  let main_c_3 : IVec S_ 1 := constantI S_ 1 1#1
  let main_v11 : IVec S_ 1 := (fun x v => Host.reduce IntOp.andi x v reducesTo_S8x15x31_S_d0_1_2 h_S_) main_v10 main_c_3
  let main_v12 : IVec S_ 1 := andi main_v5 main_v11
  main_v12
-- ==== Pre_finite6.lean ====
abbrev S4x4352x1024 : Shape := ⟨3, ![4, 4352, 1024]⟩
abbrev S1x2048x2048 : Shape := ⟨3, ![1, 2048, 2048]⟩
abbrev S4x4352x2048 : Shape := ⟨3, ![4, 4352, 2048]⟩
abbrev S4x12288 : Shape := ⟨2, ![4, 12288]⟩
abbrev S12288 : Shape := ⟨1, ![12288]⟩
abbrev S2x2048 : Shape := ⟨2, ![2, 2048]⟩
abbrev S2x2048x16 : Shape := ⟨3, ![2, 2048, 16]⟩
abbrev S_ : Shape := ⟨0, ![]⟩

class Facts : Prop where
  bcast_S_S4x12288 : S_.BroadcastsInDim S4x12288 (![] : Fin 0 → Fin S4x12288.rank)
  reducesTo_S4x12288_S_d0_1 : S4x12288.ReducesTo [0, 1] S_
  h_S_ : 0 < S_.numel
  bcast_S_S12288 : S_.BroadcastsInDim S12288 (![] : Fin 0 → Fin S12288.rank)
  reducesTo_S12288_S_d0 : S12288.ReducesTo [0] S_
  bcast_S_S2x2048 : S_.BroadcastsInDim S2x2048 (![] : Fin 0 → Fin S2x2048.rank)
  reducesTo_S2x2048_S_d0_1 : S2x2048.ReducesTo [0, 1] S_
  bcast_S_S2x2048x16 : S_.BroadcastsInDim S2x2048x16 (![] : Fin 0 → Fin S2x2048x16.rank)
  reducesTo_S2x2048x16_S_d0_1_2 : S2x2048x16.ReducesTo [0, 1, 2] S_

variable [Facts]

def fn_part1 {F : FTy → Type} [FloatOps F] (main_arg6 : FVec F S2x2048 .f32) (main_arg7 : FVec F S2x2048x16 .f32) (main_v12 : IVec S_ 1) (main_v14 : IVec S2x2048 1) (main_v15 : FVec F S2x2048 .f32) : IVec S_ 1 :=
  let main_v16 : IVec S2x2048 1 := cmpf .olt main_arg6 main_v15
  let main_v17 : IVec S2x2048 1 := andi main_v14 main_v16
  let main_c_6 : IVec S_ 1 := constantI S_ 1 1#1
  let main_v18 : IVec S_ 1 := (fun x v => Host.reduce IntOp.andi x v reducesTo_S2x2048_S_d0_1 h_S_) main_v17 main_c_6
  let main_v19 : IVec S_ 1 := andi main_v12 main_v18
  let main_cst_7 : FVec F S_ .f32 := constant S_ .f32 0xFF800000#32
  let main_v20 : FVec F S2x2048x16 .f32 := broadcastInDim S2x2048x16 ![] bcast_S_S2x2048x16 main_cst_7
  let main_v21 : IVec S2x2048x16 1 := cmpf .ogt main_arg7 main_v20
  let main_cst_8 : FVec F S_ .f32 := constant S_ .f32 0x7F800000#32
  let main_v22 : FVec F S2x2048x16 .f32 := broadcastInDim S2x2048x16 ![] bcast_S_S2x2048x16 main_cst_8
  let main_v23 : IVec S2x2048x16 1 := cmpf .olt main_arg7 main_v22
  let main_v24 : IVec S2x2048x16 1 := andi main_v21 main_v23
  let main_c_9 : IVec S_ 1 := constantI S_ 1 1#1
  let main_v25 : IVec S_ 1 := (fun x v => Host.reduce IntOp.andi x v reducesTo_S2x2048x16_S_d0_1_2 h_S_) main_v24 main_c_9
  let main_v26 : IVec S_ 1 := andi main_v19 main_v25
  main_v26

def fn {F : FTy → Type} [FloatOps F] (main_arg0 : FVec F S4x4352x1024 .bf16) (main_arg1 : FVec F S4x4352x1024 .bf16) (main_arg2 : FVec F S1x2048x2048 .f32) (main_arg3 : FVec F S4x4352x2048 .f32) (main_arg4 : FVec F S4x12288 .f32) (main_arg5 : FVec F S12288 .f32) (main_arg6 : FVec F S2x2048 .f32) (main_arg7 : FVec F S2x2048x16 .f32) : IVec S_ 1 :=
  let main_cst : FVec F S_ .f32 := constant S_ .f32 0xFF800000#32
  let main_v0 : FVec F S4x12288 .f32 := broadcastInDim S4x12288 ![] bcast_S_S4x12288 main_cst
  let main_v1 : IVec S4x12288 1 := cmpf .ogt main_arg4 main_v0
  let main_cst_0 : FVec F S_ .f32 := constant S_ .f32 0x7F800000#32
  let main_v2 : FVec F S4x12288 .f32 := broadcastInDim S4x12288 ![] bcast_S_S4x12288 main_cst_0
  let main_v3 : IVec S4x12288 1 := cmpf .olt main_arg4 main_v2
  let main_v4 : IVec S4x12288 1 := andi main_v1 main_v3
  let main_c : IVec S_ 1 := constantI S_ 1 1#1
  let main_v5 : IVec S_ 1 := (fun x v => Host.reduce IntOp.andi x v reducesTo_S4x12288_S_d0_1 h_S_) main_v4 main_c
  let main_cst_1 : FVec F S_ .f32 := constant S_ .f32 0xFF800000#32
  let main_v6 : FVec F S12288 .f32 := broadcastInDim S12288 ![] bcast_S_S12288 main_cst_1
  let main_v7 : IVec S12288 1 := cmpf .ogt main_arg5 main_v6
  let main_cst_2 : FVec F S_ .f32 := constant S_ .f32 0x7F800000#32
  let main_v8 : FVec F S12288 .f32 := broadcastInDim S12288 ![] bcast_S_S12288 main_cst_2
  let main_v9 : IVec S12288 1 := cmpf .olt main_arg5 main_v8
  let main_v10 : IVec S12288 1 := andi main_v7 main_v9
  let main_c_3 : IVec S_ 1 := constantI S_ 1 1#1
  let main_v11 : IVec S_ 1 := (fun x v => Host.reduce IntOp.andi x v reducesTo_S12288_S_d0 h_S_) main_v10 main_c_3
  let main_v12 : IVec S_ 1 := andi main_v5 main_v11
  let main_cst_4 : FVec F S_ .f32 := constant S_ .f32 0xFF800000#32
  let main_v13 : FVec F S2x2048 .f32 := broadcastInDim S2x2048 ![] bcast_S_S2x2048 main_cst_4
  let main_v14 : IVec S2x2048 1 := cmpf .ogt main_arg6 main_v13
  let main_cst_5 : FVec F S_ .f32 := constant S_ .f32 0x7F800000#32
  let main_v15 : FVec F S2x2048 .f32 := broadcastInDim S2x2048 ![] bcast_S_S2x2048 main_cst_5
  fn_part1 (F := F) main_arg6 main_arg7 main_v12 main_v14 main_v15
-- ==== Pre_finite8.lean ====
abbrev S4x4096x1024 : Shape := ⟨3, ![4, 4096, 1024]⟩
abbrev S4x4352x1024 : Shape := ⟨3, ![4, 4352, 1024]⟩
abbrev S1x2048x2048 : Shape := ⟨3, ![1, 2048, 2048]⟩
abbrev S4x4352x2048 : Shape := ⟨3, ![4, 4352, 2048]⟩
abbrev S4x12288 : Shape := ⟨2, ![4, 12288]⟩
abbrev S12288 : Shape := ⟨1, ![12288]⟩
abbrev S2x2048 : Shape := ⟨2, ![2, 2048]⟩
abbrev S2x2048x16 : Shape := ⟨3, ![2, 2048, 16]⟩
abbrev S_ : Shape := ⟨0, ![]⟩

class Facts : Prop where
  bcast_S_S4x12288 : S_.BroadcastsInDim S4x12288 (![] : Fin 0 → Fin S4x12288.rank)
  reducesTo_S4x12288_S_d0_1 : S4x12288.ReducesTo [0, 1] S_
  h_S_ : 0 < S_.numel
  bcast_S_S2x2048 : S_.BroadcastsInDim S2x2048 (![] : Fin 0 → Fin S2x2048.rank)
  reducesTo_S2x2048_S_d0_1 : S2x2048.ReducesTo [0, 1] S_
  bcast_S_S2x2048x16 : S_.BroadcastsInDim S2x2048x16 (![] : Fin 0 → Fin S2x2048x16.rank)
  reducesTo_S2x2048x16_S_d0_1_2 : S2x2048x16.ReducesTo [0, 1, 2] S_

variable [Facts]

def fn_part1 {F : FTy → Type} [FloatOps F] (main_arg7 : FVec F S2x2048x16 .f32) (main_v12 : IVec S_ 1) (main_v14 : IVec S2x2048x16 1) (main_v15 : FVec F S2x2048x16 .f32) : IVec S_ 1 :=
  let main_v16 : IVec S2x2048x16 1 := cmpf .olt main_arg7 main_v15
  let main_v17 : IVec S2x2048x16 1 := andi main_v14 main_v16
  let main_c_6 : IVec S_ 1 := constantI S_ 1 1#1
  let main_v18 : IVec S_ 1 := (fun x v => Host.reduce IntOp.andi x v reducesTo_S2x2048x16_S_d0_1_2 h_S_) main_v17 main_c_6
  let main_v19 : IVec S_ 1 := andi main_v12 main_v18
  main_v19

def fn {F : FTy → Type} [FloatOps F] (main_arg0 : FVec F S4x4096x1024 .bf16) (main_arg1 : FVec F S4x4352x1024 .bf16) (main_arg2 : FVec F S1x2048x2048 .f32) (main_arg3 : FVec F S4x4352x2048 .f32) (main_arg4 : FVec F S4x12288 .f32) (main_arg5 : FVec F S12288 .f32) (main_arg6 : FVec F S2x2048 .f32) (main_arg7 : FVec F S2x2048x16 .f32) : IVec S_ 1 :=
  let main_cst : FVec F S_ .f32 := constant S_ .f32 0xFF800000#32
  let main_v0 : FVec F S4x12288 .f32 := broadcastInDim S4x12288 ![] bcast_S_S4x12288 main_cst
  let main_v1 : IVec S4x12288 1 := cmpf .ogt main_arg4 main_v0
  let main_cst_0 : FVec F S_ .f32 := constant S_ .f32 0x7F800000#32
  let main_v2 : FVec F S4x12288 .f32 := broadcastInDim S4x12288 ![] bcast_S_S4x12288 main_cst_0
  let main_v3 : IVec S4x12288 1 := cmpf .olt main_arg4 main_v2
  let main_v4 : IVec S4x12288 1 := andi main_v1 main_v3
  let main_c : IVec S_ 1 := constantI S_ 1 1#1
  let main_v5 : IVec S_ 1 := (fun x v => Host.reduce IntOp.andi x v reducesTo_S4x12288_S_d0_1 h_S_) main_v4 main_c
  let main_cst_1 : FVec F S_ .f32 := constant S_ .f32 0xFF800000#32
  let main_v6 : FVec F S2x2048 .f32 := broadcastInDim S2x2048 ![] bcast_S_S2x2048 main_cst_1
  let main_v7 : IVec S2x2048 1 := cmpf .ogt main_arg6 main_v6
  let main_cst_2 : FVec F S_ .f32 := constant S_ .f32 0x7F800000#32
  let main_v8 : FVec F S2x2048 .f32 := broadcastInDim S2x2048 ![] bcast_S_S2x2048 main_cst_2
  let main_v9 : IVec S2x2048 1 := cmpf .olt main_arg6 main_v8
  let main_v10 : IVec S2x2048 1 := andi main_v7 main_v9
  let main_c_3 : IVec S_ 1 := constantI S_ 1 1#1
  let main_v11 : IVec S_ 1 := (fun x v => Host.reduce IntOp.andi x v reducesTo_S2x2048_S_d0_1 h_S_) main_v10 main_c_3
  let main_v12 : IVec S_ 1 := andi main_v5 main_v11
  let main_cst_4 : FVec F S_ .f32 := constant S_ .f32 0xFF800000#32
  let main_v13 : FVec F S2x2048x16 .f32 := broadcastInDim S2x2048x16 ![] bcast_S_S2x2048x16 main_cst_4
  let main_v14 : IVec S2x2048x16 1 := cmpf .ogt main_arg7 main_v13
  let main_cst_5 : FVec F S_ .f32 := constant S_ .f32 0x7F800000#32
  let main_v15 : FVec F S2x2048x16 .f32 := broadcastInDim S2x2048x16 ![] bcast_S_S2x2048x16 main_cst_5
  fn_part1 (F := F) main_arg7 main_v12 main_v14 main_v15
-- ==== Kernel.lean ====
abbrev S4x4352x6144 : Shape := ⟨3, ![4, 4352, 6144]⟩
abbrev S8x15x31 : Shape := ⟨3, ![8, 15, 31]⟩
abbrev S3x4x11 : Shape := ⟨3, ![3, 4, 11]⟩
abbrev S8x15x16 : Shape := ⟨3, ![8, 15, 16]⟩
abbrev S_ : Shape := ⟨0, ![]⟩
abbrev S8x15x97 : Shape := ⟨3, ![8, 15, 97]⟩
abbrev S8x15x15 : Shape := ⟨3, ![8, 15, 15]⟩
abbrev S8x15x128 : Shape := ⟨3, ![8, 15, 128]⟩
abbrev S1x8x1x15x1x128 : Shape := ⟨6, ![1, 8, 1, 15, 1, 128]⟩
abbrev S1x8x1x15x64x128 : Shape := ⟨6, ![1, 8, 1, 15, 64, 128]⟩
abbrev S8x15x8192 : Shape := ⟨3, ![8, 15, 8192]⟩
abbrev S8x15x8128 : Shape := ⟨3, ![8, 15, 8128]⟩
abbrev S8x15x64x127 : Shape := ⟨4, ![8, 15, 64, 127]⟩
abbrev S8x15x64x64 : Shape := ⟨4, ![8, 15, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S3x4x1x11x1 : Shape := ⟨5, ![3, 4, 1, 11, 1]⟩
abbrev S1x1x64x1x64 : Shape := ⟨5, ![1, 1, 64, 1, 64]⟩
abbrev S3x4x64x11x64 : Shape := ⟨5, ![3, 4, 64, 11, 64]⟩
abbrev S3x256x704 : Shape := ⟨3, ![3, 256, 704]⟩
abbrev S8x64x15x64 : Shape := ⟨4, ![8, 64, 15, 64]⟩
abbrev S8x64x21x64 : Shape := ⟨4, ![8, 64, 21, 64]⟩
abbrev S8x64x1344 : Shape := ⟨3, ![8, 64, 1344]⟩
abbrev S8x64x704 : Shape := ⟨3, ![8, 64, 704]⟩
abbrev S8x1x64x704 : Shape := ⟨4, ![8, 1, 64, 704]⟩
abbrev S8x4x64x704 : Shape := ⟨4, ![8, 4, 64, 704]⟩
abbrev S1x8x4x64x704 : Shape := ⟨5, ![1, 8, 4, 64, 704]⟩
abbrev S3x8x4x64x704 : Shape := ⟨5, ![3, 8, 4, 64, 704]⟩
abbrev S3x8x256x704 : Shape := ⟨4, ![3, 8, 256, 704]⟩
abbrev S3x1x256x704 : Shape := ⟨4, ![3, 1, 256, 704]⟩
abbrev S4x4096x1024 : Shape := ⟨3, ![4, 4096, 1024]⟩
abbrev S1x256x512 : Shape := ⟨3, ![1, 256, 512]⟩
abbrev S1x4352x512 : Shape := ⟨3, ![1, 4352, 512]⟩
abbrev S1x4x256x704 : Shape := ⟨4, ![1, 4, 256, 704]⟩
abbrev S1x256x128 : Shape := ⟨3, ![1, 256, 128]⟩
abbrev S256x128 : Shape := ⟨2, ![256, 128]⟩
abbrev S1x704x128 : Shape := ⟨3, ![1, 704, 128]⟩
abbrev S704x128 : Shape := ⟨2, ![704, 128]⟩
abbrev S256x704 : Shape := ⟨2, ![256, 704]⟩
abbrev S1x1x256x704 : Shape := ⟨4, ![1, 1, 256, 704]⟩
abbrev S256x256 : Shape := ⟨2, ![256, 256]⟩
abbrev S256 : Shape := ⟨1, ![256]⟩
abbrev S256x1 : Shape := ⟨2, ![256, 1]⟩

abbrev nBuf : Space → Nat
  | .hbm => 89
  | .vmem => 10
  | .smem => 0
  | _ => 0

abbrev bufTy : (tb : Table) → Fin (tcTables nBuf tb) → BufTy
  | .hbm, ⟨0, _⟩ => ⟨S4x4352x6144, .bf16⟩
  | .hbm, ⟨1, _⟩ => ⟨S8x15x31, .f32⟩
  | .hbm, ⟨2, _⟩ => ⟨S3x4x11, .i1⟩
  | .hbm, ⟨3, _⟩ => ⟨S8x15x16, .f32⟩
  | .hbm, ⟨4, _⟩ => ⟨S_, .f32⟩
  | .hbm, ⟨5, _⟩ => ⟨S8x15x97, .f32⟩
  | .hbm, ⟨6, _⟩ => ⟨S8x15x15, .f32⟩
  | .hbm, ⟨7, _⟩ => ⟨S8x15x128, .f32⟩
  | .hbm, ⟨8, _⟩ => ⟨S1x8x1x15x1x128, .f32⟩
  | .hbm, ⟨9, _⟩ => ⟨S1x8x1x15x64x128, .f32⟩
  | .hbm, ⟨10, _⟩ => ⟨S8x15x8192, .f32⟩
  | .hbm, ⟨11, _⟩ => ⟨S8x15x8128, .f32⟩
  | .hbm, ⟨12, _⟩ => ⟨S8x15x64x127, .f32⟩
  | .hbm, ⟨13, _⟩ => ⟨S8x15x64x64, .f32⟩
  | .hbm, ⟨14, _⟩ => ⟨S64, .i32⟩
  | .hbm, ⟨15, _⟩ => ⟨S64x1, .i32⟩
  | .hbm, ⟨16, _⟩ => ⟨S64, .i32⟩
  | .hbm, ⟨17, _⟩ => ⟨S1x64, .i32⟩
  | .hbm, ⟨18, _⟩ => ⟨S_, .i32⟩
  | .hbm, ⟨19, _⟩ => ⟨S64x1, .i32⟩
  | .hbm, ⟨20, _⟩ => ⟨S64x1, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S_, .i32⟩
  | .hbm, ⟨27, _⟩ => ⟨S64x1, .i32⟩
  | .hbm, ⟨28, _⟩ => ⟨S64x1, .i32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S_, .i32⟩
  | .hbm, ⟨33, _⟩ => ⟨S64x1, .i32⟩
  | .hbm, ⟨34, _⟩ => ⟨S64x1, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S64x64, .i1⟩
  | .hbm, ⟨39, _⟩ => ⟨S3x4x1x11x1, .i1⟩
  | .hbm, ⟨40, _⟩ => ⟨S1x1x64x1x64, .i1⟩
  | .hbm, ⟨41, _⟩ => ⟨S3x4x64x11x64, .i1⟩
  | .hbm, ⟨42, _⟩ => ⟨S3x4x64x11x64, .i1⟩
  | .hbm, ⟨43, _⟩ => ⟨S3x4x64x11x64, .i1⟩
  | .hbm, ⟨44, _⟩ => ⟨S3x256x704, .i1⟩
  | .hbm, ⟨45, _⟩ => ⟨S8x64x15x64, .f32⟩
  | .hbm, ⟨46, _⟩ => ⟨S_, .i32⟩
  | .hbm, ⟨47, _⟩ => ⟨S_, .f32⟩
  | .hbm, ⟨48, _⟩ => ⟨S8x64x21x64, .f32⟩
  | .hbm, ⟨49, _⟩ => ⟨S8x64x21x64, .bf16⟩
  | .hbm, ⟨50, _⟩ => ⟨S8x64x1344, .bf16⟩
  | .hbm, ⟨51, _⟩ => ⟨S8x64x704, .bf16⟩
  | .hbm, ⟨52, _⟩ => ⟨S8x64x704, .bf16⟩
  | .hbm, ⟨53, _⟩ => ⟨S8x64x704, .bf16⟩
  | .hbm, ⟨54, _⟩ => ⟨S8x64x704, .bf16⟩
  | .hbm, ⟨55, _⟩ => ⟨S8x1x64x704, .bf16⟩
  | .hbm, ⟨56, _⟩ => ⟨S8x1x64x704, .bf16⟩
  | .hbm, ⟨57, _⟩ => ⟨S8x1x64x704, .bf16⟩
  | .hbm, ⟨58, _⟩ => ⟨S8x1x64x704, .bf16⟩
  | .hbm, ⟨59, _⟩ => ⟨S8x4x64x704, .bf16⟩
  | .hbm, ⟨60, _⟩ => ⟨S8x64x704, .bf16⟩
  | .hbm, ⟨61, _⟩ => ⟨S8x64x704, .bf16⟩
  | .hbm, ⟨62, _⟩ => ⟨S8x64x704, .bf16⟩
  | .hbm, ⟨63, _⟩ => ⟨S8x64x704, .bf16⟩
  | .hbm, ⟨64, _⟩ => ⟨S8x1x64x704, .bf16⟩
  | .hbm, ⟨65, _⟩ => ⟨S8x1x64x704, .bf16⟩
  | .hbm, ⟨66, _⟩ => ⟨S8x1x64x704, .bf16⟩
  | .hbm, ⟨67, _⟩ => ⟨S8x1x64x704, .bf16⟩
  | .hbm, ⟨68, _⟩ => ⟨S8x4x64x704, .bf16⟩
  | .hbm, ⟨69, _⟩ => ⟨S8x64x704, .bf16⟩
  | .hbm, ⟨70, _⟩ => ⟨S8x64x704, .bf16⟩
  | .hbm, ⟨71, _⟩ => ⟨S8x64x704, .bf16⟩
  | .hbm, ⟨72, _⟩ => ⟨S8x64x704, .bf16⟩
  | .hbm, ⟨73, _⟩ => ⟨S8x1x64x704, .bf16⟩
  | .hbm, ⟨74, _⟩ => ⟨S8x1x64x704, .bf16⟩
  | .hbm, ⟨75, _⟩ => ⟨S8x1x64x704, .bf16⟩
  | .hbm, ⟨76, _⟩ => ⟨S8x1x64x704, .bf16⟩
  | .hbm, ⟨77, _⟩ => ⟨S8x4x64x704, .bf16⟩
  | .hbm, ⟨78, _⟩ => ⟨S1x8x4x64x704, .bf16⟩
  | .hbm, ⟨79, _⟩ => ⟨S1x8x4x64x704, .bf16⟩
  | .hbm, ⟨80, _⟩ => ⟨S1x8x4x64x704, .bf16⟩
  | .hbm, ⟨81, _⟩ => ⟨S3x8x4x64x704, .bf16⟩
  | .hbm, ⟨82, _⟩ => ⟨S3x8x256x704, .bf16⟩
  | .hbm, ⟨83, _⟩ => ⟨S3x1x256x704, .i1⟩
  | .hbm, ⟨84, _⟩ => ⟨S_, .bf16⟩
  | .hbm, ⟨85, _⟩ => ⟨S3x8x256x704, .i1⟩
  | .hbm, ⟨86, _⟩ => ⟨S3x8x256x704, .bf16⟩
  | .hbm, ⟨87, _⟩ => ⟨S3x8x256x704, .bf16⟩
  | .hbm, ⟨88, _⟩ => ⟨S4x4096x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x4352x512, .bf16⟩
  | .local _ .vmem, ⟨3, _⟩ => ⟨S1x4352x512, .bf16⟩
  | .local _ .vmem, ⟨4, _⟩ => ⟨S1x4352x512, .bf16⟩
  | .local _ .vmem, ⟨5, _⟩ => ⟨S1x4352x512, .bf16⟩
  | .local _ .vmem, ⟨6, _⟩ => ⟨S1x4x256x704, .bf16⟩
  | .local _ .vmem, ⟨7, _⟩ => ⟨S1x4x256x704, .bf16⟩
  | .local _ .vmem, ⟨8, _⟩ => ⟨S1x256x512, .bf16⟩
  | .local _ .vmem, ⟨9, _⟩ => ⟨S1x256x512, .bf16⟩
  | _, _ => ⟨S4x4352x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_call1_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_5 : Ref sig .tc := ⟨.hbm, 84, rfl⟩
abbrev main_call2_v0 : Ref sig .tc := ⟨.hbm, 85, rfl⟩
abbrev main_call2_v1 : Ref sig .tc := ⟨.hbm, 86, rfl⟩
abbrev main_v69 : Ref sig .tc := ⟨.hbm, 87, rfl⟩
abbrev main_v70 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 16], ![false, false, false]⟩

def k0_mult1 (i : grid0.Coords) : BitVec 32 :=
  let c53_i32 : BitVec 32 := 53#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  v4
def k0_off1 (i : grid0.Coords) : Fin 3 → Nat :=
  let c0_3 : Index := 0#32
  let c53_i32 : BitVec 32 := 53#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := v4
  let v8 : Index := Scalar.indexCast v5
  let c0_4 : Index := 0#32
  ![0, v8.toNat, 0]
def k0_off2 (i : grid0.Coords) : Fin 3 → Nat :=
  let c0_30 : Index := 0#32
  let c53_i32 : BitVec 32 := 53#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := v4
  let v57 : Index := Scalar.indexCast v5
  let c128_31 : Index := 128#32
  ![0, v57.toNat, 128]
def k0_off3 (i : grid0.Coords) : Fin 3 → Nat :=
  let c0_58 : Index := 0#32
  let c53_i32 : BitVec 32 := 53#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := v4
  let v106 : Index := Scalar.indexCast v5
  let c256_59 : Index := 256#32
  ![0, v106.toNat, 256]
def k0_off4 (i : grid0.Coords) : Fin 3 → Nat :=
  let c0_86 : Index := 0#32
  let c53_i32 : BitVec 32 := 53#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := v4
  let v155 : Index := Scalar.indexCast v5
  let c384_87 : Index := 384#32
  ![0, v155.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c15_i32 : BitVec 32 := 15#32
  let v1 : BitVec 1 := Scalar.cmpi .eq arg2 c15_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, arg1.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x4352x6144 : Shape := ⟨3, ![4, 4352, 6144]⟩
abbrev S8x15x31 : Shape := ⟨3, ![8, 15, 31]⟩
abbrev S4x4096x6144 : Shape := ⟨3, ![4, 4096, 6144]⟩
abbrev S4x256x6144 : Shape := ⟨3, ![4, 256, 6144]⟩
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩
abbrev S4x256x1024 : Shape := ⟨3, ![4, 256, 1024]⟩
abbrev S4x256x8x128 : Shape := ⟨4, ![4, 256, 8, 128]⟩
abbrev S4x8x256x128 : Shape := ⟨4, ![4, 8, 256, 128]⟩
abbrev S_ : Shape := ⟨0, ![]⟩
abbrev S4x8x64x64x128 : Shape := ⟨5, ![4, 8, 64, 64, 128]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S8 : Shape := ⟨1, ![8]⟩
abbrev S1x8 : Shape := ⟨2, ![1, 8]⟩
abbrev S64x8 : Shape := ⟨2, ![64, 8]⟩
abbrev S64x8x1x1 : Shape := ⟨4, ![64, 8, 1, 1]⟩
abbrev S1x1x64x16 : Shape := ⟨4, ![1, 1, 64, 16]⟩
abbrev S64x8x64x16 : Shape := ⟨4, ![64, 8, 64, 16]⟩
abbrev S64x8x64x16x1 : Shape := ⟨5, ![64, 8, 64, 16, 1]⟩
abbrev S64x8x64x16x2 : Shape := ⟨5, ![64, 8, 64, 16, 2]⟩
abbrev S4x8x64x8x64x16x128 : Shape := ⟨7, ![4, 8, 64, 8, 64, 16, 128]⟩
abbrev S64x1x8x1 : Shape := ⟨4, ![64, 1, 8, 1]⟩
abbrev S1x64x1x16 : Shape := ⟨4, ![1, 64, 1, 16]⟩
abbrev S64x64x8x16 : Shape := ⟨4, ![64, 64, 8, 16]⟩
abbrev S64x64x8x16x1 : Shape := ⟨5, ![64, 64, 8, 16, 1]⟩
abbrev S64x64x8x16x2 : Shape := ⟨5, ![64, 64, 8, 16, 2]⟩
abbrev S8x64x64x8x16 : Shape := ⟨5, ![8, 64, 64, 8, 16]⟩
abbrev S4x8x64x64x8x16 : Shape := ⟨6, ![4, 8, 64, 64, 8, 16]⟩
abbrev S1x8x64x64x8x16 : Shape := ⟨6, ![1, 8, 64, 64, 8, 16]⟩
abbrev S4x8x64x64x256 : Shape := ⟨5, ![4, 8, 64, 64, 256]⟩
abbrev S4x8x64x64x384 : Shape := ⟨5, ![4, 8, 64, 64, 384]⟩
abbrev S4x8x64x64 : Shape := ⟨4, ![4, 8, 64, 64]⟩
abbrev S4x8x64x64x1 : Shape := ⟨5, ![4, 8, 64, 64, 1]⟩

abbrev nBuf : Space → Nat
  | .hbm => 171
  | .vmem => 0
  | .smem => 0
  | _ => 0

abbrev hbmTy0_0 (i : Nat) : BufTy := match i % 128 with
  | 0 => ⟨S4x4352x6144, .bf16⟩
  | 1 => ⟨S8x15x31, .f32⟩
  | 2 => ⟨S4x4352x6144, .f32⟩
  | 3 => ⟨S4x4096x6144, .f32⟩
  | 4 => ⟨S4x256x6144, .f32⟩
  | 5 => ⟨S4x4096x1024, .f32⟩
  | 6 => ⟨S4x4096x8x128, .f32⟩
  | 7 => ⟨S4x8x4096x128, .f32⟩
  | 8 => ⟨S4x4096x1024, .f32⟩
  | 9 => ⟨S4x4096x8x128, .f32⟩
  | 10 => ⟨S4x8x4096x128, .f32⟩
  | 11 => ⟨S4x4096x1024, .f32⟩
  | 12 => ⟨S4x4096x8x128, .f32⟩
  | 13 => ⟨S4x8x4096x128, .f32⟩
  | 14 => ⟨S4x256x1024, .f32⟩
  | 15 => ⟨S4x256x8x128, .f32⟩
  | 16 => ⟨S4x8x256x128, .f32⟩
  | 17 => ⟨S4x256x1024, .f32⟩
  | 18 => ⟨S4x256x8x128, .f32⟩
  | 19 => ⟨S4x8x256x128, .f32⟩
  | 20 => ⟨S_, .f32⟩
  | 21 => ⟨S4x8x4096x128, .f32⟩
  | 22 => ⟨S4x8x4096x128, .f32⟩
  | 23 => ⟨S4x8x64x64x128, .f32⟩
  | 24 => ⟨S4x8x64x64x128, .f32⟩
  | 25 => ⟨S4x8x64x64x128, .f32⟩
  | 26 => ⟨S64, .i32⟩
  | 27 => ⟨S_, .i32⟩
  | 28 => ⟨S64, .i32⟩
  | 29 => ⟨S64, .i32⟩
  | 30 => ⟨S_, .i32⟩
  | 31 => ⟨S_, .i32⟩
  | 32 => ⟨S_, .i32⟩
  | 33 => ⟨S64, .i32⟩
  | 34 => ⟨S64, .i32⟩
  | 35 => ⟨S_, .i32⟩
  | 36 => ⟨S64, .i32⟩
  | 37 => ⟨S64, .i32⟩
  | 38 => ⟨S64x1, .i32⟩
  | 39 => ⟨S16, .i32⟩
  | 40 => ⟨S1x16, .i32⟩
  | 41 => ⟨S64x16, .i32⟩
  | 42 => ⟨S64x16, .i32⟩
  | 43 => ⟨S64x16, .i32⟩
  | 44 => ⟨S64, .i32⟩
  | 45 => ⟨S_, .i32⟩
  | 46 => ⟨S64, .i32⟩
  | 47 => ⟨S64, .i32⟩
  | 48 => ⟨S_, .i32⟩
  | 49 => ⟨S_, .i32⟩
  | 50 => ⟨S_, .i32⟩
  | 51 => ⟨S64, .i32⟩
  | 52 => ⟨S64, .i32⟩
  | 53 => ⟨S_, .i32⟩
  | 54 => ⟨S64, .i32⟩
  | 55 => ⟨S64, .i32⟩
  | 56 => ⟨S64x1, .i32⟩
  | 57 => ⟨S8, .i32⟩
  | 58 => ⟨S1x8, .i32⟩
  | 59 => ⟨S64x8, .i32⟩
  | 60 => ⟨S64x8, .i32⟩
  | 61 => ⟨S64x8, .i32⟩
  | 62 => ⟨S64x8x1x1, .i32⟩
  | 63 => ⟨S1x1x64x16, .i32⟩
  | 64 => ⟨S_, .i32⟩
  | 65 => ⟨S64x8x1x1, .i32⟩
  | 66 => ⟨S64x8x1x1, .i1⟩
  | 67 => ⟨S_, .i32⟩
  | 68 => ⟨S64x8x1x1, .i32⟩
  | 69 => ⟨S64x8x1x1, .i32⟩
  | 70 => ⟨S64x8x1x1, .i32⟩
  | 71 => ⟨S_, .i32⟩
  | 72 => ⟨S1x1x64x16, .i32⟩
  | 73 => ⟨S1x1x64x16, .i1⟩
  | 74 => ⟨S_, .i32⟩
  | 75 => ⟨S1x1x64x16, .i32⟩
  | 76 => ⟨S1x1x64x16, .i32⟩
  | 77 => ⟨S1x1x64x16, .i32⟩
  | 78 => ⟨S64x8x64x16, .i32⟩
  | 79 => ⟨S64x8x64x16, .i32⟩
  | 80 => ⟨S64x8x64x16x1, .i32⟩
  | 81 => ⟨S64x8x64x16x1, .i32⟩
  | 82 => ⟨S64x8x64x16x2, .i32⟩
  | 83 => ⟨S4x8x64x8x64x16x128, .f32⟩
  | 84 => ⟨S64x8x1x1, .i32⟩
  | 85 => ⟨S1x1x64x16, .i32⟩
  | 86 => ⟨S_, .i32⟩
  | 87 => ⟨S64x8x1x1, .i32⟩
  | 88 => ⟨S64x8x1x1, .i1⟩
  | 89 => ⟨S_, .i32⟩
  | 90 => ⟨S64x8x1x1, .i32⟩
  | 91 => ⟨S64x8x1x1, .i32⟩
  | 92 => ⟨S64x8x1x1, .i32⟩
  | 93 => ⟨S_, .i32⟩
  | 94 => ⟨S1x1x64x16, .i32⟩
  | 95 => ⟨S1x1x64x16, .i1⟩
  | 96 => ⟨S_, .i32⟩
  | 97 => ⟨S1x1x64x16, .i32⟩
  | 98 => ⟨S1x1x64x16, .i32⟩
  | 99 => ⟨S1x1x64x16, .i32⟩
  | 100 => ⟨S64x8x64x16, .i32⟩
  | 101 => ⟨S64x8x64x16, .i32⟩
  | 102 => ⟨S64x8x64x16x1, .i32⟩
  | 103 => ⟨S64x8x64x16x1, .i32⟩
  | 104 => ⟨S64x8x64x16x2, .i32⟩
  | 105 => ⟨S4x8x64x8x64x16x128, .f32⟩
  | 106 => ⟨S64x1, .i32⟩
  | 107 => ⟨S64x8, .i32⟩
  | 108 => ⟨S64x8, .i32⟩
  | 109 => ⟨S_, .i32⟩
  | 110 => ⟨S64x8, .i32⟩
  | 111 => ⟨S64x8, .i32⟩
  | 112 => ⟨S64x1, .i32⟩
  | 113 => ⟨S64x16, .i32⟩
  | 114 => ⟨S64x16, .i32⟩
  | 115 => ⟨S_, .i32⟩
  | 116 => ⟨S64x16, .i32⟩
  | 117 => ⟨S64x16, .i32⟩
  | 118 => ⟨S64x1x8x1, .i32⟩
  | 119 => ⟨S1x64x1x16, .i32⟩
  | 120 => ⟨S_, .i32⟩
  | 121 => ⟨S64x1x8x1, .i32⟩
  | 122 => ⟨S64x1x8x1, .i1⟩
  | 123 => ⟨S_, .i32⟩
  | 124 => ⟨S64x1x8x1, .i32⟩
  | 125 => ⟨S64x1x8x1, .i32⟩
  | 126 => ⟨S64x1x8x1, .i32⟩
  | 127 => ⟨S_, .i32⟩
  | _ => ⟨S4x4352x6144, .bf16⟩

abbrev hbmTy0_1 (i : Nat) : BufTy := match i % 128 with
  | 0 => ⟨S1x64x1x16, .i32⟩
  | 1 => ⟨S1x64x1x16, .i1⟩
  | 2 => ⟨S_, .i32⟩
  | 3 => ⟨S1x64x1x16, .i32⟩
  | 4 => ⟨S1x64x1x16, .i32⟩
  | 5 => ⟨S1x64x1x16, .i32⟩
  | 6 => ⟨S64x64x8x16, .i32⟩
  | 7 => ⟨S64x64x8x16, .i32⟩
  | 8 => ⟨S64x64x8x16x1, .i32⟩
  | 9 => ⟨S64x64x8x16x1, .i32⟩
  | 10 => ⟨S64x64x8x16x2, .i32⟩
  | 11 => ⟨S8x64x64x8x16, .f32⟩
  | 12 => ⟨S4x8x64x64x8x16, .f32⟩
  | 13 => ⟨S1x8x64x64x8x16, .f32⟩
  | 14 => ⟨S4x8x64x64x8x16, .f32⟩
  | 15 => ⟨S4x8x64x64x8x16, .f32⟩
  | 16 => ⟨S4x8x64x64x256, .f32⟩
  | 17 => ⟨S4x8x64x64x128, .f32⟩
  | 18 => ⟨S4x8x64x64x384, .f32⟩
  | 19 => ⟨S_, .f32⟩
  | 20 => ⟨S4x8x64x64, .f32⟩
  | 21 => ⟨S_, .f32⟩
  | 22 => ⟨S4x8x64x64, .f32⟩
  | 23 => ⟨S4x8x64x64, .f32⟩
  | 24 => ⟨S4x8x64x64x1, .f32⟩
  | 25 => ⟨S4x8x64x64x384, .f32⟩
  | 26 => ⟨S4x8x64x64x384, .f32⟩
  | 27 => ⟨S4x8x64x64x384, .f32⟩
  | 28 => ⟨S_, .f32⟩
  | 29 => ⟨S4x8x64x64, .f32⟩
  | 30 => ⟨S4x8x64x64x1, .f32⟩
  | 31 => ⟨S4x8x64x64x384, .f32⟩
  | 32 => ⟨S4x8x64x64x384, .f32⟩
  | 33 => ⟨S4x8x64x64x128, .f32⟩
  | 34 => ⟨S4x8x64x64x8x16, .f32⟩
  | 35 => ⟨S4x8x64x64x128, .f32⟩
  | 36 => ⟨S4x8x64x64x256, .f32⟩
  | 37 => ⟨S4x8x64x64x128, .f32⟩
  | 38 => ⟨S4x8x64x64x128, .f32⟩
  | 39 => ⟨S4x8x4096x128, .f32⟩
  | 40 => ⟨S4x4096x8x128, .f32⟩
  | 41 => ⟨S4x4096x1024, .f32⟩
  | 42 => ⟨S4x4096x1024, .bf16⟩
  | _ => ⟨S4x4352x6144, .bf16⟩

abbrev hbmTy (i : Nat) : BufTy := match i / 128 with
  | 0 => hbmTy0_0 i
  | 1 => hbmTy0_1 i
  | _ => ⟨S4x4352x6144, .bf16⟩

abbrev bufTy : (tb : Table) → Fin (tcTables nBuf tb) → BufTy
  | .hbm, ⟨i, _⟩ => hbmTy i
  | _, _ => ⟨S4x4352x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_c : Ref sig .tc := ⟨.hbm, 27, rfl⟩
abbrev main_v24 : Ref sig .tc := ⟨.hbm, 28, rfl⟩
abbrev main_v25 : Ref sig .tc := ⟨.hbm, 29, rfl⟩
abbrev main_c_0 : Ref sig .tc := ⟨.hbm, 30, rfl⟩
abbrev main_c_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_c_3 : Ref sig .tc := ⟨.hbm, 48, rfl⟩
abbrev main_c_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_5 : Ref sig .tc := ⟨.hbm, 64, rfl⟩
abbrev main_v45 : Ref sig .tc := ⟨.hbm, 65, rfl⟩
abbrev main_v46 : Ref sig .tc := ⟨.hbm, 66, rfl⟩
abbrev main_c_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_7 : Ref sig .tc := ⟨.hbm, 71, rfl⟩
abbrev main_v50 : Ref sig .tc := ⟨.hbm, 72, rfl⟩
abbrev main_v51 : Ref sig .tc := ⟨.hbm, 73, rfl⟩
abbrev main_c_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_9 : Ref sig .tc := ⟨.hbm, 86, rfl⟩
abbrev main_v63 : Ref sig .tc := ⟨.hbm, 87, rfl⟩
abbrev main_v64 : Ref sig .tc := ⟨.hbm, 88, rfl⟩
abbrev main_c_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_11 : Ref sig .tc := ⟨.hbm, 93, rfl⟩
abbrev main_v68 : Ref sig .tc := ⟨.hbm, 94, rfl⟩
abbrev main_v69 : Ref sig .tc := ⟨.hbm, 95, rfl⟩
abbrev main_c_12 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_13 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_14 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_15 : Ref sig .tc := ⟨.hbm, 120, rfl⟩
abbrev main_v91 : Ref sig .tc := ⟨.hbm, 121, rfl⟩
abbrev main_v92 : Ref sig .tc := ⟨.hbm, 122, rfl⟩
abbrev main_c_16 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_17 : Ref sig .tc := ⟨.hbm, 127, rfl⟩
abbrev main_v96 : Ref sig .tc := ⟨.hbm, 128, rfl⟩
abbrev main_v97 : Ref sig .tc := ⟨.hbm, 129, rfl⟩
abbrev main_c_18 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_19 : Ref sig .tc := ⟨.hbm, 147, rfl⟩
abbrev main_v114 : Ref sig .tc := ⟨.hbm, 148, rfl⟩
abbrev main_cst_20 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_21 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩

abbrev nD : Nat := 1
abbrev τ : Topo := Topo.v7x

variable {F : FTy → Type} [FloatOps F]
-- ==== Kernel2.lean ====
abbrev S4x4352x2048 : Shape := ⟨3, ![4, 4352, 2048]⟩
abbrev S4x4352x16 : Shape := ⟨3, ![4, 4352, 16]⟩
abbrev S2x16x2048x2048 : Shape := ⟨4, ![2, 16, 2048, 2048]⟩
abbrev S4x4096x16 : Shape := ⟨3, ![4, 4096, 16]⟩
abbrev S_ : Shape := ⟨0, ![]⟩
abbrev S4x4096 : Shape := ⟨2, ![4, 4096]⟩
abbrev S4x4096x1 : Shape := ⟨3, ![4, 4096, 1]⟩
abbrev S4x16x4096 : Shape := ⟨3, ![4, 16, 4096]⟩
abbrev S4x16x512 : Shape := ⟨3, ![4, 16, 512]⟩
abbrev S4x256x16 : Shape := ⟨3, ![4, 256, 16]⟩
abbrev S4x256 : Shape := ⟨2, ![4, 256]⟩
abbrev S4x256x1 : Shape := ⟨3, ![4, 256, 1]⟩
abbrev S4x16x256 : Shape := ⟨3, ![4, 16, 256]⟩
abbrev S4x16x32 : Shape := ⟨3, ![4, 16, 32]⟩
abbrev S4x16x544 : Shape := ⟨3, ![4, 16, 544]⟩
abbrev S4 : Shape := ⟨1, ![4]⟩
abbrev S4x1x1 : Shape := ⟨3, ![4, 1, 1]⟩
abbrev S16x4x544 : Shape := ⟨3, ![16, 4, 544]⟩
abbrev S16x2176 : Shape := ⟨2, ![16, 2176]⟩
abbrev S16x1x2176 : Shape := ⟨3, ![16, 1, 2176]⟩
abbrev S16x13x2176 : Shape := ⟨3, ![16, 13, 2176]⟩
abbrev S16x16x2176 : Shape := ⟨3, ![16, 16, 2176]⟩
abbrev S17408x2048 : Shape := ⟨2, ![17408, 2048]⟩
abbrev S16x2176x1 : Shape := ⟨3, ![16, 2176, 1]⟩
abbrev S16x2176x2048 : Shape := ⟨3, ![16, 2176, 2048]⟩
abbrev S1x2176x2048 : Shape := ⟨3, ![1, 2176, 2048]⟩
abbrev S1x1x2048x512 : Shape := ⟨4, ![1, 1, 2048, 512]⟩
abbrev S1x2176x512 : Shape := ⟨3, ![1, 2176, 512]⟩
abbrev S2176x2048 : Shape := ⟨2, ![2176, 2048]⟩
abbrev S2048x512 : Shape := ⟨2, ![2048, 512]⟩
abbrev S2176x512 : Shape := ⟨2, ![2176, 512]⟩
abbrev S1x1x2048x1024 : Shape := ⟨4, ![1, 1, 2048, 1024]⟩
abbrev S1x16x2176 : Shape := ⟨3, ![1, 16, 2176]⟩
abbrev S1x2176x1024 : Shape := ⟨3, ![1, 2176, 1024]⟩
abbrev S16x128 : Shape := ⟨2, ![16, 128]⟩
abbrev S2176x128 : Shape := ⟨2, ![2176, 128]⟩
abbrev S2048x1024 : Shape := ⟨2, ![2048, 1024]⟩
abbrev S2176x1024 : Shape := ⟨2, ![2176, 1024]⟩
abbrev S1x2176x128 : Shape := ⟨3, ![1, 2176, 128]⟩

abbrev nBuf : Space → Nat
  | .hbm => 84
  | .vmem => 16
  | .smem => 0
  | _ => 0

abbrev bufTy : (tb : Table) → Fin (tcTables nBuf tb) → BufTy
  | .hbm, ⟨0, _⟩ => ⟨S4x4352x2048, .bf16⟩
  | .hbm, ⟨1, _⟩ => ⟨S4x4352x16, .f32⟩
  | .hbm, ⟨2, _⟩ => ⟨S2x16x2048x2048, .f32⟩
  | .hbm, ⟨3, _⟩ => ⟨S2x16x2048x2048, .f32⟩
  | .hbm, ⟨4, _⟩ => ⟨S2x16x2048x2048, .f32⟩
  | .hbm, ⟨5, _⟩ => ⟨S4x4096x16, .f32⟩
  | .hbm, ⟨6, _⟩ => ⟨S_, .f32⟩
  | .hbm, ⟨7, _⟩ => ⟨S4x4096, .f32⟩
  | .hbm, ⟨8, _⟩ => ⟨S_, .f32⟩
  | .hbm, ⟨9, _⟩ => ⟨S4x4096, .f32⟩
  | .hbm, ⟨10, _⟩ => ⟨S4x4096, .f32⟩
  | .hbm, ⟨11, _⟩ => ⟨S4x4096x1, .f32⟩
  | .hbm, ⟨12, _⟩ => ⟨S4x4096x16, .f32⟩
  | .hbm, ⟨13, _⟩ => ⟨S4x4096x16, .f32⟩
  | .hbm, ⟨14, _⟩ => ⟨S4x4096x16, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x16, .f32⟩
  | .hbm, ⟨19, _⟩ => ⟨S4x4096x16, .f32⟩
  | .hbm, ⟨20, _⟩ => ⟨S4x16x4096, .f32⟩
  | .hbm, ⟨21, _⟩ => ⟨S4x16x512, .f32⟩
  | .hbm, ⟨22, _⟩ => ⟨S4x16x512, .i32⟩
  | .hbm, ⟨23, _⟩ => ⟨S_, .i32⟩
  | .hbm, ⟨24, _⟩ => ⟨S4x16x512, .i32⟩
  | .hbm, ⟨25, _⟩ => ⟨S4x16x512, .i32⟩
  | .hbm, ⟨26, _⟩ => ⟨S4x256x16, .f32⟩
  | .hbm, ⟨27, _⟩ => ⟨S_, .f32⟩
  | .hbm, ⟨28, _⟩ => ⟨S4x256, .f32⟩
  | .hbm, ⟨29, _⟩ => ⟨S_, .f32⟩
  | .hbm, ⟨30, _⟩ => ⟨S4x256, .f32⟩
  | .hbm, ⟨31, _⟩ => ⟨S4x256, .f32⟩
  | .hbm, ⟨32, _⟩ => ⟨S4x256x1, .f32⟩
  | .hbm, ⟨33, _⟩ => ⟨S4x256x16, .f32⟩
  | .hbm, ⟨34, _⟩ => ⟨S4x256x16, .f32⟩
  | .hbm, ⟨35, _⟩ => ⟨S4x256x16, .f32⟩
  | .hbm, ⟨36, _⟩ => ⟨S_, .f32⟩
  | .hbm, ⟨37, _⟩ => ⟨S4x256, .f32⟩
  | .hbm, ⟨38, _⟩ => ⟨S4x256x1, .f32⟩
  | .hbm, ⟨39, _⟩ => ⟨S4x256x16, .f32⟩
  | .hbm, ⟨40, _⟩ => ⟨S4x256x16, .f32⟩
  | .hbm, ⟨41, _⟩ => ⟨S4x16x256, .f32⟩
  | .hbm, ⟨42, _⟩ => ⟨S4x16x32, .f32⟩
  | .hbm, ⟨43, _⟩ => ⟨S4x16x32, .i32⟩
  | .hbm, ⟨44, _⟩ => ⟨S_, .i32⟩
  | .hbm, ⟨45, _⟩ => ⟨S4x16x32, .i32⟩
  | .hbm, ⟨46, _⟩ => ⟨S4x16x32, .i32⟩
  | .hbm, ⟨47, _⟩ => ⟨S4x16x544, .f32⟩
  | .hbm, ⟨48, _⟩ => ⟨S4x16x544, .i32⟩
  | .hbm, ⟨49, _⟩ => ⟨S4, .i32⟩
  | .hbm, ⟨50, _⟩ => ⟨S4x1x1, .i32⟩
  | .hbm, ⟨51, _⟩ => ⟨S_, .i32⟩
  | .hbm, ⟨52, _⟩ => ⟨S4x1x1, .i32⟩
  | .hbm, ⟨53, _⟩ => ⟨S4x1x1, .i32⟩
  | .hbm, ⟨54, _⟩ => ⟨S4x16x544, .i32⟩
  | .hbm, ⟨55, _⟩ => ⟨S4x16x544, .i32⟩
  | .hbm, ⟨56, _⟩ => ⟨S16x4x544, .i32⟩
  | .hbm, ⟨57, _⟩ => ⟨S16x2176, .i32⟩
  | .hbm, ⟨58, _⟩ => ⟨S16x4x544, .f32⟩
  | .hbm, ⟨59, _⟩ => ⟨S16x1x2176, .f32⟩
  | .hbm, ⟨60, _⟩ => ⟨S16x1x2176, .bf16⟩
  | .hbm, ⟨61, _⟩ => ⟨S16x1x2176, .f32⟩
  | .hbm, ⟨62, _⟩ => ⟨S16x1x2176, .f32⟩
  | .hbm, ⟨63, _⟩ => ⟨S16x1x2176, .bf16⟩
  | .hbm, ⟨64, _⟩ => ⟨S16x1x2176, .f32⟩
  | .hbm, ⟨65, _⟩ => ⟨S16x1x2176, .f32⟩
  | .hbm, ⟨66, _⟩ => ⟨S16x1x2176, .f32⟩
  | .hbm, ⟨67, _⟩ => ⟨S16x1x2176, .f32⟩
  | .hbm, ⟨68, _⟩ => ⟨S16x1x2176, .bf16⟩
  | .hbm, ⟨69, _⟩ => ⟨S_, .bf16⟩
  | .hbm, ⟨70, _⟩ => ⟨S16x13x2176, .bf16⟩
  | .hbm, ⟨71, _⟩ => ⟨S16x16x2176, .bf16⟩
  | .hbm, ⟨72, _⟩ => ⟨S17408x2048, .bf16⟩
  | .hbm, ⟨73, _⟩ => ⟨S_, .i32⟩
  | .hbm, ⟨74, _⟩ => ⟨S16x2176, .i32⟩
  | .hbm, ⟨75, _⟩ => ⟨S16x2176, .i1⟩
  | .hbm, ⟨76, _⟩ => ⟨S_, .i32⟩
  | .hbm, ⟨77, _⟩ => ⟨S16x2176, .i32⟩
  | .hbm, ⟨78, _⟩ => ⟨S16x2176, .i32⟩
  | .hbm, ⟨79, _⟩ => ⟨S16x2176, .i32⟩
  | .hbm, ⟨80, _⟩ => ⟨S16x2176x1, .i32⟩
  | .hbm, ⟨81, _⟩ => ⟨S16x2176x2048, .bf16⟩
  | .hbm, ⟨82, _⟩ => ⟨S16x2176x2048, .bf16⟩
  | .hbm, ⟨83, _⟩ => ⟨S16x2176x2048, .bf16⟩
  | .local _ .vmem, ⟨0, _⟩ => ⟨S1x2176x2048, .bf16⟩
  | .local _ .vmem, ⟨1, _⟩ => ⟨S1x2176x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x2176x512, .bf16⟩
  | .local _ .vmem, ⟨7, _⟩ => ⟨S1x2176x512, .bf16⟩
  | .local _ .vmem, ⟨8, _⟩ => ⟨S1x2176x2048, .bf16⟩
  | .local _ .vmem, ⟨9, _⟩ => ⟨S1x2176x2048, .bf16⟩
  | .local _ .vmem, ⟨10, _⟩ => ⟨S1x1x2048x1024, .f32⟩
  | .local _ .vmem, ⟨11, _⟩ => ⟨S1x1x2048x1024, .f32⟩
  | .local _ .vmem, ⟨12, _⟩ => ⟨S1x16x2176, .bf16⟩
  | .local _ .vmem, ⟨13, _⟩ => ⟨S1x16x2176, .bf16⟩
  | .local _ .vmem, ⟨14, _⟩ => ⟨S1x2176x1024, .bf16⟩
  | .local _ .vmem, ⟨15, _⟩ => ⟨S1x2176x1024, .bf16⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_values_5 : Ref sig .tc := ⟨.hbm, 42, rfl⟩
abbrev main_indices_6 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2176x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x2176 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2176x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference2Ideal.lean ====
abbrev S4x4352x2048 : Shape := ⟨3, ![4, 4352, 2048]⟩
abbrev S4x4352x16 : Shape := ⟨3, ![4, 4352, 16]⟩
abbrev S2x16x2048x2048 : Shape := ⟨4, ![2, 16, 2048, 2048]⟩
abbrev S4x4096x2048 : Shape := ⟨3, ![4, 4096, 2048]⟩
abbrev S4x4096x16 : Shape := ⟨3, ![4, 4096, 16]⟩
abbrev S1x16x2048x2048 : Shape := ⟨4, ![1, 16, 2048, 2048]⟩
abbrev S16x2048x2048 : Shape := ⟨3, ![16, 2048, 2048]⟩
abbrev S_ : Shape := ⟨0, ![]⟩
abbrev S4x4096 : Shape := ⟨2, ![4, 4096]⟩
abbrev S4x4096x1 : Shape := ⟨3, ![4, 4096, 1]⟩
abbrev S4x16x4096 : Shape := ⟨3, ![4, 16, 4096]⟩
abbrev S4x16x512 : Shape := ⟨3, ![4, 16, 512]⟩
abbrev S4 : Shape := ⟨1, ![4]⟩
abbrev S4x1x1 : Shape := ⟨3, ![4, 1, 1]⟩
abbrev S4x16x512x1 : Shape := ⟨4, ![4, 16, 512, 1]⟩
abbrev S4x16x512x2 : Shape := ⟨4, ![4, 16, 512, 2]⟩
abbrev S4x16x512x2048 : Shape := ⟨4, ![4, 16, 512, 2048]⟩
abbrev S16x2048x4x512 : Shape := ⟨4, ![16, 2048, 4, 512]⟩
abbrev S4x256x2048 : Shape := ⟨3, ![4, 256, 2048]⟩
abbrev S4x256x16 : Shape := ⟨3, ![4, 256, 16]⟩
abbrev S4x256 : Shape := ⟨2, ![4, 256]⟩
abbrev S4x256x1 : Shape := ⟨3, ![4, 256, 1]⟩
abbrev S4x16x256 : Shape := ⟨3, ![4, 16, 256]⟩
abbrev S4x16x32 : Shape := ⟨3, ![4, 16, 32]⟩
abbrev S4x16x32x1 : Shape := ⟨4, ![4, 16, 32, 1]⟩
abbrev S4x16x32x2 : Shape := ⟨4, ![4, 16, 32, 2]⟩
abbrev S4x16x32x2048 : Shape := ⟨4, ![4, 16, 32, 2048]⟩
abbrev S16x2048x4x32 : Shape := ⟨4, ![16, 2048, 4, 32]⟩
abbrev S4x16x544x2048 : Shape := ⟨4, ![4, 16, 544, 2048]⟩
abbrev S16x4x544x2048 : Shape := ⟨4, ![16, 4, 544, 2048]⟩
abbrev S16x2176x2048 : Shape := ⟨3, ![16, 2176, 2048]⟩

abbrev nBuf : Space → Nat
  | .hbm => 140
  | .vmem => 0
  | .smem => 0
  | _ => 0

abbrev hbmTy0_0 (i : Nat) : BufTy := match i % 128 with
  | 0 => ⟨S4x4352x2048, .bf16⟩
  | 1 => ⟨S4x4352x16, .f32⟩
  | 2 => ⟨S2x16x2048x2048, .f32⟩
  | 3 => ⟨S2x16x2048x2048, .f32⟩
  | 4 => ⟨S2x16x2048x2048, .f32⟩
  | 5 => ⟨S4x4352x2048, .f32⟩
  | 6 => ⟨S4x4096x2048, .f32⟩
  | 7 => ⟨S4x4096x16, .f32⟩
  | 8 => ⟨S1x16x2048x2048, .f32⟩
  | 9 => ⟨S16x2048x2048, .f32⟩
  | 10 => ⟨S1x16x2048x2048, .f32⟩
  | 11 => ⟨S16x2048x2048, .f32⟩
  | 12 => ⟨S1x16x2048x2048, .f32⟩
  | 13 => ⟨S16x2048x2048, .f32⟩
  | 14 => ⟨S_, .f32⟩
  | 15 => ⟨S4x4096, .f32⟩
  | 16 => ⟨S_, .f32⟩
  | 17 => ⟨S4x4096, .f32⟩
  | 18 => ⟨S4x4096, .f32⟩
  | 19 => ⟨S4x4096x1, .f32⟩
  | 20 => ⟨S4x4096x16, .f32⟩
  | 21 => ⟨S4x4096x16, .f32⟩
  | 22 => ⟨S4x4096x16, .f32⟩
  | 23 => ⟨S_, .f32⟩
  | 24 => ⟨S4x4096, .f32⟩
  | 25 => ⟨S4x4096x1, .f32⟩
  | 26 => ⟨S4x4096x16, .f32⟩
  | 27 => ⟨S4x4096x16, .f32⟩
  | 28 => ⟨S4x16x4096, .f32⟩
  | 29 => ⟨S4x16x512, .f32⟩
  | 30 => ⟨S4x16x512, .i32⟩
  | 31 => ⟨S4, .i32⟩
  | 32 => ⟨S4x1x1, .i32⟩
  | 33 => ⟨S_, .i32⟩
  | 34 => ⟨S4x1x1, .i32⟩
  | 35 => ⟨S4x1x1, .i1⟩
  | 36 => ⟨S_, .i32⟩
  | 37 => ⟨S4x1x1, .i32⟩
  | 38 => ⟨S4x1x1, .i32⟩
  | 39 => ⟨S4x1x1, .i32⟩
  | 40 => ⟨S_, .i32⟩
  | 41 => ⟨S4x16x512, .i32⟩
  | 42 => ⟨S4x16x512, .i1⟩
  | 43 => ⟨S_, .i32⟩
  | 44 => ⟨S4x16x512, .i32⟩
  | 45 => ⟨S4x16x512, .i32⟩
  | 46 => ⟨S4x16x512, .i32⟩
  | 47 => ⟨S4x16x512, .i32⟩
  | 48 => ⟨S4x16x512x1, .i32⟩
  | 49 => ⟨S4x16x512x1, .i32⟩
  | 50 => ⟨S4x16x512x2, .i32⟩
  | 51 => ⟨S4x16x512x2048, .f32⟩
  | 52 => ⟨S16x2048x4x512, .f32⟩
  | 53 => ⟨S4x16x512x2048, .f32⟩
  | 54 => ⟨S16x2048x4x512, .f32⟩
  | 55 => ⟨S4x16x512x2048, .f32⟩
  | 56 => ⟨S4x16x512x2048, .f32⟩
  | 57 => ⟨S4x16x512x2048, .f32⟩
  | 58 => ⟨S_, .f32⟩
  | 59 => ⟨S4x16x512x2048, .f32⟩
  | 60 => ⟨S4x16x512x2048, .f32⟩
  | 61 => ⟨S_, .f32⟩
  | 62 => ⟨S4x16x512x2048, .f32⟩
  | 63 => ⟨S4x16x512x2048, .f32⟩
  | 64 => ⟨S4x16x512x2048, .f32⟩
  | 65 => ⟨S4x16x512x2048, .f32⟩
  | 66 => ⟨S16x2048x4x512, .f32⟩
  | 67 => ⟨S4x16x512x2048, .f32⟩
  | 68 => ⟨S4x16x512x1, .f32⟩
  | 69 => ⟨S4x16x512x2048, .f32⟩
  | 70 => ⟨S4x16x512x2048, .f32⟩
  | 71 => ⟨S4x256x2048, .f32⟩
  | 72 => ⟨S4x256x16, .f32⟩
  | 73 => ⟨S1x16x2048x2048, .f32⟩
  | 74 => ⟨S16x2048x2048, .f32⟩
  | 75 => ⟨S1x16x2048x2048, .f32⟩
  | 76 => ⟨S16x2048x2048, .f32⟩
  | 77 => ⟨S1x16x2048x2048, .f32⟩
  | 78 => ⟨S16x2048x2048, .f32⟩
  | 79 => ⟨S_, .f32⟩
  | 80 => ⟨S4x256, .f32⟩
  | 81 => ⟨S_, .f32⟩
  | 82 => ⟨S4x256, .f32⟩
  | 83 => ⟨S4x256, .f32⟩
  | 84 => ⟨S4x256x1, .f32⟩
  | 85 => ⟨S4x256x16, .f32⟩
  | 86 => ⟨S4x256x16, .f32⟩
  | 87 => ⟨S4x256x16, .f32⟩
  | 88 => ⟨S_, .f32⟩
  | 89 => ⟨S4x256, .f32⟩
  | 90 => ⟨S4x256x1, .f32⟩
  | 91 => ⟨S4x256x16, .f32⟩
  | 92 => ⟨S4x256x16, .f32⟩
  | 93 => ⟨S4x16x256, .f32⟩
  | 94 => ⟨S4x16x32, .f32⟩
  | 95 => ⟨S4x16x32, .i32⟩
  | 96 => ⟨S4, .i32⟩
  | 97 => ⟨S4x1x1, .i32⟩
  | 98 => ⟨S_, .i32⟩
  | 99 => ⟨S4x1x1, .i32⟩
  | 100 => ⟨S4x1x1, .i1⟩
  | 101 => ⟨S_, .i32⟩
  | 102 => ⟨S4x1x1, .i32⟩
  | 103 => ⟨S4x1x1, .i32⟩
  | 104 => ⟨S4x1x1, .i32⟩
  | 105 => ⟨S_, .i32⟩
  | 106 => ⟨S4x16x32, .i32⟩
  | 107 => ⟨S4x16x32, .i1⟩
  | 108 => ⟨S_, .i32⟩
  | 109 => ⟨S4x16x32, .i32⟩
  | 110 => ⟨S4x16x32, .i32⟩
  | 111 => ⟨S4x16x32, .i32⟩
  | 112 => ⟨S4x16x32, .i32⟩
  | 113 => ⟨S4x16x32x1, .i32⟩
  | 114 => ⟨S4x16x32x1, .i32⟩
  | 115 => ⟨S4x16x32x2, .i32⟩
  | 116 => ⟨S4x16x32x2048, .f32⟩
  | 117 => ⟨S16x2048x4x32, .f32⟩
  | 118 => ⟨S4x16x32x2048, .f32⟩
  | 119 => ⟨S16x2048x4x32, .f32⟩
  | 120 => ⟨S4x16x32x2048, .f32⟩
  | 121 => ⟨S4x16x32x2048, .f32⟩
  | 122 => ⟨S4x16x32x2048, .f32⟩
  | 123 => ⟨S_, .f32⟩
  | 124 => ⟨S4x16x32x2048, .f32⟩
  | 125 => ⟨S4x16x32x2048, .f32⟩
  | 126 => ⟨S_, .f32⟩
  | 127 => ⟨S4x16x32x2048, .f32⟩
  | _ => ⟨S4x4352x2048, .bf16⟩

abbrev hbmTy0_1 (i : Nat) : BufTy := match i % 128 with
  | 0 => ⟨S4x16x32x2048, .f32⟩
  | 1 => ⟨S4x16x32x2048, .f32⟩
  | 2 => ⟨S4x16x32x2048, .f32⟩
  | 3 => ⟨S16x2048x4x32, .f32⟩
  | 4 => ⟨S4x16x32x2048, .f32⟩
  | 5 => ⟨S4x16x32x1, .f32⟩
  | 6 => ⟨S4x16x32x2048, .f32⟩
  | 7 => ⟨S4x16x32x2048, .f32⟩
  | 8 => ⟨S4x16x544x2048, .f32⟩
  | 9 => ⟨S16x4x544x2048, .f32⟩
  | 10 => ⟨S16x2176x2048, .f32⟩
  | 11 => ⟨S16x2176x2048, .bf16⟩
  | _ => ⟨S4x4352x2048, .bf16⟩

abbrev hbmTy (i : Nat) : BufTy := match i / 128 with
  | 0 => hbmTy0_0 i
  | 1 => hbmTy0_1 i
  | _ => ⟨S4x4352x2048, .bf16⟩

abbrev bufTy : (tb : Table) → Fin (tcTables nBuf tb) → BufTy
  | .hbm, ⟨i, _⟩ => hbmTy i
  | _, _ => ⟨S4x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_values : Ref sig .tc := ⟨.hbm, 29, rfl⟩
abbrev main_indices : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_5 : Ref sig .tc := ⟨.hbm, 79, rfl⟩
abbrev main_v57 : Ref sig .tc := ⟨.hbm, 80, rfl⟩
abbrev main_cst_6 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_7 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_values_8 : Ref sig .tc := ⟨.hbm, 94, rfl⟩
abbrev main_indices_9 : Ref sig .tc := ⟨.hbm, 95, rfl⟩
abbrev main_v69 : Ref sig .tc := ⟨.hbm, 96, rfl⟩
abbrev main_v70 : Ref sig .tc := ⟨.hbm, 97, rfl⟩
abbrev main_c_10 : Ref sig .tc := ⟨.hbm, 98, rfl⟩
abbrev main_v71 : Ref sig .tc := ⟨.hbm, 99, rfl⟩
abbrev main_v72 : Ref sig .tc := ⟨.hbm, 100, rfl⟩
abbrev main_c_11 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_12 : Ref sig .tc := ⟨.hbm, 105, rfl⟩
abbrev main_v76 : Ref sig .tc := ⟨.hbm, 106, rfl⟩
abbrev main_v77 : Ref sig .tc := ⟨.hbm, 107, rfl⟩
abbrev main_c_13 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_call1_v0 : Ref sig .tc := ⟨.hbm, 121, rfl⟩
abbrev main_call1_v1 : Ref sig .tc := ⟨.hbm, 122, rfl⟩
abbrev main_call1_cst : Ref sig .tc := ⟨.hbm, 123, rfl⟩
abbrev main_call1_v2 : Ref sig .tc := ⟨.hbm, 124, rfl⟩
abbrev main_call1_v3 : Ref sig .tc := ⟨.hbm, 125, rfl⟩
abbrev main_call1_cst_0 : Ref sig .tc := ⟨.hbm, 126, rfl⟩
abbrev main_call1_v4 : Ref sig .tc := ⟨.hbm, 127, rfl⟩
abbrev main_call1_v5 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]
-- ==== Kernel3.lean ====
abbrev S4x4352x2048 : Shape := ⟨3, ![4, 4352, 2048]⟩
abbrev S1x2048x6144 : Shape := ⟨3, ![1, 2048, 6144]⟩
abbrev S17408x2048 : Shape := ⟨2, ![17408, 2048]⟩
abbrev S17408x6144 : Shape := ⟨2, ![17408, 6144]⟩
abbrev S2176x2048 : Shape := ⟨2, ![2176, 2048]⟩
abbrev S1x2048x1024 : Shape := ⟨3, ![1, 2048, 1024]⟩
abbrev S2176x1024 : Shape := ⟨2, ![2176, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x4352x2048, .bf16⟩
  | .hbm, ⟨1, _⟩ => ⟨S1x2048x6144, .f32⟩
  | .hbm, ⟨2, _⟩ => ⟨S17408x2048, .bf16⟩
  | .hbm, ⟨3, _⟩ => ⟨S17408x6144, .bf16⟩
  | .local _ .vmem, ⟨0, _⟩ => ⟨S2176x2048, .bf16⟩
  | .local _ .vmem, ⟨1, _⟩ => ⟨S2176x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2176x1024, .bf16⟩
  | .local _ .vmem, ⟨5, _⟩ => ⟨S2176x1024, .bf16⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4x4352x2048 : Shape := ⟨3, ![4, 4352, 2048]⟩
abbrev S1x2048x6144 : Shape := ⟨3, ![1, 2048, 6144]⟩
abbrev S2048x6144 : Shape := ⟨2, ![2048, 6144]⟩
abbrev S4x4352x6144 : Shape := ⟨3, ![4, 4352, 6144]⟩
abbrev S17408x6144 : Shape := ⟨2, ![17408, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4x4352x2048, .bf16⟩
  | .hbm, ⟨1, _⟩ => ⟨S1x2048x6144, .f32⟩
  | .hbm, ⟨2, _⟩ => ⟨S4x4352x2048, .f32⟩
  | .hbm, ⟨3, _⟩ => ⟨S2048x6144, .f32⟩
  | .hbm, ⟨4, _⟩ => ⟨S4x4352x6144, .f32⟩
  | .hbm, ⟨5, _⟩ => ⟨S17408x6144, .f32⟩
  | .hbm, ⟨6, _⟩ => ⟨S17408x6144, .bf16⟩
  | _, _ => ⟨S4x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S4x4352x2048 : Shape := ⟨3, ![4, 4352, 2048]⟩
abbrev S1x2048x6176 : Shape := ⟨3, ![1, 2048, 6176]⟩
abbrev S2048x6176 : Shape := ⟨2, ![2048, 6176]⟩
abbrev S6176x2048 : Shape := ⟨2, ![6176, 2048]⟩
abbrev S17408x2048 : Shape := ⟨2, ![17408, 2048]⟩
abbrev S17408x6144 : Shape := ⟨2, ![17408, 6144]⟩
abbrev S2176x2048 : Shape := ⟨2, ![2176, 2048]⟩
abbrev S1024x2048 : Shape := ⟨2, ![1024, 2048]⟩
abbrev S2176x1024 : Shape := ⟨2, ![2176, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4352x2048, .bf16⟩
  | .hbm, ⟨1, _⟩ => ⟨S1x2048x6176, .f32⟩
  | .hbm, ⟨2, _⟩ => ⟨S2048x6176, .f32⟩
  | .hbm, ⟨3, _⟩ => ⟨S6176x2048, .f32⟩
  | .hbm, ⟨4, _⟩ => ⟨S17408x2048, .bf16⟩
  | .hbm, ⟨5, _⟩ => ⟨S17408x6144, .bf16⟩
  | .local _ .vmem, ⟨0, _⟩ => ⟨S2176x2048, .bf16⟩
  | .local _ .vmem, ⟨1, _⟩ => ⟨S2176x2048, .bf16⟩
  | .local _ .vmem, ⟨2, _⟩ => ⟨S1024x2048, .f32⟩
  | .local _ .vmem, ⟨3, _⟩ => ⟨S1024x2048, .f32⟩
  | .local _ .vmem, ⟨4, _⟩ => ⟨S2176x1024, .bf16⟩
  | .local _ .vmem, ⟨5, _⟩ => ⟨S2176x1024, .bf16⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4x4352x2048 : Shape := ⟨3, ![4, 4352, 2048]⟩
abbrev S1x2048x6176 : Shape := ⟨3, ![1, 2048, 6176]⟩
abbrev S2048x6176 : Shape := ⟨2, ![2048, 6176]⟩
abbrev S4x4352x6176 : Shape := ⟨3, ![4, 4352, 6176]⟩
abbrev S4x4352x6144 : Shape := ⟨3, ![4, 4352, 6144]⟩
abbrev S17408x6144 : Shape := ⟨2, ![17408, 6144]⟩

abbrev nBuf : Space → Nat
  | .hbm => 8
  | .vmem => 0
  | .smem => 0
  | _ => 0

abbrev bufTy : (tb : Table) → Fin (tcTables nBuf tb) → BufTy
  | .hbm, ⟨0, _⟩ => ⟨S4x4352x2048, .bf16⟩
  | .hbm, ⟨1, _⟩ => ⟨S1x2048x6176, .f32⟩
  | .hbm, ⟨2, _⟩ => ⟨S4x4352x2048, .f32⟩
  | .hbm, ⟨3, _⟩ => ⟨S2048x6176, .f32⟩
  | .hbm, ⟨4, _⟩ => ⟨S4x4352x6176, .f32⟩
  | .hbm, ⟨5, _⟩ => ⟨S4x4352x6144, .f32⟩
  | .hbm, ⟨6, _⟩ => ⟨S17408x6144, .f32⟩
  | .hbm, ⟨7, _⟩ => ⟨S17408x6144, .bf16⟩
  | _, _ => ⟨S4x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S4x4096x2048 : Shape := ⟨3, ![4, 4096, 2048]⟩
abbrev S4x4096x16 : Shape := ⟨3, ![4, 4096, 16]⟩
abbrev S2x16x2048x2048 : Shape := ⟨4, ![2, 16, 2048, 2048]⟩
abbrev S_ : Shape := ⟨0, ![]⟩
abbrev S4x4096 : Shape := ⟨2, ![4, 4096]⟩
abbrev S4x4096x1 : Shape := ⟨3, ![4, 4096, 1]⟩
abbrev S4x16x4096 : Shape := ⟨3, ![4, 16, 4096]⟩
abbrev S4x16x512 : Shape := ⟨3, ![4, 16, 512]⟩
abbrev S4 : Shape := ⟨1, ![4]⟩
abbrev S4x1x1 : Shape := ⟨3, ![4, 1, 1]⟩
abbrev S16x4x512 : Shape := ⟨3, ![16, 4, 512]⟩
abbrev S16x2048 : Shape := ⟨2, ![16, 2048]⟩
abbrev S16x1x2048 : Shape := ⟨3, ![16, 1, 2048]⟩
abbrev S16x13x2048 : Shape := ⟨3, ![16, 13, 2048]⟩
abbrev S16x16x2048 : Shape := ⟨3, ![16, 16, 2048]⟩
abbrev S16384x2048 : Shape := ⟨2, ![16384, 2048]⟩
abbrev S16x2048x1 : Shape := ⟨3, ![16, 2048, 1]⟩
abbrev S16x2048x2048 : Shape := ⟨3, ![16, 2048, 2048]⟩
abbrev S1x2048x2048 : Shape := ⟨3, ![1, 2048, 2048]⟩
abbrev S1x1x2048x512 : Shape := ⟨4, ![1, 1, 2048, 512]⟩
abbrev S1x2048x512 : Shape := ⟨3, ![1, 2048, 512]⟩
abbrev S2048x2048 : Shape := ⟨2, ![2048, 2048]⟩
abbrev S2048x512 : Shape := ⟨2, ![2048, 512]⟩
abbrev S1x1x2048x1024 : Shape := ⟨4, ![1, 1, 2048, 1024]⟩
abbrev S1x16x2048 : Shape := ⟨3, ![1, 16, 2048]⟩
abbrev S1x2048x1024 : Shape := ⟨3, ![1, 2048, 1024]⟩
abbrev S16x128 : Shape := ⟨2, ![16, 128]⟩
abbrev S2048x128 : Shape := ⟨2, ![2048, 128]⟩
abbrev S2048x1024 : Shape := ⟨2, ![2048, 1024]⟩
abbrev S1x2048x128 : Shape := ⟨3, ![1, 2048, 128]⟩

abbrev nBuf : Space → Nat
  | .hbm => 60
  | .vmem => 16
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x16, .f32⟩
  | .hbm, ⟨2, _⟩ => ⟨S2x16x2048x2048, .f32⟩
  | .hbm, ⟨3, _⟩ => ⟨S2x16x2048x2048, .f32⟩
  | .hbm, ⟨4, _⟩ => ⟨S2x16x2048x2048, .f32⟩
  | .hbm, ⟨5, _⟩ => ⟨S_, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x4096x1, .f32⟩
  | .hbm, ⟨11, _⟩ => ⟨S4x4096x16, .f32⟩
  | .hbm, ⟨12, _⟩ => ⟨S4x4096x16, .f32⟩
  | .hbm, ⟨13, _⟩ => ⟨S4x4096x16, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x16, .f32⟩
  | .hbm, ⟨18, _⟩ => ⟨S4x4096x16, .f32⟩
  | .hbm, ⟨19, _⟩ => ⟨S4x16x4096, .f32⟩
  | .hbm, ⟨20, _⟩ => ⟨S4x16x512, .f32⟩
  | .hbm, ⟨21, _⟩ => ⟨S4x16x512, .i32⟩
  | .hbm, ⟨22, _⟩ => ⟨S_, .i32⟩
  | .hbm, ⟨23, _⟩ => ⟨S4x16x512, .i32⟩
  | .hbm, ⟨24, _⟩ => ⟨S4x16x512, .i32⟩
  | .hbm, ⟨25, _⟩ => ⟨S4, .i32⟩
  | .hbm, ⟨26, _⟩ => ⟨S4x1x1, .i32⟩
  | .hbm, ⟨27, _⟩ => ⟨S_, .i32⟩
  | .hbm, ⟨28, _⟩ => ⟨S4x1x1, .i32⟩
  | .hbm, ⟨29, _⟩ => ⟨S4x1x1, .i32⟩
  | .hbm, ⟨30, _⟩ => ⟨S4x16x512, .i32⟩
  | .hbm, ⟨31, _⟩ => ⟨S4x16x512, .i32⟩
  | .hbm, ⟨32, _⟩ => ⟨S16x4x512, .i32⟩
  | .hbm, ⟨33, _⟩ => ⟨S16x2048, .i32⟩
  | .hbm, ⟨34, _⟩ => ⟨S16x4x512, .f32⟩
  | .hbm, ⟨35, _⟩ => ⟨S16x1x2048, .f32⟩
  | .hbm, ⟨36, _⟩ => ⟨S16x1x2048, .bf16⟩
  | .hbm, ⟨37, _⟩ => ⟨S16x1x2048, .f32⟩
  | .hbm, ⟨38, _⟩ => ⟨S16x1x2048, .f32⟩
  | .hbm, ⟨39, _⟩ => ⟨S16x1x2048, .bf16⟩
  | .hbm, ⟨40, _⟩ => ⟨S16x1x2048, .f32⟩
  | .hbm, ⟨41, _⟩ => ⟨S16x1x2048, .f32⟩
  | .hbm, ⟨42, _⟩ => ⟨S16x1x2048, .f32⟩
  | .hbm, ⟨43, _⟩ => ⟨S16x1x2048, .f32⟩
  | .hbm, ⟨44, _⟩ => ⟨S16x1x2048, .bf16⟩
  | .hbm, ⟨45, _⟩ => ⟨S_, .bf16⟩
  | .hbm, ⟨46, _⟩ => ⟨S16x13x2048, .bf16⟩
  | .hbm, ⟨47, _⟩ => ⟨S16x16x2048, .bf16⟩
  | .hbm, ⟨48, _⟩ => ⟨S16384x2048, .bf16⟩
  | .hbm, ⟨49, _⟩ => ⟨S_, .i32⟩
  | .hbm, ⟨50, _⟩ => ⟨S16x2048, .i32⟩
  | .hbm, ⟨51, _⟩ => ⟨S16x2048, .i1⟩
  | .hbm, ⟨52, _⟩ => ⟨S_, .i32⟩
  | .hbm, ⟨53, _⟩ => ⟨S16x2048, .i32⟩
  | .hbm, ⟨54, _⟩ => ⟨S16x2048, .i32⟩
  | .hbm, ⟨55, _⟩ => ⟨S16x2048, .i32⟩
  | .hbm, ⟨56, _⟩ => ⟨S16x2048x1, .i32⟩
  | .hbm, ⟨57, _⟩ => ⟨S16x2048x2048, .bf16⟩
  | .hbm, ⟨58, _⟩ => ⟨S16x2048x2048, .bf16⟩
  | .hbm, ⟨59, _⟩ => ⟨S16x2048x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x2048, .bf16⟩
  | .local _ .vmem, ⟨9, _⟩ => ⟨S1x2048x2048, .bf16⟩
  | .local _ .vmem, ⟨10, _⟩ => ⟨S1x1x2048x1024, .f32⟩
  | .local _ .vmem, ⟨11, _⟩ => ⟨S1x1x2048x1024, .f32⟩
  | .local _ .vmem, ⟨12, _⟩ => ⟨S1x16x2048, .bf16⟩
  | .local _ .vmem, ⟨13, _⟩ => ⟨S1x16x2048, .bf16⟩
  | .local _ .vmem, ⟨14, _⟩ => ⟨S1x2048x1024, .bf16⟩
  | .local _ .vmem, ⟨15, _⟩ => ⟨S1x2048x1024, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_values : Ref sig .tc := ⟨.hbm, 20, rfl⟩
abbrev main_indices : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_4 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference5Ideal.lean ====
abbrev S4x4096x2048 : Shape := ⟨3, ![4, 4096, 2048]⟩
abbrev S4x4096x16 : Shape := ⟨3, ![4, 4096, 16]⟩
abbrev S2x16x2048x2048 : Shape := ⟨4, ![2, 16, 2048, 2048]⟩
abbrev S1x16x2048x2048 : Shape := ⟨4, ![1, 16, 2048, 2048]⟩
abbrev S16x2048x2048 : Shape := ⟨3, ![16, 2048, 2048]⟩
abbrev S_ : Shape := ⟨0, ![]⟩
abbrev S4x4096 : Shape := ⟨2, ![4, 4096]⟩
abbrev S4x4096x1 : Shape := ⟨3, ![4, 4096, 1]⟩
abbrev S4x16x4096 : Shape := ⟨3, ![4, 16, 4096]⟩
abbrev S4x16x512 : Shape := ⟨3, ![4, 16, 512]⟩
abbrev S4 : Shape := ⟨1, ![4]⟩
abbrev S4x1x1 : Shape := ⟨3, ![4, 1, 1]⟩
abbrev S4x16x512x1 : Shape := ⟨4, ![4, 16, 512, 1]⟩
abbrev S4x16x512x2 : Shape := ⟨4, ![4, 16, 512, 2]⟩
abbrev S4x16x512x2048 : Shape := ⟨4, ![4, 16, 512, 2048]⟩
abbrev S16x2048x4x512 : Shape := ⟨4, ![16, 2048, 4, 512]⟩
abbrev S16x4x512x2048 : Shape := ⟨4, ![16, 4, 512, 2048]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x16, .f32⟩
  | .hbm, ⟨2, _⟩ => ⟨S2x16x2048x2048, .f32⟩
  | .hbm, ⟨3, _⟩ => ⟨S2x16x2048x2048, .f32⟩
  | .hbm, ⟨4, _⟩ => ⟨S2x16x2048x2048, .f32⟩
  | .hbm, ⟨5, _⟩ => ⟨S4x4096x2048, .f32⟩
  | .hbm, ⟨6, _⟩ => ⟨S1x16x2048x2048, .f32⟩
  | .hbm, ⟨7, _⟩ => ⟨S16x2048x2048, .f32⟩
  | .hbm, ⟨8, _⟩ => ⟨S1x16x2048x2048, .f32⟩
  | .hbm, ⟨9, _⟩ => ⟨S16x2048x2048, .f32⟩
  | .hbm, ⟨10, _⟩ => ⟨S1x16x2048x2048, .f32⟩
  | .hbm, ⟨11, _⟩ => ⟨S16x2048x2048, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x16, .f32⟩
  | .hbm, ⟨19, _⟩ => ⟨S4x4096x16, .f32⟩
  | .hbm, ⟨20, _⟩ => ⟨S4x4096x16, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x16, .f32⟩
  | .hbm, ⟨25, _⟩ => ⟨S4x4096x16, .f32⟩
  | .hbm, ⟨26, _⟩ => ⟨S4x16x4096, .f32⟩
  | .hbm, ⟨27, _⟩ => ⟨S4x16x512, .f32⟩
  | .hbm, ⟨28, _⟩ => ⟨S4x16x512, .i32⟩
  | .hbm, ⟨29, _⟩ => ⟨S4, .i32⟩
  | .hbm, ⟨30, _⟩ => ⟨S4x1x1, .i32⟩
  | .hbm, ⟨31, _⟩ => ⟨S_, .i32⟩
  | .hbm, ⟨32, _⟩ => ⟨S4x1x1, .i32⟩
  | .hbm, ⟨33, _⟩ => ⟨S4x1x1, .i1⟩
  | .hbm, ⟨34, _⟩ => ⟨S_, .i32⟩
  | .hbm, ⟨35, _⟩ => ⟨S4x1x1, .i32⟩
  | .hbm, ⟨36, _⟩ => ⟨S4x1x1, .i32⟩
  | .hbm, ⟨37, _⟩ => ⟨S4x1x1, .i32⟩
  | .hbm, ⟨38, _⟩ => ⟨S_, .i32⟩
  | .hbm, ⟨39, _⟩ => ⟨S4x16x512, .i32⟩
  | .hbm, ⟨40, _⟩ => ⟨S4x16x512, .i1⟩
  | .hbm, ⟨41, _⟩ => ⟨S_, .i32⟩
  | .hbm, ⟨42, _⟩ => ⟨S4x16x512, .i32⟩
  | .hbm, ⟨43, _⟩ => ⟨S4x16x512, .i32⟩
  | .hbm, ⟨44, _⟩ => ⟨S4x16x512, .i32⟩
  | .hbm, ⟨45, _⟩ => ⟨S4x16x512, .i32⟩
  | .hbm, ⟨46, _⟩ => ⟨S4x16x512x1, .i32⟩
  | .hbm, ⟨47, _⟩ => ⟨S4x16x512x1, .i32⟩
  | .hbm, ⟨48, _⟩ => ⟨S4x16x512x2, .i32⟩
  | .hbm, ⟨49, _⟩ => ⟨S4x16x512x2048, .f32⟩
  | .hbm, ⟨50, _⟩ => ⟨S16x2048x4x512, .f32⟩
  | .hbm, ⟨51, _⟩ => ⟨S4x16x512x2048, .f32⟩
  | .hbm, ⟨52, _⟩ => ⟨S16x2048x4x512, .f32⟩
  | .hbm, ⟨53, _⟩ => ⟨S4x16x512x2048, .f32⟩
  | .hbm, ⟨54, _⟩ => ⟨S4x16x512x2048, .f32⟩
  | .hbm, ⟨55, _⟩ => ⟨S4x16x512x2048, .f32⟩
  | .hbm, ⟨56, _⟩ => ⟨S_, .f32⟩
  | .hbm, ⟨57, _⟩ => ⟨S4x16x512x2048, .f32⟩
  | .hbm, ⟨58, _⟩ => ⟨S4x16x512x2048, .f32⟩
  | .hbm, ⟨59, _⟩ => ⟨S_, .f32⟩
  | .hbm, ⟨60, _⟩ => ⟨S4x16x512x2048, .f32⟩
  | .hbm, ⟨61, _⟩ => ⟨S4x16x512x2048, .f32⟩
  | .hbm, ⟨62, _⟩ => ⟨S4x16x512x2048, .f32⟩
  | .hbm, ⟨63, _⟩ => ⟨S4x16x512x2048, .f32⟩
  | .hbm, ⟨64, _⟩ => ⟨S16x2048x4x512, .f32⟩
  | .hbm, ⟨65, _⟩ => ⟨S4x16x512x2048, .f32⟩
  | .hbm, ⟨66, _⟩ => ⟨S4x16x512x1, .f32⟩
  | .hbm, ⟨67, _⟩ => ⟨S4x16x512x2048, .f32⟩
  | .hbm, ⟨68, _⟩ => ⟨S4x16x512x2048, .f32⟩
  | .hbm, ⟨69, _⟩ => ⟨S16x4x512x2048, .f32⟩
  | .hbm, ⟨70, _⟩ => ⟨S16x2048x2048, .f32⟩
  | .hbm, ⟨71, _⟩ => ⟨S16x2048x2048, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_values : Ref sig .tc := ⟨.hbm, 27, rfl⟩
abbrev main_indices : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Kernel6.lean ====
abbrev S4x4352x1024 : Shape := ⟨3, ![4, 4352, 1024]⟩
abbrev S1x2048x2048 : Shape := ⟨3, ![1, 2048, 2048]⟩
abbrev S4x4352x2048 : Shape := ⟨3, ![4, 4352, 2048]⟩
abbrev S4x12288 : Shape := ⟨2, ![4, 12288]⟩
abbrev S12288 : Shape := ⟨1, ![12288]⟩
abbrev S2x2048 : Shape := ⟨2, ![2, 2048]⟩
abbrev S2x2048x16 : Shape := ⟨3, ![2, 2048, 16]⟩
abbrev S4x6x1x2048 : Shape := ⟨4, ![4, 6, 1, 2048]⟩
abbrev S6x1x2048 : Shape := ⟨3, ![6, 1, 2048]⟩
abbrev S2048x2048 : Shape := ⟨2, ![2048, 2048]⟩
abbrev S1x2048 : Shape := ⟨2, ![1, 2048]⟩
abbrev S1x2048x16 : Shape := ⟨3, ![1, 2048, 16]⟩
abbrev S2048x16 : Shape := ⟨2, ![2048, 16]⟩
abbrev S2048x32 : Shape := ⟨2, ![2048, 32]⟩
abbrev S4x4352x32 : Shape := ⟨3, ![4, 4352, 32]⟩
abbrev S1x544x1024 : Shape := ⟨3, ![1, 544, 1024]⟩
abbrev S1024x2048 : Shape := ⟨2, ![1024, 2048]⟩
abbrev S1x544x2048 : Shape := ⟨3, ![1, 544, 2048]⟩
abbrev S1x1x1x2048 : Shape := ⟨4, ![1, 1, 1, 2048]⟩
abbrev S1x1x2048 : Shape := ⟨3, ![1, 1, 2048]⟩
abbrev S1x544x32 : Shape := ⟨3, ![1, 544, 32]⟩
abbrev S1x272x1024 : Shape := ⟨3, ![1, 272, 1024]⟩
abbrev S272x1024 : Shape := ⟨2, ![272, 1024]⟩
abbrev S272x2048 : Shape := ⟨2, ![272, 2048]⟩
abbrev S1x272x2048 : Shape := ⟨3, ![1, 272, 2048]⟩
abbrev S272x1 : Shape := ⟨2, ![272, 1]⟩
abbrev S272 : Shape := ⟨1, ![272]⟩
abbrev S272x32 : Shape := ⟨2, ![272, 32]⟩
abbrev S1x272x32 : Shape := ⟨3, ![1, 272, 32]⟩
abbrev S4x4352x16 : Shape := ⟨3, ![4, 4352, 16]⟩

abbrev nBuf : Space → Nat
  | .hbm => 26
  | .vmem => 25
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .bf16⟩
  | .hbm, ⟨2, _⟩ => ⟨S1x2048x2048, .f32⟩
  | .hbm, ⟨3, _⟩ => ⟨S4x4352x2048, .f32⟩
  | .hbm, ⟨4, _⟩ => ⟨S4x12288, .f32⟩
  | .hbm, ⟨5, _⟩ => ⟨S12288, .f32⟩
  | .hbm, ⟨6, _⟩ => ⟨S2x2048, .f32⟩
  | .hbm, ⟨7, _⟩ => ⟨S2x2048x16, .f32⟩
  | .hbm, ⟨8, _⟩ => ⟨S4x6x1x2048, .f32⟩
  | .hbm, ⟨9, _⟩ => ⟨S6x1x2048, .f32⟩
  | .hbm, ⟨10, _⟩ => ⟨S2048x2048, .f32⟩
  | .hbm, ⟨11, _⟩ => ⟨S2048x2048, .bf16⟩
  | .hbm, ⟨12, _⟩ => ⟨S1x2048, .f32⟩
  | .hbm, ⟨13, _⟩ => ⟨S1x2048x16, .f32⟩
  | .hbm, ⟨14, _⟩ => ⟨S2048x16, .f32⟩
  | .hbm, ⟨15, _⟩ => ⟨S2048x16, .bf16⟩
  | .hbm, ⟨16, _⟩ => ⟨S2048x16, .f32⟩
  | .hbm, ⟨17, _⟩ => ⟨S2048x16, .f32⟩
  | .hbm, ⟨18, _⟩ => ⟨S2048x16, .bf16⟩
  | .hbm, ⟨19, _⟩ => ⟨S2048x32, .bf16⟩
  | .hbm, ⟨20, _⟩ => ⟨S4x4352x2048, .f32⟩
  | .hbm, ⟨21, _⟩ => ⟨S4x4352x2048, .bf16⟩
  | .hbm, ⟨22, _⟩ => ⟨S4x4352x32, .f32⟩
  | .hbm, ⟨23, _⟩ => ⟨S4x4352x16, .f32⟩
  | .hbm, ⟨24, _⟩ => ⟨S4x4352x16, .f32⟩
  | .hbm, ⟨25, _⟩ => ⟨S4x4352x16, .f32⟩
  | .local _ .vmem, ⟨0, _⟩ => ⟨S1x544x1024, .bf16⟩
  | .local _ .vmem, ⟨1, _⟩ => ⟨S1x544x1024, .bf16⟩
  | .local _ .vmem, ⟨2, _⟩ => ⟨S1x544x1024, .bf16⟩
  | .local _ .vmem, ⟨3, _⟩ => ⟨S1x544x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x544x2048, .f32⟩
  | .local _ .vmem, ⟨7, _⟩ => ⟨S1x544x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x1x2048, .f32⟩
  | .local _ .vmem, ⟨11, _⟩ => ⟨S1x2048, .f32⟩
  | .local _ .vmem, ⟨12, _⟩ => ⟨S1x1x1x2048, .f32⟩
  | .local _ .vmem, ⟨13, _⟩ => ⟨S1x1x1x2048, .f32⟩
  | .local _ .vmem, ⟨14, _⟩ => ⟨S1x1x2048, .f32⟩
  | .local _ .vmem, ⟨15, _⟩ => ⟨S1x1x1x2048, .f32⟩
  | .local _ .vmem, ⟨16, _⟩ => ⟨S1x1x1x2048, .f32⟩
  | .local _ .vmem, ⟨17, _⟩ => ⟨S1x1x2048, .f32⟩
  | .local _ .vmem, ⟨18, _⟩ => ⟨S2048x32, .bf16⟩
  | .local _ .vmem, ⟨19, _⟩ => ⟨S1x544x2048, .f32⟩
  | .local _ .vmem, ⟨20, _⟩ => ⟨S1x544x2048, .f32⟩
  | .local _ .vmem, ⟨21, _⟩ => ⟨S1x544x2048, .bf16⟩
  | .local _ .vmem, ⟨22, _⟩ => ⟨S1x544x2048, .bf16⟩
  | .local _ .vmem, ⟨23, _⟩ => ⟨S1x544x32, .f32⟩
  | .local _ .vmem, ⟨24, _⟩ => ⟨S1x544x32, .f32⟩
  | _, _ => ⟨S4x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x544x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x32 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x544x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x544x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x544x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference6Ideal.lean ====
abbrev S4x4352x1024 : Shape := ⟨3, ![4, 4352, 1024]⟩
abbrev S1x2048x2048 : Shape := ⟨3, ![1, 2048, 2048]⟩
abbrev S4x4352x2048 : Shape := ⟨3, ![4, 4352, 2048]⟩
abbrev S4x12288 : Shape := ⟨2, ![4, 12288]⟩
abbrev S12288 : Shape := ⟨1, ![12288]⟩
abbrev S2x2048 : Shape := ⟨2, ![2, 2048]⟩
abbrev S2x2048x16 : Shape := ⟨3, ![2, 2048, 16]⟩
abbrev S2048x2048 : Shape := ⟨2, ![2048, 2048]⟩
abbrev S4x2048 : Shape := ⟨2, ![4, 2048]⟩
abbrev S4x1x2048 : Shape := ⟨3, ![4, 1, 2048]⟩
abbrev S2048 : Shape := ⟨1, ![2048]⟩
abbrev S4x4096x2048 : Shape := ⟨3, ![4, 4096, 2048]⟩
abbrev S4x256x2048 : Shape := ⟨3, ![4, 256, 2048]⟩
abbrev S1x1x2048 : Shape := ⟨3, ![1, 1, 2048]⟩
abbrev S1x2048 : Shape := ⟨2, ![1, 2048]⟩
abbrev S_ : Shape := ⟨0, ![]⟩
abbrev S4x4096 : Shape := ⟨2, ![4, 4096]⟩
abbrev S4x4096x1 : Shape := ⟨3, ![4, 4096, 1]⟩
abbrev S4x256 : Shape := ⟨2, ![4, 256]⟩
abbrev S4x256x1 : Shape := ⟨3, ![4, 256, 1]⟩
abbrev S1x2048x16 : Shape := ⟨3, ![1, 2048, 16]⟩
abbrev S2048x16 : Shape := ⟨2, ![2048, 16]⟩
abbrev S4x4352x16 : Shape := ⟨3, ![4, 4352, 16]⟩

abbrev nBuf : Space → Nat
  | .hbm => 100
  | .vmem => 0
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .bf16⟩
  | .hbm, ⟨2, _⟩ => ⟨S1x2048x2048, .f32⟩
  | .hbm, ⟨3, _⟩ => ⟨S4x4352x2048, .f32⟩
  | .hbm, ⟨4, _⟩ => ⟨S4x12288, .f32⟩
  | .hbm, ⟨5, _⟩ => ⟨S12288, .f32⟩
  | .hbm, ⟨6, _⟩ => ⟨S2x2048, .f32⟩
  | .hbm, ⟨7, _⟩ => ⟨S2x2048x16, .f32⟩
  | .hbm, ⟨8, _⟩ => ⟨S4x4352x1024, .f32⟩
  | .hbm, ⟨9, _⟩ => ⟨S4x4352x1024, .f32⟩
  | .hbm, ⟨10, _⟩ => ⟨S4x4352x2048, .f32⟩
  | .hbm, ⟨11, _⟩ => ⟨S2048x2048, .f32⟩
  | .hbm, ⟨12, _⟩ => ⟨S4x4352x2048, .f32⟩
  | .hbm, ⟨13, _⟩ => ⟨S4x2048, .f32⟩
  | .hbm, ⟨14, _⟩ => ⟨S4x2048, .f32⟩
  | .hbm, ⟨15, _⟩ => ⟨S4x2048, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S4x1x2048, .f32⟩
  | .hbm, ⟨20, _⟩ => ⟨S4x1x2048, .f32⟩
  | .hbm, ⟨21, _⟩ => ⟨S4x1x2048, .f32⟩
  | .hbm, ⟨22, _⟩ => ⟨S4x1x2048, .f32⟩
  | .hbm, ⟨23, _⟩ => ⟨S4x1x2048, .f32⟩
  | .hbm, ⟨24, _⟩ => ⟨S4x1x2048, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x256x2048, .f32⟩
  | .hbm, ⟨37, _⟩ => ⟨S4x256x2048, .f32⟩
  | .hbm, ⟨38, _⟩ => ⟨S1x1x2048, .f32⟩
  | .hbm, ⟨39, _⟩ => ⟨S4x256x2048, .f32⟩
  | .hbm, ⟨40, _⟩ => ⟨S4x256x2048, .f32⟩
  | .hbm, ⟨41, _⟩ => ⟨S4x256x2048, .f32⟩
  | .hbm, ⟨42, _⟩ => ⟨S1x2048, .f32⟩
  | .hbm, ⟨43, _⟩ => ⟨S2048, .f32⟩
  | .hbm, ⟨44, _⟩ => ⟨S4x4096x2048, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x1, .f32⟩
  | .hbm, ⟨55, _⟩ => ⟨S4x4096x2048, .f32⟩
  | .hbm, ⟨56, _⟩ => ⟨S4x4096x2048, .f32⟩
  | .hbm, ⟨57, _⟩ => ⟨S1x1x2048, .f32⟩
  | .hbm, ⟨58, _⟩ => ⟨S4x4096x2048, .f32⟩
  | .hbm, ⟨59, _⟩ => ⟨S4x4096x2048, .f32⟩
  | .hbm, ⟨60, _⟩ => ⟨S_, .f32⟩
  | .hbm, ⟨61, _⟩ => ⟨S4x1x2048, .f32⟩
  | .hbm, ⟨62, _⟩ => ⟨S4x1x2048, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S1x2048, .f32⟩
  | .hbm, ⟨68, _⟩ => ⟨S2048, .f32⟩
  | .hbm, ⟨69, _⟩ => ⟨S4x256x2048, .f32⟩
  | .hbm, ⟨70, _⟩ => ⟨S_, .f32⟩
  | .hbm, ⟨71, _⟩ => ⟨S4x256, .f32⟩
  | .hbm, ⟨72, _⟩ => ⟨S4x256x1, .f32⟩
  | .hbm, ⟨73, _⟩ => ⟨S_, .f32⟩
  | .hbm, ⟨74, _⟩ => ⟨S4x256x1, .f32⟩
  | .hbm, ⟨75, _⟩ => ⟨S4x256x1, .f32⟩
  | .hbm, ⟨76, _⟩ => ⟨S_, .f32⟩
  | .hbm, ⟨77, _⟩ => ⟨S4x256x1, .f32⟩
  | .hbm, ⟨78, _⟩ => ⟨S4x256x1, .f32⟩
  | .hbm, ⟨79, _⟩ => ⟨S4x256x1, .f32⟩
  | .hbm, ⟨80, _⟩ => ⟨S4x256x2048, .f32⟩
  | .hbm, ⟨81, _⟩ => ⟨S4x256x2048, .f32⟩
  | .hbm, ⟨82, _⟩ => ⟨S1x1x2048, .f32⟩
  | .hbm, ⟨83, _⟩ => ⟨S4x256x2048, .f32⟩
  | .hbm, ⟨84, _⟩ => ⟨S4x256x2048, .f32⟩
  | .hbm, ⟨85, _⟩ => ⟨S_, .f32⟩
  | .hbm, ⟨86, _⟩ => ⟨S2048, .f32⟩
  | .hbm, ⟨87, _⟩ => ⟨S2048, .f32⟩
  | .hbm, ⟨88, _⟩ => ⟨S1x1x2048, .f32⟩
  | .hbm, ⟨89, _⟩ => ⟨S4x256x2048, .f32⟩
  | .hbm, ⟨90, _⟩ => ⟨S4x256x2048, .f32⟩
  | .hbm, ⟨91, _⟩ => ⟨S1x1x2048, .f32⟩
  | .hbm, ⟨92, _⟩ => ⟨S4x256x2048, .f32⟩
  | .hbm, ⟨93, _⟩ => ⟨S4x256x2048, .f32⟩
  | .hbm, ⟨94, _⟩ => ⟨S4x4352x2048, .f32⟩
  | .hbm, ⟨95, _⟩ => ⟨S4x4352x2048, .f32⟩
  | .hbm, ⟨96, _⟩ => ⟨S4x4352x2048, .bf16⟩
  | .hbm, ⟨97, _⟩ => ⟨S1x2048x16, .f32⟩
  | .hbm, ⟨98, _⟩ => ⟨S2048x16, .f32⟩
  | .hbm, ⟨99, _⟩ => ⟨S4x4352x16, .f32⟩
  | _, _ => ⟨S4x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst : Ref sig .tc := ⟨.hbm, 45, rfl⟩
abbrev main_v37 : Ref sig .tc := ⟨.hbm, 46, rfl⟩
abbrev main_v38 : Ref sig .tc := ⟨.hbm, 47, rfl⟩
abbrev main_cst_0 : Ref sig .tc := ⟨.hbm, 48, rfl⟩
abbrev main_v39 : Ref sig .tc := ⟨.hbm, 49, rfl⟩
abbrev main_v40 : Ref sig .tc := ⟨.hbm, 50, rfl⟩
abbrev main_cst_1 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_2 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_3 : Ref sig .tc := ⟨.hbm, 70, rfl⟩
abbrev main_v58 : Ref sig .tc := ⟨.hbm, 71, rfl⟩
abbrev main_v59 : Ref sig .tc := ⟨.hbm, 72, rfl⟩
abbrev main_cst_4 : Ref sig .tc := ⟨.hbm, 73, rfl⟩
abbrev main_v60 : Ref sig .tc := ⟨.hbm, 74, rfl⟩
abbrev main_v61 : Ref sig .tc := ⟨.hbm, 75, rfl⟩
abbrev main_cst_5 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_6 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩

abbrev nD : Nat := 1
abbrev τ : Topo := Topo.v7x

variable {F : FTy → Type} [FloatOps F]
-- ==== Kernel8.lean ====
abbrev S4x4096x1024 : Shape := ⟨3, ![4, 4096, 1024]⟩
abbrev S4x4352x1024 : Shape := ⟨3, ![4, 4352, 1024]⟩
abbrev S1x2048x2048 : Shape := ⟨3, ![1, 2048, 2048]⟩
abbrev S4x4352x2048 : Shape := ⟨3, ![4, 4352, 2048]⟩
abbrev S4x12288 : Shape := ⟨2, ![4, 12288]⟩
abbrev S12288 : Shape := ⟨1, ![12288]⟩
abbrev S2x2048 : Shape := ⟨2, ![2, 2048]⟩
abbrev S2x2048x16 : Shape := ⟨3, ![2, 2048, 16]⟩
abbrev S4x6x1x2048 : Shape := ⟨4, ![4, 6, 1, 2048]⟩
abbrev S6x1x2048 : Shape := ⟨3, ![6, 1, 2048]⟩
abbrev S2048x2048 : Shape := ⟨2, ![2048, 2048]⟩
abbrev S1x2048 : Shape := ⟨2, ![1, 2048]⟩
abbrev S1x2048x16 : Shape := ⟨3, ![1, 2048, 16]⟩
abbrev S2048x16 : Shape := ⟨2, ![2048, 16]⟩
abbrev S2048x32 : Shape := ⟨2, ![2048, 32]⟩
abbrev S4x4096x2048 : Shape := ⟨3, ![4, 4096, 2048]⟩
abbrev S4x4096x32 : Shape := ⟨3, ![4, 4096, 32]⟩
abbrev S1x512x1024 : Shape := ⟨3, ![1, 512, 1024]⟩
abbrev S1024x2048 : Shape := ⟨2, ![1024, 2048]⟩
abbrev S1x512x2048 : Shape := ⟨3, ![1, 512, 2048]⟩
abbrev S1x1x1x2048 : Shape := ⟨4, ![1, 1, 1, 2048]⟩
abbrev S1x1x2048 : Shape := ⟨3, ![1, 1, 2048]⟩
abbrev S1x512x32 : Shape := ⟨3, ![1, 512, 32]⟩
abbrev S1x256x1024 : Shape := ⟨3, ![1, 256, 1024]⟩
abbrev S256x1024 : Shape := ⟨2, ![256, 1024]⟩
abbrev S256x2048 : Shape := ⟨2, ![256, 2048]⟩
abbrev S1x256x2048 : Shape := ⟨3, ![1, 256, 2048]⟩
abbrev S256 : Shape := ⟨1, ![256]⟩
abbrev S256x1 : Shape := ⟨2, ![256, 1]⟩
abbrev S256x32 : Shape := ⟨2, ![256, 32]⟩
abbrev S1x256x32 : Shape := ⟨3, ![1, 256, 32]⟩
abbrev S4x4096x16 : Shape := ⟨3, ![4, 4096, 16]⟩

abbrev nBuf : Space → Nat
  | .hbm => 26
  | .vmem => 25
  | .smem => 0
  | _ => 0

abbrev bufTy : (tb : Table) → Fin (tcTables nBuf tb) → BufTy
  | .hbm, ⟨0, _⟩ => ⟨S4x4096x1024, .bf16⟩
  | .hbm, ⟨1, _⟩ => ⟨S4x4352x1024, .bf16⟩
  | .hbm, ⟨2, _⟩ => ⟨S1x2048x2048, .f32⟩
  | .hbm, ⟨3, _⟩ => ⟨S4x4352x2048, .f32⟩
  | .hbm, ⟨4, _⟩ => ⟨S4x12288, .f32⟩
  | .hbm, ⟨5, _⟩ => ⟨S12288, .f32⟩
  | .hbm, ⟨6, _⟩ => ⟨S2x2048, .f32⟩
  | .hbm, ⟨7, _⟩ => ⟨S2x2048x16, .f32⟩
  | .hbm, ⟨8, _⟩ => ⟨S4x6x1x2048, .f32⟩
  | .hbm, ⟨9, _⟩ => ⟨S6x1x2048, .f32⟩
  | .hbm, ⟨10, _⟩ => ⟨S2048x2048, .f32⟩
  | .hbm, ⟨11, _⟩ => ⟨S2048x2048, .bf16⟩
  | .hbm, ⟨12, _⟩ => ⟨S1x2048, .f32⟩
  | .hbm, ⟨13, _⟩ => ⟨S1x2048x16, .f32⟩
  | .hbm, ⟨14, _⟩ => ⟨S2048x16, .f32⟩
  | .hbm, ⟨15, _⟩ => ⟨S2048x16, .bf16⟩
  | .hbm, ⟨16, _⟩ => ⟨S2048x16, .f32⟩
  | .hbm, ⟨17, _⟩ => ⟨S2048x16, .f32⟩
  | .hbm, ⟨18, _⟩ => ⟨S2048x16, .bf16⟩
  | .hbm, ⟨19, _⟩ => ⟨S2048x32, .bf16⟩
  | .hbm, ⟨20, _⟩ => ⟨S4x4096x2048, .f32⟩
  | .hbm, ⟨21, _⟩ => ⟨S4x4096x2048, .bf16⟩
  | .hbm, ⟨22, _⟩ => ⟨S4x4096x32, .f32⟩
  | .hbm, ⟨23, _⟩ => ⟨S4x4096x16, .f32⟩
  | .hbm, ⟨24, _⟩ => ⟨S4x4096x16, .f32⟩
  | .hbm, ⟨25, _⟩ => ⟨S4x4096x16, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x1x2048, .f32⟩
  | .local _ .vmem, ⟨11, _⟩ => ⟨S1x2048, .f32⟩
  | .local _ .vmem, ⟨12, _⟩ => ⟨S1x1x1x2048, .f32⟩
  | .local _ .vmem, ⟨13, _⟩ => ⟨S1x1x1x2048, .f32⟩
  | .local _ .vmem, ⟨14, _⟩ => ⟨S1x1x2048, .f32⟩
  | .local _ .vmem, ⟨15, _⟩ => ⟨S1x1x1x2048, .f32⟩
  | .local _ .vmem, ⟨16, _⟩ => ⟨S1x1x1x2048, .f32⟩
  | .local _ .vmem, ⟨17, _⟩ => ⟨S1x1x2048, .f32⟩
  | .local _ .vmem, ⟨18, _⟩ => ⟨S2048x32, .bf16⟩
  | .local _ .vmem, ⟨19, _⟩ => ⟨S1x512x2048, .f32⟩
  | .local _ .vmem, ⟨20, _⟩ => ⟨S1x512x2048, .f32⟩
  | .local _ .vmem, ⟨21, _⟩ => ⟨S1x512x2048, .bf16⟩
  | .local _ .vmem, ⟨22, _⟩ => ⟨S1x512x2048, .bf16⟩
  | .local _ .vmem, ⟨23, _⟩ => ⟨S1x512x32, .f32⟩
  | .local _ .vmem, ⟨24, _⟩ => ⟨S1x512x32, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x32 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference8Ideal.lean ====
abbrev S4x4096x1024 : Shape := ⟨3, ![4, 4096, 1024]⟩
abbrev S4x4352x1024 : Shape := ⟨3, ![4, 4352, 1024]⟩
abbrev S1x2048x2048 : Shape := ⟨3, ![1, 2048, 2048]⟩
abbrev S4x4352x2048 : Shape := ⟨3, ![4, 4352, 2048]⟩
abbrev S4x12288 : Shape := ⟨2, ![4, 12288]⟩
abbrev S12288 : Shape := ⟨1, ![12288]⟩
abbrev S2x2048 : Shape := ⟨2, ![2, 2048]⟩
abbrev S2x2048x16 : Shape := ⟨3, ![2, 2048, 16]⟩
abbrev S4x4096x2048 : Shape := ⟨3, ![4, 4096, 2048]⟩
abbrev S2048x2048 : Shape := ⟨2, ![2048, 2048]⟩
abbrev S4x2048 : Shape := ⟨2, ![4, 2048]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x16 : Shape := ⟨3, ![1, 2048, 16]⟩
abbrev S2048x16 : Shape := ⟨2, ![2048, 16]⟩
abbrev S4x4096x16 : Shape := ⟨3, ![4, 4096, 16]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4352x1024, .bf16⟩
  | .hbm, ⟨2, _⟩ => ⟨S1x2048x2048, .f32⟩
  | .hbm, ⟨3, _⟩ => ⟨S4x4352x2048, .f32⟩
  | .hbm, ⟨4, _⟩ => ⟨S4x12288, .f32⟩
  | .hbm, ⟨5, _⟩ => ⟨S12288, .f32⟩
  | .hbm, ⟨6, _⟩ => ⟨S2x2048, .f32⟩
  | .hbm, ⟨7, _⟩ => ⟨S2x2048x16, .f32⟩
  | .hbm, ⟨8, _⟩ => ⟨S4x4096x1024, .f32⟩
  | .hbm, ⟨9, _⟩ => ⟨S4x4096x1024, .bf16⟩
  | .hbm, ⟨10, _⟩ => ⟨S4x4096x1024, .f32⟩
  | .hbm, ⟨11, _⟩ => ⟨S4x4096x2048, .f32⟩
  | .hbm, ⟨12, _⟩ => ⟨S2048x2048, .f32⟩
  | .hbm, ⟨13, _⟩ => ⟨S4x4096x2048, .f32⟩
  | .hbm, ⟨14, _⟩ => ⟨S4x2048, .f32⟩
  | .hbm, ⟨15, _⟩ => ⟨S4x2048, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S4x2048, .f32⟩
  | .hbm, ⟨20, _⟩ => ⟨S4x1x2048, .f32⟩
  | .hbm, ⟨21, _⟩ => ⟨S4x1x2048, .f32⟩
  | .hbm, ⟨22, _⟩ => ⟨S4x1x2048, .f32⟩
  | .hbm, ⟨23, _⟩ => ⟨S4x1x2048, .f32⟩
  | .hbm, ⟨24, _⟩ => ⟨S4x1x2048, .f32⟩
  | .hbm, ⟨25, _⟩ => ⟨S4x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S1x2048, .f32⟩
  | .hbm, ⟨31, _⟩ => ⟨S2048, .f32⟩
  | .hbm, ⟨32, _⟩ => ⟨S4x4096x2048, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x1, .f32⟩
  | .hbm, ⟨43, _⟩ => ⟨S4x4096x2048, .f32⟩
  | .hbm, ⟨44, _⟩ => ⟨S4x4096x2048, .f32⟩
  | .hbm, ⟨45, _⟩ => ⟨S1x1x2048, .f32⟩
  | .hbm, ⟨46, _⟩ => ⟨S4x4096x2048, .f32⟩
  | .hbm, ⟨47, _⟩ => ⟨S4x4096x2048, .f32⟩
  | .hbm, ⟨48, _⟩ => ⟨S_, .f32⟩
  | .hbm, ⟨49, _⟩ => ⟨S4x1x2048, .f32⟩
  | .hbm, ⟨50, _⟩ => ⟨S4x1x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S4x4096x2048, .bf16⟩
  | .hbm, ⟨56, _⟩ => ⟨S1x2048x16, .f32⟩
  | .hbm, ⟨57, _⟩ => ⟨S2048x16, .f32⟩
  | .hbm, ⟨58, _⟩ => ⟨S4x4096x16, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Proof.At.lean ====
/- Arrays read at natural-number coordinates. -/
module

public import Idealize.ShloMosaic.Lib.Pointwise

@[expose] public section

noncomputable section

namespace Cert.At

open Idealize.ShloMosaic

variable {a b c d : ℕ}

/-- A three-axis array at coordinates; zero outside. -/
def at3 (A : (⟨3, ![a, b, c]⟩ : Shape).Idx → EReal) (x y z : ℕ) : EReal :=
  if h : x < a ∧ y < b ∧ z < c then A (ix3 ⟨x, h.1⟩ ⟨y, h.2.1⟩ ⟨z, h.2.2⟩) else 0

/-- A four-axis array at coordinates; zero outside. -/
def at4 (A : (⟨4, ![a, b, c, d]⟩ : Shape).Idx → EReal) (x y z w : ℕ) : EReal :=
  if h : x < a ∧ y < b ∧ z < c ∧ w < d then A (ix4 ⟨x, h.1⟩ ⟨y, h.2.1⟩ ⟨z, h.2.2.1⟩ ⟨w, h.2.2.2⟩) else 0

theorem eq_at3 (A : (⟨3, ![a, b, c]⟩ : Shape).Idx → EReal) (i : (⟨3, ![a, b, c]⟩ : Shape).Idx) (x y z : ℕ)
    (hx : (i 0).val = x) (hy : (i 1).val = y) (hz : (i 2).val = z) : A i = at3 A x y z := by
  subst hx hy hz
  have h : (i 0).val < a ∧ (i 1).val < b ∧ (i 2).val < c := ⟨(i 0).isLt, (i 1).isLt, (i 2).isLt⟩
  unfold at3
  rw [dif_pos h]
  congr 1
  funext k
  fin_cases k <;> rfl

theorem eq_at4 (A : (⟨4, ![a, b, c, d]⟩ : Shape).Idx → EReal) (i : (⟨4, ![a, b, c, d]⟩ : Shape).Idx) (x y z w : ℕ)
    (hx : (i 0).val = x) (hy : (i 1).val = y) (hz : (i 2).val = z) (hw : (i 3).val = w) : A i = at4 A x y z w := by
  subst hx hy hz hw
  have h : (i 0).val < a ∧ (i 1).val < b ∧ (i 2).val < c ∧ (i 3).val < d :=
    ⟨(i 0).isLt, (i 1).isLt, (i 2).isLt, (i 3).isLt⟩
  unfold at4
  rw [dif_pos h]
  congr 1
  funext k
  fin_cases k <;> rfl

theorem at3_mk (A : (⟨3, ![a, b, c]⟩ : Shape).Idx → EReal) (x : Fin a) (y : Fin b) (z : Fin c) :
    at3 A x y z = A (ix3 x y z) := (eq_at3 A (ix3 x y z) _ _ _ rfl rfl rfl).symm

theorem at4_mk (A : (⟨4, ![a, b, c, d]⟩ : Shape).Idx → EReal) (x : Fin a) (y : Fin b) (z : Fin c) (w : Fin d) :
    at4 A x y z w = A (ix4 x y z w) := (eq_at4 A (ix4 x y z w) _ _ _ _ rfl rfl rfl rfl).symm

end Cert.At

end
-- ==== Proof.Attn.lean ====
/- One attention head of a grid point's block, read at an index. -/
module

public import proofs.«01_k».proof.Proof.Gen.KernelIdeal.Skeleton
public import Idealize.ShloMosaic.Lib.Pointwise

@[expose] public section

set_option maxRecDepth 16384

noncomputable section

namespace Cert.KernelIdeal.Attn

open Cert.KernelIdeal Cert.KernelIdeal.Gen Idealize.ShloMosaic

/-- The scale the scores are multiplied with. -/
abbrev scl : EReal := Ideal.ofBits .f32 0x3DB504F3#32

/-- The window's scores of row `r`. -/
def sw (q : Vec Ideal S1x256x128 .bf16) (kw : Vec Ideal S1x704x128 .bf16) (b : Vec Ideal S1x1x256x704 .bf16)
    (r : Fin 256) (j : Fin 704) : EReal :=
  (∑ e : Fin 128, q (ix3 0 r e) * kw (ix3 0 j e)) * scl + b (ix4 0 0 r j)

/-- The context's scores of row `r`. -/
def sc (q : Vec Ideal S1x256x128 .bf16) (kc : Vec Ideal S1x256x128 .bf16) (r : Fin 256) (l : Fin 256) : EReal :=
  (∑ e : Fin 128, q (ix3 0 r e) * kc (ix3 0 l e)) * scl

/-- The row's maximum. -/
def mx (s : Fin 704 → EReal) (u : Fin 256 → EReal) : EReal :=
  max (Finset.univ.fold max ⊥ s) (Finset.univ.fold max ⊥ u)

/-- One head: what its store writes, from the six blocks it reads. -/
def head (q : Vec Ideal S1x256x128 .bf16) (kw : Vec Ideal S1x704x128 .bf16) (b : Vec Ideal S1x1x256x704 .bf16)
    (kc : Vec Ideal S1x256x128 .bf16) (vw : Vec Ideal S1x704x128 .bf16) (vc : Vec Ideal S1x256x128 .bf16) : Vec Ideal S1x256x128 .bf16 :=
  k0_pay8 (k0_pay6 q kw b kc) (k0_pay7 q kw b kc) vw vc

theorem head1 (q : Vec Ideal S1x256x128 .bf16) (kw : Vec Ideal S1x704x128 .bf16) (b : Vec Ideal S1x1x256x704 .bf16)
    (kc : Vec Ideal S1x256x128 .bf16) (vw : Vec Ideal S1x704x128 .bf16) (vc : Vec Ideal S1x256x128 .bf16) :
    k0_pay11 (k0_pay9 q) (k0_pay10 q kw b) kc vw vc = head q kw b kc vw vc := rfl

theorem head2 (q : Vec Ideal S1x256x128 .bf16) (kw : Vec Ideal S1x704x128 .bf16) (b : Vec Ideal S1x1x256x704 .bf16)
    (kc : Vec Ideal S1x256x128 .bf16) (vw : Vec Ideal S1x704x128 .bf16) (vc : Vec Ideal S1x256x128 .bf16) :
    k0_pay21 (k0_pay18 (k0_pay12 q) kw b kc) (k0_pay19 (k0_pay12 q) kw b kc vw) (k0_pay20 (k0_pay12 q) kw b kc) vc
      = head q kw b kc vw vc := rfl

theorem head3 (q : Vec Ideal S1x256x128 .bf16) (kw : Vec Ideal S1x704x128 .bf16) (b : Vec Ideal S1x1x256x704 .bf16)
    (kc : Vec Ideal S1x256x128 .bf16) (vw : Vec Ideal S1x704x128 .bf16) (vc : Vec Ideal S1x256x128 .bf16) :
    k0_pay1 (k0_pay26 q kw b kc) (k0_pay27 q kw b kc) vw vc = head q kw b kc vw vc := rfl

/-- The pattern of minus infinity. -/
theorem ninf : Ideal.ofBits .f32 0xFF800000#32 = ⊥ := by
  simp [Ideal.ofBits, Ideal.ieee]

theorem pay3_apply (q : Vec Ideal S1x256x128 .bf16) (kw : Vec Ideal S1x704x128 .bf16) (b : Vec Ideal S1x1x256x704 .bf16)
    (r : Fin 256) (j : Fin 704) : k0_pay3 q kw b (ix2 r j) = sw q kw b r j := by
  pointwise [k0_pay3, k0_pay2]
  rfl

theorem pay4_apply (q : Vec Ideal S1x256x128 .bf16) (kc : Vec Ideal S1x256x128 .bf16)
    (r : Fin 256) (j : Fin 256) : k0_pay4 q kc (ix2 r j) = sc q kc r j := by
  pointwise [k0_pay4, k0_pay2]
  rfl

theorem pay5_apply (q : Vec Ideal S1x256x128 .bf16) (kw : Vec Ideal S1x704x128 .bf16) (b : Vec Ideal S1x1x256x704 .bf16)
    (kc : Vec Ideal S1x256x128 .bf16) (r : Fin 256) :
    k0_pay5 q kw b kc (ix2 r 0) = mx (sw q kw b r) (sc q kc r) := by
  pointwise [k0_pay5]
  simp only [pay3_apply, pay4_apply, ninf]
  rfl

theorem pay6_apply (q : Vec Ideal S1x256x128 .bf16) (kw : Vec Ideal S1x704x128 .bf16) (b : Vec Ideal S1x1x256x704 .bf16)
    (kc : Vec Ideal S1x256x128 .bf16) (r : Fin 256) (j : Fin 704) :
    k0_pay6 q kw b kc (ix2 r j) = Ideal.exp (sw q kw b r j - mx (sw q kw b r) (sc q kc r)) := by
  pointwise [k0_pay6]
  rw [pay3_apply, pay5_apply]

theorem pay7_apply (q : Vec Ideal S1x256x128 .bf16) (kw : Vec Ideal S1x704x128 .bf16) (b : Vec Ideal S1x1x256x704 .bf16)
    (kc : Vec Ideal S1x256x128 .bf16) (r : Fin 256) (j : Fin 256) :
    k0_pay7 q kw b kc (ix2 r j) = Ideal.exp (sc q kc r j - mx (sw q kw b r) (sc q kc r)) := by
  pointwise [k0_pay7]
  rw [pay4_apply, pay5_apply]

theorem pay8_apply (x : FVec Ideal S256x704 .f32) (y : FVec Ideal S256x256 .f32) (vw : Vec Ideal S1x704x128 .bf16)
    (vc : Vec Ideal S1x256x128 .bf16) (r : Fin 256) (d : Fin 128) :
    k0_pay8 x y vw vc (ix3 0 r d)
      = Ideal.div ((∑ j : Fin 704, x (ix2 r j) * vw (ix3 0 j d)) + ∑ l : Fin 256, y (ix2 r l) * vc (ix3 0 l d))
          ((∑ j : Fin 704, x (ix2 r j)) + ∑ l : Fin 256, y (ix2 r l)) := by
  pointwise [k0_pay8]

/-- A head's result at row `r`, lane `d`. -/
theorem head_apply (q : Vec Ideal S1x256x128 .bf16) (kw : Vec Ideal S1x704x128 .bf16) (b : Vec Ideal S1x1x256x704 .bf16)
    (kc : Vec Ideal S1x256x128 .bf16) (vw : Vec Ideal S1x704x128 .bf16) (vc : Vec Ideal S1x256x128 .bf16) (r : Fin 256) (d : Fin 128) :
    head q kw b kc vw vc (ix3 0 r d)
      = Ideal.div ((∑ j : Fin 704, Ideal.exp (sw q kw b r j - mx (sw q kw b r) (sc q kc r)) * vw (ix3 0 j d))
            + ∑ l : Fin 256, Ideal.exp (sc q kc r l - mx (sw q kw b r) (sc q kc r)) * vc (ix3 0 l d))
          ((∑ j : Fin 704, Ideal.exp (sw q kw b r j - mx (sw q kw b r) (sc q kc r)))
            + ∑ l : Fin 256, Ideal.exp (sc q kc r l - mx (sw q kw b r) (sc q kc r))) := by
  unfold head
  rw [pay8_apply]
  simp only [pay6_apply, pay7_apply]

end Cert.KernelIdeal.Attn

end
-- ==== Proof.Block.lean ====
/- The kernel's result array at an index. -/
module

public import proofs.«01_k».proof.Proof.At
public import proofs.«01_k».proof.Proof.Attn
public import proofs.«01_k».proof.Proof.Gen.KernelIdeal.Value
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem
open Cert.KernelIdeal.Attn Cert.At

/-- First key row of query block `i`. -/
def w0 (i : ℕ) : ℕ := min (4 * i - 4) 53

/-- Which of the three bias tables query block `i` takes. -/
def kind (i : ℕ) : ℕ := if i = 0 then 0 else if i = 15 then 2 else 1

/-- Window scores of query `r` of block `i`. -/
def swv (A : S4x4352x6144.Idx → EReal) (B : S3x8x256x704.Idx → EReal) (b i H r : ℕ) (j : Fin 704) : EReal :=
  (∑ e : Fin 128, at3 A b (256 * i + r) (128 * H + e) * at3 A b (64 * w0 i + j) (2560 + 128 * H + e)) * scl
    + at4 B (kind i) H r j

/-- Context scores of query `r` of block `i`. -/
def scv (A : S4x4352x6144.Idx → EReal) (b i H r : ℕ) (l : Fin 256) : EReal :=
  (∑ e : Fin 128, at3 A b (256 * i + r) (128 * H + e) * at3 A b (4096 + l) (2560 + 128 * H + e)) * scl

/-- The attention of query `r` of block `i`, lane `d` of head `H`. -/
def val (A : S4x4352x6144.Idx → EReal) (B : S3x8x256x704.Idx → EReal) (b i H r d : ℕ) : EReal :=
  Ideal.div
    ((∑ j : Fin 704, Ideal.exp (swv A B b i H r j - mx (swv A B b i H r) (scv A b i H r)) * at3 A b (64 * w0 i + j) (3584 + 128 * H + d))
      + ∑ l : Fin 256, Ideal.exp (scv A b i H r l - mx (swv A B b i H r) (scv A b i H r)) * at3 A b (4096 + l) (3584 + 128 * H + d))
    ((∑ j : Fin 704, Ideal.exp (swv A B b i H r j - mx (swv A B b i H r) (scv A b i H r)))
      + ∑ l : Fin 256, Ideal.exp (scv A b i H r l - mx (swv A B b i H r) (scv A b i H r)))

theorem head_val (q : Vec Ideal S1x256x128 .bf16) (kw : Vec Ideal S1x704x128 .bf16) (bb : Vec Ideal S1x1x256x704 .bf16)
    (kc : Vec Ideal S1x256x128 .bf16) (vw : Vec Ideal S1x704x128 .bf16) (vc : Vec Ideal S1x256x128 .bf16)
    (A : S4x4352x6144.Idx → EReal) (B : S3x8x256x704.Idx → EReal) (b i H : ℕ) (r : Fin 256) (d : Fin 128)
    (hq : ∀ e : Fin 128, q (ix3 0 r e) = at3 A b (256 * i + r) (128 * H + e))
    (hk : ∀ (j : Fin 704) (e : Fin 128), kw (ix3 0 j e) = at3 A b (64 * w0 i + j) (2560 + 128 * H + e))
    (hb : ∀ j : Fin 704, bb (ix4 0 0 r j) = at4 B (kind i) H r j)
    (hkc : ∀ (j : Fin 256) (e : Fin 128), kc (ix3 0 j e) = at3 A b (4096 + j) (2560 + 128 * H + e))
    (hv : ∀ (j : Fin 704) (e : Fin 128), vw (ix3 0 j e) = at3 A b (64 * w0 i + j) (3584 + 128 * H + e))
    (hvc : ∀ (j : Fin 256) (e : Fin 128), vc (ix3 0 j e) = at3 A b (4096 + j) (3584 + 128 * H + e)) :
    head q kw bb kc vw vc (ix3 0 r d) = val A B b i H r d := by
  have h1 : sw q kw bb r = swv A B b i H r := by
    funext j; unfold sw swv; simp only [hq, hk, hb]
  have h2 : sc q kc r = scv A b i H r := by
    funext j; unfold sc scv; simp only [hq, hkc]
  rw [head_apply, h1, h2]
  unfold val
  simp only [hv, hvc]

variable (m : (ℓ : Loc nD τ sig) → Buf (Elt Ideal) ℓ)

theorem off_row : ∀ t : Fin cfg0.N, k0_off1 (grid0.coords t) 1 = 64 * w0 (grid0.coords t 2) ∧ k0_off2 (grid0.coords t) 1 = 64 * w0 (grid0.coords t 2)
    ∧ k0_off3 (grid0.coords t) 1 = 64 * w0 (grid0.coords t 2) ∧ k0_off4 (grid0.coords t) 1 = 64 * w0 (grid0.coords t 2) :=
  (by decide +kernel : ∀ t : Fin grid0.N, _)

theorem idx0 : ∀ t : Fin cfg0.N, win0_0.index t = ![(grid0.coords t 0).val, (grid0.coords t 2).val, (grid0.coords t 1).val] :=
  (by decide +kernel : ∀ t : Fin grid0.N, _)
theorem idx1 : ∀ t : Fin cfg0.N, win0_1.index t = ![(grid0.coords t 0).val, 0, 5 + (grid0.coords t 1).val] :=
  (by decide +kernel : ∀ t : Fin grid0.N, _)
theorem idx2 : ∀ t : Fin cfg0.N, win0_2.index t = ![(grid0.coords t 0).val, 0, 7 + (grid0.coords t 1).val] :=
  (by decide +kernel : ∀ t : Fin grid0.N, _)
theorem idx3 : ∀ t : Fin cfg0.N, win0_3.index t = ![kind (grid0.coords t 2), (grid0.coords t 1).val, 0, 0] :=
  (by decide +kernel : ∀ t : Fin grid0.N, _)
theorem idx4 : ∀ t : Fin cfg0.N, win0_4.index t = ![(grid0.coords t 0).val, (grid0.coords t 2).val, (grid0.coords t 1).val] :=
  (by decide +kernel : ∀ t : Fin grid0.N, _)

theorem blk0 (c : Dev nD) (t : Fin cfg0.N) (y : S1x256x512.Idx) :
    iblk m c 0 t y = at3 (V m c main_arg0) (grid0.coords t 0) (256 * (grid0.coords t 2) + (y 1).val) (512 * (grid0.coords t 1) + (y 2).val) := by
  have h0 : (y 0).val < 1 := (y 0).isLt
  blk_simp [iblk]
  apply eq_at3 <;> blk_simp [idx0] <;> simp <;> omega

theorem blk1 (c : Dev nD) (t : Fin cfg0.N) (y : S1x4352x512.Idx) :
    iblk m c 1 t y = at3 (V m c main_arg0) (grid0.coords t 0) ((y 1).val) (2560 + 512 * (grid0.coords t 1) + (y 2).val) := by
  have h0 : (y 0).val < 1 := (y 0).isLt
  blk_simp [iblk]
  apply eq_at3 <;> blk_simp [idx1] <;> simp <;> omega

theorem blk2 (c : Dev nD) (t : Fin cfg0.N) (y : S1x4352x512.Idx) :
    iblk m c 2 t y = at3 (V m c main_arg0) (grid0.coords t 0) ((y 1).val) (3584 + 512 * (grid0.coords t 1) + (y 2).val) := by
  have h0 : (y 0).val < 1 := (y 0).isLt
  blk_simp [iblk]
  apply eq_at3 <;> blk_simp [idx2] <;> simp <;> omega

theorem blk3 (c : Dev nD) (t : Fin cfg0.N) (y : S1x4x256x704.Idx) :
    iblk m c 3 t y = at4 (V m c main_v69) (kind (grid0.coords t 2)) (4 * (grid0.coords t 1) + (y 1).val) (y 2).val (y 3).val := by
  have h0 : (y 0).val < 1 := (y 0).isLt
  blk_simp [iblk]
  apply eq_at4 <;> blk_simp [idx3] <;> simp <;> omega

end Cert.KernelIdeal.Block

end
-- ==== Proof.Entry.lean ====
/- The kernel's whole result array. -/
module

public import proofs.«01_k».proof.Proof.Block

@[expose] public section

set_option maxRecDepth 16384

noncomputable section

namespace Cert.KernelIdeal.Entry

open Cert.KernelIdeal Cert.KernelIdeal.Gen Idealize.ShloMosaic Idealize.ShloMosaic.TcCoe Idealize.SL.Sem
open Cert.KernelIdeal.Attn Cert.KernelIdeal.Block Cert.At

variable (m : (ℓ : Loc nD τ sig) → Buf (Elt Ideal) ℓ)

/-- A load through a unit-stride rectangle reads the contents at the offset index. -/
theorem ld_at {s : Shape} {α : EltTy} (X : s.Idx → Elt Ideal α) (off size : Fin s.rank → Nat) (inb)
    (x : (Rect.unit (s := s) off size inb).shape.Idx) : View.ld X (Rect.unit off size inb) x = X ((Rect.unit off size inb).emb x) := rfl

/-- One head of one grid point. -/
theorem piece (c : Dev nD) (t : Fin cfg0.N) (hp : ℕ) (hhp : hp < 4) (o1 : Fin 3 → ℕ)
    (ho1 : o1 0 = 0 ∧ o1 1 = 64 * w0 (grid0.coords t 2) ∧ o1 2 = 128 * hp) (i1 i2 i3 i4)
    (r : Fin 256) (d : Fin 128) :
    head (View.ld (iblk m c 0 t) (Rect.unit (s := S1x256x512) ![0, 0, 128 * hp] ![1, 256, 128] i1))
      (View.ld (iblk m c 1 t) (Rect.unit (s := S1x4352x512) o1 ![1, 704, 128] i2))
      (View.ld (iblk m c 3 t) (Rect.unit (s := S1x4x256x704) ![0, hp, 0, 0] ![1, 1, 256, 704] i3))
      (View.ld (iblk m c 1 t) (Rect.unit (s := S1x4352x512) ![0, 4096, 128 * hp] ![1, 256, 128] i4))
      (View.ld (iblk m c 2 t) (Rect.unit (s := S1x4352x512) o1 ![1, 704, 128] i2))
      (View.ld (iblk m c 2 t) (Rect.unit (s := S1x4352x512) ![0, 4096, 128 * hp] ![1, 256, 128] i4)) (ix3 0 r d)
      = val (V m c main_arg0) (V m c main_v69) (grid0.coords t 0) (grid0.coords t 2) (4 * (grid0.coords t 1) + hp) r d := by
  obtain ⟨h0, h1, h2⟩ := ho1
  apply head_val
  · intro e
    rw [ld_at, blk0]
    congr 1
    · rw [ValueKit.rect_emb_unit_val]; simp
    · rw [ValueKit.rect_emb_unit_val]; simp; omega
  · intro j e
    rw [ld_at, blk1]
    congr 1
    · rw [ValueKit.rect_emb_unit_val]; simp [h1]
    · rw [ValueKit.rect_emb_unit_val]; simp [h2]; omega
  · intro j
    rw [ld_at, blk3]
    congr 1
    · rw [ValueKit.rect_emb_unit_val]; simp
    · rw [ValueKit.rect_emb_unit_val]; simp
  · intro j e
    rw [ld_at, blk1]
    congr 1
    · rw [ValueKit.rect_emb_unit_val]; simp
    · rw [ValueKit.rect_emb_unit_val]; simp; omega
  · intro j e
    rw [ld_at, blk2]
    congr 1
    · rw [ValueKit.rect_emb_unit_val]; simp [h1]
    · rw [ValueKit.rect_emb_unit_val]; simp [h2]; omega
  · intro j e
    rw [ld_at, blk2]
    congr 1
    · rw [ValueKit.rect_emb_unit_val]; simp
    · rw [ValueKit.rect_emb_unit_val]; simp; omega

/-- The result array as a function. -/
def res (A : S4x4352x6144.Idx → EReal) (B : S3x8x256x704.Idx → EReal) : S4x4096x1024.Idx → EReal := fun y =>
  val A B (y 0) ((y 1).val / 256) ((y 2).val / 128) ((y 1).val % 256) ((y 2).val % 128)

theorem outs_apply (c : Dev nD) (t : Fin cfg0.N) (y : S1x256x512.Idx) :
    outsAt0 m c t y = val (V m c main_arg0) (V m c main_v69) (grid0.coords t 0) (grid0.coords t 2)
      (4 * (grid0.coords t 1) + (y 2).val / 128) (y 1) ((y 2).val % 128) := by
  have hy2 : (y 2).val < 512 := (y 2).isLt
  have hy1 : (y 1).val < 256 := (y 1).isLt
  have hy0 : (y 0).val < 1 := (y 0).isLt
  have ho := off_row t
  unfold outsAt0
  frame_out
  refine View.canon_apply_of_pieces (Val := Elt Ideal) (S := S1x256x512) (e := .bf16) (fun y => val (V m c main_arg0) (V m c main_v69) (grid0.coords t 0) (grid0.coords t 2)
      (4 * (grid0.coords t 1) + (y 2).val / 128) (y 1) ((y 2).val % 128)) _ ?_ y ?_
  · intro p hp x
    simp only [List.mem_cons, List.not_mem_nil, or_false] at hp
    have key : ∀ (h : ℕ) (f : Vec Ideal S1x256x128 .bf16) (x : S1x256x128.Idx) (z : S1x256x512.Idx),
        (∀ r d, f (ix3 0 r d) = val (V m c main_arg0) (V m c main_v69) (grid0.coords t 0) (grid0.coords t 2) (4 * (grid0.coords t 1) + h) r.val d.val) →
        (z 1).val = (x 1).val → (z 2).val = 128 * h + (x 2).val →
        f x = val (V m c main_arg0) (V m c main_v69) (grid0.coords t 0) (grid0.coords t 2)
          (4 * (grid0.coords t 1) + (z 2).val / 128) (z 1) ((z 2).val % 128) := by
      intro h f x z hf h1 h2
      have hx2 : (x 2).val < 128 := (x 2).isLt
      have hx0 : (x 0).val < 1 := (x 0).isLt
      have hx : x = ix3 0 (x 1) (x 2) := by
        funext k; fin_cases k <;> first | rfl | (apply Fin.ext; show (x 0).val = 0; omega)
      refine (congrArg f hx).trans ((hf (x 1) (x 2)).trans ?_)
      rw [h1, h2]
      congr 1
      · show _ = 4 * _ + (128 * h + (x 2).val) / 128
        omega
      · show _ = (128 * h + (x 2).val) % 128
        show (x 2).val = _
        omega
    rcases hp with rfl | rfl | rfl | rfl
    · refine key 3 _ x _ (fun r d => ?_) ?_ ?_
      · exact piece m c t 3 (by omega) (k0_off4 (grid0.coords t)) ⟨rfl, ho.2.2.2, rfl⟩ _ _ _ _ r d
      · rw [ValueKit.rect_emb_unit_val]; simp
      · rw [ValueKit.rect_emb_unit_val]; simp
    · refine key 2 _ x _ (fun r d => ?_) ?_ ?_
      · exact piece m c t 2 (by omega) (k0_off3 (grid0.coords t)) ⟨rfl, ho.2.2.1, rfl⟩ _ _ _ _ r d
      · rw [ValueKit.rect_emb_unit_val]; simp
      · rw [ValueKit.rect_emb_unit_val]; simp
    · refine key 1 _ x _ (fun r d => ?_) ?_ ?_
      · exact piece m c t 1 (by omega) (k0_off2 (grid0.coords t)) ⟨rfl, ho.2.1, rfl⟩ _ _ _ _ r d
      · rw [ValueKit.rect_emb_unit_val]; simp
      · rw [ValueKit.rect_emb_unit_val]; simp
    · refine key 0 _ x _ (fun r d => ?_) ?_ ?_
      · exact piece m c t 0 (by omega) (k0_off1 (grid0.coords t)) ⟨rfl, ho.1, rfl⟩ _ _ _ _ r d
      · rw [ValueKit.rect_emb_unit_val]; simp
      · rw [ValueKit.rect_emb_unit_val]; simp
  · have hmem : ∀ (h : ℕ) (i1), (y 2).val / 128 = h → y ∈ (Rect.unit (s := S1x256x512) ![0, 0, 128 * h] ![1, 256, 128] i1).set := by
      intro h i1 hh
      rw [Rect.mem_set_unit]
      intro a
      fin_cases a
      · simp
      · simp; exact hy1
      · simp; omega
    have h4 : (y 2).val / 128 = 3 ∨ (y 2).val / 128 = 2 ∨ (y 2).val / 128 = 1 ∨ (y 2).val / 128 = 0 := by omega
    rcases h4 with h | h | h | h
    · exact ⟨_, List.mem_cons_self, hmem 3 (by decide) h⟩
    · exact ⟨_, List.mem_cons_of_mem _ List.mem_cons_self, hmem 2 (by decide) h⟩
    · exact ⟨_, List.mem_cons_of_mem _ (List.mem_cons_of_mem _ List.mem_cons_self), hmem 1 (by decide) h⟩
    · exact ⟨_, List.mem_cons_of_mem _ (List.mem_cons_of_mem _ (List.mem_cons_of_mem _ List.mem_cons_self)), hmem 0 (by decide) h⟩

theorem final_o (c : Dev nD) : (dats m 0 c).arrAt 4 cfg0.N = res (V m c main_arg0) (V m c main_v69) := by
  refine (dats m 0 c).arrAt_eq_of_covers 4 _ (by decide +kernel) fun t hf y => ?_
  blk_simp
  rw [after0_4]
  refine (outs_apply m c t y).trans ?_
  unfold res
  have hy2 : (y 2).val < 512 := (y 2).isLt
  have hy1 : (y 1).val < 256 := (y 1).isLt
  have hy0 : (y 0).val < 1 := (y 0).isLt
  blk_simp [idx4]
  simp only [Matrix.cons_val_zero, Matrix.cons_val_one, Matrix.cons_val]
  congr 1 <;> omega

end Cert.KernelIdeal.Entry

end
-- ==== Proof.BiasDef.lean ====
/- The bias table the host prepares, as a function of the relative biases. -/
module

public import proofs.«01_k».proof.Proof.Gen.KernelIdeal.Frame
public import Idealize.ShloMosaic.Lib.Pointwise

@[expose] public section

set_option maxRecDepth 16384

noncomputable section

namespace Cert.KernelIdeal.Bias

open Cert.KernelIdeal Cert.KernelIdeal.Gen Idealize.ShloMosaic Idealize.ShloMosaic.TcCoe Idealize.SL.Sem

/-- The biases rotated to start at difference zero, zeros between. -/
def rot (x : FVec Ideal S8x15x31 .f32) : FVec Ideal S8x15x128 .f32 :=
  concatenate S8x15x128 2 [⟨S8x15x16, extractStridedSlice S8x15x16 ![0, 0, 15] x slices_S8x15x31_S8x15x16_0_0_15⟩,
    ⟨S8x15x97, broadcastInDim S8x15x97 ![] bcast_S_S8x15x97 (constant (F := Ideal) S_ .f32 0x00000000#32)⟩,
    ⟨S8x15x15, extractStridedSlice S8x15x15 ![0, 0, 0] x slices_S8x15x31_S8x15x15_0_0_0⟩]
    concatenates_S8x15x16_S8x15x97_S8x15x15_S8x15x128_d2

/-- The rotated row repeated and cut so that each query column's row is shifted by one. -/
def toep (z : FVec Ideal S8x15x128 .f32) : FVec Ideal S8x15x64x64 .f32 :=
  extractStridedSlice S8x15x64x64 ![0, 0, 0, 0]
    (shapeCast S8x15x64x127
      (extractStridedSlice S8x15x8128 ![0, 0, 0]
        (shapeCast S8x15x8192
          (broadcastInDim S1x8x1x15x64x128 ![0, 1, 2, 3, 4, 5] bcast_S1x8x1x15x1x128_S1x8x1x15x64x128_0_1_2_3_4_5
            (shapeCast S1x8x1x15x1x128 z shapeCasts_S8x15x128_S1x8x1x15x1x128))
          shapeCasts_S1x8x1x15x64x128_S8x15x8192)
        slices_S8x15x8192_S8x15x8128_0_0_0)
      shapeCasts_S8x15x8128_S8x15x64x127)
    slices_S8x15x64x127_S8x15x64x64_0_0_0_0

/-- Three rows of zeros on each side of the row differences, then rows and columns joined. -/
def padded (y : FVec Ideal S8x15x64x64 .f32) : FVec Ideal S8x64x1344 .bf16 :=
  shapeCast S8x64x1344
    (truncf .bf16 (pad S8x64x21x64 ![0, 0, 3, 0] ![0, 0, 3, 0] ![0, 0, 0, 0]
      (transpose S8x64x15x64 [0, 2, 1, 3] y transposes_S8x15x64x64_S8x64x15x64_0_2_1_3)
      (sitofp .f32 (constantI S_ 32 0#32)) pads_S8x64x15x64_S8x64x21x64_000_000_330_000 h_S_) bitsLt_bf16_f32)
    shapeCasts_S8x64x21x64_S8x64x1344

/-- Four shifted windows, one per query row of a block, stacked. -/
def stack4 (a b c d : FVec Ideal S8x64x704 .bf16) : FVec Ideal S8x4x64x704 .bf16 :=
  concatenate S8x4x64x704 1 [⟨S8x1x64x704, broadcastInDim S8x1x64x704 ![0, 2, 3] bcast_S8x64x704_S8x1x64x704_0_2_3 a⟩,
    ⟨S8x1x64x704, broadcastInDim S8x1x64x704 ![0, 2, 3] bcast_S8x64x704_S8x1x64x704_0_2_3 b⟩,
    ⟨S8x1x64x704, broadcastInDim S8x1x64x704 ![0, 2, 3] bcast_S8x64x704_S8x1x64x704_0_2_3 c⟩,
    ⟨S8x1x64x704, broadcastInDim S8x1x64x704 ![0, 2, 3] bcast_S8x64x704_S8x1x64x704_0_2_3 d⟩]
    concatenates_S8x1x64x704_S8x1x64x704_S8x1x64x704_S8x1x64x704_S8x4x64x704_d1

/-- The three kinds of blocks stacked. -/
def stack3 (a b c : FVec Ideal S8x4x64x704 .bf16) : FVec Ideal S3x8x4x64x704 .bf16 :=
  concatenate S3x8x4x64x704 0 [⟨S1x8x4x64x704, broadcastInDim S1x8x4x64x704 ![1, 2, 3, 4] bcast_S8x4x64x704_S1x8x4x64x704_1_2_3_4 a⟩,
    ⟨S1x8x4x64x704, broadcastInDim S1x8x4x64x704 ![1, 2, 3, 4] bcast_S8x4x64x704_S1x8x4x64x704_1_2_3_4 b⟩,
    ⟨S1x8x4x64x704, broadcastInDim S1x8x4x64x704 ![1, 2, 3, 4] bcast_S8x4x64x704_S1x8x4x64x704_1_2_3_4 c⟩]
    concatenates_S1x8x4x64x704_S1x8x4x64x704_S1x8x4x64x704_S3x8x4x64x704_d0

/-- All windows of the padded biases. -/
def wins (y : FVec Ideal S8x64x1344 .bf16) : FVec Ideal S3x8x4x64x704 .bf16 :=
  stack3
    (stack4 (extractStridedSlice S8x64x704 ![0, 0, 640] y slices_S8x64x1344_S8x64x704_0_0_640)
      (extractStridedSlice S8x64x704 ![0, 0, 576] y slices_S8x64x1344_S8x64x704_0_0_576)
      (extractStridedSlice S8x64x704 ![0, 0, 512] y slices_S8x64x1344_S8x64x704_0_0_512)
      (extractStridedSlice S8x64x704 ![0, 0, 448] y slices_S8x64x1344_S8x64x704_0_0_448))
    (stack4 (extractStridedSlice S8x64x704 ![0, 0, 384] y slices_S8x64x1344_S8x64x704_0_0_384)
      (extractStridedSlice S8x64x704 ![0, 0, 320] y slices_S8x64x1344_S8x64x704_0_0_320)
      (extractStridedSlice S8x64x704 ![0, 0, 256] y slices_S8x64x1344_S8x64x704_0_0_256)
      (extractStridedSlice S8x64x704 ![0, 0, 192] y slices_S8x64x1344_S8x64x704_0_0_192))
    (stack4 (extractStridedSlice S8x64x704 ![0, 0, 192] y slices_S8x64x1344_S8x64x704_0_0_192)
      (extractStridedSlice S8x64x704 ![0, 0, 128] y slices_S8x64x1344_S8x64x704_0_0_128)
      (extractStridedSlice S8x64x704 ![0, 0, 64] y slices_S8x64x1344_S8x64x704_0_0_64)
      (extractStridedSlice S8x64x704 ![0, 0, 0] y slices_S8x64x1344_S8x64x704_0_0_0))

/-- First key column of each query column. -/
def cst : IVec S64x1 32 :=
  minsi (broadcastInDim S64x1 ![] bcast_S_S64x1 (constantI S_ 32 48#32))
    (maxsi (broadcastInDim S64x1 ![] bcast_S_S64x1 (constantI S_ 32 0#32))
      (subi (broadcastInDim S64x1 ![0] bcast_S64_S64x1_0 (iotaInDim S64 32 0))
        (broadcastInDim S64x1 ![] bcast_S_S64x1 (constantI S_ 32 8#32))))

/-- Which key columns a query column sees. -/
def colOk : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 cst))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi cst (broadcastInDim S64x1 ![] bcast_S_S64x1 (constantI S_ 32 16#32)))))

/-- Which key rows a query row sees. -/
def rowOk : IVec S3x4x11 1 := fun i => lit0 (S3x4x11.rowMajor i)

/-- Which keys a query sees. -/
def valid : IVec S3x4x64x11x64 1 :=
  andi (broadcastInDim S3x4x64x11x64 ![0, 1, 2, 3, 4] bcast_S3x4x1x11x1_S3x4x64x11x64_0_1_2_3_4
      (broadcastInDim S3x4x1x11x1 ![0, 1, 3] bcast_S3x4x11_S3x4x1x11x1_0_1_3 rowOk))
    (broadcastInDim S3x4x64x11x64 ![0, 1, 2, 3, 4] bcast_S1x1x64x1x64_S3x4x64x11x64_0_1_2_3_4
      (broadcastInDim S1x1x64x1x64 ![2, 4] bcast_S64x64_S1x1x64x1x64_2_4 colOk))

/-- The table of one bias per query and key of a block, minus infinity where the key is not seen. -/
def table (x : FVec Ideal S8x15x31 .f32) : FVec Ideal S3x8x256x704 .bf16 :=
  select (broadcastInDim S3x8x256x704 ![0, 1, 2, 3] bcast_S3x1x256x704_S3x8x256x704_0_1_2_3
      (broadcastInDim S3x1x256x704 ![0, 2, 3] bcast_S3x256x704_S3x1x256x704_0_2_3 (shapeCast S3x256x704 valid shapeCasts_S3x4x64x11x64_S3x256x704)))
    (shapeCast S3x8x256x704 (wins (padded (toep (rot x)))) shapeCasts_S3x8x4x64x704_S3x8x256x704)
    (broadcastInDim S3x8x256x704 ![] bcast_S_S3x8x256x704 (constant (F := Ideal) S_ .bf16 0xFF80#16))

open Idealize.ShloMosaic.StableHlo in
/-- A three-operand operation's result, its operands' contents one by one. -/
theorem nary3 {a b c y : Ref sig .tc}
    (f : ((k : Fin 3) → ((![a, b, c] : Fin 3 → Ref sig .tc) k).ty.Contents (Elt Ideal)) → y.ty.Contents (Elt Ideal)) (hxs hy)
    (F : Valuation τ sig (Elt Ideal)) :
    (nary (τ := τ) ![a, b, c] y f hxs hy).result F (no_index (Proc.devRef .tc y))
      = f (Fin.cons (F (Proc.devRef .tc a)) (Fin.cons (F (Proc.devRef .tc b)) (Fin.cons (F (Proc.devRef .tc c)) (fun i => i.elim0)))) := by
  rw [nary_result]; congr 1; funext k; fin_cases k <;> rfl

section Segments

open Idealize.ShloMosaic.StableHlo

variable (X : Valuation τ sig (Elt Ideal))

theorem seg0_v9 : after (hostOps0 (F := Ideal)) X (no_index (Proc.devRef .tc main_v9)) = toep (rot (X (Proc.devRef .tc main_arg1))) := by
  simp only [hostOps0]
  simp (disch := decide) only [after_cons, after_nil, nullary_result', unary_result', binary_result', reshape_result', nary3,
    nullary_result_ne', unary_result_ne', binary_result_ne', reshape_result_ne', nary_result_ne']
  rfl

theorem seg0_v13 : after (hostOps0 (F := Ideal)) X (no_index (Proc.devRef .tc main_v13)) = broadcastInDim S1x64 ![1] bcast_S64_S1x64_1 (iotaInDim S64 32 0) := by
  simp only [hostOps0]
  after_results_simp

theorem seg0_v15 : after (hostOps0 (F := Ideal)) X (no_index (Proc.devRef .tc main_v15)) = subi (broadcastInDim S64x1 ![0] bcast_S64_S64x1_0 (iotaInDim S64 32 0))
        (broadcastInDim S64x1 ![] bcast_S_S64x1 (constantI S_ 32 8#32)) := by
  simp only [hostOps0]
  after_results_simp

theorem seg0_c1 : after (hostOps0 (F := Ideal)) X (no_index (Proc.devRef .tc main_c_1)) = constantI S_ 32 0#32 := by
  simp only [hostOps0]
  after_results_simp

theorem seg0_c2 : after (hostOps0 (F := Ideal)) X (no_index (Proc.devRef .tc main_c_2)) = constantI S_ 32 48#32 := by
  simp only [hostOps0]
  after_results_simp

theorem seg0_c : after (hostOps0 (F := Ideal)) X (no_index (Proc.devRef .tc main_c)) = rowOk := by
  simp only [hostOps0]
  after_results_simp
  rfl

theorem seg1_v16 : after (hostOps0_1 (F := Ideal)) X (no_index (Proc.devRef .tc main_v16))
    = (minsi (broadcastInDim S64x1 ![] bcast_S_S64x1 (X (Proc.devRef .tc main_c_2) : IVec S_ 32))
    (maxsi (broadcastInDim S64x1 ![] bcast_S_S64x1 (X (Proc.devRef .tc main_c_1) : IVec S_ 32)) (X (Proc.devRef .tc main_v15) : IVec S64x1 32)) : IVec S64x1 32) := by
  simp only [hostOps0_1, TRef.binary, TRef.unary, TRef.toBuf, TRef.ofBuf, cast_eq]
  after_results_simp
  rfl

theorem seg2_v31 : after (hostOps0_2 (F := Ideal)) X (no_index (Proc.devRef .tc main_v31))
    = (shapeCast S3x256x704 (andi (broadcastInDim S3x4x64x11x64 ![0, 1, 2, 3, 4] bcast_S3x4x1x11x1_S3x4x64x11x64_0_1_2_3_4
      (broadcastInDim S3x4x1x11x1 ![0, 1, 3] bcast_S3x4x11_S3x4x1x11x1_0_1_3 (X (Proc.devRef .tc main_c) : IVec S3x4x11 1)))
    (broadcastInDim S3x4x64x11x64 ![0, 1, 2, 3, 4] bcast_S1x1x64x1x64_S3x4x64x11x64_0_1_2_3_4
      (broadcastInDim S1x1x64x1x64 ![2, 4] bcast_S64x64_S1x1x64x1x64_2_4
        (andi (cmpi .sge (broadcastInDim S64x64 ![0, 1] bcast_S1x64_S64x64_0_1 (X (Proc.devRef .tc main_v13) : IVec S1x64 32))
            (broadcastInDim S64x64 ![0, 1] bcast_S64x1_S64x64_0_1 (X (Proc.devRef .tc main_v16) : IVec S64x1 32)))
          (cmpi .slt (broadcastInDim S64x64 ![0, 1] bcast_S1x64_S64x64_0_1 (X (Proc.devRef .tc main_v13) : IVec S1x64 32))
            (broadcastInDim S64x64 ![0, 1] bcast_S64x1_S64x64_0_1 (addi (X (Proc.devRef .tc main_v16) : IVec S64x1 32) (broadcastInDim S64x1 ![] bcast_S_S64x1 (constantI S_ 32 16#32))))))))) shapeCasts_S3x4x64x11x64_S3x256x704 : IVec S3x256x704 1) := by
  simp only [hostOps0_2]
  after_results_simp
  rfl

theorem seg2_v32 : after (hostOps0_2 (F := Ideal)) X (no_index (Proc.devRef .tc main_v32))
    = (transpose S8x64x15x64 [0, 2, 1, 3] (X (Proc.devRef .tc main_v9) : FVec Ideal S8x15x64x64 .f32) transposes_S8x15x64x64_S8x64x15x64_0_2_1_3 : FVec Ideal S8x64x15x64 .f32) := by
  simp only [hostOps0_2]
  after_results_simp

theorem seg2_c4 : after (hostOps0_2 (F := Ideal)) X (no_index (Proc.devRef .tc main_c_4)) = constantI S_ 32 0#32 := by
  simp only [hostOps0_2]
  after_results_simp

theorem seg3_v33 : after (hostOps0_3 (F := Ideal)) X (no_index (Proc.devRef .tc main_v33))
    = (pad S8x64x21x64 ![0, 0, 3, 0] ![0, 0, 3, 0] ![0, 0, 0, 0] (X (Proc.devRef .tc main_v32) : FVec Ideal S8x64x15x64 .f32)
      (sitofp .f32 (X (Proc.devRef .tc main_c_4) : IVec S_ 32)) pads_S8x64x15x64_S8x64x21x64_000_000_330_000 h_S_ : FVec Ideal S8x64x21x64 .f32) := by
  simp only [hostOps0_3, TRef.binary, TRef.unary, TRef.toBuf, TRef.ofBuf, cast_eq]
  after_results_simp

theorem seg3_v31 : after (hostOps0_3 (F := Ideal)) X (no_index (Proc.devRef .tc main_v31)) = X (Proc.devRef .tc main_v31) := by
  simp only [hostOps0_3, TRef.binary, TRef.unary, TRef.toBuf, TRef.ofBuf, cast_eq]
  after_results_simp

theorem seg1_v9 : after (hostOps0_1 (F := Ideal)) X (no_index (Proc.devRef .tc main_v9)) = X (Proc.devRef .tc main_v9) := by
  simp only [hostOps0_1, TRef.binary, TRef.unary, TRef.toBuf, TRef.ofBuf, cast_eq]
  after_results_simp

theorem seg1_v13 : after (hostOps0_1 (F := Ideal)) X (no_index (Proc.devRef .tc main_v13)) = X (Proc.devRef .tc main_v13) := by
  simp only [hostOps0_1, TRef.binary, TRef.unary, TRef.toBuf, TRef.ofBuf, cast_eq]
  after_results_simp

theorem seg1_c : after (hostOps0_1 (F := Ideal)) X (no_index (Proc.devRef .tc main_c)) = X (Proc.devRef .tc main_c) := by
  simp only [hostOps0_1, TRef.binary, TRef.unary, TRef.toBuf, TRef.ofBuf, cast_eq]
  after_results_simp

theorem seg4_v67 : after (hostOps0_4 (F := Ideal)) X (no_index (Proc.devRef .tc main_v67))
    = (shapeCast S3x8x256x704 (wins (shapeCast S8x64x1344 (truncf .bf16 (X (Proc.devRef .tc main_v33) : FVec Ideal S8x64x21x64 .f32) bitsLt_bf16_f32) shapeCasts_S8x64x21x64_S8x64x1344)) shapeCasts_S3x8x4x64x704_S3x8x256x704 : FVec Ideal S3x8x256x704 .bf16) := by
  simp only [hostOps0_4]
  simp (disch := decide) only [after_cons, after_nil, nullary_result', unary_result', binary_result', reshape_result', nary3, nary4_result',
    nullary_result_ne', unary_result_ne', binary_result_ne', reshape_result_ne', nary_result_ne']
  rfl

theorem seg4_v68 : after (hostOps0_4 (F := Ideal)) X (no_index (Proc.devRef .tc main_v68))
    = (broadcastInDim S3x1x256x704 ![0, 2, 3] bcast_S3x256x704_S3x1x256x704_0_2_3 (X (Proc.devRef .tc main_v31) : IVec S3x256x704 1) : IVec S3x1x256x704 1) := by
  simp only [hostOps0_4]
  after_results_simp

theorem seg4_c5 : after (hostOps0_4 (F := Ideal)) X (no_index (Proc.devRef .tc main_cst_5)) = constant (F := Ideal) S_ .bf16 0xFF80#16 := by
  simp only [hostOps0_4]
  after_results_simp

theorem seg5_v69 : after (hostOps0_5 (F := Ideal)) X (no_index (Proc.devRef .tc main_v69))
    = (select (broadcastInDim S3x8x256x704 ![0, 1, 2, 3] bcast_S3x1x256x704_S3x8x256x704_0_1_2_3 (X (Proc.devRef .tc main_v68) : IVec S3x1x256x704 1))
      (X (Proc.devRef .tc main_v67) : FVec Ideal S3x8x256x704 .bf16)
      (broadcastInDim S3x8x256x704 ![] bcast_S_S3x8x256x704 (X (Proc.devRef .tc main_cst_5) : FVec Ideal S_ .bf16)) : FVec Ideal S3x8x256x704 .bf16) := by
  simp only [hostOps0_5, TRef.binary, TRef.unary, TRef.ternary, TRef.toBuf, TRef.ofBuf, cast_eq]
  after_results_simp

theorem after_app (l₁ l₂ : List (HloOp τ sig (Elt Ideal))) (X : Valuation τ sig (Elt Ideal)) : after (l₁ ++ l₂) X = after l₂ (after l₁ X) := by
  induction l₁ generalizing X with
  | nil => rfl
  | cons op l ih => exact ih _

end Segments

variable (m : (ℓ : Loc nD τ sig) → Buf (Elt Ideal) ℓ)

theorem V_table (c : Dev nD) : V m c main_v69 = table (m ((c : Thread nD τ).loc main_arg1)) := by
  show StableHlo.after (hostOps0 ++ (hostOps0_1 ++ (hostOps0_2 ++ (hostOps0_3 ++ (hostOps0_4 ++ (hostOps0_5 ++ [])))))) (fun b => m (c, b)) (Proc.devRef .tc main_v69) = _
  rw [after_app, after_app, after_app, after_app, after_app, List.append_nil, seg5_v69, seg4_v67, seg4_v68, seg4_c5, seg3_v33, seg3_v31, seg2_v31, seg2_v32,
    seg2_c4, seg1_v16, seg1_v9, seg1_v13, seg1_c, seg0_c, seg0_c1, seg0_c2, seg0_v13, seg0_v15, seg0_v9]
  rfl

end Cert.KernelIdeal.Bias

end
-- ==== Proof.BiasAt.lean ====
/- The bias table read at an index. -/
module

public import proofs.«01_k».proof.Proof.BiasDef
public import proofs.«01_k».proof.Proof.At

@[expose] public section

set_option maxRecDepth 16384

noncomputable section

namespace Cert.KernelIdeal.Bias

open Cert.KernelIdeal Cert.KernelIdeal.Gen Idealize.ShloMosaic

theorem rot_apply (x : FVec Ideal S8x15x31 .f32) (h : Fin 8) (r : Fin 15) (k : Fin 128) (hk : k.val < 16 ∨ 113 ≤ k.val) :
    rot x (ix3 h r k) = x (ix3 h r ⟨(k.val + 15) % 128, by omega⟩) := by
  pointwise [rot]
  by_cases h1 : k.val < 16
  · rw [dif_pos h1]
    congr 2
    apply Fin.ext
    show 15 + k.val = (k.val + 15) % 128
    omega
  · rw [dif_neg h1, dif_neg (by omega)]
    congr 2
    apply Fin.ext
    show k.val - 16 - 97 = (k.val + 15) % 128
    omega

theorem toep_apply (z : FVec Ideal S8x15x128 .f32) (h : Fin 8) (r : Fin 15) (q k : Fin 64) :
    toep z (ix4 h r q k) = z (ix3 h r ⟨(127 * q.val + k.val) % 128, by omega⟩) := by
  pointwise [toep]
  congr 2
  apply Fin.ext
  show (q.val * 127 + k.val) % 128 = (127 * q.val + k.val) % 128
  omega

theorem padded_apply (y : FVec Ideal S8x15x64x64 .f32) (h : Fin 8) (q : Fin 64) (r : Fin 15) (k : Fin 64) :
    padded y (ix3 h q ⟨64 * (r.val + 3) + k.val, by omega⟩) = y (ix4 h r q k) := by
  pointwise [padded]
  rw [dif_pos (by omega)]
  congr 2
  apply Fin.ext
  show (64 * (r.val + 3) + k.val) / 64 - 3 = r.val
  omega

theorem wins_apply (y : FVec Ideal S8x64x1344 .bf16) (kd : Fin 3) (h : Fin 8) (rl : Fin 4) (q : Fin 64) (j : Fin 704) :
    wins y (ix5 kd h rl q j) = y (ix3 h q ⟨64 * ((![10, 6, 3] : Fin 3 → ℕ) kd - rl) + j, by fin_cases kd <;> simp <;> omega⟩) := by
  fin_cases kd <;> fin_cases rl <;> pointwise [wins, stack3, stack4]

theorem valid_apply (kd : Fin 3) (rl : Fin 4) (q : Fin 64) (kr : Fin 11) (k : Fin 64) :
    valid (ix5 kd rl q kr k) = IntOp.andi (rowOk (ix3 kd rl kr)) (colOk (ix2 q k)) := by
  pointwise [valid]

theorem ninf16 : Ideal.ofBits .bf16 0xFF80#16 = ⊥ := by
  simp [Ideal.ofBits, Ideal.ieee]

theorem table_apply (x : FVec Ideal S8x15x31 .f32) (kd : Fin 3) (h : Fin 8) (rl : Fin 4) (q : Fin 64) (kr : Fin 11) (k : Fin 64) :
    table x (ix4 kd h ⟨64 * rl.val + q.val, by omega⟩ ⟨64 * kr.val + k.val, by omega⟩)
      = if valid (ix5 kd rl q kr k) = 1#1 then wins (padded (toep (rot x))) (ix5 kd h rl q ⟨64 * kr.val + k.val, by omega⟩) else ⊥ := by
  pointwise [table]
  rw [ninf16]
  rfl

theorem colBits : ∀ q k : Fin 64, IntOp.andi
        (IntOp.cmpi CmpIPredicate.sge (BitVec.ofNat 32 k.val)
          (IntOp.minsi (48#32) (IntOp.maxsi (0#32) (IntOp.subi (BitVec.ofNat 32 q.val) 8#32))))
        (IntOp.cmpi CmpIPredicate.slt (BitVec.ofNat 32 k.val)
          (IntOp.addi (IntOp.minsi (48#32) (IntOp.maxsi (0#32) (IntOp.subi (BitVec.ofNat 32 q.val) 8#32))) 16#32)) =
      1#1 ↔ min (q.val - 8) 48 ≤ k.val ∧ k.val < min (q.val - 8) 48 + 16 := by
  decide +kernel

theorem colOk_apply (q k : Fin 64) : colOk (ix2 q k) = 1#1 ↔ min (q.val - 8) 48 ≤ k.val ∧ k.val < min (q.val - 8) 48 + 16 := by
  pointwise [colOk, cst]
  exact colBits q k

/-- First of the eight key rows that query row `rl` of a block of kind `kd` sees, from the block's first key row. -/
def lo (kd rl : ℕ) : ℕ := if kd = 0 then 0 else if kd = 1 then rl else 3

theorem rowBits : ∀ (kd : Fin 3) (rl : Fin 4) (kr : Fin 11), rowOk (ix3 kd rl kr) = 1#1 ↔ lo kd rl ≤ kr.val ∧ kr.val < lo kd rl + 8 := by
  decide +kernel

theorem andBits : ∀ a b : BitVec 1, IntOp.andi a b = 1#1 ↔ a = 1#1 ∧ b = 1#1 := by decide

/-- Row difference of key row `kr` to query row `rl`, from zero. -/
def drow (kd rl kr : ℕ) : ℕ := (if kd = 0 then 7 else if kd = 1 then 3 else 0) + kr - rl

/-- The table at query row `rl`, query column `q`, key row `kr`, key column `k`. -/
theorem table_val (x : FVec Ideal S8x15x31 .f32) (kd : Fin 3) (h : Fin 8) (rl : Fin 4) (q : Fin 64) (kr : Fin 11) (k : Fin 64) :
    Cert.At.at4 (table x) kd h (64 * rl.val + q.val) (64 * kr.val + k.val)
      = if (lo kd rl ≤ kr.val ∧ kr.val < lo kd rl + 8) ∧ (min (q.val - 8) 48 ≤ k.val ∧ k.val < min (q.val - 8) 48 + 16)
        then Cert.At.at3 x h (drow kd rl kr) (k.val + 15 - q.val) else ⊥ := by
  have hat := Cert.At.at4_mk (table x) kd h ⟨64 * rl.val + q.val, by omega⟩ ⟨64 * kr.val + k.val, by omega⟩
  rw [show Cert.At.at4 (table x) kd h (64 * rl.val + q.val) (64 * kr.val + k.val)
    = table x (ix4 kd h ⟨64 * rl.val + q.val, by omega⟩ ⟨64 * kr.val + k.val, by omega⟩) from hat, table_apply, valid_apply]
  simp only [andBits, rowBits, colOk_apply]
  split_ifs with hv
  · rw [wins_apply]
    obtain ⟨⟨h1, h2⟩, h3, h4⟩ := hv
    have hdr : (![10, 6, 3] : Fin 3 → ℕ) kd - rl + kr = drow kd rl kr + 3 ∧ drow kd rl kr < 15 := by
      unfold drow lo at *
      fin_cases kd <;> simp at * <;> omega
    obtain ⟨hd1, hd2⟩ := hdr
    have hp := padded_apply (toep (rot x)) h q ⟨drow kd rl kr, hd2⟩ k
    have he : (⟨64 * ((![10, 6, 3] : Fin 3 → ℕ) kd - rl) + (64 * kr.val + k.val), by rw [← Nat.add_assoc, ← Nat.mul_add, hd1]; omega⟩ : Fin 1344)
        = ⟨64 * (drow kd rl kr + 3) + k.val, by omega⟩ := by
      apply Fin.ext
      show 64 * ((![10, 6, 3] : Fin 3 → ℕ) kd - rl) + (64 * kr.val + k.val) = 64 * (drow kd rl kr + 3) + k.val
      rw [← Nat.add_assoc, ← Nat.mul_add, hd1]
    refine (congrArg (fun z => padded (toep (rot x)) (ix3 h q z)) he).trans (hp.trans ?_)
    have hmod : (127 * q.val + k.val) % 128 = if q.val ≤ k.val then k.val - q.val else 128 + k.val - q.val := by
      split_ifs with hqk
      · rw [show 127 * q.val + k.val = 128 * q.val + (k.val - q.val) by omega, Nat.mul_add_mod, Nat.mod_eq_of_lt (by omega)]
      · rw [show 127 * q.val + k.val = 128 * (q.val - 1) + (128 + k.val - q.val) by omega, Nat.mul_add_mod, Nat.mod_eq_of_lt (by omega)]
    rw [toep_apply, rot_apply _ _ _ _ (by show (127 * q.val + k.val) % 128 < 16 ∨ 113 ≤ (127 * q.val + k.val) % 128; rw [hmod]; split_ifs <;> omega)]
    apply Cert.At.eq_at3
    · rfl
    · rfl
    · show ((127 * q.val + k.val) % 128 + 15) % 128 = _
      rw [hmod]
      split_ifs <;> omega
  · rfl

end Cert.KernelIdeal.Bias

end
-- ==== Proof.RefIdx.lean ====
/- The reference's index arrays and gathers, read at an index. -/
module

public import proofs.«01_k».proof.Proof.Gen.ReferenceIdeal.Read
public import proofs.«01_k».proof.Proof.At

@[expose] public section

set_option maxRecDepth 16384

noncomputable section

namespace Cert.ReferenceIdeal.RefIdx

open Cert.ReferenceIdeal Cert.ReferenceIdeal.Gen Cert.ReferenceIdeal.Read Idealize.ShloMosaic

/-- First row of the window of row `r`. -/
abbrev rs (r : Nat) : Nat := min (r - 4) 56
/-- First column of the window of column `c`. -/
abbrev cs (c : Nat) : Nat := min (c - 8) 48

theorem v42_at (r : Fin 64) (i : Fin 8) : val_main_v42 (F := Ideal) (ix2 r i) = BitVec.ofNat 32 (rs r + i) := by
  pointwise [val_main_v42, val_main_v41, val_main_v40, val_main_v39, val_main_v38, val_main_v37, val_main_v36,
    val_main_call1_v4, val_main_call1_v3, val_main_call1_v2, val_main_call1_v1, val_main_call1_v0, val_main_c_4, val_main_c_3,
    val_main_v35, val_main_v34, val_main_c_2, val_main_v33]
  revert r i
  decide +kernel

theorem v32_at (c : Fin 64) (j : Fin 16) : val_main_v32 (F := Ideal) (ix2 c j) = BitVec.ofNat 32 (cs c + j) := by
  pointwise [val_main_v32, val_main_v31, val_main_v30, val_main_v29, val_main_v28, val_main_v27, val_main_v26,
    val_main_call0_v4, val_main_call0_v3, val_main_call0_v2, val_main_call0_v1, val_main_call0_v0, val_main_c_1, val_main_c_0,
    val_main_v25, val_main_v24, val_main_c, val_main_v23]
  revert c j
  decide +kernel

theorem v59_row (r : Fin 64) (i : Fin 8) (c : Fin 64) (j : Fin 16) :
    (val_main_v59 (F := Ideal) (ix5 r i c j 0)).toInt.toNat = rs r + i := by
  pointwise [val_main_v59, val_main_v57, val_main_v55, val_main_v49, val_main_v48, val_main_v47, val_main_c_6, val_main_v46, val_main_v45,
    val_main_c_5, val_main_v43]
  simp only [v42_at]
  revert r i
  decide +kernel

theorem v59_col (r : Fin 64) (i : Fin 8) (c : Fin 64) (j : Fin 16) :
    (val_main_v59 (F := Ideal) (ix5 r i c j 1)).toInt.toNat = cs c + j := by
  pointwise [val_main_v59, val_main_v58, val_main_v56, val_main_v54, val_main_v53, val_main_v52, val_main_c_8, val_main_v51, val_main_v50,
    val_main_c_7, val_main_v44]
  simp only [v32_at]
  revert c j
  decide +kernel

theorem v77_eq : val_main_v77 (F := Ideal) = val_main_v59 (F := Ideal) := rfl

theorem v83_at (r : Fin 64) (i : Fin 8) : val_main_v83 (F := Ideal) (ix2 r i) = BitVec.ofNat 32 (rs r + i + 7 - r) := by
  pointwise [val_main_v83, val_main_v82, val_main_c_13, val_main_v81, val_main_v80, val_main_v79, val_main_v33]
  simp only [v42_at]
  revert r i
  decide +kernel

theorem v88_at (c : Fin 64) (j : Fin 16) : val_main_v88 (F := Ideal) (ix2 c j) = BitVec.ofNat 32 (cs c + j + 15 - c) := by
  pointwise [val_main_v88, val_main_v87, val_main_c_14, val_main_v86, val_main_v85, val_main_v84, val_main_v23]
  simp only [v32_at]
  revert c j
  decide +kernel

theorem v105_row (r c : Fin 64) (i : Fin 8) (j : Fin 16) :
    (val_main_v105 (F := Ideal) (ix5 r c i j 0)).toInt.toNat = rs r + i + 7 - r := by
  pointwise [val_main_v105, val_main_v103, val_main_v101, val_main_v95, val_main_v94, val_main_v93, val_main_c_16, val_main_v92, val_main_v91,
    val_main_c_15, val_main_v89]
  simp only [v83_at]
  revert r i
  decide +kernel

theorem v105_col (r c : Fin 64) (i : Fin 8) (j : Fin 16) :
    (val_main_v105 (F := Ideal) (ix5 r c i j 1)).toInt.toNat = cs c + j + 15 - c := by
  pointwise [val_main_v105, val_main_v104, val_main_v102, val_main_v100, val_main_v99, val_main_v98, val_main_c_18, val_main_v97, val_main_v96,
    val_main_c_17, val_main_v90]
  simp only [v88_at]
  revert c j
  decide +kernel

end Cert.ReferenceIdeal.RefIdx

end
-- ==== Proof.RefGather.lean ====
/- The two gathers of the reference, read at an index. -/
module

public import proofs.«01_k».proof.Proof.Gen.ReferenceIdeal.Read
public import proofs.«01_k».proof.Proof.At
public import Idealize.ShloMosaic.Lib.Pointwise

@[expose] public section

set_option maxRecDepth 16384

noncomputable section

namespace Cert.ReferenceIdeal.RefGather

open Cert.ReferenceIdeal Cert.ReferenceIdeal.Gen Cert.ReferenceIdeal.Read Idealize.ShloMosaic

theorem gather_kv (x : (⟨S4x8x64x64x128, .f32⟩ : BufTy).Contents (Elt Ideal)) (idx : (⟨S64x8x64x16x2, .i32⟩ : BufTy).Contents (Elt Ideal))
    (b : Fin 4) (h : Fin 8) (r : Fin 64) (i : Fin 8) (c : Fin 64) (j : Fin 16) (d : Fin 128) (R C : Fin 64)
    (hR : (BitVec.toInt (idx (ix5 r i c j 0))).toNat = R.val)
    (hC : (BitVec.toInt (idx (ix5 r i c j 1))).toNat = C.val) :
    (Host.gather gather_S4x8x64x64x128_S64x8x64x16x2_S4x8x64x8x64x16x128_016_23_n_n_23_4_4811128 x idx) (ix7 b h r i c j d)
      = x (ix5 b h R C d) := by
  unfold Host.gather
  congr 1
  have s0 : gather_S4x8x64x64x128_S64x8x64x16x2_S4x8x64x8x64x16x128_016_23_n_n_23_4_4811128.siIdx (ix7 b h r i c j d) ⟨0, by decide⟩ = ix5 r i c j 0 := by
    funext a; refine Fin.ext ?_
    match a with
    | ⟨0, _⟩ => rfl
    | ⟨1, _⟩ => rfl
    | ⟨2, _⟩ => rfl
    | ⟨3, _⟩ => rfl
    | ⟨4, _⟩ => rfl
  have s1 : gather_S4x8x64x64x128_S64x8x64x16x2_S4x8x64x8x64x16x128_016_23_n_n_23_4_4811128.siIdx (ix7 b h r i c j d) ⟨1, by decide⟩ = ix5 r i c j 1 := by
    funext a; refine Fin.ext ?_
    match a with
    | ⟨0, _⟩ => rfl
    | ⟨1, _⟩ => rfl
    | ⟨2, _⟩ => rfl
    | ⟨3, _⟩ => rfl
    | ⟨4, _⟩ => rfl
  funext a
  refine Fin.ext ?_
  match a with
  | ⟨0, _⟩ => show 0 + 0 + b.val = b.val; omega
  | ⟨1, _⟩ => show 0 + 0 + h.val = h.val; omega
  | ⟨2, _⟩ =>
    show min (BitVec.toInt (idx (gather_S4x8x64x64x128_S64x8x64x16x2_S4x8x64x8x64x16x128_016_23_n_n_23_4_4811128.siIdx (ix7 b h r i c j d) ⟨0, _⟩))).toNat 63 + 0 + 0 = R.val
    rw [s0, hR]; omega
  | ⟨3, _⟩ =>
    show min (BitVec.toInt (idx (gather_S4x8x64x64x128_S64x8x64x16x2_S4x8x64x8x64x16x128_016_23_n_n_23_4_4811128.siIdx (ix7 b h r i c j d) ⟨1, _⟩))).toNat 63 + 0 + 0 = C.val
    rw [s1, hC]; omega
  | ⟨4, _⟩ => show 0 + 0 + d.val = d.val; omega

theorem gather_bias (x : (⟨S8x15x31, .f32⟩ : BufTy).Contents (Elt Ideal)) (idx : (⟨S64x64x8x16x2, .i32⟩ : BufTy).Contents (Elt Ideal))
    (h : Fin 8) (r c : Fin 64) (i : Fin 8) (j : Fin 16) (R : Fin 15) (C : Fin 31)
    (hR : (BitVec.toInt (idx (ix5 r c i j 0))).toNat = R.val)
    (hC : (BitVec.toInt (idx (ix5 r c i j 1))).toNat = C.val) :
    (Host.gather gather_S8x15x31_S64x64x8x16x2_S8x64x64x8x16_0_12_n_n_12_4_811 x idx) (ix5 h r c i j)
      = x (ix3 h R C) := by
  unfold Host.gather
  congr 1
  have s0 : gather_S8x15x31_S64x64x8x16x2_S8x64x64x8x16_0_12_n_n_12_4_811.siIdx (ix5 h r c i j) ⟨0, by decide⟩ = ix5 r c i j 0 := by
    funext a; refine Fin.ext ?_
    match a with
    | ⟨0, _⟩ => rfl
    | ⟨1, _⟩ => rfl
    | ⟨2, _⟩ => rfl
    | ⟨3, _⟩ => rfl
    | ⟨4, _⟩ => rfl
  have s1 : gather_S8x15x31_S64x64x8x16x2_S8x64x64x8x16_0_12_n_n_12_4_811.siIdx (ix5 h r c i j) ⟨1, by decide⟩ = ix5 r c i j 1 := by
    funext a; refine Fin.ext ?_
    match a with
    | ⟨0, _⟩ => rfl
    | ⟨1, _⟩ => rfl
    | ⟨2, _⟩ => rfl
    | ⟨3, _⟩ => rfl
    | ⟨4, _⟩ => rfl
  funext a
  refine Fin.ext ?_
  match a with
  | ⟨0, _⟩ => show 0 + 0 + h.val = h.val; omega
  | ⟨1, _⟩ =>
    show min (BitVec.toInt (idx (gather_S8x15x31_S64x64x8x16x2_S8x64x64x8x16_0_12_n_n_12_4_811.siIdx (ix5 h r c i j) ⟨0, _⟩))).toNat 14 + 0 + 0 = R.val
    rw [s0, hR]; omega
  | ⟨2, _⟩ =>
    show min (BitVec.toInt (idx (gather_S8x15x31_S64x64x8x16x2_S8x64x64x8x16_0_12_n_n_12_4_811.siIdx (ix5 h r c i j) ⟨1, _⟩))).toNat 30 + 0 + 0 = C.val
    rw [s1, hC]; omega

end Cert.ReferenceIdeal.RefGather

end
-- ==== Proof.RefVal.lean ====
/- The reference's value at an index. -/
module

public import proofs.«01_k».proof.Proof.Gen.ReferenceIdeal.Read
public import proofs.«01_k».proof.Proof.At
public import proofs.«01_k».proof.Proof.RefIdx
public import proofs.«01_k».proof.Proof.RefGather

@[expose] public section

set_option maxRecDepth 16384

noncomputable section

namespace Cert.ReferenceIdeal.RefVal

open Cert.At Cert.ReferenceIdeal.RefIdx Cert.ReferenceIdeal.RefGather Cert.ReferenceIdeal Cert.ReferenceIdeal.Gen Cert.ReferenceIdeal.Read Idealize.ShloMosaic

variable (x0 : (⟨S4x4352x6144, .bf16⟩ : BufTy).Contents (Elt Ideal)) (x1 : (⟨S8x15x31, .f32⟩ : BufTy).Contents (Elt Ideal))

/-- The scale of the scores. -/
abbrev scl : EReal := Ideal.ofBits .f32 0x3DB504F3#32

/-- The score of the query at row `r`, column `c` against its window's entry `i`, `j`. -/
def xR (b h r c i j : ℕ) : EReal :=
  (∑ e : Fin 128, (at3 x0 b (64 * r + c) (128 * h + e) * scl) * at3 x0 b (64 * (rs r + i) + (cs c + j)) (2560 + 128 * h + e))
    + at3 x1 h (rs r + i + 7 - r) (cs c + j + 15 - c)

/-- Its score against the context row `l`. -/
def yR (b h r c l : ℕ) : EReal :=
  ∑ e : Fin 128, (at3 x0 b (64 * r + c) (128 * h + e) * scl) * at3 x0 b (4096 + l) (2560 + 128 * h + e)

/-- All its scores. -/
def sR (b h r c l : ℕ) : EReal := if l < 128 then xR x0 x1 b h r c (l / 16) (l % 16) else yR x0 b h r c (l - 128)

/-- Their largest. -/
def mR (b h r c : ℕ) : EReal := Finset.univ.fold max ⊥ fun l : Fin 384 => sR x0 x1 b h r c l

/-- The sum of their exponentials. -/
def dR (b h r c : ℕ) : EReal :=
  (∑ i : Fin 8, ∑ j : Fin 16, Ideal.exp (xR x0 x1 b h r c i j - mR x0 x1 b h r c))
    + ∑ l : Fin 256, Ideal.exp (yR x0 b h r c l - mR x0 x1 b h r c)

theorem v20_at (b : Fin 4) (h : Fin 8) (r c : Fin 64) (d : Fin 128) :
    val_main_v20 (F := Ideal) x0 (ix5 b h r c d) = at3 x0 b (64 * r + c) (128 * h + d) * scl := by
  pointwise [val_main_v20, val_main_v19, val_main_v18, val_main_cst, val_main_v5, val_main_v4, val_main_v3, val_main_v1, val_main_v0]
  congr 1
  refine eq_at3 _ _ _ _ _ rfl ?_ ?_
  · show r.val * 64 + c.val = _; omega
  · show h.val * 128 + d.val = _; omega

theorem v21_at (b : Fin 4) (h : Fin 8) (r c : Fin 64) (d : Fin 128) :
    val_main_v21 (F := Ideal) x0 (ix5 b h r c d) = at3 x0 b (64 * r + c) (2560 + 128 * h + d) := by
  pointwise [val_main_v21, val_main_v8, val_main_v7, val_main_v6, val_main_v1, val_main_v0]
  refine eq_at3 _ _ _ _ _ rfl ?_ ?_
  · show r.val * 64 + c.val = _; omega
  · show 2560 + (h.val * 128 + d.val) = _; omega

theorem v22_at (b : Fin 4) (h : Fin 8) (r c : Fin 64) (d : Fin 128) :
    val_main_v22 (F := Ideal) x0 (ix5 b h r c d) = at3 x0 b (64 * r + c) (3584 + 128 * h + d) := by
  pointwise [val_main_v22, val_main_v11, val_main_v10, val_main_v9, val_main_v1, val_main_v0]
  refine eq_at3 _ _ _ _ _ rfl ?_ ?_
  · show r.val * 64 + c.val = _; omega
  · show 3584 + (h.val * 128 + d.val) = _; omega

theorem v60_at (b : Fin 4) (h : Fin 8) (r c : Fin 64) (i : Fin 8) (j : Fin 16) (d : Fin 128) :
    val_main_v60 (F := Ideal) x0 (ix7 b h r i c j d) = at3 x0 b (64 * (rs r + i) + (cs c + j)) (2560 + 128 * h + d) := by
  unfold val_main_v60
  rw [gather_kv _ _ b h r i c j d ⟨rs r + i, by unfold rs; omega⟩ ⟨cs c + j, by unfold cs; omega⟩ (v59_row r i c j) (v59_col r i c j), v21_at]

theorem v78_at (b : Fin 4) (h : Fin 8) (r c : Fin 64) (i : Fin 8) (j : Fin 16) (d : Fin 128) :
    val_main_v78 (F := Ideal) x0 (ix7 b h r i c j d) = at3 x0 b (64 * (rs r + i) + (cs c + j)) (3584 + 128 * h + d) := by
  unfold val_main_v78
  rw [v77_eq, gather_kv _ _ b h r i c j d ⟨rs r + i, by unfold rs; omega⟩ ⟨cs c + j, by unfold cs; omega⟩ (v59_row r i c j) (v59_col r i c j), v22_at]

theorem v106_at (h : Fin 8) (r c : Fin 64) (i : Fin 8) (j : Fin 16) :
    val_main_v106 (F := Ideal) x1 (ix5 h r c i j) = at3 x1 h (rs r + i + 7 - r) (cs c + j + 15 - c) := by
  unfold val_main_v106
  rw [gather_bias _ _ h r c i j ⟨rs r + i + 7 - r, by unfold rs; omega⟩ ⟨cs c + j + 15 - c, by unfold cs; omega⟩ (v105_row r c i j) (v105_col r c i j)]
  exact (at3_mk x1 _ _ _).symm

theorem v110_at (b : Fin 4) (h : Fin 8) (r c : Fin 64) (i : Fin 8) (j : Fin 16) :
    val_main_v110 (F := Ideal) x0 x1 (ix6 b h r c i j) = xR x0 x1 b h r c i j := by
  pointwise [val_main_v110, val_main_v109, val_main_v108, val_main_v107]
  rw [v106_at]
  unfold xR
  congr 1
  refine Finset.sum_congr rfl fun e _ => ?_
  rw [v20_at]
  rw [v60_at]

theorem v111_at (b : Fin 4) (h : Fin 8) (r c : Fin 64) (l : Fin 256) :
    val_main_v111 (F := Ideal) x0 (ix5 b h r c l) = yR x0 b h r c l := by
  pointwise [val_main_v111, val_main_v14, val_main_v13, val_main_v12, val_main_v2, val_main_v0]
  unfold yR
  refine Finset.sum_congr rfl fun e _ => ?_
  rw [v20_at]
  congr 1
  refine eq_at3 _ _ _ _ _ rfl rfl ?_
  show 2560 + (h.val * 128 + e.val) = _; omega

theorem v113_at (b : Fin 4) (h : Fin 8) (r c : Fin 64) (l : Fin 384) :
    val_main_v113 (F := Ideal) x0 x1 (ix5 b h r c l) = sR x0 x1 b h r c l := by
  pointwise [val_main_v113, val_main_v112]
  unfold sR
  by_cases hl : l.val < 128
  · rw [dif_pos hl, if_pos hl, v110_at]
  · rw [dif_neg hl, if_neg hl]
    exact v111_at x0 b h r c ⟨l.val - 128, by omega⟩

theorem cst19 (i) : val_main_cst_19 (F := Ideal) i = ⊥ := by
  show Ideal.ofBits .f32 0xFF800000#32 = ⊥
  simp [Ideal.ofBits, Ideal.ieee]

theorem cst20 (i) : val_main_cst_20 (F := Ideal) i = ⊥ := by
  show Ideal.ofBits .f32 0xFF800000#32 = ⊥
  simp [Ideal.ofBits, Ideal.ieee]

theorem cst21 (i) : val_main_cst_21 (F := Ideal) i = 0 := by
  show Ideal.ofBits .f32 0#32 = 0
  simp [Ideal.ofBits, Ideal.ieee]

theorem v114_at (b : Fin 4) (h : Fin 8) (r c : Fin 64) :
    val_main_v114 (F := Ideal) x0 x1 (ix4 b h r c) = mR x0 x1 b h r c := by
  pointwise [val_main_v114]
  simp only [cst19, v113_at]
  rfl

theorem v116_at (b : Fin 4) (h : Fin 8) (r c : Fin 64) :
    val_main_v116 (F := Ideal) x0 x1 (ix4 b h r c) = mR x0 x1 b h r c := by
  rw [val_main_v116_apply, val_main_v115_apply, cst20, v114_at]
  exact max_eq_right bot_le

theorem v118_at (b : Fin 4) (h : Fin 8) (r c : Fin 64) (l : Fin 384) :
    val_main_v118 (F := Ideal) x0 x1 (ix5 b h r c l) = mR x0 x1 b h r c := by
  rw [← v116_at]
  pointwise [val_main_v118, val_main_v117]

theorem v120_at (b : Fin 4) (h : Fin 8) (r c : Fin 64) (l : Fin 384) :
    val_main_v120 (F := Ideal) x0 x1 (ix5 b h r c l) = Ideal.exp (sR x0 x1 b h r c l - mR x0 x1 b h r c) := by
  rw [val_main_v120_apply, val_main_v119_apply, v118_at, v113_at]
  rfl

/-- A sum over the scores is the window's and the context's. -/
theorem sum_split (f : Fin 384 → EReal) :
    ∑ l, f l = (∑ i : Fin 8, ∑ j : Fin 16, f ⟨i * 16 + j, by omega⟩) + ∑ l : Fin 256, f ⟨128 + l, by omega⟩ := by
  have h1 : ∑ l, f l = (∑ l : Fin 128, f ⟨l, by omega⟩) + ∑ l : Fin 256, f ⟨128 + l, by omega⟩ :=
    Fin.sum_univ_add (a := 128) (b := 256) f
  rw [h1]
  congr 1
  rw [← Fintype.sum_prod_type' (fun (i : Fin 8) (j : Fin 16) => f ⟨i * 16 + j, by omega⟩)]
  symm
  refine Fintype.sum_equiv (finProdFinEquiv (m := 8) (n := 16)) _ _ fun p => ?_
  congr 1
  apply Fin.ext
  show p.1.val * 16 + p.2.val = p.2.val + 16 * p.1.val
  omega

theorem sR_lo (b h r c : ℕ) (i : Fin 8) (j : Fin 16) : sR x0 x1 b h r c (i * 16 + j) = xR x0 x1 b h r c i j := by
  unfold sR
  rw [if_pos (by omega), show (i.val * 16 + j.val) / 16 = i.val by omega, show (i.val * 16 + j.val) % 16 = j.val by omega]

theorem sR_hi (b h r c : ℕ) (l : Fin 256) : sR x0 x1 b h r c (128 + l) = yR x0 b h r c l := by
  unfold sR
  rw [if_neg (by omega), Nat.add_sub_cancel_left]

theorem v121_at (b : Fin 4) (h : Fin 8) (r c : Fin 64) :
    val_main_v121 (F := Ideal) x0 x1 (ix4 b h r c) = dR x0 x1 b h r c := by
  rw [val_main_v121_apply, cst21, zero_add]
  have e : ∀ l : Fin 384, idx_main_v121 (ix4 b h r c) l = ix5 b h r c l := fun l => by
    funext a
    match a with
    | ⟨0, _⟩ => rfl
    | ⟨1, _⟩ => rfl
    | ⟨2, _⟩ => rfl
    | ⟨3, _⟩ => rfl
    | ⟨4, _⟩ => rfl
  simp only [e, v120_at]
  rw [sum_split]
  simp only [sR_lo, sR_hi]
  rfl

theorem v124_at (b : Fin 4) (h : Fin 8) (r c : Fin 64) (l : Fin 384) :
    val_main_v124 (F := Ideal) x0 x1 (ix5 b h r c l)
      = Ideal.div (Ideal.exp (sR x0 x1 b h r c l - mR x0 x1 b h r c)) (dR x0 x1 b h r c) := by
  rw [val_main_v124_apply, v120_at, ← v121_at]
  have e : val_main_v123 (F := Ideal) x0 x1 (ix5 b h r c l) = val_main_v121 (F := Ideal) x0 x1 (ix4 b h r c) := by
    pointwise [val_main_v123, val_main_v122]
  rw [e]
  rfl

theorem v127_at (b : Fin 4) (h : Fin 8) (r c : Fin 64) (d : Fin 128) :
    val_main_v127 (F := Ideal) x0 x1 (ix5 b h r c d) = ∑ i : Fin 8, ∑ j : Fin 16,
      Ideal.div (Ideal.exp (xR x0 x1 b h r c i j - mR x0 x1 b h r c)) (dR x0 x1 b h r c)
        * at3 x0 b (64 * (rs r + i) + (cs c + j)) (3584 + 128 * h + d) := by
  pointwise [val_main_v127, val_main_v126, val_main_v125]
  refine Finset.sum_congr rfl fun i _ => Finset.sum_congr rfl fun j _ => ?_
  rw [v124_at, sR_lo]
  rw [v78_at]

theorem v129_at (b : Fin 4) (h : Fin 8) (r c : Fin 64) (d : Fin 128) :
    val_main_v129 (F := Ideal) x0 x1 (ix5 b h r c d) = ∑ l : Fin 256,
      Ideal.div (Ideal.exp (yR x0 b h r c l - mR x0 x1 b h r c)) (dR x0 x1 b h r c)
        * at3 x0 b (4096 + l) (3584 + 128 * h + d) := by
  pointwise [val_main_v129, val_main_v128, val_main_v17, val_main_v16, val_main_v15, val_main_v2, val_main_v0]
  refine Finset.sum_congr rfl fun l _ => ?_
  rw [v124_at, sR_hi]
  congr 1
  refine eq_at3 _ _ _ _ _ rfl rfl ?_
  show 3584 + (h.val * 128 + d.val) = _; omega

/-- The reference's result at a position of the grid, a head and a lane. -/
theorem ref_val (b : Fin 4) (r c : Fin 64) (h : Fin 8) (d : Fin 128) :
    val_main_v134 (F := Ideal) x0 x1 (ix3 b ⟨64 * r + c, by omega⟩ ⟨128 * h + d, by omega⟩)
      = (∑ i : Fin 8, ∑ j : Fin 16, Ideal.div (Ideal.exp (xR x0 x1 b h r c i j - mR x0 x1 b h r c)) (dR x0 x1 b h r c)
          * at3 x0 b (64 * (rs r + i) + (cs c + j)) (3584 + 128 * h + d))
        + ∑ l : Fin 256, Ideal.div (Ideal.exp (yR x0 b h r c l - mR x0 x1 b h r c)) (dR x0 x1 b h r c)
          * at3 x0 b (4096 + l) (3584 + 128 * h + d) := by
  pointwise [val_main_v134, val_main_v133, val_main_v132]
  have e : val_main_v131 (F := Ideal) x0 x1 (ix4 b h ⟨64 * r + c, by omega⟩ d) = val_main_v130 (F := Ideal) x0 x1 (ix5 b h r c d) := by
    have e' : ∀ t : Fin 4096, val_main_v131 (F := Ideal) x0 x1 (ix4 b h t d)
        = val_main_v130 (F := Ideal) x0 x1 (ix5 b h ⟨t / 64, by omega⟩ ⟨t % 64, by omega⟩ d) := fun t => by
      pointwise [val_main_v131]
    rw [e']
    congr 1
    congr 1 <;> apply Fin.ext
    · show (64 * r.val + c.val) / 64 = r.val; omega
    · show (64 * r.val + c.val) % 64 = c.val; omega
  rw [e, val_main_v130_apply, v127_at, v129_at]
  rfl

end Cert.ReferenceIdeal.RefVal

end
-- ==== Proof.Soft.lean ====
/- A softmax-weighted mean over extended reals: shifts cancel, masked entries drop out. -/
module

public import Idealize.ShloMosaic.PureOps.Ideal.Laws
public import Idealize.ShloMosaic.Lib.IdealHost

@[expose] public section

noncomputable section

namespace Cert.Soft

open Idealize.ShloMosaic

variable {J W L : Type} [Fintype J] [Fintype W] [Fintype L]

/-- The softmax-weighted mean of `v` and `z` under the scores `x` and `y`. -/
def mean (x v : W → ℝ) (y z : L → ℝ) : ℝ :=
  ((∑ w, Real.exp (x w) * v w) + ∑ l, Real.exp (y l) * z l) / ((∑ w, Real.exp (x w)) + ∑ l, Real.exp (y l))

theorem exp_sub (a M : ℝ) : Ideal.exp ((a : EReal) - (M : EReal)) = ((Real.exp (-M) * Real.exp a : ℝ) : EReal) := by
  rw [← EReal.coe_sub, Ideal.exp_coe, ← Real.exp_add]
  congr 2; ring

theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

theorem denom_pos [Nonempty L] (x : W → ℝ) (y : L → ℝ) : 0 < (∑ w, Real.exp (x w)) + ∑ l, Real.exp (y l) := by
  have h1 : 0 ≤ ∑ w, Real.exp (x w) := Finset.sum_nonneg fun _ _ => (Real.exp_pos _).le
  have h2 : 0 < ∑ l, Real.exp (y l) := Finset.sum_pos (fun _ _ => Real.exp_pos _) Finset.univ_nonempty
  linarith

/-- A sum over `J` of what vanishes off the image of an injective `e` is a sum over `W`. -/
theorem sum_off (e : W → J) (he : Function.Injective e) (f : J → EReal) (g : W → EReal)
    (hg : ∀ w, f (e w) = g w) (h0 : ∀ j, (∀ w, e w ≠ j) → f j = 0) : ∑ j, f j = ∑ w, g w := by
  symm
  apply Fintype.sum_of_injective e he
  · intro j hj
    exact h0 j fun w hw => hj ⟨w, hw⟩
  · intro w; exact (hg w).symm

/-- Divided by the sum once, with the masked entries at minus infinity. -/
theorem mean_div [Nonempty L] (e : W → J) (he : Function.Injective e) (s V : J → EReal) (u U : L → EReal)
    (x v : W → ℝ) (y z : L → ℝ) (hs : ∀ w, s (e w) = (x w : EReal)) (hs' : ∀ j, (∀ w, e w ≠ j) → s j = ⊥)
    (hV : ∀ w, V (e w) = (v w : EReal)) (hu : ∀ l, u l = (y l : EReal)) (hU : ∀ l, U l = (z l : EReal))
    (M : EReal) (hM : M ≠ ⊥) (hM' : M ≠ ⊤) :
    Ideal.div ((∑ j, Ideal.exp (s j - M) * V j) + ∑ l, Ideal.exp (u l - M) * U l)
        ((∑ j, Ideal.exp (s j - M)) + ∑ l, Ideal.exp (u l - M)) = ((mean x v y z : ℝ) : EReal) := by
  lift M to ℝ using ⟨hM', hM⟩
  have hb : ∀ j, (∀ w, e w ≠ j) → Ideal.exp (s j - (M : EReal)) = 0 := by
    intro j hj
    rw [hs' j hj, EReal.bot_sub, Ideal.exp_bot]
  have h1 : ∑ j, Ideal.exp (s j - (M : EReal)) * V j = ((Real.exp (-M) * ∑ w, Real.exp (x w) * v w : ℝ) : EReal) := by
    rw [sum_off e he _ (fun w => ((Real.exp (-M) * (Real.exp (x w) * v w) : ℝ) : EReal)), ← coe_sum, Finset.mul_sum]
    · intro w; rw [hs, hV, exp_sub, ← EReal.coe_mul, mul_assoc]
    · intro j hj; rw [hb j hj, zero_mul]
  have h2 : ∑ j, Ideal.exp (s j - (M : EReal)) = ((Real.exp (-M) * ∑ w, Real.exp (x w) : ℝ) : EReal) := by
    rw [sum_off e he _ (fun w => ((Real.exp (-M) * Real.exp (x w) : ℝ) : EReal)), ← coe_sum, Finset.mul_sum]
    · intro w; rw [hs, exp_sub]
    · intro j hj; rw [hb j hj]
  have h3 : ∑ l, Ideal.exp (u l - (M : EReal)) * U l = ((Real.exp (-M) * ∑ l, Real.exp (y l) * z l : ℝ) : EReal) := by
    rw [Finset.mul_sum, coe_sum]
    refine Finset.sum_congr rfl fun l _ => ?_
    rw [hu, hU, exp_sub, ← EReal.coe_mul, mul_assoc]
  have h4 : ∑ l, Ideal.exp (u l - (M : EReal)) = ((Real.exp (-M) * ∑ l, Real.exp (y l) : ℝ) : EReal) := by
    rw [Finset.mul_sum, coe_sum]
    refine Finset.sum_congr rfl fun l _ => ?_
    rw [hu, exp_sub]
  rw [h1, h2, h3, h4, ← EReal.coe_add, ← EReal.coe_add, ← mul_add, ← mul_add]
  have hp := Real.exp_pos (-M)
  have hd := denom_pos x y
  rw [Ideal.div_coe (mul_pos hp hd).ne', ← EReal.coe_mul]
  congr 1
  unfold mean
  field_simp

/-- Each weight divided by the sum. -/
theorem mean_weights [Nonempty L] (x v : W → ℝ) (y z : L → ℝ) (M D : EReal) (hM : M ≠ ⊥) (hM' : M ≠ ⊤)
    (hD : D = (∑ w, Ideal.exp ((x w : EReal) - M)) + ∑ l, Ideal.exp ((y l : EReal) - M)) :
    (∑ w, Ideal.div (Ideal.exp ((x w : EReal) - M)) D * (v w : EReal))
        + ∑ l, Ideal.div (Ideal.exp ((y l : EReal) - M)) D * (z l : EReal) = ((mean x v y z : ℝ) : EReal) := by
  lift M to ℝ using ⟨hM', hM⟩
  have hp := Real.exp_pos (-M)
  have hd := denom_pos x y
  have hD' : D = ((Real.exp (-M) * ((∑ w, Real.exp (x w)) + ∑ l, Real.exp (y l)) : ℝ) : EReal) := by
    rw [hD, mul_add, EReal.coe_add, Finset.mul_sum, Finset.mul_sum, coe_sum, coe_sum]
    simp only [exp_sub]
  rw [hD']
  simp only [exp_sub, Ideal.div_coe (mul_pos hp hd).ne', ← EReal.coe_mul]
  rw [← coe_sum, ← coe_sum, ← EReal.coe_add]
  congr 1
  unfold mean
  rw [add_div, Finset.sum_div, Finset.sum_div]
  congr 1 <;> refine Finset.sum_congr rfl fun l _ => ?_ <;> field_simp

/-- A maximum folded from minus infinity over a finite family below `⊤` with one member above `⊥` is real. -/
theorem fold_max_lt_top (s : J → EReal) (h : ∀ j, s j ≠ ⊤) : Finset.univ.fold max ⊥ s ≠ ⊤ := by
  apply ne_of_lt
  rw [Finset.fold_max_lt]
  exact ⟨bot_lt_top, fun j _ => lt_top_iff_ne_top.mpr (h j)⟩

theorem fold_max_ne_bot (s : J → EReal) (j : J) (h : s j ≠ ⊥) : Finset.univ.fold max ⊥ s ≠ ⊥ := by
  apply ne_of_gt
  rw [Finset.lt_fold_max]
  exact Or.inr ⟨j, Finset.mem_univ _, bot_lt_iff_ne_bot.mpr h⟩

end Cert.Soft

end
-- ==== Proof.Same.lean ====
/- The kernel's value and the reference's are the same mean when every entry is a real number. -/
module

public import proofs.«01_k».proof.Proof.Entry
public import proofs.«01_k».proof.Proof.BiasAt
public import proofs.«01_k».proof.Proof.RefVal
public import proofs.«01_k».proof.Proof.Soft

@[expose] public section

set_option maxRecDepth 16384

noncomputable section

namespace Cert.Same

open Cert.At Cert.Soft Cert.KernelIdeal.Block Cert.KernelIdeal.Bias Cert.KernelIdeal.Attn Cert.ReferenceIdeal.RefIdx Idealize.ShloMosaic
open Cert.ReferenceIdeal.RefVal (xR yR sR mR dR)

/-- The scale, as a real number. -/
def sg : ℝ := 11863283 * ((2 : ℝ) ^ 27)⁻¹

theorem scl_coe : Ideal.ofBits .f32 0x3DB504F3#32 = ((sg : ℝ) : EReal) := by
  simp [Ideal.ofBits, Ideal.ieee, sg]

section
variable {a b c : ℕ}

/-- An array of real numbers read at coordinates. -/
theorem at3_real (A : (⟨3, ![a, b, c]⟩ : Shape).Idx → EReal) (hA : ∀ i, A i ≠ ⊥ ∧ A i ≠ ⊤) (x y z : ℕ) :
    at3 A x y z = (((at3 A x y z).toReal : ℝ) : EReal) := by
  rw [EReal.coe_toReal]
  · unfold at3; split_ifs
    · exact (hA _).2
    · exact EReal.zero_ne_top
  · unfold at3; split_ifs
    · exact (hA _).1
    · exact EReal.zero_ne_bot

end

variable (A : Cert.KernelIdeal.S4x4352x6144.Idx → EReal) (B : Cert.KernelIdeal.S8x15x31.Idx → EReal)
  (hA : ∀ i, A i ≠ ⊥ ∧ A i ≠ ⊤) (hB : ∀ i, B i ≠ ⊥ ∧ B i ≠ ⊤)

/-- The entries as real numbers. -/
abbrev ra (x y z : ℕ) : ℝ := (at3 A x y z).toReal
abbrev rb (x y z : ℕ) : ℝ := (at3 B x y z).toReal

/-- The window's scores as real numbers. -/
def xr (b H r c i j : ℕ) : ℝ :=
  (∑ e : Fin 128, ra A b (64 * r + c) (128 * H + e) * ra A b (64 * (rs r + i) + (cs c + j)) (2560 + 128 * H + e)) * sg
    + rb B H (rs r + i + 7 - r) (cs c + j + 15 - c)

/-- The context's scores as real numbers. -/
def yr (b H r c l : ℕ) : ℝ :=
  (∑ e : Fin 128, ra A b (64 * r + c) (128 * H + e) * ra A b (4096 + l) (2560 + 128 * H + e)) * sg

include hA in
theorem dot_real (b p q s t : ℕ) :
    (∑ e : Fin 128, at3 A b p (s + e) * at3 A b q (t + e)) = ((∑ e : Fin 128, ra A b p (s + e) * ra A b q (t + e) : ℝ) : EReal) := by
  rw [coe_sum]
  refine Finset.sum_congr rfl fun e _ => ?_
  rw [EReal.coe_mul, ← at3_real A hA, ← at3_real A hA]

include hA in
theorem dot_scaled (b p q s t : ℕ) :
    (∑ e : Fin 128, (at3 A b p (s + e) * Ideal.ofBits .f32 0x3DB504F3#32) * at3 A b q (t + e))
      = (((∑ e : Fin 128, ra A b p (s + e) * ra A b q (t + e)) * sg : ℝ) : EReal) := by
  rw [Finset.sum_mul, coe_sum]
  refine Finset.sum_congr rfl fun e _ => ?_
  rw [scl_coe, at3_real A hA, at3_real A hA b q, ← EReal.coe_mul, ← EReal.coe_mul]
  congr 1
  ring

include hA hB in
theorem xR_coe (b H r c i j : ℕ) : xR A B b H r c i j = ((xr A B b H r c i j : ℝ) : EReal) := by
  unfold xR xr
  rw [EReal.coe_add, ← at3_real B hB]
  congr 1
  exact dot_scaled A hA b _ _ _ _

include hA in
theorem yR_coe (b H r c l : ℕ) : yR A b H r c l = ((yr A b H r c l : ℝ) : EReal) := by
  unfold yR yr
  exact dot_scaled A hA b _ _ _ _

include hA hB in
/-- The reference's side. -/
theorem ref_mean (b H r c d : ℕ) :
    (∑ i : Fin 8, ∑ j : Fin 16, Ideal.div (Ideal.exp (xR A B b H r c i j - mR A B b H r c)) (dR A B b H r c)
          * at3 A b (64 * (rs r + i) + (cs c + j)) (3584 + 128 * H + d))
        + ∑ l : Fin 256, Ideal.div (Ideal.exp (yR A b H r c l - mR A B b H r c)) (dR A B b H r c)
          * at3 A b (4096 + l) (3584 + 128 * H + d)
      = ((mean (fun w : Fin 8 × Fin 16 => xr A B b H r c w.1 w.2)
          (fun w => ra A b (64 * (rs r + w.1) + (cs c + w.2)) (3584 + 128 * H + d))
          (fun l : Fin 256 => yr A b H r c l) (fun l => ra A b (4096 + l) (3584 + 128 * H + d)) : ℝ) : EReal) := by
  have hs : ∀ l : ℕ, ∃ ρ : ℝ, sR A B b H r c l = (ρ : EReal) := fun l => by
    unfold sR; split_ifs
    · exact ⟨_, xR_coe A B hA hB _ _ _ _ _ _⟩
    · exact ⟨_, yR_coe A hA _ _ _ _ _⟩
  have hM : mR A B b H r c ≠ ⊥ := fold_max_ne_bot _ (0 : Fin 384) (by
    obtain ⟨ρ, h⟩ := hs (0 : Fin 384)
    rw [h]; exact EReal.coe_ne_bot _)
  have hM' : mR A B b H r c ≠ ⊤ := fold_max_lt_top _ fun l => by
    obtain ⟨ρ, h⟩ := hs l
    rw [h]; exact EReal.coe_ne_top _
  rw [← mean_weights (L := Fin 256) (fun w : Fin 8 × Fin 16 => xr A B b H r c w.1 w.2) _ _ _ (mR A B b H r c) (dR A B b H r c) hM hM' ?_]
  · congr 1
    · rw [Fintype.sum_prod_type]
      refine Finset.sum_congr rfl fun i _ => Finset.sum_congr rfl fun j _ => ?_
      rw [xR_coe A B hA hB, ← at3_real A hA]
    · refine Finset.sum_congr rfl fun l _ => ?_
      rw [yR_coe A hA, ← at3_real A hA]
  · rw [Fintype.sum_prod_type]
    unfold dR
    simp only [xR_coe A B hA hB, yR_coe A hA]

/-- Where the window of query row `4 * i + rl`, column `c` lies among the block's keys. -/
def pos (i rl c : ℕ) (hc : c < 64) (hr : rl < 4) (w : Fin 8 × Fin 16) : Fin 704 :=
  ⟨64 * (lo (kind i) rl + w.1) + (cs c + w.2), by
    have h1 : lo (kind i) rl ≤ 3 := by unfold lo; split_ifs <;> omega
    have h2 : cs c ≤ 48 := by unfold cs; omega
    have := w.1.isLt; have := w.2.isLt
    omega⟩

theorem pos_inj (i rl c : ℕ) (hc : c < 64) (hr : rl < 4) : Function.Injective (pos i rl c hc hr) := by
  intro w w' h
  have h' := congrArg Fin.val h
  simp only [pos] at h'
  have h2 : cs c ≤ 48 := by unfold cs; omega
  have := w.2.isLt; have := w'.2.isLt
  apply Prod.ext <;> apply Fin.ext <;> omega

theorem kind_cases (i : ℕ) (hi : i < 16) :
    (i = 0 ∧ kind i = 0) ∨ (i = 15 ∧ kind i = 2) ∨ (0 < i ∧ i < 15 ∧ kind i = 1) := by
  unfold kind
  split_ifs <;> omega

theorem rs_eq (i rl : ℕ) (hi : i < 16) (hr : rl < 4) : rs (4 * i + rl) = w0 i + lo (kind i) rl := by
  unfold rs w0
  rcases kind_cases i hi with ⟨h, hk⟩ | ⟨h, hk⟩ | ⟨h, h', hk⟩ <;> rw [hk] <;> simp only [lo] <;> norm_num <;> omega

theorem drow_eq (i rl a : ℕ) (hi : i < 16) (hr : rl < 4) :
    drow (kind i) rl (lo (kind i) rl + a) = rs (4 * i + rl) + a + 7 - (4 * i + rl) := by
  unfold rs
  rcases kind_cases i hi with ⟨h, hk⟩ | ⟨h, hk⟩ | ⟨h, h', hk⟩ <;> rw [hk] <;> simp only [lo, drow] <;> norm_num <;> omega

theorem kind_lt (i : ℕ) : kind i < 3 := by unfold kind; split_ifs <;> omega

theorem lo_le (i rl : ℕ) (hr : rl < 4) : lo (kind i) rl ≤ 3 := by unfold lo; split_ifs <;> omega

include hA hB in
/-- The kernel's side. -/
theorem ker_mean (b i H rl c d : ℕ) (hi : i < 16) (hH : H < 8) (hr : rl < 4) (hc : c < 64) :
    val A (table B) b i H (64 * rl + c) d
      = ((mean (fun w : Fin 8 × Fin 16 => xr A B b H (4 * i + rl) c w.1 w.2)
          (fun w => ra A b (64 * (rs (4 * i + rl) + w.1) + (cs c + w.2)) (3584 + 128 * H + d))
          (fun l : Fin 256 => yr A b H (4 * i + rl) c l) (fun l => ra A b (4096 + l) (3584 + 128 * H + d)) : ℝ) : EReal) := by
  have hrow : 256 * i + (64 * rl + c) = 64 * (4 * i + rl) + c := by ring
  have hu : ∀ l, scv A b i H (64 * rl + c) l = ((yr A b H (4 * i + rl) c l : ℝ) : EReal) := fun l => by
    unfold scv yr
    rw [hrow, dot_real A hA b, EReal.coe_mul]
    congr 1
    exact scl_coe
  have htab : ∀ (kr : Fin 11) (k : Fin 64), at4 (table B) (kind i) H (64 * rl + c) (64 * kr.val + k.val)
      = if (lo (kind i) rl ≤ kr.val ∧ kr.val < lo (kind i) rl + 8) ∧ (cs c ≤ k.val ∧ k.val < cs c + 16)
        then at3 B H (drow (kind i) rl kr) (k.val + 15 - c) else ⊥ :=
    fun kr k => table_val B ⟨kind i, kind_lt i⟩ ⟨H, hH⟩ ⟨rl, hr⟩ ⟨c, hc⟩ kr k
  have hl := lo_le i rl hr
  have hcs : cs c ≤ 48 := by unfold cs; omega
  have hs : ∀ w, swv A (table B) b i H (64 * rl + c) (pos i rl c hc hr w) = ((xr A B b H (4 * i + rl) c w.1 w.2 : ℝ) : EReal) := fun w => by
    have hw1 := w.1.isLt
    have hw2 := w.2.isLt
    unfold swv xr
    rw [EReal.coe_add, ← at3_real B hB]
    congr 1
    · rw [hrow, EReal.coe_mul, ← dot_real A hA b]
      congr 1
      · rw [rs_eq i rl hi hr]
        refine Finset.sum_congr rfl fun e _ => ?_
        congr 2
        show 64 * w0 i + (64 * (lo (kind i) rl + w.1.val) + (cs c + w.2.val)) = _
        ring
      · exact scl_coe
    · have := htab ⟨lo (kind i) rl + w.1.val, by omega⟩ ⟨cs c + w.2.val, by omega⟩
      refine Eq.trans this ?_
      rw [if_pos (by
        refine ⟨⟨?_, ?_⟩, ?_, ?_⟩ <;> simp only [] <;> omega)]
      rw [drow_eq i rl _ hi hr]
  have hs' : ∀ j, (∀ w, pos i rl c hc hr w ≠ j) → swv A (table B) b i H (64 * rl + c) j = ⊥ := fun j hj => by
    unfold swv
    have hj' := j.isLt
    have := htab ⟨j.val / 64, by omega⟩ ⟨j.val % 64, by omega⟩
    have hjj : 64 * (j.val / 64) + j.val % 64 = j.val := by omega
    simp only [hjj] at this
    rw [this, if_neg, EReal.add_bot]
    rintro ⟨⟨h1, h2⟩, h3, h4⟩
    refine hj (⟨j.val / 64 - lo (kind i) rl, by omega⟩, ⟨j.val % 64 - cs c, by omega⟩) ?_
    apply Fin.ext
    simp only [pos]
    omega
  have hne : ∀ j, swv A (table B) b i H (64 * rl + c) j ≠ ⊤ := fun j => by
    by_cases h : ∃ w, pos i rl c hc hr w = j
    · obtain ⟨w, rfl⟩ := h
      rw [hs]; exact EReal.coe_ne_top _
    · rw [hs' j fun w hw => h ⟨w, hw⟩]; exact bot_ne_top
  have hM : mx (swv A (table B) b i H (64 * rl + c)) (scv A b i H (64 * rl + c)) ≠ ⊥ := by
    unfold mx
    have h0 : Finset.univ.fold max ⊥ (scv A b i H (64 * rl + c)) ≠ ⊥ :=
      fold_max_ne_bot _ (0 : Fin 256) (by rw [hu]; exact EReal.coe_ne_bot _)
    exact ne_of_gt (lt_of_lt_of_le (bot_lt_iff_ne_bot.mpr h0) (le_max_right _ _))
  have hM' : mx (swv A (table B) b i H (64 * rl + c)) (scv A b i H (64 * rl + c)) ≠ ⊤ := by
    unfold mx
    apply ne_of_lt
    rw [max_lt_iff]
    exact ⟨lt_top_iff_ne_top.mpr (fold_max_lt_top _ hne),
      lt_top_iff_ne_top.mpr (fold_max_lt_top _ fun l => by rw [hu]; exact EReal.coe_ne_top _)⟩
  unfold val
  refine mean_div (pos i rl c hc hr) (pos_inj i rl c hc hr) _ (fun j : Fin 704 => at3 A b (64 * w0 i + j) (3584 + 128 * H + d)) _
    (fun l : Fin 256 => at3 A b (4096 + l) (3584 + 128 * H + d)) _ _ _ _ hs hs' (fun w => ?_) hu (fun l => at3_real A hA _ _ _) _ hM hM'
  rw [← at3_real A hA, rs_eq i rl hi hr]
  congr 1
  show 64 * w0 i + (64 * (lo (kind i) rl + w.1.val) + (cs c + w.2.val)) = _
  ring

include hA hB in
/-- The two programs' results agree at every index. -/
theorem same (y : Cert.KernelIdeal.S4x4096x1024.Idx) :
    Cert.KernelIdeal.Entry.res A (table B) y = Cert.ReferenceIdeal.Read.val_main_v134 (F := Ideal) A B y := by
  have h0 : (y 0).val < 4 := (y 0).isLt
  have h1 : (y 1).val < 4096 := (y 1).isLt
  have h2 : (y 2).val < 1024 := (y 2).isLt
  have hy : y = ix3 ⟨(y 0).val, h0⟩ ⟨64 * ((y 1).val / 64) + (y 1).val % 64, by omega⟩ ⟨128 * ((y 2).val / 128) + (y 2).val % 128, by omega⟩ := by
    funext a
    apply Fin.ext
    match a with
    | ⟨0, _⟩ => rfl
    | ⟨1, _⟩ => exact (Nat.div_add_mod _ _).symm
    | ⟨2, _⟩ => exact (Nat.div_add_mod _ _).symm
  have hr := Cert.ReferenceIdeal.RefVal.ref_val A B ⟨(y 0).val, h0⟩ ⟨(y 1).val / 64, by omega⟩ ⟨(y 1).val % 64, by omega⟩
    ⟨(y 2).val / 128, by omega⟩ ⟨(y 2).val % 128, by omega⟩
  refine Eq.trans ?_ ((congrArg _ hy).trans hr).symm
  refine Eq.trans ?_ (ref_mean A B hA hB _ _ _ _ _).symm
  unfold Cert.KernelIdeal.Entry.res
  have := ker_mean A B hA hB (y 0).val ((y 1).val / 256) ((y 2).val / 128) ((y 1).val % 256 / 64) ((y 1).val % 64) ((y 2).val % 128)
    (by omega) (by omega) (by omega) (by omega)
  rw [show 64 * ((y 1).val % 256 / 64) + (y 1).val % 64 = (y 1).val % 256 by omega,
    show 4 * ((y 1).val / 256) + (y 1).val % 256 / 64 = (y 1).val / 64 by omega] at this
  exact this

end Cert.Same

end
-- ==== Proof.Fin.lean ====
/- The precondition read: every entry of both arguments is a real number. -/
module

public import proofs.«01_k».proof.Proof.Gen.Pre_finite
public import Idealize.ShloMosaic.Lib.ReduceAll
public import Idealize.ShloMosaic.Lib.Pointwise

@[expose] public section

set_option maxRecDepth 16384

noncomputable section

namespace Cert.FinPre

open Cert.Pre_finite Cert.Pre_finite.Gen Idealize.ShloMosaic

instance : Subsingleton S_.Idx := ⟨fun a b => funext fun k => k.elim0⟩

theorem and_one {a b : BitVec 1} (h : a &&& b = 1#1) : a = 1#1 ∧ b = 1#1 := by
  revert a b; decide

theorem read (A : FVec Ideal S4x4352x6144 .bf16) (B : FVec Ideal S8x15x31 .f32)
    (h : Cert.Pre_finite.fn (F := Ideal) A B = fun _ => 1#1) :
    (∀ i, A i ≠ ⊥ ∧ A i ≠ ⊤) ∧ (∀ i, B i ≠ ⊥ ∧ B i ≠ ⊤) := by
  have h0 := congrFun h (Shape.Idx.first h_S_)
  unfold Cert.Pre_finite.fn at h0
  obtain ⟨h1, h2⟩ := and_one h0
  constructor <;> intro i
  · have := Host.reduce_andi_all _ _ _ _ _ h1 i
    obtain ⟨h3, h4⟩ := and_one this
    constructor
    · intro e
      have : (Ideal.cmp .ogt (A i) (Ideal.ofBits .bf16 0xFF80#16)) = 1#1 := h3
      rw [e] at this
      simp [Ideal.ofBits, Ideal.ieee, Ideal.cmp] at this
    · intro e
      have : (Ideal.cmp .olt (A i) (Ideal.ofBits .bf16 0x7F80#16)) = 1#1 := h4
      rw [e] at this
      simp [Ideal.ofBits, Ideal.ieee, Ideal.cmp] at this
  · have := Host.reduce_andi_all _ _ _ _ _ h2 i
    obtain ⟨h3, h4⟩ := and_one this
    constructor
    · intro e
      have : (Ideal.cmp .ogt (B i) (Ideal.ofBits .f32 0xFF800000#32)) = 1#1 := h3
      rw [e] at this
      simp [Ideal.ofBits, Ideal.ieee, Ideal.cmp] at this
    · intro e
      have : (Ideal.cmp .olt (B i) (Ideal.ofBits .f32 0x7F800000#32)) = 1#1 := h4
      rw [e] at this
      simp [Ideal.ofBits, Ideal.ieee, Ideal.cmp] at this

end Cert.FinPre

end
-- ==== Proof.MoeRun.lean ====
/- The two launches' run: the result is the second launch's array, over what the first left. -/
module

public import proofs.«01_k».proof.Proof.Gen.Kernel2Ideal.Frame

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run ends with the result's array as the second launch computes it, the arguments as launched. -/
theorem run : θ_run defs (onTc (τ := τ) (main (F := F))) ⟨m, fun _ => 0, ρ⟩ (fun r => ∀ c : Dev nD,
      r.2.mem ((c.tc : Thread nD τ).loc main_v62) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨(h c _ (mem_uc main_v62 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.Kernel2Ideal.Moe

end
-- ==== Proof.MoeHost.lean ====
/- What the host prepares for the two launches: every expert's tokens, and every token's weight. -/
module

public import proofs.«01_k».proof.Proof.Gen.Kernel2Ideal.Frame
public import Idealize.ShloMosaic.Lib.Pointwise

@[expose] public section

set_option maxRecDepth 16384

noncomputable section

namespace Cert.Kernel2Ideal.Moe

open Cert.Kernel2Ideal Cert.Kernel2Ideal.Gen Idealize.ShloMosaic Idealize.ShloMosaic.TcCoe Idealize.SL.Sem

/-- The image tokens' weights per expert. -/
def soft (x : FVec Ideal S4x4352x16 .f32) : FVec Ideal S4x16x4096 .f32 :=
  let l : FVec Ideal S4x4096x16 .f32 := extractStridedSlice S4x4096x16 ![0, 0, 0] x slices_S4x4352x16_S4x4096x16_0_0_0
  let e : FVec Ideal S4x4096x16 .f32 := Host.exp (subf l (broadcastInDim S4x4096x16 ![0, 1, 2] bcast_S4x4096x1_S4x4096x16_0_1_2
    (broadcastInDim S4x4096x1 ![0, 1] bcast_S4x4096_S4x4096x1_0_1
      (maximumf (broadcastInDim S4x4096 ![] bcast_S_S4x4096 (constant (F := Ideal) S_ .f32 0xFF800000#32))
        (Host.reduce FloatOps.maximumf l (constant (F := Ideal) S_ .f32 0xFF800000#32) reducesTo_S4x4096x16_S4x4096_d2 h_S_)))))
  transpose S4x16x4096 [0, 2, 1] (Host.divf e (broadcastInDim S4x4096x16 ![0, 1, 2] bcast_S4x4096x1_S4x4096x16_0_1_2
    (broadcastInDim S4x4096x1 ![0, 1] bcast_S4x4096_S4x4096x1_0_1
      (Host.reduceAdd e (constant (F := Ideal) S_ .f32 0x00000000#32) reducesTo_S4x4096x16_S4x4096_d2 h_S_))))
    transposes_S4x4096x16_S4x16x4096_0_2_1

/-- The context tokens' weights per expert. -/
def softCtx (x : FVec Ideal S4x4352x16 .f32) : FVec Ideal S4x16x256 .f32 :=
  let l : FVec Ideal S4x256x16 .f32 := extractStridedSlice S4x256x16 ![0, 4096, 0] x slices_S4x4352x16_S4x256x16_0_4096_0
  let e : FVec Ideal S4x256x16 .f32 := Host.exp (subf l (broadcastInDim S4x256x16 ![0, 1, 2] bcast_S4x256x1_S4x256x16_0_1_2
    (broadcastInDim S4x256x1 ![0, 1] bcast_S4x256_S4x256x1_0_1
      (maximumf (broadcastInDim S4x256 ![] bcast_S_S4x256 (constant (F := Ideal) S_ .f32 0xFF800000#32))
        (Host.reduce FloatOps.maximumf l (constant (F := Ideal) S_ .f32 0xFF800000#32) reducesTo_S4x256x16_S4x256_d2 h_S_)))))
  transpose S4x16x256 [0, 2, 1] (Host.divf e (broadcastInDim S4x256x16 ![0, 1, 2] bcast_S4x256x1_S4x256x16_0_1_2
    (broadcastInDim S4x256x1 ![0, 1] bcast_S4x256_S4x256x1_0_1
      (Host.reduceAdd e (constant (F := Ideal) S_ .f32 0x00000000#32) reducesTo_S4x256x16_S4x256_d2 h_S_))))
    transposes_S4x256x16_S4x16x256_0_2_1

/-- The chosen image tokens' weights. -/
def best (z : FVec Ideal S4x16x4096 .f32) : FVec Ideal S4x16x512 .f32 :=
  (Host.topK S4x16x512 2 (FloatOps.cmpfTotal (F := Ideal) .gt) z sliceFits_S4x16x4096_S4x16x512).1

/-- The chosen image tokens. -/
def bestIdx (z : FVec Ideal S4x16x4096 .f32) : IVec S4x16x512 32 :=
  addi (Host.topK S4x16x512 2 (FloatOps.cmpfTotal (F := Ideal) .gt) z sliceFits_S4x16x4096_S4x16x512).2
    (broadcastInDim S4x16x512 ![] bcast_S_S4x16x512 (constantI S_ 32 0#32))

/-- The chosen context tokens' weights. -/
def bestCtx (z : FVec Ideal S4x16x256 .f32) : FVec Ideal S4x16x32 .f32 :=
  (Host.topK S4x16x32 2 (FloatOps.cmpfTotal (F := Ideal) .gt) z sliceFits_S4x16x256_S4x16x32).1

/-- The chosen context tokens, counted from the image's first. -/
def bestCtxIdx (z : FVec Ideal S4x16x256 .f32) : IVec S4x16x32 32 :=
  addi (Host.topK S4x16x32 2 (FloatOps.cmpfTotal (F := Ideal) .gt) z sliceFits_S4x16x256_S4x16x32).2
    (broadcastInDim S4x16x32 ![] bcast_S_S4x16x32 (constantI S_ 32 4096#32))

/-- Image weights, then context weights. -/
def joined (a : FVec Ideal S4x16x512 .f32) (b : FVec Ideal S4x16x32 .f32) : FVec Ideal S4x16x544 .f32 :=
  concatenate S4x16x544 2 [⟨S4x16x512, a⟩, ⟨S4x16x32, b⟩] concatenates_S4x16x512_S4x16x32_S4x16x544_d2

/-- Image tokens, then context tokens. -/
def joinedIdx (a : IVec S4x16x512 32) (b : IVec S4x16x32 32) : IVec S4x16x544 32 :=
  concatenate S4x16x544 2 [⟨S4x16x512, a⟩, ⟨S4x16x32, b⟩] concatenates_S4x16x512_S4x16x32_S4x16x544_d2

/-- Every expert's rows in the table of all tokens. -/
def rows (t : IVec S4x16x544 32) : IVec S16x2176 32 :=
  shapeCast S16x2176 (transpose S16x4x544 [1, 0, 2]
    (addi t (broadcastInDim S4x16x544 ![0, 1, 2] bcast_S4x1x1_S4x16x544_0_1_2
      (muli (broadcastInDim S4x1x1 ![0] bcast_S4_S4x1x1_0 (iotaInDim S4 32 0))
        (broadcastInDim S4x1x1 ![] bcast_S_S4x1x1 (constantI S_ 32 4352#32)))))
    transposes_S4x16x544_S16x4x544_1_0_2) shapeCasts_S16x4x544_S16x2176

/-- Every expert's weights in one row. -/
def flat (g : FVec Ideal S4x16x544 .f32) : FVec Ideal S16x1x2176 .f32 :=
  shapeCast S16x1x2176 (transpose S16x4x544 [1, 0, 2] g transposes_S4x16x544_S16x4x544_1_0_2) shapeCasts_S16x4x544_S16x1x2176

/-- The weights in three parts, thirteen rows of zeros below. -/
def gates (w : FVec Ideal S16x1x2176 .f32) : FVec Ideal S16x16x2176 .bf16 :=
  let hi : FVec Ideal S16x1x2176 .bf16 := truncf .bf16 w bitsLt_bf16_f32
  let mid : FVec Ideal S16x1x2176 .bf16 := truncf .bf16 (subf w (extf .f32 hi bitsLt_bf16_f32)) bitsLt_bf16_f32
  let lo : FVec Ideal S16x1x2176 .bf16 := truncf .bf16 (subf (subf w (extf .f32 hi bitsLt_bf16_f32)) (extf .f32 mid bitsLt_bf16_f32)) bitsLt_bf16_f32
  concatenate S16x16x2176 1 [⟨S16x1x2176, hi⟩, ⟨S16x1x2176, mid⟩, ⟨S16x1x2176, lo⟩,
    ⟨S16x13x2176, broadcastInDim S16x13x2176 ![] bcast_S_S16x13x2176 (constant (F := Ideal) S_ .bf16 0x0000#16)⟩]
    concatenates_S16x1x2176_S16x1x2176_S16x1x2176_S16x13x2176_S16x16x2176_d1

/-- The rows as the table is read: one below zero counts from the end. -/
def wrapped (r : IVec S16x2176 32) : IVec S16x2176x1 32 :=
  broadcastInDim S16x2176x1 ![0, 1] bcast_S16x2176_S16x2176x1_0_1
    (select (cmpi .slt r (broadcastInDim S16x2176 ![] bcast_S_S16x2176 (constantI S_ 32 0#32)))
      (addi r (broadcastInDim S16x2176 ![] bcast_S_S16x2176 (constantI S_ 32 17408#32))) r)

/-- Every expert's tokens. -/
def taken (x : FVec Ideal S4x4352x2048 .bf16) (r : IVec S16x2176 32) : FVec Ideal S16x2176x2048 .bf16 :=
  Host.gather gather_S17408x2048_S16x2176x1_S16x2176x2048_2_0_n_n_0_2_12048
    (shapeCast S17408x2048 x shapeCasts_S4x4352x2048_S17408x2048) (wrapped r)

section Segments

open Idealize.ShloMosaic.StableHlo

variable {F : FTy → Type} [FloatOps F]

/-- The operations of the image tokens' softmax. -/
abbrev opsA : List (HloOp τ sig (Elt F)) :=
  [ StableHlo.unary main_arg1 main_v0 ((extractStridedSlice S4x4096x16 ![0, 0, 0] · slices_S4x4352x16_S4x4096x16_0_0_0) : (⟨S4x4352x16, .f32⟩ : BufTy).Contents (Elt F) → (⟨S4x4096x16, .f32⟩ : BufTy).Contents (Elt F))
  , StableHlo.nullary main_cst (constant S_ .f32 0xFF800000#32)
  , StableHlo.binary main_v0 main_cst main_v1 ((fun x v => Host.reduce FloatOps.maximumf x v reducesTo_S4x4096x16_S4x4096_d2 h_S_) : (⟨S4x4096x16, .f32⟩ : BufTy).Contents (Elt F) → (⟨S_, .f32⟩ : BufTy).Contents (Elt F) → (⟨S4x4096, .f32⟩ : BufTy).Contents (Elt F))
  , StableHlo.nullary main_cst_0 (constant S_ .f32 0xFF800000#32)
  , StableHlo.unary main_cst_0 main_v2 (broadcastInDim S4x4096 ![] bcast_S_S4x4096 : (⟨S_, .f32⟩ : BufTy).Contents (Elt F) → (⟨S4x4096, .f32⟩ : BufTy).Contents (Elt F))
  , StableHlo.binary main_v2 main_v1 main_v3 (maximumf : (⟨S4x4096, .f32⟩ : BufTy).Contents (Elt F) → (⟨S4x4096, .f32⟩ : BufTy).Contents (Elt F) → (⟨S4x4096, .f32⟩ : BufTy).Contents (Elt F))
  , StableHlo.unary main_v3 main_v4 (broadcastInDim S4x4096x1 ![0, 1] bcast_S4x4096_S4x4096x1_0_1 : (⟨S4x4096, .f32⟩ : BufTy).Contents (Elt F) → (⟨S4x4096x1, .f32⟩ : BufTy).Contents (Elt F))
  , StableHlo.unary main_v4 main_v5 (broadcastInDim S4x4096x16 ![0, 1, 2] bcast_S4x4096x1_S4x4096x16_0_1_2 : (⟨S4x4096x1, .f32⟩ : BufTy).Contents (Elt F) → (⟨S4x4096x16, .f32⟩ : BufTy).Contents (Elt F))
  , StableHlo.binary main_v0 main_v5 main_v6 (subf : (⟨S4x4096x16, .f32⟩ : BufTy).Contents (Elt F) → (⟨S4x4096x16, .f32⟩ : BufTy).Contents (Elt F) → (⟨S4x4096x16, .f32⟩ : BufTy).Contents (Elt F))
  , StableHlo.unary main_v6 main_v7 (Host.exp : (⟨S4x4096x16, .f32⟩ : BufTy).Contents (Elt F) → (⟨S4x4096x16, .f32⟩ : BufTy).Contents (Elt F))
  , StableHlo.nullary main_cst_1 (constant S_ .f32 0x00000000#32)
  , StableHlo.binary main_v7 main_cst_1 main_v8 ((fun x v => Host.reduceAdd x v reducesTo_S4x4096x16_S4x4096_d2 h_S_) : (⟨S4x4096x16, .f32⟩ : BufTy).Contents (Elt F) → (⟨S_, .f32⟩ : BufTy).Contents (Elt F) → (⟨S4x4096, .f32⟩ : BufTy).Contents (Elt F))
  , StableHlo.unary main_v8 main_v9 (broadcastInDim S4x4096x1 ![0, 1] bcast_S4x4096_S4x4096x1_0_1 : (⟨S4x4096, .f32⟩ : BufTy).Contents (Elt F) → (⟨S4x4096x1, .f32⟩ : BufTy).Contents (Elt F))
  , StableHlo.unary main_v9 main_v10 (broadcastInDim S4x4096x16 ![0, 1, 2] bcast_S4x4096x1_S4x4096x16_0_1_2 : (⟨S4x4096x1, .f32⟩ : BufTy).Contents (Elt F) → (⟨S4x4096x16, .f32⟩ : BufTy).Contents (Elt F))
  , StableHlo.binary main_v7 main_v10 main_v11 (Host.divf : (⟨S4x4096x16, .f32⟩ : BufTy).Contents (Elt F) → (⟨S4x4096x16, .f32⟩ : BufTy).Contents (Elt F) → (⟨S4x4096x16, .f32⟩ : BufTy).Contents (Elt F))
  , StableHlo.unary main_v11 main_v12 ((transpose S4x16x4096 [0, 2, 1] · transposes_S4x4096x16_S4x16x4096_0_2_1) : (⟨S4x4096x16, .f32⟩ : BufTy).Contents (Elt F) → (⟨S4x16x4096, .f32⟩ : BufTy).Contents (Elt F)) ]

/-- The operations of the choice of image tokens. -/
abbrev opsB : List (HloOp τ sig (Elt F)) :=
  [ StableHlo.unary main_v12 main_values ((fun x => (Host.topK S4x16x512 2 (FloatOps.cmpfTotal .gt) x sliceFits_S4x16x4096_S4x16x512).1) : (⟨S4x16x4096, .f32⟩ : BufTy).Contents (Elt F) → (⟨S4x16x512, .f32⟩ : BufTy).Contents (Elt F))
  , StableHlo.unary main_v12 main_indices ((fun x => (Host.topK S4x16x512 2 (FloatOps.cmpfTotal .gt) x sliceFits_S4x16x4096_S4x16x512).2) : (⟨S4x16x4096, .f32⟩ : BufTy).Contents (Elt F) → (⟨S4x16x512, .i32⟩ : BufTy).Contents (Elt F))
  , StableHlo.nullary main_c (constantI S_ 32 0#32)
  , StableHlo.unary main_c main_v13 (broadcastInDim S4x16x512 ![] bcast_S_S4x16x512 : (⟨S_, .i32⟩ : BufTy).Contents (Elt F) → (⟨S4x16x512, .i32⟩ : BufTy).Contents (Elt F))
  , StableHlo.binary main_indices main_v13 main_v14 (addi : (⟨S4x16x512, .i32⟩ : BufTy).Contents (Elt F) → (⟨S4x16x512, .i32⟩ : BufTy).Contents (Elt F) → (⟨S4x16x512, .i32⟩ : BufTy).Contents (Elt F)) ]

/-- The operations of the context tokens' softmax. -/
abbrev opsC : List (HloOp τ sig (Elt F)) :=
  [ StableHlo.unary main_arg1 main_v15 ((extractStridedSlice S4x256x16 ![0, 4096, 0] · slices_S4x4352x16_S4x256x16_0_4096_0) : (⟨S4x4352x16, .f32⟩ : BufTy).Contents (Elt F) → (⟨S4x256x16, .f32⟩ : BufTy).Contents (Elt F))
  , StableHlo.nullary main_cst_2 (constant S_ .f32 0xFF800000#32)
  , StableHlo.binary main_v15 main_cst_2 main_v16 ((fun x v => Host.reduce FloatOps.maximumf x v reducesTo_S4x256x16_S4x256_d2 h_S_) : (⟨S4x256x16, .f32⟩ : BufTy).Contents (Elt F) → (⟨S_, .f32⟩ : BufTy).Contents (Elt F) → (⟨S4x256, .f32⟩ : BufTy).Contents (Elt F))
  , StableHlo.nullary main_cst_3 (constant S_ .f32 0xFF800000#32)
  , StableHlo.unary main_cst_3 main_v17 (broadcastInDim S4x256 ![] bcast_S_S4x256 : (⟨S_, .f32⟩ : BufTy).Contents (Elt F) → (⟨S4x256, .f32⟩ : BufTy).Contents (Elt F))
  , StableHlo.binary main_v17 main_v16 main_v18 (maximumf : (⟨S4x256, .f32⟩ : BufTy).Contents (Elt F) → (⟨S4x256, .f32⟩ : BufTy).Contents (Elt F) → (⟨S4x256, .f32⟩ : BufTy).Contents (Elt F))
  , StableHlo.unary main_v18 main_v19 (broadcastInDim S4x256x1 ![0, 1] bcast_S4x256_S4x256x1_0_1 : (⟨S4x256, .f32⟩ : BufTy).Contents (Elt F) → (⟨S4x256x1, .f32⟩ : BufTy).Contents (Elt F))
  , StableHlo.unary main_v19 main_v20 (broadcastInDim S4x256x16 ![0, 1, 2] bcast_S4x256x1_S4x256x16_0_1_2 : (⟨S4x256x1, .f32⟩ : BufTy).Contents (Elt F) → (⟨S4x256x16, .f32⟩ : BufTy).Contents (Elt F))
  , StableHlo.binary main_v15 main_v20 main_v21 (subf : (⟨S4x256x16, .f32⟩ : BufTy).Contents (Elt F) → (⟨S4x256x16, .f32⟩ : BufTy).Contents (Elt F) → (⟨S4x256x16, .f32⟩ : BufTy).Contents (Elt F))
  , StableHlo.unary main_v21 main_v22 (Host.exp : (⟨S4x256x16, .f32⟩ : BufTy).Contents (Elt F) → (⟨S4x256x16, .f32⟩ : BufTy).Contents (Elt F))
  , StableHlo.nullary main_cst_4 (constant S_ .f32 0x00000000#32)
  , StableHlo.binary main_v22 main_cst_4 main_v23 ((fun x v => Host.reduceAdd x v reducesTo_S4x256x16_S4x256_d2 h_S_) : (⟨S4x256x16, .f32⟩ : BufTy).Contents (Elt F) → (⟨S_, .f32⟩ : BufTy).Contents (Elt F) → (⟨S4x256, .f32⟩ : BufTy).Contents (Elt F))
  , StableHlo.unary main_v23 main_v24 (broadcastInDim S4x256x1 ![0, 1] bcast_S4x256_S4x256x1_0_1 : (⟨S4x256, .f32⟩ : BufTy).Contents (Elt F) → (⟨S4x256x1, .f32⟩ : BufTy).Contents (Elt F))
  , StableHlo.unary main_v24 main_v25 (broadcastInDim S4x256x16 ![0, 1, 2] bcast_S4x256x1_S4x256x16_0_1_2 : (⟨S4x256x1, .f32⟩ : BufTy).Contents (Elt F) → (⟨S4x256x16, .f32⟩ : BufTy).Contents (Elt F))
  , StableHlo.binary main_v22 main_v25 main_v26 (Host.divf : (⟨S4x256x16, .f32⟩ : BufTy).Contents (Elt F) → (⟨S4x256x16, .f32⟩ : BufTy).Contents (Elt F) → (⟨S4x256x16, .f32⟩ : BufTy).Contents (Elt F))
  , StableHlo.unary main_v26 main_v27 ((transpose S4x16x256 [0, 2, 1] · transposes_S4x256x16_S4x16x256_0_2_1) : (⟨S4x256x16, .f32⟩ : BufTy).Contents (Elt F) → (⟨S4x16x256, .f32⟩ : BufTy).Contents (Elt F)) ]

/-- The operations of the choice of context tokens. -/
abbrev opsD : List (HloOp τ sig (Elt F)) :=
  [ StableHlo.unary main_v27 main_values_5 ((fun x => (Host.topK S4x16x32 2 (FloatOps.cmpfTotal .gt) x sliceFits_S4x16x256_S4x16x32).1) : (⟨S4x16x256, .f32⟩ : BufTy).Contents (Elt F) → (⟨S4x16x32, .f32⟩ : BufTy).Contents (Elt F))
  , StableHlo.unary main_v27 main_indices_6 ((fun x => (Host.topK S4x16x32 2 (FloatOps.cmpfTotal .gt) x sliceFits_S4x16x256_S4x16x32).2) : (⟨S4x16x256, .f32⟩ : BufTy).Contents (Elt F) → (⟨S4x16x32, .i32⟩ : BufTy).Contents (Elt F))
  , StableHlo.nullary main_c_7 (constantI S_ 32 4096#32)
  , StableHlo.unary main_c_7 main_v28 (broadcastInDim S4x16x32 ![] bcast_S_S4x16x32 : (⟨S_, .i32⟩ : BufTy).Contents (Elt F) → (⟨S4x16x32, .i32⟩ : BufTy).Contents (Elt F))
  , StableHlo.binary main_indices_6 main_v28 main_v29 (addi : (⟨S4x16x32, .i32⟩ : BufTy).Contents (Elt F) → (⟨S4x16x32, .i32⟩ : BufTy).Contents (Elt F) → (⟨S4x16x32, .i32⟩ : BufTy).Contents (Elt F))
  , StableHlo.binary main_values main_values_5 main_v30 ((fun a b => concatenate S4x16x544 2 [⟨S4x16x512, a⟩, ⟨S4x16x32, b⟩] concatenates_S4x16x512_S4x16x32_S4x16x544_d2) : (⟨S4x16x512, .f32⟩ : BufTy).Contents (Elt F) → (⟨S4x16x32, .f32⟩ : BufTy).Contents (Elt F) → (⟨S4x16x544, .f32⟩ : BufTy).Contents (Elt F))
  , StableHlo.binary main_v14 main_v29 main_v31 ((fun a b => concatenate S4x16x544 2 [⟨S4x16x512, a⟩, ⟨S4x16x32, b⟩] concatenates_S4x16x512_S4x16x32_S4x16x544_d2) : (⟨S4x16x512, .i32⟩ : BufTy).Contents (Elt F) → (⟨S4x16x32, .i32⟩ : BufTy).Contents (Elt F) → (⟨S4x16x544, .i32⟩ : BufTy).Contents (Elt F)) ]

/-- The operations of the rows. -/
abbrev opsE : List (HloOp τ sig (Elt F)) :=
  [ StableHlo.nullary main_v32 (iotaInDim S4 32 0)
  , StableHlo.unary main_v32 main_v33 (broadcastInDim S4x1x1 ![0] bcast_S4_S4x1x1_0 : (⟨S4, .i32⟩ : BufTy).Contents (Elt F) → (⟨S4x1x1, .i32⟩ : BufTy).Contents (Elt F))
  , StableHlo.nullary main_c_8 (constantI S_ 32 4352#32)
  , StableHlo.unary main_c_8 main_v34 (broadcastInDim S4x1x1 ![] bcast_S_S4x1x1 : (⟨S_, .i32⟩ : BufTy).Contents (Elt F) → (⟨S4x1x1, .i32⟩ : BufTy).Contents (Elt F))
  , StableHlo.binary main_v33 main_v34 main_v35 (muli : (⟨S4x1x1, .i32⟩ : BufTy).Contents (Elt F) → (⟨S4x1x1, .i32⟩ : BufTy).Contents (Elt F) → (⟨S4x1x1, .i32⟩ : BufTy).Contents (Elt F))
  , StableHlo.unary main_v35 main_v36 (broadcastInDim S4x16x544 ![0, 1, 2] bcast_S4x1x1_S4x16x544_0_1_2 : (⟨S4x1x1, .i32⟩ : BufTy).Contents (Elt F) → (⟨S4x16x544, .i32⟩ : BufTy).Contents (Elt F))
  , StableHlo.binary main_v31 main_v36 main_v37 (addi : (⟨S4x16x544, .i32⟩ : BufTy).Contents (Elt F) → (⟨S4x16x544, .i32⟩ : BufTy).Contents (Elt F) → (⟨S4x16x544, .i32⟩ : BufTy).Contents (Elt F))
  , StableHlo.unary main_v37 main_v38 ((transpose S16x4x544 [1, 0, 2] · transposes_S4x16x544_S16x4x544_1_0_2) : (⟨S4x16x544, .i32⟩ : BufTy).Contents (Elt F) → (⟨S16x4x544, .i32⟩ : BufTy).Contents (Elt F))
  , StableHlo.reshape main_v38 main_v39 (rfl : (.i32 : EltTy) = .i32) shapeCasts_S16x4x544_S16x2176 ]

/-- The operations of the weights. -/
abbrev opsF : List (HloOp τ sig (Elt F)) :=
  [ StableHlo.unary main_v30 main_v40 ((transpose S16x4x544 [1, 0, 2] · transposes_S4x16x544_S16x4x544_1_0_2) : (⟨S4x16x544, .f32⟩ : BufTy).Contents (Elt F) → (⟨S16x4x544, .f32⟩ : BufTy).Contents (Elt F))
  , StableHlo.reshape main_v40 main_v41 (rfl : (.f32 : EltTy) = .f32) shapeCasts_S16x4x544_S16x1x2176
  , StableHlo.unary main_v41 main_v42 ((truncf .bf16 · bitsLt_bf16_f32) : (⟨S16x1x2176, .f32⟩ : BufTy).Contents (Elt F) → (⟨S16x1x2176, .bf16⟩ : BufTy).Contents (Elt F))
  , StableHlo.unary main_v42 main_v43 ((extf .f32 · bitsLt_bf16_f32) : (⟨S16x1x2176, .bf16⟩ : BufTy).Contents (Elt F) → (⟨S16x1x2176, .f32⟩ : BufTy).Contents (Elt F))
  , StableHlo.binary main_v41 main_v43 main_v44 (subf : (⟨S16x1x2176, .f32⟩ : BufTy).Contents (Elt F) → (⟨S16x1x2176, .f32⟩ : BufTy).Contents (Elt F) → (⟨S16x1x2176, .f32⟩ : BufTy).Contents (Elt F))
  , StableHlo.unary main_v44 main_v45 ((truncf .bf16 · bitsLt_bf16_f32) : (⟨S16x1x2176, .f32⟩ : BufTy).Contents (Elt F) → (⟨S16x1x2176, .bf16⟩ : BufTy).Contents (Elt F))
  , StableHlo.unary main_v42 main_v46 ((extf .f32 · bitsLt_bf16_f32) : (⟨S16x1x2176, .bf16⟩ : BufTy).Contents (Elt F) → (⟨S16x1x2176, .f32⟩ : BufTy).Contents (Elt F))
  , StableHlo.binary main_v41 main_v46 main_v47 (subf : (⟨S16x1x2176, .f32⟩ : BufTy).Contents (Elt F) → (⟨S16x1x2176, .f32⟩ : BufTy).Contents (Elt F) → (⟨S16x1x2176, .f32⟩ : BufTy).Contents (Elt F))
  , StableHlo.unary main_v45 main_v48 ((extf .f32 · bitsLt_bf16_f32) : (⟨S16x1x2176, .bf16⟩ : BufTy).Contents (Elt F) → (⟨S16x1x2176, .f32⟩ : BufTy).Contents (Elt F))
  , StableHlo.binary main_v47 main_v48 main_v49 (subf : (⟨S16x1x2176, .f32⟩ : BufTy).Contents (Elt F) → (⟨S16x1x2176, .f32⟩ : BufTy).Contents (Elt F) → (⟨S16x1x2176, .f32⟩ : BufTy).Contents (Elt F))
  , StableHlo.unary main_v49 main_v50 ((truncf .bf16 · bitsLt_bf16_f32) : (⟨S16x1x2176, .f32⟩ : BufTy).Contents (Elt F) → (⟨S16x1x2176, .bf16⟩ : BufTy).Contents (Elt F))
  , StableHlo.nullary main_cst_9 (constant S_ .bf16 0x0000#16)
  , StableHlo.unary main_cst_9 main_v51 (broadcastInDim S16x13x2176 ![] bcast_S_S16x13x2176 : (⟨S_, .bf16⟩ : BufTy).Contents (Elt F) → (⟨S16x13x2176, .bf16⟩ : BufTy).Contents (Elt F))
  , StableHlo.nary ![main_v42, main_v45, main_v50, main_v51] main_v52 (fun u => (concatenate S16x16x2176 1 [⟨S16x1x2176, (u 0 : (⟨S16x1x2176, .bf16⟩ : BufTy).Contents (Elt F))⟩, ⟨S16x1x2176, (u 1 : (⟨S16x1x2176, .bf16⟩ : BufTy).Contents (Elt F))⟩, ⟨S16x1x2176, (u 2 : (⟨S16x1x2176, .bf16⟩ : BufTy).Contents (Elt F))⟩, ⟨S16x13x2176, (u 3 : (⟨S16x13x2176, .bf16⟩ : BufTy).Contents (Elt F))⟩] concatenates_S16x1x2176_S16x1x2176_S16x1x2176_S16x13x2176_S16x16x2176_d1 : (⟨S16x16x2176, .bf16⟩ : BufTy).Contents (Elt F))) ]

/-- The operations of the tokens. -/
abbrev opsG : List (HloOp τ sig (Elt F)) :=
  [ StableHlo.reshape main_arg0 main_v53 (rfl : (.bf16 : EltTy) = .bf16) shapeCasts_S4x4352x2048_S17408x2048
  , StableHlo.nullary main_c_10 (constantI S_ 32 0#32)
  , StableHlo.unary main_c_10 main_v54 (broadcastInDim S16x2176 ![] bcast_S_S16x2176 : (⟨S_, .i32⟩ : BufTy).Contents (Elt F) → (⟨S16x2176, .i32⟩ : BufTy).Contents (Elt F))
  , StableHlo.binary main_v39 main_v54 main_v55 (cmpi .slt : (⟨S16x2176, .i32⟩ : BufTy).Contents (Elt F) → (⟨S16x2176, .i32⟩ : BufTy).Contents (Elt F) → (⟨S16x2176, .i1⟩ : BufTy).Contents (Elt F))
  , StableHlo.nullary main_c_11 (constantI S_ 32 17408#32)
  , StableHlo.unary main_c_11 main_v56 (broadcastInDim S16x2176 ![] bcast_S_S16x2176 : (⟨S_, .i32⟩ : BufTy).Contents (Elt F) → (⟨S16x2176, .i32⟩ : BufTy).Contents (Elt F))
  , StableHlo.binary main_v39 main_v56 main_v57 (addi : (⟨S16x2176, .i32⟩ : BufTy).Contents (Elt F) → (⟨S16x2176, .i32⟩ : BufTy).Contents (Elt F) → (⟨S16x2176, .i32⟩ : BufTy).Contents (Elt F))
  , StableHlo.ternary main_v55 main_v57 main_v39 main_v58 (select : (⟨S16x2176, .i1⟩ : BufTy).Contents (Elt F) → (⟨S16x2176, .i32⟩ : BufTy).Contents (Elt F) → (⟨S16x2176, .i32⟩ : BufTy).Contents (Elt F) → (⟨S16x2176, .i32⟩ : BufTy).Contents (Elt F))
  , StableHlo.unary main_v58 main_v59 (broadcastInDim S16x2176x1 ![0, 1] bcast_S16x2176_S16x2176x1_0_1 : (⟨S16x2176, .i32⟩ : BufTy).Contents (Elt F) → (⟨S16x2176x1, .i32⟩ : BufTy).Contents (Elt F))
  , StableHlo.binary main_v53 main_v59 main_v60 ((fun x i => Host.gather gather_S17408x2048_S16x2176x1_S16x2176x2048_2_0_n_n_0_2_12048 x i) : (⟨S17408x2048, .bf16⟩ : BufTy).Contents (Elt F) → (⟨S16x2176x1, .i32⟩ : BufTy).Contents (Elt F) → (⟨S16x2176x2048, .bf16⟩ : BufTy).Contents (Elt F)) ]

theorem ops_split : (hostOps0 (F := F)) = opsA ++ (opsB ++ (opsC ++ (opsD ++ (opsE ++ (opsF ++ opsG))))) := rfl

variable (X : Valuation τ sig (Elt Ideal))

theorem segA_v12 : after (opsA (F := Ideal)) X (no_index (Proc.devRef .tc main_v12)) = (soft (X (Proc.devRef .tc main_arg1) : FVec Ideal S4x4352x16 .f32) : FVec Ideal S4x16x4096 .f32) := by
  simp (disch := decide) only [opsA, after_cons, after_nil, nullary_result', unary_result', binary_result', ternary_result', reshape_result', nary4_result',
    nullary_result_ne', unary_result_ne', binary_result_ne', ternary_result_ne', reshape_result_ne', nary_result_ne']
  rfl

theorem segB_values : after (opsB (F := Ideal)) X (no_index (Proc.devRef .tc main_values)) = (best (X (Proc.devRef .tc main_v12) : FVec Ideal S4x16x4096 .f32) : FVec Ideal S4x16x512 .f32) := by
  simp (disch := decide) only [opsB, after_cons, after_nil, nullary_result', unary_result', binary_result', ternary_result', reshape_result', nary4_result',
    nullary_result_ne', unary_result_ne', binary_result_ne', ternary_result_ne', reshape_result_ne', nary_result_ne']
  rfl

theorem segB_v14 : after (opsB (F := Ideal)) X (no_index (Proc.devRef .tc main_v14)) = (bestIdx (X (Proc.devRef .tc main_v12) : FVec Ideal S4x16x4096 .f32) : IVec S4x16x512 32) := by
  simp (disch := decide) only [opsB, after_cons, after_nil, nullary_result', unary_result', binary_result', ternary_result', reshape_result', nary4_result',
    nullary_result_ne', unary_result_ne', binary_result_ne', ternary_result_ne', reshape_result_ne', nary_result_ne']
  rfl

theorem segC_v27 : after (opsC (F := Ideal)) X (no_index (Proc.devRef .tc main_v27)) = (softCtx (X (Proc.devRef .tc main_arg1) : FVec Ideal S4x4352x16 .f32) : FVec Ideal S4x16x256 .f32) := by
  simp (disch := decide) only [opsC, after_cons, after_nil, nullary_result', unary_result', binary_result', ternary_result', reshape_result', nary4_result',
    nullary_result_ne', unary_result_ne', binary_result_ne', ternary_result_ne', reshape_result_ne', nary_result_ne']
  rfl

theorem segD_v30 : after (opsD (F := Ideal)) X (no_index (Proc.devRef .tc main_v30)) = (joined (X (Proc.devRef .tc main_values) : FVec Ideal S4x16x512 .f32) (bestCtx (X (Proc.devRef .tc main_v27) : FVec Ideal S4x16x256 .f32)) : FVec Ideal S4x16x544 .f32) := by
  simp (disch := decide) only [opsD, after_cons, after_nil, nullary_result', unary_result', binary_result', ternary_result', reshape_result', nary4_result',
    nullary_result_ne', unary_result_ne', binary_result_ne', ternary_result_ne', reshape_result_ne', nary_result_ne']
  rfl

theorem segD_v31 : after (opsD (F := Ideal)) X (no_index (Proc.devRef .tc main_v31)) = (joinedIdx (X (Proc.devRef .tc main_v14) : IVec S4x16x512 32) (bestCtxIdx (X (Proc.devRef .tc main_v27) : FVec Ideal S4x16x256 .f32)) : IVec S4x16x544 32) := by
  simp (disch := decide) only [opsD, after_cons, after_nil, nullary_result', unary_result', binary_result', ternary_result', reshape_result', nary4_result',
    nullary_result_ne', unary_result_ne', binary_result_ne', ternary_result_ne', reshape_result_ne', nary_result_ne']
  rfl

theorem segE_v39 : after (opsE (F := Ideal)) X (no_index (Proc.devRef .tc main_v39)) = (rows (X (Proc.devRef .tc main_v31) : IVec S4x16x544 32) : IVec S16x2176 32) := by
  simp (disch := decide) only [opsE, after_cons, after_nil, nullary_result', unary_result', binary_result', ternary_result', reshape_result', nary4_result',
    nullary_result_ne', unary_result_ne', binary_result_ne', ternary_result_ne', reshape_result_ne', nary_result_ne']
  rfl

theorem segF_v52 : after (opsF (F := Ideal)) X (no_index (Proc.devRef .tc main_v52)) = (gates (flat (X (Proc.devRef .tc main_v30) : FVec Ideal S4x16x544 .f32)) : FVec Ideal S16x16x2176 .bf16) := by
  simp (disch := decide) only [opsF, after_cons, after_nil, nullary_result', unary_result', binary_result', ternary_result', reshape_result', nary4_result',
    nullary_result_ne', unary_result_ne', binary_result_ne', ternary_result_ne', reshape_result_ne', nary_result_ne']
  rfl

theorem segG_v60 : after (opsG (F := Ideal)) X (no_index (Proc.devRef .tc main_v60)) = (taken (X (Proc.devRef .tc main_arg0) : FVec Ideal S4x4352x2048 .bf16) (X (Proc.devRef .tc main_v39) : IVec S16x2176 32) : FVec Ideal S16x2176x2048 .bf16) := by
  simp (disch := decide) only [opsG, after_cons, after_nil, nullary_result', unary_result', binary_result', ternary_result', reshape_result', nary4_result',
    nullary_result_ne', unary_result_ne', binary_result_ne', ternary_result_ne', reshape_result_ne', nary_result_ne']
  rfl

theorem keepA_arg0 : after (opsA (F := Ideal)) X (no_index (Proc.devRef .tc main_arg0)) = X (Proc.devRef .tc main_arg0) := by
  simp (disch := decide) only [opsA, after_cons, after_nil, nullary_result', unary_result', binary_result', ternary_result', reshape_result', nary4_result',
    nullary_result_ne', unary_result_ne', binary_result_ne', ternary_result_ne', reshape_result_ne', nary_result_ne']

theorem keepA_arg1 : after (opsA (F := Ideal)) X (no_index (Proc.devRef .tc main_arg1)) = X (Proc.devRef .tc main_arg1) := by
  simp (disch := decide) only [opsA, after_cons, after_nil, nullary_result', unary_result', binary_result', ternary_result', reshape_result', nary4_result',
    nullary_result_ne', unary_result_ne', binary_result_ne', ternary_result_ne', reshape_result_ne', nary_result_ne']

theorem keepB_arg0 : after (opsB (F := Ideal)) X (no_index (Proc.devRef .tc main_arg0)) = X (Proc.devRef .tc main_arg0) := by
  simp (disch := decide) only [opsB, after_cons, after_nil, nullary_result', unary_result', binary_result', ternary_result', reshape_result', nary4_result',
    nullary_result_ne', unary_result_ne', binary_result_ne', ternary_result_ne', reshape_result_ne', nary_result_ne']

theorem keepB_arg1 : after (opsB (F := Ideal)) X (no_index (Proc.devRef .tc main_arg1)) = X (Proc.devRef .tc main_arg1) := by
  simp (disch := decide) only [opsB, after_cons, after_nil, nullary_result', unary_result', binary_result', ternary_result', reshape_result', nary4_result',
    nullary_result_ne', unary_result_ne', binary_result_ne', ternary_result_ne', reshape_result_ne', nary_result_ne']

theorem keepC_arg0 : after (opsC (F := Ideal)) X (no_index (Proc.devRef .tc main_arg0)) = X (Proc.devRef .tc main_arg0) := by
  simp (disch := decide) only [opsC, after_cons, after_nil, nullary_result', unary_result', binary_result', ternary_result', reshape_result', nary4_result',
    nullary_result_ne', unary_result_ne', binary_result_ne', ternary_result_ne', reshape_result_ne', nary_result_ne']

theorem keepC_values : after (opsC (F := Ideal)) X (no_index (Proc.devRef .tc main_values)) = X (Proc.devRef .tc main_values) := by
  simp (disch := decide) only [opsC, after_cons, after_nil, nullary_result', unary_result', binary_result', ternary_result', reshape_result', nary4_result',
    nullary_result_ne', unary_result_ne', binary_result_ne', ternary_result_ne', reshape_result_ne', nary_result_ne']

theorem keepC_v14 : after (opsC (F := Ideal)) X (no_index (Proc.devRef .tc main_v14)) = X (Proc.devRef .tc main_v14) := by
  simp (disch := decide) only [opsC, after_cons, after_nil, nullary_result', unary_result', binary_result', ternary_result', reshape_result', nary4_result',
    nullary_result_ne', unary_result_ne', binary_result_ne', ternary_result_ne', reshape_result_ne', nary_result_ne']

theorem keepD_arg0 : after (opsD (F := Ideal)) X (no_index (Proc.devRef .tc main_arg0)) = X (Proc.devRef .tc main_arg0) := by
  simp (disch := decide) only [opsD, after_cons, after_nil, nullary_result', unary_result', binary_result', ternary_result', reshape_result', nary4_result',
    nullary_result_ne', unary_result_ne', binary_result_ne', ternary_result_ne', reshape_result_ne', nary_result_ne']

theorem keepE_arg0 : after (opsE (F := Ideal)) X (no_index (Proc.devRef .tc main_arg0)) = X (Proc.devRef .tc main_arg0) := by
  simp (disch := decide) only [opsE, after_cons, after_nil, nullary_result', unary_result', binary_result', ternary_result', reshape_result', nary4_result',
    nullary_result_ne', unary_result_ne', binary_result_ne', ternary_result_ne', reshape_result_ne', nary_result_ne']

theorem keepE_v30 : after (opsE (F := Ideal)) X (no_index (Proc.devRef .tc main_v30)) = X (Proc.devRef .tc main_v30) := by
  simp (disch := decide) only [opsE, after_cons, after_nil, nullary_result', unary_result', binary_result', ternary_result', reshape_result', nary4_result',
    nullary_result_ne', unary_result_ne', binary_result_ne', ternary_result_ne', reshape_result_ne', nary_result_ne']

theorem keepF_arg0 : after (opsF (F := Ideal)) X (no_index (Proc.devRef .tc main_arg0)) = X (Proc.devRef .tc main_arg0) := by
  simp (disch := decide) only [opsF, after_cons, after_nil, nullary_result', unary_result', binary_result', ternary_result', reshape_result', nary4_result',
    nullary_result_ne', unary_result_ne', binary_result_ne', ternary_result_ne', reshape_result_ne', nary_result_ne']

theorem keepF_v39 : after (opsF (F := Ideal)) X (no_index (Proc.devRef .tc main_v39)) = X (Proc.devRef .tc main_v39) := by
  simp (disch := decide) only [opsF, after_cons, after_nil, nullary_result', unary_result', binary_result', ternary_result', reshape_result', nary4_result',
    nullary_result_ne', unary_result_ne', binary_result_ne', ternary_result_ne', reshape_result_ne', nary_result_ne']

theorem keepG_v52 : after (opsG (F := Ideal)) X (no_index (Proc.devRef .tc main_v52)) = X (Proc.devRef .tc main_v52) := by
  simp (disch := decide) only [opsG, after_cons, after_nil, nullary_result', unary_result', binary_result', ternary_result', reshape_result', nary4_result',
    nullary_result_ne', unary_result_ne', binary_result_ne', ternary_result_ne', reshape_result_ne', nary_result_ne']

end Segments

variable (m : (ℓ : Loc nD τ sig) → Buf (Elt Ideal) ℓ) (ρ : Dev nD → PrngReg)

/-- The weights of all tokens chosen, from the logits. -/
def weights (x : FVec Ideal S4x4352x16 .f32) : FVec Ideal S4x16x544 .f32 := joined (best (soft x)) (bestCtx (softCtx x))

/-- All tokens chosen, from the logits. -/
def tokens (x : FVec Ideal S4x4352x16 .f32) : IVec S4x16x544 32 := joinedIdx (bestIdx (soft x)) (bestCtxIdx (softCtx x))

theorem V_gates (c : Dev nD) : V1 m ρ c main_v52 = gates (flat (weights (m ((c : Thread nD τ).loc main_arg1)))) := by
  show StableHlo.after (hostOps0 (F := Ideal)) (fun b => m (c, b)) (Proc.devRef .tc main_v52) = _
  rw [ops_split, StableHlo.after_append, StableHlo.after_append, StableHlo.after_append, StableHlo.after_append, StableHlo.after_append, StableHlo.after_append,
    keepG_v52, segF_v52, keepE_v30, segD_v30, keepC_values, segC_v27, segB_values, keepB_arg1, segA_v12, keepA_arg1]
  rfl

theorem V_taken (c : Dev nD) : V1 m ρ c main_v60 = taken (m ((c : Thread nD τ).loc main_arg0)) (rows (tokens (m ((c : Thread nD τ).loc main_arg1)))) := by
  show StableHlo.after (hostOps0 (F := Ideal)) (fun b => m (c, b)) (Proc.devRef .tc main_v60) = _
  rw [ops_split, StableHlo.after_append, StableHlo.after_append, StableHlo.after_append, StableHlo.after_append, StableHlo.after_append, StableHlo.after_append,
    segG_v60, keepF_arg0, keepE_arg0, keepD_arg0, keepC_arg0, keepB_arg0, keepA_arg0, keepF_v39, segE_v39, segD_v31, keepC_v14, segC_v27, segB_v14,
    keepB_arg1, segA_v12, keepA_arg1]
  rfl

end Cert.Kernel2Ideal.Moe

end
-- ==== Proof.TopK.lean ====
/- The choice of the greatest entries of a row, read: each is an entry of the row, at the index named. -/
module

public import Idealize.ShloMosaic.Lib.Pointwise

@[expose] public section

noncomputable section

namespace Cert.TopK

open Idealize.ShloMosaic

variable {a b n k : ℕ} {α : Type}

/-- Which entry of its row a chosen one is. -/
theorem spec (gt : α → α → BitVec 1) (x : (⟨3, ![a, b, n]⟩ : Shape).Idx → α)
    (h : (⟨3, ![a, b, n]⟩ : Shape).Slices (fun _ => 0) ⟨3, ![a, b, k]⟩) :
    ∃ p : Fin a → Fin b → Fin k → Fin n, ∀ (i : Fin a) (e : Fin b) (j : Fin k),
      (Host.topK ⟨3, ![a, b, k]⟩ 2 gt x h).1 (ix3 i e j) = x (ix3 i e (p i e j))
      ∧ (Host.topK ⟨3, ![a, b, k]⟩ 2 gt x h).2 (ix3 i e j) = BitVec.ofNat 32 (p i e j).val := by
  have key : ∀ (i : Fin a) (e : Fin b) (j : Fin k), ∃ p : Fin n,
      (Host.topK ⟨3, ![a, b, k]⟩ 2 gt x h).1 (ix3 i e j) = x (ix3 i e p)
      ∧ (Host.topK ⟨3, ![a, b, k]⟩ 2 gt x h).2 (ix3 i e j) = BitVec.ofNat 32 p.val := by
    intro i e j
    unfold Host.topK Host.sort2 extractStridedSlice
    simp only [show (2 : ℕ) < (⟨3, ![a, b, n]⟩ : Shape).rank from Nat.lt_succ_self 2, dite_true]
    refine Exists.imp (fun q (hq : _ ∧ _) => hq) ?_
    refine (⟨_, rfl, rfl⟩ : ∃ q : Fin n, _ = q ∧ _ = BitVec.ofNat 32 q.val).imp fun q hq => ⟨congrArg x ?_, hq.2⟩
    funext d
    apply Fin.ext
    match d with
    | ⟨0, _⟩ => exact Nat.zero_add _
    | ⟨1, _⟩ => exact Nat.zero_add _
    | ⟨2, _⟩ => exact congrArg Fin.val hq.1
  choose p hp using key
  exact ⟨p, hp⟩

end Cert.TopK

end
-- ==== Proof.MoeHostAt.lean ====
/- What the host prepares, read at an index. -/
module

public import proofs.«01_k».proof.Proof.MoeHost
public import proofs.«01_k».proof.Proof.TopK
public import proofs.«01_k».proof.Proof.At

@[expose] public section

set_option maxRecDepth 16384

noncomputable section

namespace Cert.Kernel2Ideal.Moe

open Cert.At Cert.Kernel2Ideal Cert.Kernel2Ideal.Gen Idealize.ShloMosaic Idealize.ShloMosaic.TcCoe Idealize.SL.Sem

theorem toInt_nat (t : ℕ) (h : t < 17408) : (BitVec.ofNat 32 t).toInt = (t : ℤ) := by
  rw [BitVec.toInt_eq_toNat_of_lt (by rw [BitVec.toNat_ofNat]; omega), BitVec.toNat_ofNat]; omega

/-- A number of the table's rows is not negative. -/
theorem slt_zero (t : ℕ) (h : t < 17408) : (BitVec.ofNat 32 t).slt 0#32 = false := by
  rw [BitVec.slt_eq_decide, toInt_nat t h]; simp

/-- So the row is kept. -/
theorem wrapped_at (r : IVec S16x2176 32) (e : Fin 16) (q : Fin 2176) (t : ℕ) (ht : t < 17408)
    (h : r (ix2 e q) = BitVec.ofNat 32 t) : wrapped r (ix3 e q 0) = BitVec.ofNat 32 t := by
  pointwise [wrapped]
  rw [h]
  simp [IntOp.cmpi, Scalar.select, slt_zero t ht]

theorem rows_at (t : IVec S4x16x544 32) (e : Fin 16) (b : Fin 4) (c : Fin 544) :
    rows t (ix2 e ⟨b.val * 544 + c.val, by omega⟩) = t (ix3 b e c) + BitVec.ofNat 32 b.val * 4352#32 := by
  pointwise [rows]
  rfl

theorem flat_at (g : FVec Ideal S4x16x544 .f32) (e : Fin 16) (b : Fin 4) (c : Fin 544) :
    flat g (ix3 e 0 ⟨b.val * 544 + c.val, by omega⟩) = g (ix3 b e c) := by
  pointwise [flat]

theorem joined_lo (a : FVec Ideal S4x16x512 .f32) (b : FVec Ideal S4x16x32 .f32) (i : Fin 4) (e : Fin 16) (c : Fin 512) :
    joined a b (ix3 i e ⟨c.val, by omega⟩) = a (ix3 i e c) := by
  pointwise [joined]

theorem joined_hi (a : FVec Ideal S4x16x512 .f32) (b : FVec Ideal S4x16x32 .f32) (i : Fin 4) (e : Fin 16) (c : Fin 32) :
    joined a b (ix3 i e ⟨512 + c.val, by omega⟩) = b (ix3 i e c) := by
  pointwise [joined]

theorem joinedIdx_lo (a : IVec S4x16x512 32) (b : IVec S4x16x32 32) (i : Fin 4) (e : Fin 16) (c : Fin 512) :
    joinedIdx a b (ix3 i e ⟨c.val, by omega⟩) = a (ix3 i e c) := by
  pointwise [joinedIdx]

theorem joinedIdx_hi (a : IVec S4x16x512 32) (b : IVec S4x16x32 32) (i : Fin 4) (e : Fin 16) (c : Fin 32) :
    joinedIdx a b (ix3 i e ⟨512 + c.val, by omega⟩) = b (ix3 i e c) := by
  pointwise [joinedIdx]

/-- A row taken from the table: the token it numbers. -/
theorem taken_at (x : FVec Ideal S4x4352x2048 .bf16) (r : IVec S16x2176 32) (e : Fin 16) (q : Fin 2176) (b : Fin 4) (n : Fin 4352) (d : Fin 2048)
    (h : r (ix2 e q) = BitVec.ofNat 32 (b.val * 4352 + n.val)) : taken x r (ix3 e q d) = x (ix3 b n d) := by
  unfold taken
  have g : ∀ z : FVec Ideal S17408x2048 .bf16, Host.gather gather_S17408x2048_S16x2176x1_S16x2176x2048_2_0_n_n_0_2_12048 z (wrapped r) (ix3 e q d)
      = z (ix2 ⟨b.val * 4352 + n.val, by omega⟩ d) := by
    intro z
    unfold Host.gather
    congr 1
    have s0 : gather_S17408x2048_S16x2176x1_S16x2176x2048_2_0_n_n_0_2_12048.siIdx (ix3 e q d) ⟨0, by decide⟩ = ix3 e q 0 := by
      funext a; refine Fin.ext ?_
      match a with
      | ⟨0, _⟩ => rfl
      | ⟨1, _⟩ => rfl
      | ⟨2, _⟩ => rfl
    funext a
    refine Fin.ext ?_
    match a with
    | ⟨0, _⟩ =>
      show min (BitVec.toInt (wrapped r (gather_S17408x2048_S16x2176x1_S16x2176x2048_2_0_n_n_0_2_12048.siIdx (ix3 e q d) ⟨0, _⟩))).toNat 17407 + 0 + 0 = _
      rw [s0, wrapped_at r e q _ (by omega) h, toInt_nat _ (by omega)]; show _ = b.val * 4352 + n.val; omega
    | ⟨1, _⟩ => show 0 + 0 + d.val = d.val; omega
  rw [g]
  pointwise

/-- What one part of a number leaves over, added to it, gives the number back, unless it is plus infinity. -/
theorem parts (g : EReal) (h : g ≠ ⊤) : g + (g - g) + (g - g - (g - g)) = g := by
  induction g using EReal.rec with
  | bot => simp
  | top => exact absurd rfl h
  | coe x => norm_cast; ring_nf

/-- The sixteen rows of a token's weight sum to it. -/
theorem gates_sum (w : FVec Ideal S16x1x2176 .f32) (e : Fin 16) (r : Fin 2176) (h : w (ix3 e 0 r) ≠ ⊤) :
    ∑ k : Fin 16, at3 (gates w) e.val k.val r.val * 1 = w (ix3 e 0 r) := by
  have hz : ∀ k : Fin 13, gates w (ix3 e ⟨3 + k.val, by omega⟩ r) = 0 := by
    intro k
    pointwise [gates]
    rw [dif_neg (by omega), dif_neg (by omega), dif_neg (by omega)]
  have h0 : gates w (ix3 e 0 r) = w (ix3 e 0 r) := by
    pointwise [gates]
  have h1 : gates w (ix3 e 1 r) = w (ix3 e 0 r) - w (ix3 e 0 r) := by
    pointwise [gates]
  have h2 : gates w (ix3 e 2 r) = w (ix3 e 0 r) - w (ix3 e 0 r) - (w (ix3 e 0 r) - w (ix3 e 0 r)) := by
    pointwise [gates]
  have hs : ∀ k : Fin 16, at3 (gates w) e.val k.val r.val * 1 = gates w (ix3 e k r) := fun k => by rw [mul_one, at3_mk]
  rw [Finset.sum_congr rfl fun k _ => hs k]
  refine (Fin.sum_univ_add (a := 3) (b := 13) fun k => gates w (ix3 e k r)).trans ?_
  have hn : ∑ k : Fin 13, gates w (ix3 e (Fin.natAdd 3 k) r) = 0 := Finset.sum_eq_zero fun k _ => hz k
  rw [hn, add_zero, Fin.sum_univ_three]
  refine Eq.trans ?_ (parts _ h)
  exact congrArg₂ (· + ·) (congrArg₂ (· + ·) h0 h1) h2

/-- Nothing divided by no less than itself is plus infinity. -/
theorem div_ne_top {x y : EReal} (hx : 0 ≤ x) (hxy : x ≤ y) : Ideal.div x y ≠ ⊤ := by
  unfold Ideal.div
  split_ifs with h0 h1
  · exact absurd (h0 ▸ hxy) (not_le.mpr h1)
  · exact bot_ne_top
  · induction y using EReal.rec with
    | bot => exact absurd (hx.trans hxy) (by simp)
    | top => simp
    | coe y =>
      induction x using EReal.rec with
      | bot => exact absurd hx (by simp)
      | top => exact absurd hxy (by simp)
      | coe x => rw [← EReal.coe_inv, ← EReal.coe_mul]; exact EReal.coe_ne_top _

theorem exp_nonneg (x : EReal) : 0 ≤ Ideal.exp x := by
  induction x using EReal.rec with
  | bot => exact le_refl _
  | top => exact le_top
  | coe x => exact EReal.coe_nonneg.mpr (Real.exp_pos x).le

theorem soft_at (x : FVec Ideal S4x4352x16 .f32) (b : Fin 4) (e : Fin 16) (n : Fin 4096) :
    ∃ f : Fin 16 → EReal, soft x (ix3 b e n) = Ideal.div (Ideal.exp (f e)) (∑ k : Fin 16, Ideal.exp (f k)) := by
  unfold soft
  simp only []
  generalize (subf (F := Ideal) _ _ : FVec Ideal S4x4096x16 .f32) = u
  refine ⟨fun k => u (ix3 b n k), ?_⟩
  pointwise

theorem softCtx_at (x : FVec Ideal S4x4352x16 .f32) (b : Fin 4) (e : Fin 16) (n : Fin 256) :
    ∃ f : Fin 16 → EReal, softCtx x (ix3 b e n) = Ideal.div (Ideal.exp (f e)) (∑ k : Fin 16, Ideal.exp (f k)) := by
  unfold softCtx
  simp only []
  generalize (subf (F := Ideal) _ _ : FVec Ideal S4x256x16 .f32) = u
  refine ⟨fun k => u (ix3 b n k), ?_⟩
  pointwise

theorem share_ne_top (f : Fin 16 → EReal) (e : Fin 16) : Ideal.div (Ideal.exp (f e)) (∑ k : Fin 16, Ideal.exp (f k)) ≠ ⊤ :=
  div_ne_top (exp_nonneg _) (Finset.single_le_sum (f := fun k => Ideal.exp (f k)) (fun k _ => exp_nonneg _) (Finset.mem_univ e))

theorem soft_ne_top (x : FVec Ideal S4x4352x16 .f32) (b : Fin 4) (e : Fin 16) (n : Fin 4096) : soft x (ix3 b e n) ≠ ⊤ := by
  obtain ⟨f, hf⟩ := soft_at x b e n
  rw [hf]; exact share_ne_top f e

theorem softCtx_ne_top (x : FVec Ideal S4x4352x16 .f32) (b : Fin 4) (e : Fin 16) (n : Fin 256) : softCtx x (ix3 b e n) ≠ ⊤ := by
  obtain ⟨f, hf⟩ := softCtx_at x b e n
  rw [hf]; exact share_ne_top f e

end Cert.Kernel2Ideal.Moe

end
-- ==== Proof.MoeUp.lean ====
/- The experts' first two products: every block holds its rows' gated product, so the array is one function of its index. -/
module

public import proofs.«01_k».proof.Proof.At
public import proofs.«01_k».proof.Proof.Gen.Kernel2Ideal.Frame
public import Idealize.ShloMosaic.Lib.Pipeline.ValueKit

@[expose] public section

set_option maxRecDepth 16384

noncomputable section

namespace Cert.Kernel2Ideal.Moe

open Cert.Kernel2Ideal Cert.Kernel2Ideal.Gen Idealize.ShloMosaic Idealize.ShloMosaic.TcCoe Idealize.SL.Sem
open Cert.At

variable (V : (c : Dev nD) → (b : Ref sig .tc) → Buf (Elt Ideal) ((c : Thread nD τ).loc b))

/-- The gated product of two sums, in the order the kernel multiplies. -/
def gated (a u : EReal) : EReal := a * Ideal.logistic a * u

theorem up_apply (x : Vec Ideal S1x2176x2048 .bf16) (w : Vec Ideal S1x1x2048x512 .f32) (v : Vec Ideal S1x1x2048x512 .f32) (r : Fin 2176) (n : Fin 512) :
    k0_pay1 x w v (ix3 0 r n) = gated (∑ k : Fin 2048, x (ix3 0 r k) * w (ix4 0 0 k n)) (∑ k : Fin 2048, x (ix3 0 r k) * v (ix4 0 0 k n)) := by
  unfold gated
  pointwise [k0_pay1]

theorem up_at (x : Vec Ideal S1x2176x2048 .bf16) (w : Vec Ideal S1x1x2048x512 .f32) (v : Vec Ideal S1x1x2048x512 .f32) (y : S1x2176x512.Idx) :
    k0_pay1 x w v y = gated (∑ k : Fin 2048, x (ix3 0 (y 1) k) * w (ix4 0 0 k (y 2))) (∑ k : Fin 2048, x (ix3 0 (y 1) k) * v (ix4 0 0 k (y 2))) := by
  have h0 : (y 0).val < 1 := (y 0).isLt
  have hy : y = ix3 0 (y 1) (y 2) := by
    funext k; fin_cases k <;> first | rfl | (apply Fin.ext; show (y 0).val = 0; omega)
  exact (congrArg (k0_pay1 x w v) hy).trans (up_apply x w v _ _)

theorem up_idx0 : ∀ t : Fin cfg0.N, win0_0.index t = ![(grid0.coords t 0).val, 0, 0] := (by decide +kernel : ∀ t : Fin grid0.N, _)
theorem up_idx1 : ∀ t : Fin cfg0.N, win0_1.index t = ![0, (grid0.coords t 0).val, 0, (grid0.coords t 1).val] := (by decide +kernel : ∀ t : Fin grid0.N, _)
theorem up_idx2 : ∀ t : Fin cfg0.N, win0_2.index t = ![0, (grid0.coords t 0).val, 0, (grid0.coords t 1).val] := (by decide +kernel : ∀ t : Fin grid0.N, _)
theorem up_idx3 : ∀ t : Fin cfg0.N, win0_3.index t = ![(grid0.coords t 0).val, 0, (grid0.coords t 1).val] := (by decide +kernel : ∀ t : Fin grid0.N, _)

theorem up_blk0 (c : Dev nD) (t : Fin cfg0.N) (y : S1x2176x2048.Idx) :
    iblk0 V c 0 t y = at3 (V c main_v60) (grid0.coords t 0) (y 1).val (y 2).val := by
  have h0 : (y 0).val < 1 := (y 0).isLt
  blk_simp [iblk0]
  apply eq_at3 <;> blk_simp [up_idx0] <;> simp <;> omega

theorem up_blk1 (c : Dev nD) (t : Fin cfg0.N) (y : S1x1x2048x512.Idx) :
    iblk0 V c 1 t y = at4 (V c main_arg2) 0 (grid0.coords t 0) (y 2).val (512 * (grid0.coords t 1) + (y 3).val) := by
  have h0 : (y 0).val < 1 := (y 0).isLt
  have h1 : (y 1).val < 1 := (y 1).isLt
  blk_simp [iblk0]
  apply eq_at4 <;> blk_simp [up_idx1] <;> simp <;> omega

theorem up_blk2 (c : Dev nD) (t : Fin cfg0.N) (y : S1x1x2048x512.Idx) :
    iblk0 V c 2 t y = at4 (V c main_arg3) 0 (grid0.coords t 0) (y 2).val (512 * (grid0.coords t 1) + (y 3).val) := by
  have h0 : (y 0).val < 1 := (y 0).isLt
  have h1 : (y 1).val < 1 := (y 1).isLt
  blk_simp [iblk0]
  apply eq_at4 <;> blk_simp [up_idx2] <;> simp <;> omega

/-- The hidden values as a function of expert, row and column. -/
def hid (X : S16x2176x2048.Idx → EReal) (A B : S2x16x2048x2048.Idx → EReal) : S16x2176x2048.Idx → EReal := fun y =>
  gated (∑ k : Fin 2048, at3 X (y 0).val (y 1).val k * at4 A 0 (y 0).val k (y 2).val)
    (∑ k : Fin 2048, at3 X (y 0).val (y 1).val k * at4 B 0 (y 0).val k (y 2).val)

theorem up_final (c : Dev nD) : (dat0 V c).arrAt 3 cfg0.N = hid (V c main_v60) (V c main_arg2) (V c main_arg3) := by
  refine (dat0 V c).arrAt_eq_of_covers 3 _ (by decide +kernel) fun t hf y => ?_
  blk_simp
  rw [after0_3]
  frame_out
  refine (up_at _ _ _ y).trans ?_
  have h0 : (y 0).val < 1 := (y 0).isLt
  unfold hid
  refine congrArg₂ gated (Finset.sum_congr rfl fun k _ => ?_) (Finset.sum_congr rfl fun k _ => ?_)
  · rw [up_blk0, up_blk1]
    blk_simp [up_idx3]
    simp only [Matrix.cons_val_zero, Matrix.cons_val_one, Matrix.cons_val]
    congr 2 <;> first | rfl | (simp; try omega)
  · rw [up_blk0, up_blk2]
    blk_simp [up_idx3]
    simp only [Matrix.cons_val_zero, Matrix.cons_val_one, Matrix.cons_val]
    congr 2 <;> first | rfl | (simp; try omega)

end Cert.Kernel2Ideal.Moe

end
-- ==== Proof.MoeDown.lean ====
/- The experts' last product, scaled by the gates: every block holds its rows' values, so the array is one function of its index. -/
module

public import proofs.«01_k».proof.Proof.At
public import proofs.«01_k».proof.Proof.Gen.Kernel2Ideal.Frame
public import Idealize.ShloMosaic.Lib.Pipeline.ValueKit

@[expose] public section

set_option maxRecDepth 16384

noncomputable section

namespace Cert.Kernel2Ideal.Moe

open Cert.Kernel2Ideal Cert.Kernel2Ideal.Gen Idealize.ShloMosaic Idealize.ShloMosaic.TcCoe Idealize.SL.Sem
open Cert.At

variable (V : (c : Dev nD) → (b : Ref sig .tc) → Buf (Elt Ideal) ((c : Thread nD τ).loc b))

theorem prod_apply (x : Vec Ideal S1x2176x2048 .bf16) (w : Vec Ideal S1x1x2048x1024 .f32) (r : Fin 2176) (n : Fin 1024) :
    k1_pay7 x w (ix2 r n) = ∑ k : Fin 2048, x (ix3 0 r k) * w (ix4 0 0 k n) := by
  pointwise [k1_pay7]

theorem gate_apply (g : Vec Ideal S1x16x2176 .bf16) (r : Fin 2176) (n : Fin 128) :
    k1_pay6 g (ix2 r n) = ∑ k : Fin 16, g (ix3 0 k r) * 1 := by
  pointwise [k1_pay6]

/-- One piece of the block, from the product and the gates. -/
theorem piece2 (g : FVec Ideal S2176x128 .f32) (p : FVec Ideal S2176x1024 .f32) (r : Fin 2176) (n : Fin 128) :
    k1_pay2 g p (ix3 0 r n) = p (ix2 r ⟨512 + n.val, by omega⟩) * g (ix2 r n) := by
  pointwise [k1_pay2]
theorem piece3 (g : FVec Ideal S2176x128 .f32) (p : FVec Ideal S2176x1024 .f32) (r : Fin 2176) (n : Fin 128) :
    k1_pay3 g p (ix3 0 r n) = p (ix2 r ⟨640 + n.val, by omega⟩) * g (ix2 r n) := by
  pointwise [k1_pay3]
theorem piece4 (g : FVec Ideal S2176x128 .f32) (p : FVec Ideal S2176x1024 .f32) (r : Fin 2176) (n : Fin 128) :
    k1_pay4 g p (ix3 0 r n) = p (ix2 r ⟨768 + n.val, by omega⟩) * g (ix2 r n) := by
  pointwise [k1_pay4]
theorem piece5 (g : FVec Ideal S2176x128 .f32) (p : FVec Ideal S2176x1024 .f32) (r : Fin 2176) (n : Fin 128) :
    k1_pay5 g p (ix3 0 r n) = p (ix2 r ⟨896 + n.val, by omega⟩) * g (ix2 r n) := by
  pointwise [k1_pay5]

theorem piece8 (g : Vec Ideal S1x16x2176 .bf16) (x : Vec Ideal S1x2176x2048 .bf16) (w : Vec Ideal S1x1x2048x1024 .f32) (r : Fin 2176) (n : Fin 128) :
    k1_pay8 g x w (ix3 0 r n) = k1_pay7 x w (ix2 r ⟨0 + n.val, by omega⟩) * k1_pay6 g (ix2 r n) := by
  unfold k1_pay8
  generalize k1_pay7 x w = p
  generalize k1_pay6 g = q
  pointwise
theorem piece9 (g : Vec Ideal S1x16x2176 .bf16) (x : Vec Ideal S1x2176x2048 .bf16) (w : Vec Ideal S1x1x2048x1024 .f32) (r : Fin 2176) (n : Fin 128) :
    k1_pay9 g x w (ix3 0 r n) = k1_pay7 x w (ix2 r ⟨128 + n.val, by omega⟩) * k1_pay6 g (ix2 r n) := by
  unfold k1_pay9
  generalize k1_pay7 x w = p
  generalize k1_pay6 g = q
  pointwise
theorem piece10 (g : Vec Ideal S1x16x2176 .bf16) (x : Vec Ideal S1x2176x2048 .bf16) (w : Vec Ideal S1x1x2048x1024 .f32) (r : Fin 2176) (n : Fin 128) :
    k1_pay10 g x w (ix3 0 r n) = k1_pay7 x w (ix2 r ⟨256 + n.val, by omega⟩) * k1_pay6 g (ix2 r n) := by
  unfold k1_pay10
  generalize k1_pay7 x w = p
  generalize k1_pay6 g = q
  pointwise
theorem piece11 (g : Vec Ideal S1x16x2176 .bf16) (x : Vec Ideal S1x2176x2048 .bf16) (w : Vec Ideal S1x1x2048x1024 .f32) (r : Fin 2176) (n : Fin 128) :
    k1_pay1 (k1_pay11 g x w) (ix3 0 r n) = k1_pay7 x w (ix2 r ⟨384 + n.val, by omega⟩) * k1_pay6 g (ix2 r n) := by
  unfold k1_pay1 k1_pay11
  generalize k1_pay7 x w = p
  generalize k1_pay6 g = q
  pointwise

/-- The block's value at a row and a column. -/
def down (x : Vec Ideal S1x2176x2048 .bf16) (w : Vec Ideal S1x1x2048x1024 .f32) (g : Vec Ideal S1x16x2176 .bf16) : S1x2176x1024.Idx → EReal := fun y =>
  (∑ k : Fin 2048, x (ix3 0 (y 1) k) * w (ix4 0 0 k (y 2))) * ∑ k : Fin 16, g (ix3 0 k (y 1)) * 1

/-- A piece that holds the products of its columns holds the block's values there. -/
theorem down_piece (x : Vec Ideal S1x2176x2048 .bf16) (w : Vec Ideal S1x1x2048x1024 .f32) (g : Vec Ideal S1x16x2176 .bf16)
    (o : ℕ) (ho : o + 128 ≤ 1024) (f : Vec Ideal S1x2176x128 .bf16)
    (hf : ∀ (r : Fin 2176) (n : Fin 128), f (ix3 0 r n) = k1_pay7 (F := Ideal) x w (ix2 r ⟨o + n.val, by omega⟩) * k1_pay6 (F := Ideal) g (ix2 r n))
    (z : S1x2176x128.Idx) (u : S1x2176x1024.Idx) (h1 : (u 1).val = (z 1).val) (h2 : (u 2).val = o + (z 2).val) :
    f z = down x w g u := by
  have hz2 : (z 2).val < 128 := (z 2).isLt
  have hz0 : (z 0).val < 1 := (z 0).isLt
  have hz : z = ix3 0 (z 1) (z 2) := by
    funext k; fin_cases k <;> first | rfl | (apply Fin.ext; show (z 0).val = 0; omega)
  refine (congrArg f hz).trans ((hf (z 1) (z 2)).trans ?_)
  refine (congrArg₂ (· * ·) (prod_apply x w _ _) (gate_apply g _ _)).trans ?_
  have e1 : u 1 = z 1 := Fin.ext h1
  have e2 : u 2 = (⟨o + (z 2).val, by omega⟩ : Fin 1024) := Fin.ext h2
  unfold down
  rw [e1, e2]

theorem down_at (x : Vec Ideal S1x2176x2048 .bf16) (w : Vec Ideal S1x1x2048x1024 .f32) (g : Vec Ideal S1x16x2176 .bf16) (y : S1x2176x1024.Idx) :
    out1_3 (F := Ideal) x w g y = down x w g y := by
  unfold_out out1_3
  frame_out
  refine View.canon_apply_of_pieces (Val := Elt Ideal) (S := S1x2176x1024) (e := .bf16) (fun y => down x w g y) _ ?_ y (cover1_3 _ _ _ _ _ _ _ _ y)
  intro p hp z
  simp only [List.mem_cons, List.not_mem_nil, or_false] at hp
  rcases hp with rfl | rfl | rfl | rfl | rfl | rfl | rfl | rfl
  · refine down_piece x w g 896 (by omega) _ (fun r n => piece5 _ _ r n) z _ ?_ ?_
    · rw [ValueKit.rect_emb_unit_val]; simp
    · rw [ValueKit.rect_emb_unit_val]; simp
  · refine down_piece x w g 768 (by omega) _ (fun r n => piece4 _ _ r n) z _ ?_ ?_
    · rw [ValueKit.rect_emb_unit_val]; simp
    · rw [ValueKit.rect_emb_unit_val]; simp
  · refine down_piece x w g 640 (by omega) _ (fun r n => piece3 _ _ r n) z _ ?_ ?_
    · rw [ValueKit.rect_emb_unit_val]; simp
    · rw [ValueKit.rect_emb_unit_val]; simp
  · refine down_piece x w g 512 (by omega) _ (fun r n => piece2 _ _ r n) z _ ?_ ?_
    · rw [ValueKit.rect_emb_unit_val]; simp
    · rw [ValueKit.rect_emb_unit_val]; simp
  · refine down_piece x w g 384 (by omega) _ (fun r n => piece11 _ _ _ r n) z _ ?_ ?_
    · rw [ValueKit.rect_emb_unit_val]; simp
    · rw [ValueKit.rect_emb_unit_val]; simp
  · refine down_piece x w g 256 (by omega) _ (fun r n => piece10 _ _ _ r n) z _ ?_ ?_
    · rw [ValueKit.rect_emb_unit_val]; simp
    · rw [ValueKit.rect_emb_unit_val]; simp
  · refine down_piece x w g 128 (by omega) _ (fun r n => piece9 _ _ _ r n) z _ ?_ ?_
    · rw [ValueKit.rect_emb_unit_val]; simp
    · rw [ValueKit.rect_emb_unit_val]; simp
  · refine down_piece x w g 0 (by omega) _ (fun r n => piece8 _ _ _ r n) z _ ?_ ?_
    · rw [ValueKit.rect_emb_unit_val]; simp
    · rw [ValueKit.rect_emb_unit_val]; simp

theorem down_idx0 : ∀ t : Fin cfg1.N, win1_0.index t = ![(grid1.coords t 0).val, 0, 0] := (by decide +kernel : ∀ t : Fin grid1.N, _)
theorem down_idx1 : ∀ t : Fin cfg1.N, win1_1.index t = ![0, (grid1.coords t 0).val, 0, (grid1.coords t 1).val] := (by decide +kernel : ∀ t : Fin grid1.N, _)
theorem down_idx2 : ∀ t : Fin cfg1.N, win1_2.index t = ![(grid1.coords t 0).val, 0, 0] := (by decide +kernel : ∀ t : Fin grid1.N, _)
theorem down_idx3 : ∀ t : Fin cfg1.N, win1_3.index t = ![(grid1.coords t 0).val, 0, (grid1.coords t 1).val] := (by decide +kernel : ∀ t : Fin grid1.N, _)

theorem down_blk0 (c : Dev nD) (t : Fin cfg1.N) (y : S1x2176x2048.Idx) :
    iblk1 V c 0 t y = at3 (V c main_v61) (grid1.coords t 0) (y 1).val (y 2).val := by
  have h0 : (y 0).val < 1 := (y 0).isLt
  blk_simp [iblk1]
  apply eq_at3 <;> blk_simp [down_idx0] <;> simp <;> omega

theorem down_blk1 (c : Dev nD) (t : Fin cfg1.N) (y : S1x1x2048x1024.Idx) :
    iblk1 V c 1 t y = at4 (V c main_arg4) 0 (grid1.coords t 0) (y 2).val (1024 * (grid1.coords t 1) + (y 3).val) := by
  have h0 : (y 0).val < 1 := (y 0).isLt
  have h1 : (y 1).val < 1 := (y 1).isLt
  blk_simp [iblk1]
  apply eq_at4 <;> blk_simp [down_idx1] <;> simp <;> omega

theorem down_blk2 (c : Dev nD) (t : Fin cfg1.N) (y : S1x16x2176.Idx) :
    iblk1 V c 2 t y = at3 (V c main_v52) (grid1.coords t 0) (y 1).val (y 2).val := by
  have h0 : (y 0).val < 1 := (y 0).isLt
  blk_simp [iblk1]
  apply eq_at3 <;> blk_simp [down_idx2] <;> simp <;> omega

/-- The result as a function of expert, row and column. -/
def outp (X : S16x2176x2048.Idx → EReal) (A : S2x16x2048x2048.Idx → EReal) (G : S16x16x2176.Idx → EReal) : S16x2176x2048.Idx → EReal := fun y =>
  (∑ k : Fin 2048, at3 X (y 0).val (y 1).val k * at4 A 0 (y 0).val k (y 2).val) * ∑ k : Fin 16, at3 G (y 0).val k (y 1).val * 1

theorem down_final (c : Dev nD) : (dat1 V c).arrAt 3 cfg1.N = outp (V c main_v61) (V c main_arg4) (V c main_v52) := by
  refine (dat1 V c).arrAt_eq_of_covers 3 _ (by decide +kernel) fun t hf y => ?_
  blk_simp
  rw [after1_3]
  refine (down_at _ _ _ y).trans ?_
  have h0 : (y 0).val < 1 := (y 0).isLt
  unfold down outp
  refine congrArg₂ (· * ·) (Finset.sum_congr rfl fun k _ => ?_) (Finset.sum_congr rfl fun k _ => ?_)
  · rw [down_blk0, down_blk1]
    blk_simp [down_idx3]
    simp only [Matrix.cons_val_zero, Matrix.cons_val_one, Matrix.cons_val]
    congr 2 <;> first | rfl | (simp; try omega)
  · rw [down_blk2]
    blk_simp [down_idx3]

end Cert.Kernel2Ideal.Moe

end
-- ==== Proof.MoeRefImg.lean ====
/- The reference's image tokens, read at an index. -/
module

public import proofs.«01_k».proof.Proof.Gen.Reference2Ideal.Read
public import Idealize.ShloMosaic.Lib.Pointwise

@[expose] public section

set_option maxRecDepth 16384

noncomputable section

namespace Cert.Reference2Ideal.Img

open Cert.Reference2Ideal Cert.Reference2Ideal.Gen Cert.Reference2Ideal.Read Idealize.ShloMosaic Idealize.ShloMosaic.TcCoe Idealize.SL.Sem

theorem toInt_nat (t : ℕ) (h : t < 4096) : (BitVec.ofNat 32 t).toInt = (t : ℤ) := by
  rw [BitVec.toInt_eq_toNat_of_lt (by rw [BitVec.toNat_ofNat]; omega), BitVec.toNat_ofNat]; omega

theorem slt_zero (t : ℕ) (h : t < 4096) : (BitVec.ofNat 32 t).slt 0#32 = false := by
  rw [BitVec.slt_eq_decide, toInt_nat t h]; simp

variable (x0 : (⟨S4x4352x2048, .bf16⟩ : BufTy).Contents (Elt Ideal)) (x1 : (⟨S4x4352x16, .f32⟩ : BufTy).Contents (Elt Ideal))
  (x2 x3 x4 : (⟨S2x16x2048x2048, .f32⟩ : BufTy).Contents (Elt Ideal))

/-- The first of a pair of indices: the batch. -/
theorem pair_batch (b : Fin 4) (e : Fin 16) (c : Fin 512) : val_main_v36 (F := Ideal) x1 (ix4 b e c 0) = BitVec.ofNat 32 b.val := by
  have h : val_main_v36 (F := Ideal) x1 (ix4 b e c 0) = val_main_v27 (F := Ideal) (ix3 b 0 0) := by
    pointwise [val_main_v36, val_main_v34, val_main_v33]
  rw [h]
  pointwise [val_main_v27, val_main_v26, val_main_v25, val_main_v24, val_main_v23, val_main_v22, val_main_v21, val_main_c, val_main_c_2]
  simp [IntOp.cmpi, Scalar.select, slt_zero b.val (by omega)]

/-- The second: the token. -/
theorem pair_token (b : Fin 4) (e : Fin 16) (c : Fin 512) (n : ℕ) (hn : n < 4096)
    (h : val_main_indices (F := Ideal) x1 (ix3 b e c) = BitVec.ofNat 32 n) : val_main_v36 (F := Ideal) x1 (ix4 b e c 1) = BitVec.ofNat 32 n := by
  have h' : val_main_v36 (F := Ideal) x1 (ix4 b e c 1) = val_main_v32 (F := Ideal) x1 (ix3 b e c) := by
    pointwise [val_main_v36, val_main_v35]
  rw [h']
  pointwise [val_main_v32, val_main_v31, val_main_v30, val_main_v29, val_main_v28, val_main_c_3, val_main_c_4]
  rw [h]
  simp [IntOp.cmpi, Scalar.select, slt_zero n hn]

/-- The token a pair names. -/
theorem token_at (b : Fin 4) (e : Fin 16) (c : Fin 512) (n : Fin 4096) (d : Fin 2048)
    (h : val_main_indices (F := Ideal) x1 (ix3 b e c) = BitVec.ofNat 32 n.val) :
    val_main_v37 (F := Ideal) x0 x1 (ix4 b e c d) = x0 (ix3 b ⟨0 + n.val, by omega⟩ d) := by
  have g : val_main_v37 (F := Ideal) x0 x1 (ix4 b e c d) = val_main_v1 (F := Ideal) x0 (ix3 b n d) := by
    have hb := pair_batch x1 b e c
    have ht := pair_token x1 b e c n.val (by omega) h
    unfold val_main_v37
    generalize val_main_v1 (F := Ideal) x0 = z
    generalize val_main_v36 (F := Ideal) x1 = y at hb ht
    unfold Host.gather
    congr 1
    have s0 : gather_S4x4096x2048_S4x16x512x2_S4x16x512x2048_3_01_n_n_01_3_112048.siIdx (ix4 b e c d) ⟨0, by decide⟩ = ix4 b e c 0 := by
      funext a; refine Fin.ext ?_
      match a with
      | ⟨0, _⟩ => rfl
      | ⟨1, _⟩ => rfl
      | ⟨2, _⟩ => rfl
      | ⟨3, _⟩ => rfl
    have s1 : gather_S4x4096x2048_S4x16x512x2_S4x16x512x2048_3_01_n_n_01_3_112048.siIdx (ix4 b e c d) ⟨1, by decide⟩ = ix4 b e c 1 := by
      funext a; refine Fin.ext ?_
      match a with
      | ⟨0, _⟩ => rfl
      | ⟨1, _⟩ => rfl
      | ⟨2, _⟩ => rfl
      | ⟨3, _⟩ => rfl
    funext a
    refine Fin.ext ?_
    match a with
    | ⟨0, _⟩ =>
      show min (BitVec.toInt (y (gather_S4x4096x2048_S4x16x512x2_S4x16x512x2048_3_01_n_n_01_3_112048.siIdx (ix4 b e c d) ⟨0, _⟩))).toNat 3 + 0 + 0 = b.val
      rw [s0, hb, toInt_nat _ (by omega)]; omega
    | ⟨1, _⟩ =>
      show min (BitVec.toInt (y (gather_S4x4096x2048_S4x16x512x2_S4x16x512x2048_3_01_n_n_01_3_112048.siIdx (ix4 b e c d) ⟨1, _⟩))).toNat 4095 + 0 + 0 = n.val
      rw [s1, ht, toInt_nat _ (by omega)]; omega
    | ⟨2, _⟩ => show 0 + 0 + d.val = d.val; omega
  rw [g]
  pointwise [val_main_v1, val_main_v0]

theorem gate_dot (e : Fin 16) (f : Fin 2048) (b : Fin 4) (c : Fin 512) :
    val_main_v38 (F := Ideal) x0 x1 x2 (ix4 e f b c) = ∑ k : Fin 2048, x2 (ix4 0 e k f) * val_main_v37 (F := Ideal) x0 x1 (ix4 b e c k) := by
  pointwise [val_main_v38, val_main_v4, val_main_v3]

theorem up_dot (e : Fin 16) (f : Fin 2048) (b : Fin 4) (c : Fin 512) :
    val_main_v40 (F := Ideal) x0 x1 x3 (ix4 e f b c) = ∑ k : Fin 2048, x3 (ix4 0 e k f) * val_main_v37 (F := Ideal) x0 x1 (ix4 b e c k) := by
  pointwise [val_main_v40, val_main_v6, val_main_v5]

theorem hidden_at (b : Fin 4) (e : Fin 16) (c : Fin 512) (f : Fin 2048) :
    val_main_v43 (F := Ideal) x0 x1 x2 x3 (ix4 b e c f)
      = val_main_v38 (F := Ideal) x0 x1 x2 (ix4 e f b c) * Ideal.logistic (val_main_v38 (F := Ideal) x0 x1 x2 (ix4 e f b c))
        * val_main_v40 (F := Ideal) x0 x1 x3 (ix4 e f b c) := by
  have h39 : val_main_v39 (F := Ideal) x0 x1 x2 (ix4 b e c f) = val_main_v38 (F := Ideal) x0 x1 x2 (ix4 e f b c) := by
    pointwise [val_main_v39]
  have h41 : val_main_v41 (F := Ideal) x0 x1 x3 (ix4 b e c f) = val_main_v40 (F := Ideal) x0 x1 x3 (ix4 e f b c) := by
    pointwise [val_main_v41]
  have h5 : val_main_call0_v5 (F := Ideal) x0 x1 x2 (ix4 b e c f) = Ideal.logistic (val_main_v39 (F := Ideal) x0 x1 x2 (ix4 b e c f)) := by
    pointwise [val_main_call0_v5, val_main_call0_v4, val_main_call0_v3, val_main_call0_v2, val_main_call0_v1, val_main_call0_v0, val_main_call0_cst, val_main_call0_cst_0]
    rfl
  rw [val_main_v43_apply, val_main_v42_apply, h5, h39, h41]
  rfl

theorem down_dot (e : Fin 16) (n : Fin 2048) (b : Fin 4) (c : Fin 512) :
    val_main_v44 (F := Ideal) x0 x1 x2 x3 x4 (ix4 e n b c) = ∑ k : Fin 2048, x4 (ix4 0 e k n) * val_main_v43 (F := Ideal) x0 x1 x2 x3 (ix4 b e c k) := by
  pointwise [val_main_v44, val_main_v8, val_main_v7]

/-- A token's output of one expert. -/
theorem weighted_at (b : Fin 4) (e : Fin 16) (c : Fin 512) (n : Fin 2048) :
    val_main_v48 (F := Ideal) x0 x1 x2 x3 x4 (ix4 b e c n)
      = val_main_v44 (F := Ideal) x0 x1 x2 x3 x4 (ix4 e n b c) * val_main_values (F := Ideal) x1 (ix3 b e c) := by
  pointwise [val_main_v48, val_main_v47, val_main_v46, val_main_v45]

end Cert.Reference2Ideal.Img

end
-- ==== Proof.MoeRefCtx.lean ====
/- The reference's context tokens, read at an index. -/
module

public import proofs.«01_k».proof.Proof.Gen.Reference2Ideal.Read
public import Idealize.ShloMosaic.Lib.Pointwise

@[expose] public section

set_option maxRecDepth 16384

noncomputable section

namespace Cert.Reference2Ideal.Ctx

open Cert.Reference2Ideal Cert.Reference2Ideal.Gen Cert.Reference2Ideal.Read Idealize.ShloMosaic Idealize.ShloMosaic.TcCoe Idealize.SL.Sem

theorem toInt_nat (t : ℕ) (h : t < 4096) : (BitVec.ofNat 32 t).toInt = (t : ℤ) := by
  rw [BitVec.toInt_eq_toNat_of_lt (by rw [BitVec.toNat_ofNat]; omega), BitVec.toNat_ofNat]; omega

theorem slt_zero (t : ℕ) (h : t < 4096) : (BitVec.ofNat 32 t).slt 0#32 = false := by
  rw [BitVec.slt_eq_decide, toInt_nat t h]; simp

variable (x0 : (⟨S4x4352x2048, .bf16⟩ : BufTy).Contents (Elt Ideal)) (x1 : (⟨S4x4352x16, .f32⟩ : BufTy).Contents (Elt Ideal))
  (x2 x3 x4 : (⟨S2x16x2048x2048, .f32⟩ : BufTy).Contents (Elt Ideal))

/-- The first of a pair of indices: the batch. -/
theorem pair_batch (b : Fin 4) (e : Fin 16) (c : Fin 32) : val_main_v84 (F := Ideal) x1 (ix4 b e c 0) = BitVec.ofNat 32 b.val := by
  have h : val_main_v84 (F := Ideal) x1 (ix4 b e c 0) = val_main_v75 (F := Ideal) (ix3 b 0 0) := by
    pointwise [val_main_v84, val_main_v82, val_main_v81]
  rw [h]
  pointwise [val_main_v75, val_main_v74, val_main_v73, val_main_v72, val_main_v71, val_main_v70, val_main_v69, val_main_c_10, val_main_c_11]
  simp [IntOp.cmpi, Scalar.select, slt_zero b.val (by omega)]

/-- The second: the token. -/
theorem pair_token (b : Fin 4) (e : Fin 16) (c : Fin 32) (n : ℕ) (hn : n < 4096)
    (h : val_main_indices_9 (F := Ideal) x1 (ix3 b e c) = BitVec.ofNat 32 n) : val_main_v84 (F := Ideal) x1 (ix4 b e c 1) = BitVec.ofNat 32 n := by
  have h' : val_main_v84 (F := Ideal) x1 (ix4 b e c 1) = val_main_v80 (F := Ideal) x1 (ix3 b e c) := by
    pointwise [val_main_v84, val_main_v83]
  rw [h']
  pointwise [val_main_v80, val_main_v79, val_main_v78, val_main_v77, val_main_v76, val_main_c_12, val_main_c_13]
  rw [h]
  simp [IntOp.cmpi, Scalar.select, slt_zero n hn]

/-- The token a pair names. -/
theorem token_at (b : Fin 4) (e : Fin 16) (c : Fin 32) (n : Fin 256) (d : Fin 2048)
    (h : val_main_indices_9 (F := Ideal) x1 (ix3 b e c) = BitVec.ofNat 32 n.val) :
    val_main_v85 (F := Ideal) x0 x1 (ix4 b e c d) = x0 (ix3 b ⟨4096 + n.val, by omega⟩ d) := by
  have g : val_main_v85 (F := Ideal) x0 x1 (ix4 b e c d) = val_main_v49 (F := Ideal) x0 (ix3 b n d) := by
    have hb := pair_batch x1 b e c
    have ht := pair_token x1 b e c n.val (by omega) h
    unfold val_main_v85
    generalize val_main_v49 (F := Ideal) x0 = z
    generalize val_main_v84 (F := Ideal) x1 = y at hb ht
    unfold Host.gather
    congr 1
    have s0 : gather_S4x256x2048_S4x16x32x2_S4x16x32x2048_3_01_n_n_01_3_112048.siIdx (ix4 b e c d) ⟨0, by decide⟩ = ix4 b e c 0 := by
      funext a; refine Fin.ext ?_
      match a with
      | ⟨0, _⟩ => rfl
      | ⟨1, _⟩ => rfl
      | ⟨2, _⟩ => rfl
      | ⟨3, _⟩ => rfl
    have s1 : gather_S4x256x2048_S4x16x32x2_S4x16x32x2048_3_01_n_n_01_3_112048.siIdx (ix4 b e c d) ⟨1, by decide⟩ = ix4 b e c 1 := by
      funext a; refine Fin.ext ?_
      match a with
      | ⟨0, _⟩ => rfl
      | ⟨1, _⟩ => rfl
      | ⟨2, _⟩ => rfl
      | ⟨3, _⟩ => rfl
    funext a
    refine Fin.ext ?_
    match a with
    | ⟨0, _⟩ =>
      show min (BitVec.toInt (y (gather_S4x256x2048_S4x16x32x2_S4x16x32x2048_3_01_n_n_01_3_112048.siIdx (ix4 b e c d) ⟨0, _⟩))).toNat 3 + 0 + 0 = b.val
      rw [s0, hb, toInt_nat _ (by omega)]; omega
    | ⟨1, _⟩ =>
      show min (BitVec.toInt (y (gather_S4x256x2048_S4x16x32x2_S4x16x32x2048_3_01_n_n_01_3_112048.siIdx (ix4 b e c d) ⟨1, _⟩))).toNat 255 + 0 + 0 = n.val
      rw [s1, ht, toInt_nat _ (by omega)]; omega
    | ⟨2, _⟩ => show 0 + 0 + d.val = d.val; omega
  rw [g]
  pointwise [val_main_v49, val_main_v0]

theorem gate_dot (e : Fin 16) (f : Fin 2048) (b : Fin 4) (c : Fin 32) :
    val_main_v86 (F := Ideal) x0 x1 x2 (ix4 e f b c) = ∑ k : Fin 2048, x2 (ix4 0 e k f) * val_main_v85 (F := Ideal) x0 x1 (ix4 b e c k) := by
  pointwise [val_main_v86, val_main_v52, val_main_v51]

theorem up_dot (e : Fin 16) (f : Fin 2048) (b : Fin 4) (c : Fin 32) :
    val_main_v88 (F := Ideal) x0 x1 x3 (ix4 e f b c) = ∑ k : Fin 2048, x3 (ix4 0 e k f) * val_main_v85 (F := Ideal) x0 x1 (ix4 b e c k) := by
  pointwise [val_main_v88, val_main_v54, val_main_v53]

theorem hidden_at (b : Fin 4) (e : Fin 16) (c : Fin 32) (f : Fin 2048) :
    val_main_v91 (F := Ideal) x0 x1 x2 x3 (ix4 b e c f)
      = val_main_v86 (F := Ideal) x0 x1 x2 (ix4 e f b c) * Ideal.logistic (val_main_v86 (F := Ideal) x0 x1 x2 (ix4 e f b c))
        * val_main_v88 (F := Ideal) x0 x1 x3 (ix4 e f b c) := by
  have h39 : val_main_v87 (F := Ideal) x0 x1 x2 (ix4 b e c f) = val_main_v86 (F := Ideal) x0 x1 x2 (ix4 e f b c) := by
    pointwise [val_main_v87]
  have h41 : val_main_v89 (F := Ideal) x0 x1 x3 (ix4 b e c f) = val_main_v88 (F := Ideal) x0 x1 x3 (ix4 e f b c) := by
    pointwise [val_main_v89]
  have h5 : val_main_call1_v5 (F := Ideal) x0 x1 x2 (ix4 b e c f) = Ideal.logistic (val_main_v87 (F := Ideal) x0 x1 x2 (ix4 b e c f)) := by
    pointwise [val_main_call1_v5, val_main_call1_v4, val_main_call1_v3, val_main_call1_v2, val_main_call1_v1, val_main_call1_v0, val_main_call1_cst, val_main_call1_cst_0]
    rfl
  rw [val_main_v91_apply, val_main_v90_apply, h5, h39, h41]
  rfl

theorem down_dot (e : Fin 16) (n : Fin 2048) (b : Fin 4) (c : Fin 32) :
    val_main_v92 (F := Ideal) x0 x1 x2 x3 x4 (ix4 e n b c) = ∑ k : Fin 2048, x4 (ix4 0 e k n) * val_main_v91 (F := Ideal) x0 x1 x2 x3 (ix4 b e c k) := by
  pointwise [val_main_v92, val_main_v56, val_main_v55]

/-- A token's output of one expert. -/
theorem weighted_at (b : Fin 4) (e : Fin 16) (c : Fin 32) (n : Fin 2048) :
    val_main_v96 (F := Ideal) x0 x1 x2 x3 x4 (ix4 b e c n)
      = val_main_v92 (F := Ideal) x0 x1 x2 x3 x4 (ix4 e n b c) * val_main_values_8 (F := Ideal) x1 (ix3 b e c) := by
  pointwise [val_main_v96, val_main_v95, val_main_v94, val_main_v93]

end Cert.Reference2Ideal.Ctx

end
-- ==== Proof.MoeStack.lean ====
/- The reference's result, image tokens then context tokens of each batch, read at an index. -/
module

public import proofs.«01_k».proof.Proof.Gen.Reference2Ideal.Read
public import Idealize.ShloMosaic.Lib.Pointwise

@[expose] public section

set_option maxRecDepth 16384

noncomputable section

namespace Cert.Reference2Ideal.Stack

open Cert.Reference2Ideal Cert.Reference2Ideal.Gen Cert.Reference2Ideal.Read Idealize.ShloMosaic Idealize.ShloMosaic.TcCoe Idealize.SL.Sem

variable (x0 : (⟨S4x4352x2048, .bf16⟩ : BufTy).Contents (Elt Ideal)) (x1 : (⟨S4x4352x16, .f32⟩ : BufTy).Contents (Elt Ideal))
  (x2 x3 x4 : (⟨S2x16x2048x2048, .f32⟩ : BufTy).Contents (Elt Ideal))

theorem stacked (e : Fin 16) (b : Fin 4) (c : Fin 544) (n : Fin 2048) :
    val_main_v100 (F := Ideal) x0 x1 x2 x3 x4 (ix3 e ⟨b.val * 544 + c.val, by omega⟩ n) = val_main_v97 (F := Ideal) x0 x1 x2 x3 x4 (ix4 b e c n) := by
  have h : val_main_v100 (F := Ideal) x0 x1 x2 x3 x4 (ix3 e ⟨b.val * 544 + c.val, by omega⟩ n) = val_main_v98 (F := Ideal) x0 x1 x2 x3 x4 (ix4 e b c n) := by
    rw [val_main_v100_apply, val_main_v99_apply]
    refine congrArg (val_main_v98 (F := Ideal) x0 x1 x2 x3 x4) (funext fun a => Fin.ext ?_)
    match a with
    | ⟨0, _⟩ => show ((e.val * 2176 + (b.val * 544 + c.val)) * 2048 + n.val) / 4456448 = e.val; omega
    | ⟨1, _⟩ => show ((e.val * 2176 + (b.val * 544 + c.val)) * 2048 + n.val) / 1114112 % 4 = b.val; omega
    | ⟨2, _⟩ => show ((e.val * 2176 + (b.val * 544 + c.val)) * 2048 + n.val) / 2048 % 544 = c.val; omega
    | ⟨3, _⟩ => show ((e.val * 2176 + (b.val * 544 + c.val)) * 2048 + n.val) % 2048 = n.val; omega
  rw [h]
  pointwise [val_main_v98]

theorem stacked_img (e : Fin 16) (b : Fin 4) (c : Fin 512) (n : Fin 2048) :
    val_main_v97 (F := Ideal) x0 x1 x2 x3 x4 (ix4 b e ⟨c.val, by omega⟩ n) = val_main_v48 (F := Ideal) x0 x1 x2 x3 x4 (ix4 b e c n) := by
  pointwise [val_main_v97]

theorem stacked_ctx (e : Fin 16) (b : Fin 4) (c : Fin 32) (n : Fin 2048) :
    val_main_v97 (F := Ideal) x0 x1 x2 x3 x4 (ix4 b e ⟨512 + c.val, by omega⟩ n) = val_main_v96 (F := Ideal) x0 x1 x2 x3 x4 (ix4 b e c n) := by
  pointwise [val_main_v97]

end Cert.Reference2Ideal.Stack

end
-- ==== Proof.MoeSame.lean ====
/- The two launches over what the host prepares compute what the reference does. -/
module

public import proofs.«01_k».proof.Proof.MoeHostAt
public import proofs.«01_k».proof.Proof.MoeUp
public import proofs.«01_k».proof.Proof.MoeDown
public import proofs.«01_k».proof.Proof.MoeRefImg
public import proofs.«01_k».proof.Proof.MoeRefCtx
public import proofs.«01_k».proof.Proof.MoeStack

@[expose] public section

set_option maxRecDepth 16384

noncomputable section

namespace Cert.Kernel2Ideal.Moe

open Cert.At Cert.Kernel2Ideal Cert.Kernel2Ideal.Gen Idealize.ShloMosaic Idealize.ShloMosaic.TcCoe Idealize.SL.Sem

section Read

open Cert.Reference2Ideal.Read Cert.Reference2Ideal.Stack

theorem soft_eq (x : FVec Ideal S4x4352x16 .f32) : val_main_v20 (F := Ideal) x = soft x := rfl

theorem softCtx_eq (x : FVec Ideal S4x4352x16 .f32) : val_main_v68 (F := Ideal) x = softCtx x := rfl

theorem values_eq (x : FVec Ideal S4x4352x16 .f32) : val_main_values (F := Ideal) x = best (soft x) := by
  unfold val_main_values best; rw [soft_eq]

theorem valuesCtx_eq (x : FVec Ideal S4x4352x16 .f32) : val_main_values_8 (F := Ideal) x = bestCtx (softCtx x) := by
  unfold val_main_values_8 bestCtx; rw [softCtx_eq]

theorem bestIdx_at (z : FVec Ideal S4x16x4096 .f32) (i : S4x16x512.Idx) :
    bestIdx z i = (Host.topK S4x16x512 2 (FloatOps.cmpfTotal (F := Ideal) .gt) z sliceFits_S4x16x4096_S4x16x512).2 i + 0#32 := rfl

theorem bestCtxIdx_at (z : FVec Ideal S4x16x256 .f32) (i : S4x16x32.Idx) :
    bestCtxIdx z i = (Host.topK S4x16x32 2 (FloatOps.cmpfTotal (F := Ideal) .gt) z sliceFits_S4x16x256_S4x16x32).2 i + 4096#32 := rfl

/-- The image tokens chosen, and their weights. -/
theorem chosen (x : FVec Ideal S4x4352x16 .f32) : ∃ p : Fin 4 → Fin 16 → Fin 512 → Fin 4096, ∀ b e c,
    val_main_values (F := Ideal) x (ix3 b e c) ≠ ⊤ ∧ val_main_indices (F := Ideal) x (ix3 b e c) = BitVec.ofNat 32 (p b e c).val
      ∧ bestIdx (soft x) (ix3 b e c) = BitVec.ofNat 32 (p b e c).val := by
  obtain ⟨p, hp⟩ := Cert.TopK.spec (FloatOps.cmpfTotal (F := Ideal) (φ := .f32) .gt) (soft x) sliceFits_S4x16x4096_S4x16x512
  refine ⟨p, fun b e c => ⟨?_, (hp b e c).2, ?_⟩⟩
  · rw [values_eq]
    exact fun h => soft_ne_top x b e (p b e c) ((hp b e c).1.symm.trans h)
  · rw [bestIdx_at, BitVec.add_zero]
    exact (hp b e c).2

/-- The context tokens chosen, and their weights. -/
theorem chosenCtx (x : FVec Ideal S4x4352x16 .f32) : ∃ p : Fin 4 → Fin 16 → Fin 32 → Fin 256, ∀ b e c,
    val_main_values_8 (F := Ideal) x (ix3 b e c) ≠ ⊤ ∧ val_main_indices_9 (F := Ideal) x (ix3 b e c) = BitVec.ofNat 32 (p b e c).val
      ∧ bestCtxIdx (softCtx x) (ix3 b e c) = BitVec.ofNat 32 (4096 + (p b e c).val) := by
  obtain ⟨p, hp⟩ := Cert.TopK.spec (FloatOps.cmpfTotal (F := Ideal) (φ := .f32) .gt) (softCtx x) sliceFits_S4x16x256_S4x16x32
  refine ⟨p, fun b e c => ⟨?_, (hp b e c).2, ?_⟩⟩
  · rw [valuesCtx_eq]
    exact fun h => softCtx_ne_top x b e (p b e c) ((hp b e c).1.symm.trans h)
  · rw [bestCtxIdx_at, Nat.add_comm, BitVec.ofNat_add]
    exact congrArg (· + 4096#32) (hp b e c).2

variable (x0 : FVec Ideal S4x4352x2048 .bf16) (x1 : FVec Ideal S4x4352x16 .f32) (x2 x3 x4 : FVec Ideal S2x16x2048x2048 .f32)

/-- The table row of a token of a batch. -/
theorem row_of (b : Fin 4) (n : ℕ) : BitVec.ofNat 32 n + BitVec.ofNat 32 b.val * 4352#32 = BitVec.ofNat 32 (b.val * 4352 + n) := by
  rw [Nat.add_comm, BitVec.ofNat_add, BitVec.ofNat_mul]

/-- An expert's row is the token it names, its weight's rows sum to the weight. -/
theorem piece (b : Fin 4) (e : Fin 16) (c : Fin 544) (n : Fin 2048) (t : Fin 4352) (g : EReal)
    (ht : tokens x1 (ix3 b e c) = BitVec.ofNat 32 t.val) (hg : weights x1 (ix3 b e c) = g) (htop : g ≠ ⊤) :
    outp (hid (taken x0 (rows (tokens x1))) x2 x3) x4 (gates (flat (weights x1))) (ix3 e ⟨b.val * 544 + c.val, by omega⟩ n)
      = (∑ f : Fin 2048, gated (∑ k : Fin 2048, x0 (ix3 b t k) * x2 (ix4 0 e k f)) (∑ k : Fin 2048, x0 (ix3 b t k) * x3 (ix4 0 e k f)) * x4 (ix4 0 e f n)) * g := by
  have hx : ∀ k : Fin 2048, taken x0 (rows (tokens x1)) (ix3 e ⟨b.val * 544 + c.val, by omega⟩ k) = x0 (ix3 b t k) := fun k =>
    taken_at x0 _ e _ b t k (by rw [rows_at, ht, row_of])
  have hw : flat (weights x1) (ix3 e 0 ⟨b.val * 544 + c.val, by omega⟩) = g := by rw [flat_at, hg]
  have hsum := gates_sum (flat (weights x1)) e ⟨b.val * 544 + c.val, by omega⟩ (by rw [hw]; exact htop)
  rw [hw] at hsum
  have hh : ∀ f : Fin 2048, at3 (hid (taken x0 (rows (tokens x1))) x2 x3) e.val (b.val * 544 + c.val) f.val
      = gated (∑ k : Fin 2048, x0 (ix3 b t k) * x2 (ix4 0 e k f)) (∑ k : Fin 2048, x0 (ix3 b t k) * x3 (ix4 0 e k f)) := by
    intro f
    refine (at3_mk (hid (taken x0 (rows (tokens x1))) x2 x3) e ⟨b.val * 544 + c.val, by omega⟩ f).trans ?_
    refine congrArg₂ gated (Finset.sum_congr rfl fun k _ => congrArg₂ (· * ·) ?_ ?_) (Finset.sum_congr rfl fun k _ => congrArg₂ (· * ·) ?_ ?_)
    · exact (at3_mk (taken x0 (rows (tokens x1))) e ⟨b.val * 544 + c.val, by omega⟩ k).trans (hx k)
    · exact at4_mk x2 0 e k f
    · exact (at3_mk (taken x0 (rows (tokens x1))) e ⟨b.val * 544 + c.val, by omega⟩ k).trans (hx k)
    · exact at4_mk x3 0 e k f
  refine congrArg₂ (· * ·) (Finset.sum_congr rfl fun f _ => congrArg₂ (· * ·) (hh f) (at4_mk x4 0 e f n)) hsum

theorem img (e : Fin 16) (b : Fin 4) (c : Fin 512) (n : Fin 2048) (t : Fin 4352)
    (h : ∀ k : Fin 2048, val_main_v37 (F := Ideal) x0 x1 (ix4 b e c k) = x0 (ix3 b t k)) :
    val_main_v48 (F := Ideal) x0 x1 x2 x3 x4 (ix4 b e c n)
      = (∑ f : Fin 2048, gated (∑ k : Fin 2048, x0 (ix3 b t k) * x2 (ix4 0 e k f)) (∑ k : Fin 2048, x0 (ix3 b t k) * x3 (ix4 0 e k f)) * x4 (ix4 0 e f n))
        * val_main_values (F := Ideal) x1 (ix3 b e c) := by
  rw [Cert.Reference2Ideal.Img.weighted_at, Cert.Reference2Ideal.Img.down_dot]
  refine congrArg (· * val_main_values (F := Ideal) x1 (ix3 b e c)) (Finset.sum_congr rfl fun f _ => ?_)
  rw [Cert.Reference2Ideal.Img.hidden_at, Cert.Reference2Ideal.Img.gate_dot, Cert.Reference2Ideal.Img.up_dot, mul_comm]
  have hs : ∀ w : FVec Ideal S2x16x2048x2048 .f32, ∑ k : Fin 2048, w (ix4 0 e k f) * val_main_v37 (F := Ideal) x0 x1 (ix4 b e c k)
      = ∑ k : Fin 2048, x0 (ix3 b t k) * w (ix4 0 e k f) := fun w => Finset.sum_congr rfl fun k _ => by rw [h k]; exact mul_comm _ _
  exact congrArg (· * x4 (ix4 0 e f n)) (congrArg₂ gated (hs x2) (hs x3))

theorem ctx (e : Fin 16) (b : Fin 4) (c : Fin 32) (n : Fin 2048) (t : Fin 4352)
    (h : ∀ k : Fin 2048, val_main_v85 (F := Ideal) x0 x1 (ix4 b e c k) = x0 (ix3 b t k)) :
    val_main_v96 (F := Ideal) x0 x1 x2 x3 x4 (ix4 b e c n)
      = (∑ f : Fin 2048, gated (∑ k : Fin 2048, x0 (ix3 b t k) * x2 (ix4 0 e k f)) (∑ k : Fin 2048, x0 (ix3 b t k) * x3 (ix4 0 e k f)) * x4 (ix4 0 e f n))
        * val_main_values_8 (F := Ideal) x1 (ix3 b e c) := by
  rw [Cert.Reference2Ideal.Ctx.weighted_at, Cert.Reference2Ideal.Ctx.down_dot]
  refine congrArg (· * val_main_values_8 (F := Ideal) x1 (ix3 b e c)) (Finset.sum_congr rfl fun f _ => ?_)
  rw [Cert.Reference2Ideal.Ctx.hidden_at, Cert.Reference2Ideal.Ctx.gate_dot, Cert.Reference2Ideal.Ctx.up_dot, mul_comm]
  have hs : ∀ w : FVec Ideal S2x16x2048x2048 .f32, ∑ k : Fin 2048, w (ix4 0 e k f) * val_main_v85 (F := Ideal) x0 x1 (ix4 b e c k)
      = ∑ k : Fin 2048, x0 (ix3 b t k) * w (ix4 0 e k f) := fun w => Finset.sum_congr rfl fun k _ => by rw [h k]; exact mul_comm _ _
  exact congrArg (· * x4 (ix4 0 e f n)) (congrArg₂ gated (hs x2) (hs x3))

/-- Every entry of the result. -/
theorem same_at (b : Fin 4) (e : Fin 16) (c : Fin 544) (n : Fin 2048) :
    outp (hid (taken x0 (rows (tokens x1))) x2 x3) x4 (gates (flat (weights x1))) (ix3 e ⟨b.val * 544 + c.val, by omega⟩ n)
      = val_main_v100 (F := Ideal) x0 x1 x2 x3 x4 (ix3 e ⟨b.val * 544 + c.val, by omega⟩ n) := by
  rw [stacked x0 x1 x2 x3 x4 e b c n]
  by_cases hc : c.val < 512
  · obtain ⟨p, hp⟩ := chosen x1
    obtain ⟨htop, hi, ht⟩ := hp b e ⟨c.val, hc⟩
    rw [piece x0 x1 x2 x3 x4 b e c n ⟨0 + (p b e ⟨c.val, hc⟩).val, by omega⟩ _
      (by rw [Fin.val_mk, Nat.zero_add, ← ht]; exact joinedIdx_lo _ _ b e ⟨c.val, hc⟩)
      ((joined_lo _ _ b e ⟨c.val, hc⟩).trans (congrFun (values_eq x1).symm _)) htop]
    rw [← img x0 x1 x2 x3 x4 e b ⟨c.val, hc⟩ n _ fun k => Cert.Reference2Ideal.Img.token_at x0 x1 b e ⟨c.val, hc⟩ _ k hi]
    exact (stacked_img x0 x1 x2 x3 x4 e b ⟨c.val, hc⟩ n).symm
  · obtain ⟨d, hd⟩ : ∃ d : Fin 32, c = ⟨512 + d.val, by omega⟩ := ⟨⟨c.val - 512, by omega⟩, Fin.ext (by show c.val = 512 + (c.val - 512); omega)⟩
    rw [hd]
    obtain ⟨p, hp⟩ := chosenCtx x1
    obtain ⟨htop, hi, ht⟩ := hp b e d
    rw [piece x0 x1 x2 x3 x4 b e ⟨512 + d.val, by omega⟩ n ⟨4096 + (p b e d).val, by omega⟩ _
      ((joinedIdx_hi _ _ b e d).trans ht)
      ((joined_hi _ _ b e d).trans (congrFun (valuesCtx_eq x1).symm _)) htop]
    rw [← ctx x0 x1 x2 x3 x4 e b d n _ fun k => Cert.Reference2Ideal.Ctx.token_at x0 x1 b e d _ k hi]
    exact (stacked_ctx x0 x1 x2 x3 x4 e b d n).symm

/-- The whole result. -/
theorem same : outp (hid (taken x0 (rows (tokens x1))) x2 x3) x4 (gates (flat (weights x1))) = val_main_v100 (F := Ideal) x0 x1 x2 x3 x4 := by
  funext y
  have hq : (y 1).val < 2176 := (y 1).isLt
  have hy : y = ix3 ⟨(y 0).val, (y 0).isLt⟩ ⟨((⟨(y 1).val / 544, by omega⟩ : Fin 4)).val * 544 + ((⟨(y 1).val % 544, Nat.mod_lt _ (by decide)⟩ : Fin 544)).val,
      by show (y 1).val / 544 * 544 + (y 1).val % 544 < 2176; omega⟩ ⟨(y 2).val, (y 2).isLt⟩ := by
    funext a; refine Fin.ext ?_
    match a with
    | ⟨0, _⟩ => rfl
    | ⟨1, _⟩ => show (y 1).val = (y 1).val / 544 * 544 + (y 1).val % 544; omega
    | ⟨2, _⟩ => rfl
  rw [hy]
  exact same_at x0 x1 x2 x3 x4 _ _ _ _

end Read

end Cert.Kernel2Ideal.Moe

end
-- ==== Proof.MoeFinal.lean ====
/- The two launches' result, from the arguments. -/
module

public import proofs.«01_k».proof.Proof.MoeRun
public import proofs.«01_k».proof.Proof.MoeSame

@[expose] public section

set_option maxRecDepth 16384

noncomputable section

namespace Cert.Kernel2Ideal.Moe

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg)

theorem V1_up (c : Dev nD) : V1 m ρ c main_arg2 = m ((c.tc : Thread nD τ).loc main_arg2) := W1_args m ρ c _ (by decide)

theorem V1_gate (c : Dev nD) : V1 m ρ c main_arg3 = m ((c.tc : Thread nD τ).loc main_arg3) := W1_args m ρ c _ (by decide)

theorem V2_down (c : Dev nD) : V2 m ρ c main_arg4 = m ((c.tc : Thread nD τ).loc main_arg4) := W2_args m ρ c _ (by decide)

theorem V2_gates (c : Dev nD) : V2 m ρ c main_v52 = V1 m ρ c main_v52 := W2_of m ρ c _ (by decide)

theorem V2_hidden (c : Dev nD) : V2 m ρ c main_v61 = (dat0 (V1 m ρ) c).arrAt 3 cfg0.N := W2_arr m ρ c 3

/-- The result is the reference's. -/
theorem final (c : Dev nD) : (dat1 (V2 m ρ) c).arrAt 3 cfg1.N
    = Cert.Reference2Ideal.Read.val_main_v100 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rw [down_final, V2_hidden, V2_down, V2_gates, up_final, V1_up, V1_gate, V_gates, V_taken]
  exact same _ _ _ _ _

end Cert.Kernel2Ideal.Moe

end
-- ==== Proof.AtTwo.lean ====
/- Two-axis arrays read at natural-number coordinates. -/
module

public import proofs.«01_k».proof.Proof.At

@[expose] public section

noncomputable section

namespace Cert.At

open Idealize.ShloMosaic

variable {a b : ℕ}

/-- A two-axis array at coordinates; zero outside. -/
def at2 (A : (⟨2, ![a, b]⟩ : Shape).Idx → EReal) (x y : ℕ) : EReal :=
  if h : x < a ∧ y < b then A (ix2 ⟨x, h.1⟩ ⟨y, h.2⟩) else 0

theorem eq_at2 (A : (⟨2, ![a, b]⟩ : Shape).Idx → EReal) (i : (⟨2, ![a, b]⟩ : Shape).Idx) (x y : ℕ)
    (hx : (i 0).val = x) (hy : (i 1).val = y) : A i = at2 A x y := by
  subst hx hy
  have h : (i 0).val < a ∧ (i 1).val < b := ⟨(i 0).isLt, (i 1).isLt⟩
  unfold at2
  rw [dif_pos h]
  congr 1
  funext k
  fin_cases k <;> rfl

theorem at2_mk (A : (⟨2, ![a, b]⟩ : Shape).Idx → EReal) (x : Fin a) (y : Fin b) :
    at2 A x y = A (ix2 x y) := (eq_at2 A (ix2 x y) _ _ rfl rfl).symm

end Cert.At

end
-- ==== Proof.ProjEven.lean ====
/- The even layer's projection: every block holds its rows' products, so the array is one product. -/
module

public import proofs.«01_k».proof.Proof.AtTwo
public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Cert.At

variable (m : (ℓ : Loc nD τ sig) → Buf (Elt Ideal) ℓ)

theorem pay_apply (x : Vec Ideal S2176x2048 .bf16) (w : Vec Ideal S1x2048x1024 .f32) (r : Fin 2176) (n : Fin 1024) :
    k0_pay1 x w (ix2 r n) = ∑ k : Fin 2048, x (ix2 r k) * w (ix3 0 k n) := by
  pointwise [k0_pay1]

theorem pay_at (x : Vec Ideal S2176x2048 .bf16) (w : Vec Ideal S1x2048x1024 .f32) (y : S2176x1024.Idx) :
    k0_pay1 x w y = ∑ k : Fin 2048, x (ix2 (y 0) k) * w (ix3 0 k (y 1)) := by
  have hy : y = ix2 (y 0) (y 1) := by funext k; fin_cases k <;> rfl
  exact (congrArg (k0_pay1 x w) hy).trans (pay_apply x w _ _)

theorem idx0 : ∀ t : Fin cfg0.N, win0_0.index t = ![(grid0.coords t 1).val, 0] := (by decide +kernel : ∀ t : Fin grid0.N, _)
theorem idx1 : ∀ t : Fin cfg0.N, win0_1.index t = ![0, 0, (grid0.coords t 0).val] := (by decide +kernel : ∀ t : Fin grid0.N, _)
theorem idx2 : ∀ t : Fin cfg0.N, win0_2.index t = ![(grid0.coords t 1).val, (grid0.coords t 0).val] := (by decide +kernel : ∀ t : Fin grid0.N, _)

theorem blk0 (c : Dev nD) (t : Fin cfg0.N) (y : S2176x2048.Idx) :
    iblk m c 0 t y = at2 (V m c main_v0) (2176 * (grid0.coords t 1) + (y 0).val) (y 1).val := by
  blk_simp [iblk]
  apply eq_at2 <;> blk_simp [idx0] <;> simp <;> omega

theorem blk1 (c : Dev nD) (t : Fin cfg0.N) (y : S1x2048x1024.Idx) :
    iblk m c 1 t y = at3 (V m c main_arg1) 0 (y 1).val (1024 * (grid0.coords t 0) + (y 2).val) := by
  have h0 : (y 0).val < 1 := (y 0).isLt
  blk_simp [iblk]
  apply eq_at3 <;> blk_simp [idx1] <;> simp <;> omega

/-- The product as a function of its index. -/
def res (A : S17408x2048.Idx → EReal) (B : S1x2048x6144.Idx → EReal) : S17408x6144.Idx → EReal := fun y =>
  ∑ k : Fin 2048, at2 A (y 0).val k * at3 B 0 k (y 1).val

theorem final_o (c : Dev nD) : (dats m 0 c).arrAt 2 cfg0.N = res (V m c main_v0) (V m c main_arg1) := by
  refine (dats m 0 c).arrAt_eq_of_covers 2 _ (by decide +kernel) fun t hf y => ?_
  blk_simp
  rw [after0_2]
  frame_out
  refine (pay_at _ _ y).trans ?_
  unfold res
  refine Finset.sum_congr rfl fun k _ => ?_
  rw [blk0, blk1]
  blk_simp [idx2]
  simp only [Matrix.cons_val_zero, Matrix.cons_val_one, Matrix.cons_val]
  congr 2 <;> first | rfl | (simp; try omega)

/-- What the host hands the launch: the rows of all samples, one after the other. -/
theorem V_rows (c : Dev nD) : V m c main_v0 = shapeCast _ (m ((c.tc : Thread nD τ).loc main_arg0)) shapeCasts_S4x4352x2048_S17408x2048 := rfl

theorem rows_at (h : S4x4352x2048.Idx → EReal) (b : Fin 4) (t : Fin 4352) (k : Fin 2048) (r : ℕ) (hr : r = 4352 * b + t) :
    at2 (shapeCast _ h shapeCasts_S4x4352x2048_S17408x2048) r k = h (ix3 b t k) := by
  have hb := b.isLt
  have ht := t.isLt
  subst hr
  have hlt : 4352 * b.val + t.val < 17408 := by omega
  refine (at2_mk (a := 17408) (b := 2048) _ ⟨4352 * b.val + t.val, hlt⟩ k).trans ?_
  exact shapeCast_apply h shapeCasts_S4x4352x2048_S17408x2048 _ (ix3 b t k)
    (by rewrite [Shape.rowMajor_val_three, Shape.rowMajor_val_two]; show (b.val * 4352 + t.val) * 2048 + k.val = (4352 * b.val + t.val) * 2048 + k.val; omega)

theorem same (h : S4x4352x2048.Idx → EReal) (w : S1x2048x6144.Idx → EReal) :
    res (shapeCast _ h shapeCasts_S4x4352x2048_S17408x2048) w
      = Cert.Reference3Ideal.Read.val_main_v4 (F := Ideal) h w := by
  funext y
  have h0 : (y 0).val < 17408 := (y 0).isLt
  have h1 : (y 1).val < 6144 := (y 1).isLt
  rw [Cert.Reference3Ideal.Read.val_main_v4_apply, Cert.Reference3Ideal.Read.val_main_v3_apply]
  refine Eq.trans ?_ (Cert.Reference3Ideal.Read.val_main_v2_apply h w _).symm
  unfold res
  refine Finset.sum_congr rfl fun k _ => congrArg₂ (· * ·) ?_ ?_
  · refine (rows_at h ⟨(y 0).val / 4352, by omega⟩ ⟨(y 0).val % 4352, by omega⟩ k _ (by show _ = 4352 * ((y 0).val / 4352) + (y 0).val % 4352; omega)).trans ?_
    show h _ = h _
    congr 1
    funext a
    apply Fin.ext
    match a with
    | ⟨0, _⟩ => show (y 0).val / 4352 = ((y 0).val * 6144 + (y 1).val) / 26738688; omega
    | ⟨1, _⟩ => show (y 0).val % 4352 = ((y 0).val * 6144 + (y 1).val) / 6144 % 4352; omega
    | ⟨2, _⟩ => rfl
  · rw [Cert.Reference3Ideal.Read.val_main_v1_apply]
    symm
    apply eq_at3
    · rfl
    · show (k.val * 6144 + ((y 0).val * 6144 + (y 1).val) % 6144) / 6144 % 2048 = k.val
      have := k.isLt
      omega
    · show (k.val * 6144 + ((y 0).val * 6144 + (y 1).val) % 6144) % 6144 = (y 1).val
      omega

end Cert.Kernel3Ideal.Proj

end
-- ==== Proof.ProjOdd.lean ====
/- The odd layer's projection, by a transposed weight: every block holds its rows' products, so the array is one product. -/
module

public import proofs.«01_k».proof.Proof.AtTwo
public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Cert.At

variable (m : (ℓ : Loc nD τ sig) → Buf (Elt Ideal) ℓ)

theorem pay_apply (x : Vec Ideal S2176x2048 .bf16) (w : Vec Ideal S1024x2048 .f32) (r : Fin 2176) (n : Fin 1024) :
    k0_pay1 x w (ix2 r n) = ∑ k : Fin 2048, x (ix2 r k) * w (ix2 n k) := by
  pointwise [k0_pay1]

theorem pay_at (x : Vec Ideal S2176x2048 .bf16) (w : Vec Ideal S1024x2048 .f32) (y : S2176x1024.Idx) :
    k0_pay1 x w y = ∑ k : Fin 2048, x (ix2 (y 0) k) * w (ix2 (y 1) k) := by
  have hy : y = ix2 (y 0) (y 1) := by funext k; fin_cases k <;> rfl
  exact (congrArg (k0_pay1 x w) hy).trans (pay_apply x w _ _)

theorem idx0 : ∀ t : Fin cfg0.N, win0_0.index t = ![(grid0.coords t 1).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 1).val, (grid0.coords t 0).val] := (by decide +kernel : ∀ t : Fin grid0.N, _)

theorem blk0 (c : Dev nD) (t : Fin cfg0.N) (y : S2176x2048.Idx) :
    iblk m c 0 t y = at2 (V m c main_v2) (2176 * (grid0.coords t 1) + (y 0).val) (y 1).val := by
  blk_simp [iblk]
  apply eq_at2 <;> blk_simp [idx0] <;> simp <;> omega

theorem blk1 (c : Dev nD) (t : Fin cfg0.N) (y : S1024x2048.Idx) :
    X0_1 m c t y = at2 (V m c main_v1) (1024 * (grid0.coords t 0) + (y 0).val) (y 1).val := by
  unfold X0_1 Pipeline.Window.fill
  rw [dif_pos (moved0_1 t y)]
  blk_simp [iblk]
  apply eq_at2 <;> blk_simp [idx1] <;> simp <;> first | rfl | omega

/-- The product as a function of its index. -/
def res (A : S17408x2048.Idx → EReal) (B : S6176x2048.Idx → EReal) : S17408x6144.Idx → EReal := fun y =>
  ∑ k : Fin 2048, at2 A (y 0).val k * at2 B (y 1).val k

theorem final_o (c : Dev nD) : (dats m 0 c).arrAt 2 cfg0.N = res (V m c main_v2) (V m c main_v1) := by
  refine (dats m 0 c).arrAt_eq_of_covers 2 _ (by decide +kernel) fun t hf y => ?_
  blk_simp
  rw [after0_2]
  unfold outsAt0
  frame_out
  refine (pay_at _ _ y).trans ?_
  unfold res
  refine Finset.sum_congr rfl fun k _ => ?_
  rw [blk0, blk1]
  blk_simp [idx2]
  simp only [Matrix.cons_val_zero, Matrix.cons_val_one, Matrix.cons_val]
  congr 2 <;> first | rfl | (simp; try omega)

/-- What the host hands the launch: the rows of all samples, one after the other. -/
theorem V_rows (c : Dev nD) : V m c main_v2 = shapeCast _ (m ((c.tc : Thread nD τ).loc main_arg0)) shapeCasts_S4x4352x2048_S17408x2048 := rfl

theorem rows_at (h : S4x4352x2048.Idx → EReal) (b : Fin 4) (t : Fin 4352) (k : Fin 2048) (r : ℕ) (hr : r = 4352 * b + t) :
    at2 (shapeCast _ h shapeCasts_S4x4352x2048_S17408x2048) r k = h (ix3 b t k) := by
  have hb := b.isLt
  have ht := t.isLt
  subst hr
  have hlt : 4352 * b.val + t.val < 17408 := by omega
  refine (at2_mk (a := 17408) (b := 2048) _ ⟨4352 * b.val + t.val, hlt⟩ k).trans ?_
  exact shapeCast_apply h shapeCasts_S4x4352x2048_S17408x2048 _ (ix3 b t k)
    (by rewrite [Shape.rowMajor_val_three, Shape.rowMajor_val_two]; show (b.val * 4352 + t.val) * 2048 + k.val = (4352 * b.val + t.val) * 2048 + k.val; omega)

/-- What the host hands the launch for the weight: its transpose. -/
theorem V_weight (c : Dev nD) : V m c main_v1 = transpose S6176x2048 [1, 0]
    (shapeCast S2048x6176 (m ((c.tc : Thread nD τ).loc main_arg1)) shapeCasts_S1x2048x6176_S2048x6176) transposes_S2048x6176_S6176x2048_1_0 := rfl

theorem weight_at (w : S1x2048x6176.Idx → EReal) (n k : ℕ) (hn : n < 6176) (hk : k < 2048) :
    at2 (transpose S6176x2048 [1, 0] (shapeCast S2048x6176 w shapeCasts_S1x2048x6176_S2048x6176) transposes_S2048x6176_S6176x2048_1_0) n k
      = w (ix3 0 ⟨k, hk⟩ ⟨n, hn⟩) := by
  refine (at2_mk (a := 6176) (b := 2048) _ ⟨n, hn⟩ ⟨k, hk⟩).trans ?_
  pointwise

theorem same (h : S4x4352x2048.Idx → EReal) (w : S1x2048x6176.Idx → EReal) :
    res (shapeCast _ h shapeCasts_S4x4352x2048_S17408x2048)
        (transpose S6176x2048 [1, 0] (shapeCast S2048x6176 w shapeCasts_S1x2048x6176_S2048x6176) transposes_S2048x6176_S6176x2048_1_0)
      = Cert.Reference4Ideal.Read.val_main_v5 (F := Ideal) h w := by
  funext y
  have h0 : (y 0).val < 17408 := (y 0).isLt
  have h1 : (y 1).val < 6144 := (y 1).isLt
  rw [Cert.Reference4Ideal.Read.val_main_v5_apply, Cert.Reference4Ideal.Read.val_main_v4_apply]
  refine Eq.trans ?_ (((Cert.Reference4Ideal.Read.val_main_v3_apply (F := Ideal) h w (Cert.Reference4Ideal.Read.idx_main_v4 y)).trans (Cert.Reference4Ideal.Read.val_main_v2_apply h w _)).symm : _ = Cert.Reference4Ideal.Read.val_main_v3 (F := Ideal) h w (Cert.Reference4Ideal.Read.idx_main_v4 y))
  unfold res
  refine Finset.sum_congr rfl fun k _ => congrArg₂ (· * ·) ?_ ?_
  · refine (rows_at h ⟨(y 0).val / 4352, by omega⟩ ⟨(y 0).val % 4352, by omega⟩ k _ (by show _ = 4352 * ((y 0).val / 4352) + (y 0).val % 4352; omega)).trans ?_
    show h _ = h _
    congr 1
    funext a
    apply Fin.ext
    match a with
    | ⟨0, _⟩ => show (y 0).val / 4352 = ((y 0).val * 6144 + (y 1).val) / 26738688; omega
    | ⟨1, _⟩ => show (y 0).val % 4352 = ((y 0).val * 6144 + (y 1).val) / 6144 % 4352; omega
    | ⟨2, _⟩ => rfl
  · rw [Cert.Reference4Ideal.Read.val_main_v1_apply, weight_at _ _ _ (by omega) k.isLt]
    congr 1
    have := k.isLt
    funext a
    apply Fin.ext
    match a with
    | ⟨0, _⟩ => rfl
    | ⟨1, _⟩ =>
      show k.val = (k.val * 6176 + ((y 0).val * 6144 + (y 1).val) % 6144) / 6176 % 2048
      omega
    | ⟨2, _⟩ =>
      show (y 1).val = (k.val * 6176 + ((y 0).val * 6144 + (y 1).val) % 6144) % 6176
      omega

end Cert.Kernel4Ideal.Proj

end
-- ==== Proof.LateRun.lean ====
/- The two launches' run: the result is the second launch's array, over what the first left. -/
module

public import proofs.«01_k».proof.Proof.Gen.Kernel5Ideal.Frame

@[expose] public section

set_option maxRecDepth 16384

noncomputable section

namespace Cert.Kernel5Ideal.Moe

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run ends with the result's array as the second launch computes it, the arguments as launched. -/
theorem run : θ_run defs (onTc (τ := τ) (main (F := F))) ⟨m, fun _ => 0, ρ⟩ (fun r => ∀ c : Dev nD,
      r.2.mem ((c.tc : Thread nD τ).loc main_v44) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨(h c _ (mem_uc main_v44 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.Kernel5Ideal.Moe

end
-- ==== Proof.LateHost.lean ====
/- What the host prepares for the two launches: every expert's tokens, and every token's weight. -/
module

public import proofs.«01_k».proof.Proof.Gen.Kernel5Ideal.Frame
public import Idealize.ShloMosaic.Lib.Pointwise

@[expose] public section

set_option maxRecDepth 16384

noncomputable section

namespace Cert.Kernel5Ideal.Moe

open Cert.Kernel5Ideal Cert.Kernel5Ideal.Gen Idealize.ShloMosaic Idealize.ShloMosaic.TcCoe Idealize.SL.Sem

/-- The tokens' weights per expert. -/
def soft (x : FVec Ideal S4x4096x16 .f32) : FVec Ideal S4x16x4096 .f32 :=
  let e : FVec Ideal S4x4096x16 .f32 := Host.exp (subf x (broadcastInDim S4x4096x16 ![0, 1, 2] bcast_S4x4096x1_S4x4096x16_0_1_2
    (broadcastInDim S4x4096x1 ![0, 1] bcast_S4x4096_S4x4096x1_0_1
      (maximumf (broadcastInDim S4x4096 ![] bcast_S_S4x4096 (constant (F := Ideal) S_ .f32 0xFF800000#32))
        (Host.reduce FloatOps.maximumf x (constant (F := Ideal) S_ .f32 0xFF800000#32) reducesTo_S4x4096x16_S4x4096_d2 h_S_)))))
  transpose S4x16x4096 [0, 2, 1] (Host.divf e (broadcastInDim S4x4096x16 ![0, 1, 2] bcast_S4x4096x1_S4x4096x16_0_1_2
    (broadcastInDim S4x4096x1 ![0, 1] bcast_S4x4096_S4x4096x1_0_1
      (Host.reduceAdd e (constant (F := Ideal) S_ .f32 0x00000000#32) reducesTo_S4x4096x16_S4x4096_d2 h_S_))))
    transposes_S4x4096x16_S4x16x4096_0_2_1

/-- The chosen tokens' weights. -/
def best (z : FVec Ideal S4x16x4096 .f32) : FVec Ideal S4x16x512 .f32 :=
  (Host.topK S4x16x512 2 (FloatOps.cmpfTotal (F := Ideal) .gt) z sliceFits_S4x16x4096_S4x16x512).1

/-- The chosen tokens. -/
def bestIdx (z : FVec Ideal S4x16x4096 .f32) : IVec S4x16x512 32 :=
  addi (Host.topK S4x16x512 2 (FloatOps.cmpfTotal (F := Ideal) .gt) z sliceFits_S4x16x4096_S4x16x512).2
    (broadcastInDim S4x16x512 ![] bcast_S_S4x16x512 (constantI S_ 32 0#32))

/-- Every expert's rows in the table of all tokens. -/
def rows (t : IVec S4x16x512 32) : IVec S16x2048 32 :=
  shapeCast S16x2048 (transpose S16x4x512 [1, 0, 2]
    (addi t (broadcastInDim S4x16x512 ![0, 1, 2] bcast_S4x1x1_S4x16x512_0_1_2
      (muli (broadcastInDim S4x1x1 ![0] bcast_S4_S4x1x1_0 (iotaInDim S4 32 0))
        (broadcastInDim S4x1x1 ![] bcast_S_S4x1x1 (constantI S_ 32 4096#32)))))
    transposes_S4x16x512_S16x4x512_1_0_2) shapeCasts_S16x4x512_S16x2048

/-- Every expert's weights in one row. -/
def flat (g : FVec Ideal S4x16x512 .f32) : FVec Ideal S16x1x2048 .f32 :=
  shapeCast S16x1x2048 (transpose S16x4x512 [1, 0, 2] g transposes_S4x16x512_S16x4x512_1_0_2) shapeCasts_S16x4x512_S16x1x2048

/-- The weights in three parts, thirteen rows of zeros below. -/
def gates (w : FVec Ideal S16x1x2048 .f32) : FVec Ideal S16x16x2048 .bf16 :=
  let hi : FVec Ideal S16x1x2048 .bf16 := truncf .bf16 w bitsLt_bf16_f32
  let mid : FVec Ideal S16x1x2048 .bf16 := truncf .bf16 (subf w (extf .f32 hi bitsLt_bf16_f32)) bitsLt_bf16_f32
  let lo : FVec Ideal S16x1x2048 .bf16 := truncf .bf16 (subf (subf w (extf .f32 hi bitsLt_bf16_f32)) (extf .f32 mid bitsLt_bf16_f32)) bitsLt_bf16_f32
  concatenate S16x16x2048 1 [⟨S16x1x2048, hi⟩, ⟨S16x1x2048, mid⟩, ⟨S16x1x2048, lo⟩,
    ⟨S16x13x2048, broadcastInDim S16x13x2048 ![] bcast_S_S16x13x2048 (constant (F := Ideal) S_ .bf16 0x0000#16)⟩]
    concatenates_S16x1x2048_S16x1x2048_S16x1x2048_S16x13x2048_S16x16x2048_d1

/-- The rows as the table is read: one below zero counts from the end. -/
def wrapped (r : IVec S16x2048 32) : IVec S16x2048x1 32 :=
  broadcastInDim S16x2048x1 ![0, 1] bcast_S16x2048_S16x2048x1_0_1
    (select (cmpi .slt r (broadcastInDim S16x2048 ![] bcast_S_S16x2048 (constantI S_ 32 0#32)))
      (addi r (broadcastInDim S16x2048 ![] bcast_S_S16x2048 (constantI S_ 32 16384#32))) r)

/-- Every expert's tokens. -/
def taken (x : FVec Ideal S4x4096x2048 .bf16) (r : IVec S16x2048 32) : FVec Ideal S16x2048x2048 .bf16 :=
  Host.gather gather_S16384x2048_S16x2048x1_S16x2048x2048_2_0_n_n_0_2_12048
    (shapeCast S16384x2048 x shapeCasts_S4x4096x2048_S16384x2048) (wrapped r)

section Segments

open Idealize.ShloMosaic.StableHlo

variable {F : FTy → Type} [FloatOps F]

/-- The operations of the softmax. -/
abbrev opsA : List (HloOp τ sig (Elt F)) :=
  [ StableHlo.nullary main_cst (constant S_ .f32 0xFF800000#32)
  , StableHlo.binary main_arg1 main_cst main_v0 ((fun x v => Host.reduce FloatOps.maximumf x v reducesTo_S4x4096x16_S4x4096_d2 h_S_) : (⟨S4x4096x16, .f32⟩ : BufTy).Contents (Elt F) → (⟨S_, .f32⟩ : BufTy).Contents (Elt F) → (⟨S4x4096, .f32⟩ : BufTy).Contents (Elt F))
  , StableHlo.nullary main_cst_0 (constant S_ .f32 0xFF800000#32)
  , StableHlo.unary main_cst_0 main_v1 (broadcastInDim S4x4096 ![] bcast_S_S4x4096 : (⟨S_, .f32⟩ : BufTy).Contents (Elt F) → (⟨S4x4096, .f32⟩ : BufTy).Contents (Elt F))
  , StableHlo.binary main_v1 main_v0 main_v2 (maximumf : (⟨S4x4096, .f32⟩ : BufTy).Contents (Elt F) → (⟨S4x4096, .f32⟩ : BufTy).Contents (Elt F) → (⟨S4x4096, .f32⟩ : BufTy).Contents (Elt F))
  , StableHlo.unary main_v2 main_v3 (broadcastInDim S4x4096x1 ![0, 1] bcast_S4x4096_S4x4096x1_0_1 : (⟨S4x4096, .f32⟩ : BufTy).Contents (Elt F) → (⟨S4x4096x1, .f32⟩ : BufTy).Contents (Elt F))
  , StableHlo.unary main_v3 main_v4 (broadcastInDim S4x4096x16 ![0, 1, 2] bcast_S4x4096x1_S4x4096x16_0_1_2 : (⟨S4x4096x1, .f32⟩ : BufTy).Contents (Elt F) → (⟨S4x4096x16, .f32⟩ : BufTy).Contents (Elt F))
  , StableHlo.binary main_arg1 main_v4 main_v5 (subf : (⟨S4x4096x16, .f32⟩ : BufTy).Contents (Elt F) → (⟨S4x4096x16, .f32⟩ : BufTy).Contents (Elt F) → (⟨S4x4096x16, .f32⟩ : BufTy).Contents (Elt F))
  , StableHlo.unary main_v5 main_v6 (Host.exp : (⟨S4x4096x16, .f32⟩ : BufTy).Contents (Elt F) → (⟨S4x4096x16, .f32⟩ : BufTy).Contents (Elt F))
  , StableHlo.nullary main_cst_1 (constant S_ .f32 0x00000000#32)
  , StableHlo.binary main_v6 main_cst_1 main_v7 ((fun x v => Host.reduceAdd x v reducesTo_S4x4096x16_S4x4096_d2 h_S_) : (⟨S4x4096x16, .f32⟩ : BufTy).Contents (Elt F) → (⟨S_, .f32⟩ : BufTy).Contents (Elt F) → (⟨S4x4096, .f32⟩ : BufTy).Contents (Elt F))
  , StableHlo.unary main_v7 main_v8 (broadcastInDim S4x4096x1 ![0, 1] bcast_S4x4096_S4x4096x1_0_1 : (⟨S4x4096, .f32⟩ : BufTy).Contents (Elt F) → (⟨S4x4096x1, .f32⟩ : BufTy).Contents (Elt F))
  , StableHlo.unary main_v8 main_v9 (broadcastInDim S4x4096x16 ![0, 1, 2] bcast_S4x4096x1_S4x4096x16_0_1_2 : (⟨S4x4096x1, .f32⟩ : BufTy).Contents (Elt F) → (⟨S4x4096x16, .f32⟩ : BufTy).Contents (Elt F))
  , StableHlo.binary main_v6 main_v9 main_v10 (Host.divf : (⟨S4x4096x16, .f32⟩ : BufTy).Contents (Elt F) → (⟨S4x4096x16, .f32⟩ : BufTy).Contents (Elt F) → (⟨S4x4096x16, .f32⟩ : BufTy).Contents (Elt F))
  , StableHlo.unary main_v10 main_v11 ((transpose S4x16x4096 [0, 2, 1] · transposes_S4x4096x16_S4x16x4096_0_2_1) : (⟨S4x4096x16, .f32⟩ : BufTy).Contents (Elt F) → (⟨S4x16x4096, .f32⟩ : BufTy).Contents (Elt F)) ]

/-- The operations of the choice of tokens. -/
abbrev opsB : List (HloOp τ sig (Elt F)) :=
  [ StableHlo.unary main_v11 main_values ((fun x => (Host.topK S4x16x512 2 (FloatOps.cmpfTotal .gt) x sliceFits_S4x16x4096_S4x16x512).1) : (⟨S4x16x4096, .f32⟩ : BufTy).Contents (Elt F) → (⟨S4x16x512, .f32⟩ : BufTy).Contents (Elt F))
  , StableHlo.unary main_v11 main_indices ((fun x => (Host.topK S4x16x512 2 (FloatOps.cmpfTotal .gt) x sliceFits_S4x16x4096_S4x16x512).2) : (⟨S4x16x4096, .f32⟩ : BufTy).Contents (Elt F) → (⟨S4x16x512, .i32⟩ : BufTy).Contents (Elt F))
  , StableHlo.nullary main_c (constantI S_ 32 0#32)
  , StableHlo.unary main_c main_v12 (broadcastInDim S4x16x512 ![] bcast_S_S4x16x512 : (⟨S_, .i32⟩ : BufTy).Contents (Elt F) → (⟨S4x16x512, .i32⟩ : BufTy).Contents (Elt F))
  , StableHlo.binary main_indices main_v12 main_v13 (addi : (⟨S4x16x512, .i32⟩ : BufTy).Contents (Elt F) → (⟨S4x16x512, .i32⟩ : BufTy).Contents (Elt F) → (⟨S4x16x512, .i32⟩ : BufTy).Contents (Elt F)) ]

/-- The operations of the rows. -/
abbrev opsE : List (HloOp τ sig (Elt F)) :=
  [ StableHlo.nullary main_v14 (iotaInDim S4 32 0)
  , StableHlo.unary main_v14 main_v15 (broadcastInDim S4x1x1 ![0] bcast_S4_S4x1x1_0 : (⟨S4, .i32⟩ : BufTy).Contents (Elt F) → (⟨S4x1x1, .i32⟩ : BufTy).Contents (Elt F))
  , StableHlo.nullary main_c_2 (constantI S_ 32 4096#32)
  , StableHlo.unary main_c_2 main_v16 (broadcastInDim S4x1x1 ![] bcast_S_S4x1x1 : (⟨S_, .i32⟩ : BufTy).Contents (Elt F) → (⟨S4x1x1, .i32⟩ : BufTy).Contents (Elt F))
  , StableHlo.binary main_v15 main_v16 main_v17 (muli : (⟨S4x1x1, .i32⟩ : BufTy).Contents (Elt F) → (⟨S4x1x1, .i32⟩ : BufTy).Contents (Elt F) → (⟨S4x1x1, .i32⟩ : BufTy).Contents (Elt F))
  , StableHlo.unary main_v17 main_v18 (broadcastInDim S4x16x512 ![0, 1, 2] bcast_S4x1x1_S4x16x512_0_1_2 : (⟨S4x1x1, .i32⟩ : BufTy).Contents (Elt F) → (⟨S4x16x512, .i32⟩ : BufTy).Contents (Elt F))
  , StableHlo.binary main_v13 main_v18 main_v19 (addi : (⟨S4x16x512, .i32⟩ : BufTy).Contents (Elt F) → (⟨S4x16x512, .i32⟩ : BufTy).Contents (Elt F) → (⟨S4x16x512, .i32⟩ : BufTy).Contents (Elt F))
  , StableHlo.unary main_v19 main_v20 ((transpose S16x4x512 [1, 0, 2] · transposes_S4x16x512_S16x4x512_1_0_2) : (⟨S4x16x512, .i32⟩ : BufTy).Contents (Elt F) → (⟨S16x4x512, .i32⟩ : BufTy).Contents (Elt F))
  , StableHlo.reshape main_v20 main_v21 (rfl : (.i32 : EltTy) = .i32) shapeCasts_S16x4x512_S16x2048 ]

/-- The operations of the weights. -/
abbrev opsF : List (HloOp τ sig (Elt F)) :=
  [ StableHlo.unary main_values main_v22 ((transpose S16x4x512 [1, 0, 2] · transposes_S4x16x512_S16x4x512_1_0_2) : (⟨S4x16x512, .f32⟩ : BufTy).Contents (Elt F) → (⟨S16x4x512, .f32⟩ : BufTy).Contents (Elt F))
  , StableHlo.reshape main_v22 main_v23 (rfl : (.f32 : EltTy) = .f32) shapeCasts_S16x4x512_S16x1x2048
  , StableHlo.unary main_v23 main_v24 ((truncf .bf16 · bitsLt_bf16_f32) : (⟨S16x1x2048, .f32⟩ : BufTy).Contents (Elt F) → (⟨S16x1x2048, .bf16⟩ : BufTy).Contents (Elt F))
  , StableHlo.unary main_v24 main_v25 ((extf .f32 · bitsLt_bf16_f32) : (⟨S16x1x2048, .bf16⟩ : BufTy).Contents (Elt F) → (⟨S16x1x2048, .f32⟩ : BufTy).Contents (Elt F))
  , StableHlo.binary main_v23 main_v25 main_v26 (subf : (⟨S16x1x2048, .f32⟩ : BufTy).Contents (Elt F) → (⟨S16x1x2048, .f32⟩ : BufTy).Contents (Elt F) → (⟨S16x1x2048, .f32⟩ : BufTy).Contents (Elt F))
  , StableHlo.unary main_v26 main_v27 ((truncf .bf16 · bitsLt_bf16_f32) : (⟨S16x1x2048, .f32⟩ : BufTy).Contents (Elt F) → (⟨S16x1x2048, .bf16⟩ : BufTy).Contents (Elt F))
  , StableHlo.unary main_v24 main_v28 ((extf .f32 · bitsLt_bf16_f32) : (⟨S16x1x2048, .bf16⟩ : BufTy).Contents (Elt F) → (⟨S16x1x2048, .f32⟩ : BufTy).Contents (Elt F))
  , StableHlo.binary main_v23 main_v28 main_v29 (subf : (⟨S16x1x2048, .f32⟩ : BufTy).Contents (Elt F) → (⟨S16x1x2048, .f32⟩ : BufTy).Contents (Elt F) → (⟨S16x1x2048, .f32⟩ : BufTy).Contents (Elt F))
  , StableHlo.unary main_v27 main_v30 ((extf .f32 · bitsLt_bf16_f32) : (⟨S16x1x2048, .bf16⟩ : BufTy).Contents (Elt F) → (⟨S16x1x2048, .f32⟩ : BufTy).Contents (Elt F))
  , StableHlo.binary main_v29 main_v30 main_v31 (subf : (⟨S16x1x2048, .f32⟩ : BufTy).Contents (Elt F) → (⟨S16x1x2048, .f32⟩ : BufTy).Contents (Elt F) → (⟨S16x1x2048, .f32⟩ : BufTy).Contents (Elt F))
  , StableHlo.unary main_v31 main_v32 ((truncf .bf16 · bitsLt_bf16_f32) : (⟨S16x1x2048, .f32⟩ : BufTy).Contents (Elt F) → (⟨S16x1x2048, .bf16⟩ : BufTy).Contents (Elt F))
  , StableHlo.nullary main_cst_3 (constant S_ .bf16 0x0000#16)
  , StableHlo.unary main_cst_3 main_v33 (broadcastInDim S16x13x2048 ![] bcast_S_S16x13x2048 : (⟨S_, .bf16⟩ : BufTy).Contents (Elt F) → (⟨S16x13x2048, .bf16⟩ : BufTy).Contents (Elt F))
  , StableHlo.nary ![main_v24, main_v27, main_v32, main_v33] main_v34 (fun u => (concatenate S16x16x2048 1 [⟨S16x1x2048, (u 0 : (⟨S16x1x2048, .bf16⟩ : BufTy).Contents (Elt F))⟩, ⟨S16x1x2048, (u 1 : (⟨S16x1x2048, .bf16⟩ : BufTy).Contents (Elt F))⟩, ⟨S16x1x2048, (u 2 : (⟨S16x1x2048, .bf16⟩ : BufTy).Contents (Elt F))⟩, ⟨S16x13x2048, (u 3 : (⟨S16x13x2048, .bf16⟩ : BufTy).Contents (Elt F))⟩] concatenates_S16x1x2048_S16x1x2048_S16x1x2048_S16x13x2048_S16x16x2048_d1 : (⟨S16x16x2048, .bf16⟩ : BufTy).Contents (Elt F))) ]

/-- The operations of the tokens. -/
abbrev opsG : List (HloOp τ sig (Elt F)) :=
  [ StableHlo.reshape main_arg0 main_v35 (rfl : (.bf16 : EltTy) = .bf16) shapeCasts_S4x4096x2048_S16384x2048
  , StableHlo.nullary main_c_4 (constantI S_ 32 0#32)
  , StableHlo.unary main_c_4 main_v36 (broadcastInDim S16x2048 ![] bcast_S_S16x2048 : (⟨S_, .i32⟩ : BufTy).Contents (Elt F) → (⟨S16x2048, .i32⟩ : BufTy).Contents (Elt F))
  , StableHlo.binary main_v21 main_v36 main_v37 (cmpi .slt : (⟨S16x2048, .i32⟩ : BufTy).Contents (Elt F) → (⟨S16x2048, .i32⟩ : BufTy).Contents (Elt F) → (⟨S16x2048, .i1⟩ : BufTy).Contents (Elt F))
  , StableHlo.nullary main_c_5 (constantI S_ 32 16384#32)
  , StableHlo.unary main_c_5 main_v38 (broadcastInDim S16x2048 ![] bcast_S_S16x2048 : (⟨S_, .i32⟩ : BufTy).Contents (Elt F) → (⟨S16x2048, .i32⟩ : BufTy).Contents (Elt F))
  , StableHlo.binary main_v21 main_v38 main_v39 (addi : (⟨S16x2048, .i32⟩ : BufTy).Contents (Elt F) → (⟨S16x2048, .i32⟩ : BufTy).Contents (Elt F) → (⟨S16x2048, .i32⟩ : BufTy).Contents (Elt F))
  , StableHlo.ternary main_v37 main_v39 main_v21 main_v40 (select : (⟨S16x2048, .i1⟩ : BufTy).Contents (Elt F) → (⟨S16x2048, .i32⟩ : BufTy).Contents (Elt F) → (⟨S16x2048, .i32⟩ : BufTy).Contents (Elt F) → (⟨S16x2048, .i32⟩ : BufTy).Contents (Elt F))
  , StableHlo.unary main_v40 main_v41 (broadcastInDim S16x2048x1 ![0, 1] bcast_S16x2048_S16x2048x1_0_1 : (⟨S16x2048, .i32⟩ : BufTy).Contents (Elt F) → (⟨S16x2048x1, .i32⟩ : BufTy).Contents (Elt F))
  , StableHlo.binary main_v35 main_v41 main_v42 ((fun x i => Host.gather gather_S16384x2048_S16x2048x1_S16x2048x2048_2_0_n_n_0_2_12048 x i) : (⟨S16384x2048, .bf16⟩ : BufTy).Contents (Elt F) → (⟨S16x2048x1, .i32⟩ : BufTy).Contents (Elt F) → (⟨S16x2048x2048, .bf16⟩ : BufTy).Contents (Elt F)) ]

theorem ops_split : (hostOps0 (F := F)) = opsA ++ (opsB ++ (opsE ++ (opsF ++ opsG))) := rfl

variable (X : Valuation τ sig (Elt Ideal))

theorem segA_v11 : after (opsA (F := Ideal)) X (no_index (Proc.devRef .tc main_v11)) = (soft (X (Proc.devRef .tc main_arg1) : FVec Ideal S4x4096x16 .f32) : FVec Ideal S4x16x4096 .f32) := by
  simp (disch := decide) only [opsA, after_cons, after_nil, nullary_result', unary_result', binary_result', ternary_result', reshape_result', nary4_result',
    nullary_result_ne', unary_result_ne', binary_result_ne', ternary_result_ne', reshape_result_ne', nary_result_ne']
  rfl

theorem segB_values : after (opsB (F := Ideal)) X (no_index (Proc.devRef .tc main_values)) = (best (X (Proc.devRef .tc main_v11) : FVec Ideal S4x16x4096 .f32) : FVec Ideal S4x16x512 .f32) := by
  simp (disch := decide) only [opsB, after_cons, after_nil, nullary_result', unary_result', binary_result', ternary_result', reshape_result', nary4_result',
    nullary_result_ne', unary_result_ne', binary_result_ne', ternary_result_ne', reshape_result_ne', nary_result_ne']
  rfl

theorem segB_v13 : after (opsB (F := Ideal)) X (no_index (Proc.devRef .tc main_v13)) = (bestIdx (X (Proc.devRef .tc main_v11) : FVec Ideal S4x16x4096 .f32) : IVec S4x16x512 32) := by
  simp (disch := decide) only [opsB, after_cons, after_nil, nullary_result', unary_result', binary_result', ternary_result', reshape_result', nary4_result',
    nullary_result_ne', unary_result_ne', binary_result_ne', ternary_result_ne', reshape_result_ne', nary_result_ne']
  rfl

theorem segE_v21 : after (opsE (F := Ideal)) X (no_index (Proc.devRef .tc main_v21)) = (rows (X (Proc.devRef .tc main_v13) : IVec S4x16x512 32) : IVec S16x2048 32) := by
  simp (disch := decide) only [opsE, after_cons, after_nil, nullary_result', unary_result', binary_result', ternary_result', reshape_result', nary4_result',
    nullary_result_ne', unary_result_ne', binary_result_ne', ternary_result_ne', reshape_result_ne', nary_result_ne']
  rfl

theorem segF_v34 : after (opsF (F := Ideal)) X (no_index (Proc.devRef .tc main_v34)) = (gates (flat (X (Proc.devRef .tc main_values) : FVec Ideal S4x16x512 .f32)) : FVec Ideal S16x16x2048 .bf16) := by
  simp (disch := decide) only [opsF, after_cons, after_nil, nullary_result', unary_result', binary_result', ternary_result', reshape_result', nary4_result',
    nullary_result_ne', unary_result_ne', binary_result_ne', ternary_result_ne', reshape_result_ne', nary_result_ne']
  rfl

theorem segG_v42 : after (opsG (F := Ideal)) X (no_index (Proc.devRef .tc main_v42)) = (taken (X (Proc.devRef .tc main_arg0) : FVec Ideal S4x4096x2048 .bf16) (X (Proc.devRef .tc main_v21) : IVec S16x2048 32) : FVec Ideal S16x2048x2048 .bf16) := by
  simp (disch := decide) only [opsG, after_cons, after_nil, nullary_result', unary_result', binary_result', ternary_result', reshape_result', nary4_result',
    nullary_result_ne', unary_result_ne', binary_result_ne', ternary_result_ne', reshape_result_ne', nary_result_ne']
  rfl

theorem keepA_arg0 : after (opsA (F := Ideal)) X (no_index (Proc.devRef .tc main_arg0)) = X (Proc.devRef .tc main_arg0) := by
  simp (disch := decide) only [opsA, after_cons, after_nil, nullary_result', unary_result', binary_result', ternary_result', reshape_result', nary4_result',
    nullary_result_ne', unary_result_ne', binary_result_ne', ternary_result_ne', reshape_result_ne', nary_result_ne']

theorem keepB_arg0 : after (opsB (F := Ideal)) X (no_index (Proc.devRef .tc main_arg0)) = X (Proc.devRef .tc main_arg0) := by
  simp (disch := decide) only [opsB, after_cons, after_nil, nullary_result', unary_result', binary_result', ternary_result', reshape_result', nary4_result',
    nullary_result_ne', unary_result_ne', binary_result_ne', ternary_result_ne', reshape_result_ne', nary_result_ne']

theorem keepE_arg0 : after (opsE (F := Ideal)) X (no_index (Proc.devRef .tc main_arg0)) = X (Proc.devRef .tc main_arg0) := by
  simp (disch := decide) only [opsE, after_cons, after_nil, nullary_result', unary_result', binary_result', ternary_result', reshape_result', nary4_result',
    nullary_result_ne', unary_result_ne', binary_result_ne', ternary_result_ne', reshape_result_ne', nary_result_ne']

theorem keepE_values : after (opsE (F := Ideal)) X (no_index (Proc.devRef .tc main_values)) = X (Proc.devRef .tc main_values) := by
  simp (disch := decide) only [opsE, after_cons, after_nil, nullary_result', unary_result', binary_result', ternary_result', reshape_result', nary4_result',
    nullary_result_ne', unary_result_ne', binary_result_ne', ternary_result_ne', reshape_result_ne', nary_result_ne']

theorem keepF_arg0 : after (opsF (F := Ideal)) X (no_index (Proc.devRef .tc main_arg0)) = X (Proc.devRef .tc main_arg0) := by
  simp (disch := decide) only [opsF, after_cons, after_nil, nullary_result', unary_result', binary_result', ternary_result', reshape_result', nary4_result',
    nullary_result_ne', unary_result_ne', binary_result_ne', ternary_result_ne', reshape_result_ne', nary_result_ne']

theorem keepF_v21 : after (opsF (F := Ideal)) X (no_index (Proc.devRef .tc main_v21)) = X (Proc.devRef .tc main_v21) := by
  simp (disch := decide) only [opsF, after_cons, after_nil, nullary_result', unary_result', binary_result', ternary_result', reshape_result', nary4_result',
    nullary_result_ne', unary_result_ne', binary_result_ne', ternary_result_ne', reshape_result_ne', nary_result_ne']

theorem keepG_v34 : after (opsG (F := Ideal)) X (no_index (Proc.devRef .tc main_v34)) = X (Proc.devRef .tc main_v34) := by
  simp (disch := decide) only [opsG, after_cons, after_nil, nullary_result', unary_result', binary_result', ternary_result', reshape_result', nary4_result',
    nullary_result_ne', unary_result_ne', binary_result_ne', ternary_result_ne', reshape_result_ne', nary_result_ne']

end Segments

variable (m : (ℓ : Loc nD τ sig) → Buf (Elt Ideal) ℓ) (ρ : Dev nD → PrngReg)

/-- The weights of all tokens chosen, from the logits. -/
def weights (x : FVec Ideal S4x4096x16 .f32) : FVec Ideal S4x16x512 .f32 := best (soft x)

/-- All tokens chosen, from the logits. -/
def tokens (x : FVec Ideal S4x4096x16 .f32) : IVec S4x16x512 32 := bestIdx (soft x)

theorem V_gates (c : Dev nD) : V1 m ρ c main_v34 = gates (flat (weights (m ((c : Thread nD τ).loc main_arg1)))) := by
  show StableHlo.after (hostOps0 (F := Ideal)) (fun b => m (c, b)) (Proc.devRef .tc main_v34) = _
  rw [ops_split, StableHlo.after_append, StableHlo.after_append, StableHlo.after_append, StableHlo.after_append,
    keepG_v34, segF_v34, keepE_values, segB_values, segA_v11]
  rfl

theorem V_taken (c : Dev nD) : V1 m ρ c main_v42 = taken (m ((c : Thread nD τ).loc main_arg0)) (rows (tokens (m ((c : Thread nD τ).loc main_arg1)))) := by
  show StableHlo.after (hostOps0 (F := Ideal)) (fun b => m (c, b)) (Proc.devRef .tc main_v42) = _
  rw [ops_split, StableHlo.after_append, StableHlo.after_append, StableHlo.after_append, StableHlo.after_append,
    segG_v42, keepF_arg0, keepE_arg0, keepB_arg0, keepA_arg0, keepF_v21, segE_v21, segB_v13, segA_v11]
  rfl

end Cert.Kernel5Ideal.Moe

end
-- ==== Proof.LateHostAt.lean ====
/- What the host prepares, read at an index. -/
module

public import proofs.«01_k».proof.Proof.LateHost
public import proofs.«01_k».proof.Proof.TopK
public import proofs.«01_k».proof.Proof.At

@[expose] public section

set_option maxRecDepth 16384

noncomputable section

namespace Cert.Kernel5Ideal.Moe

open Cert.At Cert.Kernel5Ideal Cert.Kernel5Ideal.Gen Idealize.ShloMosaic Idealize.ShloMosaic.TcCoe Idealize.SL.Sem

theorem toInt_nat (t : ℕ) (h : t < 16384) : (BitVec.ofNat 32 t).toInt = (t : ℤ) := by
  rw [BitVec.toInt_eq_toNat_of_lt (by rw [BitVec.toNat_ofNat]; omega), BitVec.toNat_ofNat]; omega

/-- A number of the table's rows is not negative. -/
theorem slt_zero (t : ℕ) (h : t < 16384) : (BitVec.ofNat 32 t).slt 0#32 = false := by
  rw [BitVec.slt_eq_decide, toInt_nat t h]; simp

/-- So the row is kept. -/
theorem wrapped_at (r : IVec S16x2048 32) (e : Fin 16) (q : Fin 2048) (t : ℕ) (ht : t < 16384)
    (h : r (ix2 e q) = BitVec.ofNat 32 t) : wrapped r (ix3 e q 0) = BitVec.ofNat 32 t := by
  pointwise [wrapped]
  rw [h]
  simp [IntOp.cmpi, Scalar.select, slt_zero t ht]

theorem rows_at (t : IVec S4x16x512 32) (e : Fin 16) (b : Fin 4) (c : Fin 512) :
    rows t (ix2 e ⟨b.val * 512 + c.val, by omega⟩) = t (ix3 b e c) + BitVec.ofNat 32 b.val * 4096#32 := by
  pointwise [rows]
  rfl

theorem flat_at (g : FVec Ideal S4x16x512 .f32) (e : Fin 16) (b : Fin 4) (c : Fin 512) :
    flat g (ix3 e 0 ⟨b.val * 512 + c.val, by omega⟩) = g (ix3 b e c) := by
  pointwise [flat]

/-- A row taken from the table: the token it numbers. -/
theorem taken_at (x : FVec Ideal S4x4096x2048 .bf16) (r : IVec S16x2048 32) (e : Fin 16) (q : Fin 2048) (b : Fin 4) (n : Fin 4096) (d : Fin 2048)
    (h : r (ix2 e q) = BitVec.ofNat 32 (b.val * 4096 + n.val)) : taken x r (ix3 e q d) = x (ix3 b n d) := by
  unfold taken
  have g : ∀ z : FVec Ideal S16384x2048 .bf16, Host.gather gather_S16384x2048_S16x2048x1_S16x2048x2048_2_0_n_n_0_2_12048 z (wrapped r) (ix3 e q d)
      = z (ix2 ⟨b.val * 4096 + n.val, by omega⟩ d) := by
    intro z
    unfold Host.gather
    congr 1
    have s0 : gather_S16384x2048_S16x2048x1_S16x2048x2048_2_0_n_n_0_2_12048.siIdx (ix3 e q d) ⟨0, by decide⟩ = ix3 e q 0 := by
      funext a; refine Fin.ext ?_
      match a with
      | ⟨0, _⟩ => rfl
      | ⟨1, _⟩ => rfl
      | ⟨2, _⟩ => rfl
    funext a
    refine Fin.ext ?_
    match a with
    | ⟨0, _⟩ =>
      show min (BitVec.toInt (wrapped r (gather_S16384x2048_S16x2048x1_S16x2048x2048_2_0_n_n_0_2_12048.siIdx (ix3 e q d) ⟨0, _⟩))).toNat 16383 + 0 + 0 = _
      rw [s0, wrapped_at r e q _ (by omega) h, toInt_nat _ (by omega)]; show _ = b.val * 4096 + n.val; omega
    | ⟨1, _⟩ => show 0 + 0 + d.val = d.val; omega
  rw [g]
  pointwise

/-- What one part of a number leaves over, added to it, gives the number back, unless it is plus infinity. -/
theorem parts (g : EReal) (h : g ≠ ⊤) : g + (g - g) + (g - g - (g - g)) = g := by
  induction g using EReal.rec with
  | bot => simp
  | top => exact absurd rfl h
  | coe x => norm_cast; ring_nf

/-- The sixteen rows of a token's weight sum to it. -/
theorem gates_sum (w : FVec Ideal S16x1x2048 .f32) (e : Fin 16) (r : Fin 2048) (h : w (ix3 e 0 r) ≠ ⊤) :
    ∑ k : Fin 16, at3 (gates w) e.val k.val r.val * 1 = w (ix3 e 0 r) := by
  have hz : ∀ k : Fin 13, gates w (ix3 e ⟨3 + k.val, by omega⟩ r) = 0 := by
    intro k
    pointwise [gates]
    rw [dif_neg (by omega), dif_neg (by omega), dif_neg (by omega)]
  have h0 : gates w (ix3 e 0 r) = w (ix3 e 0 r) := by
    pointwise [gates]
  have h1 : gates w (ix3 e 1 r) = w (ix3 e 0 r) - w (ix3 e 0 r) := by
    pointwise [gates]
  have h2 : gates w (ix3 e 2 r) = w (ix3 e 0 r) - w (ix3 e 0 r) - (w (ix3 e 0 r) - w (ix3 e 0 r)) := by
    pointwise [gates]
  have hs : ∀ k : Fin 16, at3 (gates w) e.val k.val r.val * 1 = gates w (ix3 e k r) := fun k => by rw [mul_one, at3_mk]
  rw [Finset.sum_congr rfl fun k _ => hs k]
  refine (Fin.sum_univ_add (a := 3) (b := 13) fun k => gates w (ix3 e k r)).trans ?_
  have hn : ∑ k : Fin 13, gates w (ix3 e (Fin.natAdd 3 k) r) = 0 := Finset.sum_eq_zero fun k _ => hz k
  rw [hn, add_zero, Fin.sum_univ_three]
  refine Eq.trans ?_ (parts _ h)
  exact congrArg₂ (· + ·) (congrArg₂ (· + ·) h0 h1) h2

/-- Nothing divided by no less than itself is plus infinity. -/
theorem div_ne_top {x y : EReal} (hx : 0 ≤ x) (hxy : x ≤ y) : Ideal.div x y ≠ ⊤ := by
  unfold Ideal.div
  split_ifs with h0 h1
  · exact absurd (h0 ▸ hxy) (not_le.mpr h1)
  · exact bot_ne_top
  · induction y using EReal.rec with
    | bot => exact absurd (hx.trans hxy) (by simp)
    | top => simp
    | coe y =>
      induction x using EReal.rec with
      | bot => exact absurd hx (by simp)
      | top => exact absurd hxy (by simp)
      | coe x => rw [← EReal.coe_inv, ← EReal.coe_mul]; exact EReal.coe_ne_top _

theorem exp_nonneg (x : EReal) : 0 ≤ Ideal.exp x := by
  induction x using EReal.rec with
  | bot => exact le_refl _
  | top => exact le_top
  | coe x => exact EReal.coe_nonneg.mpr (Real.exp_pos x).le

theorem soft_at (x : FVec Ideal S4x4096x16 .f32) (b : Fin 4) (e : Fin 16) (n : Fin 4096) :
    ∃ f : Fin 16 → EReal, soft x (ix3 b e n) = Ideal.div (Ideal.exp (f e)) (∑ k : Fin 16, Ideal.exp (f k)) := by
  unfold soft
  simp only []
  generalize (subf (F := Ideal) _ _ : FVec Ideal S4x4096x16 .f32) = u
  refine ⟨fun k => u (ix3 b n k), ?_⟩
  pointwise

theorem share_ne_top (f : Fin 16 → EReal) (e : Fin 16) : Ideal.div (Ideal.exp (f e)) (∑ k : Fin 16, Ideal.exp (f k)) ≠ ⊤ :=
  div_ne_top (exp_nonneg _) (Finset.single_le_sum (f := fun k => Ideal.exp (f k)) (fun k _ => exp_nonneg _) (Finset.mem_univ e))

theorem soft_ne_top (x : FVec Ideal S4x4096x16 .f32) (b : Fin 4) (e : Fin 16) (n : Fin 4096) : soft x (ix3 b e n) ≠ ⊤ := by
  obtain ⟨f, hf⟩ := soft_at x b e n
  rw [hf]; exact share_ne_top f e

end Cert.Kernel5Ideal.Moe

end
-- ==== Proof.LateUp.lean ====
/- The experts' first two products: every block holds its rows' gated product, so the array is one function of its index. -/
module

public import proofs.«01_k».proof.Proof.At
public import proofs.«01_k».proof.Proof.Gen.Kernel5Ideal.Frame
public import Idealize.ShloMosaic.Lib.Pipeline.ValueKit

@[expose] public section

set_option maxRecDepth 16384

noncomputable section

namespace Cert.Kernel5Ideal.Moe

open Cert.Kernel5Ideal Cert.Kernel5Ideal.Gen Idealize.ShloMosaic Idealize.ShloMosaic.TcCoe Idealize.SL.Sem
open Cert.At

variable (V : (c : Dev nD) → (b : Ref sig .tc) → Buf (Elt Ideal) ((c : Thread nD τ).loc b))

/-- The gated product of two sums, in the order the kernel multiplies. -/
def gated (a u : EReal) : EReal := a * Ideal.logistic a * u

theorem up_apply (x : Vec Ideal S1x2048x2048 .bf16) (w : Vec Ideal S1x1x2048x512 .f32) (v : Vec Ideal S1x1x2048x512 .f32) (r : Fin 2048) (n : Fin 512) :
    k0_pay1 x w v (ix3 0 r n) = gated (∑ k : Fin 2048, x (ix3 0 r k) * w (ix4 0 0 k n)) (∑ k : Fin 2048, x (ix3 0 r k) * v (ix4 0 0 k n)) := by
  unfold gated
  pointwise [k0_pay1]

theorem up_at (x : Vec Ideal S1x2048x2048 .bf16) (w : Vec Ideal S1x1x2048x512 .f32) (v : Vec Ideal S1x1x2048x512 .f32) (y : S1x2048x512.Idx) :
    k0_pay1 x w v y = gated (∑ k : Fin 2048, x (ix3 0 (y 1) k) * w (ix4 0 0 k (y 2))) (∑ k : Fin 2048, x (ix3 0 (y 1) k) * v (ix4 0 0 k (y 2))) := by
  have h0 : (y 0).val < 1 := (y 0).isLt
  have hy : y = ix3 0 (y 1) (y 2) := by
    funext k; fin_cases k <;> first | rfl | (apply Fin.ext; show (y 0).val = 0; omega)
  exact (congrArg (k0_pay1 x w v) hy).trans (up_apply x w v _ _)

theorem up_idx0 : ∀ t : Fin cfg0.N, win0_0.index t = ![(grid0.coords t 0).val, 0, 0] := (by decide +kernel : ∀ t : Fin grid0.N, _)
theorem up_idx1 : ∀ t : Fin cfg0.N, win0_1.index t = ![1, (grid0.coords t 0).val, 0, (grid0.coords t 1).val] := (by decide +kernel : ∀ t : Fin grid0.N, _)
theorem up_idx2 : ∀ t : Fin cfg0.N, win0_2.index t = ![1, (grid0.coords t 0).val, 0, (grid0.coords t 1).val] := (by decide +kernel : ∀ t : Fin grid0.N, _)
theorem up_idx3 : ∀ t : Fin cfg0.N, win0_3.index t = ![(grid0.coords t 0).val, 0, (grid0.coords t 1).val] := (by decide +kernel : ∀ t : Fin grid0.N, _)

theorem up_blk0 (c : Dev nD) (t : Fin cfg0.N) (y : S1x2048x2048.Idx) :
    iblk0 V c 0 t y = at3 (V c main_v42) (grid0.coords t 0) (y 1).val (y 2).val := by
  have h0 : (y 0).val < 1 := (y 0).isLt
  blk_simp [iblk0]
  apply eq_at3 <;> blk_simp [up_idx0] <;> simp <;> omega

theorem up_blk1 (c : Dev nD) (t : Fin cfg0.N) (y : S1x1x2048x512.Idx) :
    iblk0 V c 1 t y = at4 (V c main_arg2) 1 (grid0.coords t 0) (y 2).val (512 * (grid0.coords t 1) + (y 3).val) := by
  have h0 : (y 0).val < 1 := (y 0).isLt
  have h1 : (y 1).val < 1 := (y 1).isLt
  blk_simp [iblk0]
  apply eq_at4 <;> blk_simp [up_idx1] <;> simp <;> omega

theorem up_blk2 (c : Dev nD) (t : Fin cfg0.N) (y : S1x1x2048x512.Idx) :
    iblk0 V c 2 t y = at4 (V c main_arg3) 1 (grid0.coords t 0) (y 2).val (512 * (grid0.coords t 1) + (y 3).val) := by
  have h0 : (y 0).val < 1 := (y 0).isLt
  have h1 : (y 1).val < 1 := (y 1).isLt
  blk_simp [iblk0]
  apply eq_at4 <;> blk_simp [up_idx2] <;> simp <;> omega

/-- The hidden values as a function of expert, row and column. -/
def hid (X : S16x2048x2048.Idx → EReal) (A B : S2x16x2048x2048.Idx → EReal) : S16x2048x2048.Idx → EReal := fun y =>
  gated (∑ k : Fin 2048, at3 X (y 0).val (y 1).val k * at4 A 1 (y 0).val k (y 2).val)
    (∑ k : Fin 2048, at3 X (y 0).val (y 1).val k * at4 B 1 (y 0).val k (y 2).val)

theorem up_final (c : Dev nD) : (dat0 V c).arrAt 3 cfg0.N = hid (V c main_v42) (V c main_arg2) (V c main_arg3) := by
  refine (dat0 V c).arrAt_eq_of_covers 3 _ (by decide +kernel) fun t hf y => ?_
  blk_simp
  rw [after0_3]
  frame_out
  refine (up_at _ _ _ y).trans ?_
  have h0 : (y 0).val < 1 := (y 0).isLt
  unfold hid
  refine congrArg₂ gated (Finset.sum_congr rfl fun k _ => ?_) (Finset.sum_congr rfl fun k _ => ?_)
  · rw [up_blk0, up_blk1]
    blk_simp [up_idx3]
    simp only [Matrix.cons_val_zero, Matrix.cons_val_one, Matrix.cons_val]
    congr 2 <;> first | rfl | (simp; try omega)
  · rw [up_blk0, up_blk2]
    blk_simp [up_idx3]
    simp only [Matrix.cons_val_zero, Matrix.cons_val_one, Matrix.cons_val]
    congr 2 <;> first | rfl | (simp; try omega)

end Cert.Kernel5Ideal.Moe

end
-- ==== Proof.LateDown.lean ====
/- The experts' last product, scaled by the gates: every block holds its rows' values, so the array is one function of its index. -/
module

public import proofs.«01_k».proof.Proof.At
public import proofs.«01_k».proof.Proof.Gen.Kernel5Ideal.Frame
public import Idealize.ShloMosaic.Lib.Pipeline.ValueKit

@[expose] public section

set_option maxRecDepth 16384

noncomputable section

namespace Cert.Kernel5Ideal.Moe

open Cert.Kernel5Ideal Cert.Kernel5Ideal.Gen Idealize.ShloMosaic Idealize.ShloMosaic.TcCoe Idealize.SL.Sem
open Cert.At

variable (V : (c : Dev nD) → (b : Ref sig .tc) → Buf (Elt Ideal) ((c : Thread nD τ).loc b))

theorem prod_apply (x : Vec Ideal S1x2048x2048 .bf16) (w : Vec Ideal S1x1x2048x1024 .f32) (r : Fin 2048) (n : Fin 1024) :
    k1_pay7 x w (ix2 r n) = ∑ k : Fin 2048, x (ix3 0 r k) * w (ix4 0 0 k n) := by
  pointwise [k1_pay7]

theorem gate_apply (g : Vec Ideal S1x16x2048 .bf16) (r : Fin 2048) (n : Fin 128) :
    k1_pay6 g (ix2 r n) = ∑ k : Fin 16, g (ix3 0 k r) * 1 := by
  pointwise [k1_pay6]

/-- One piece of the block, from the product and the gates. -/
theorem piece2 (g : FVec Ideal S2048x128 .f32) (p : FVec Ideal S2048x1024 .f32) (r : Fin 2048) (n : Fin 128) :
    k1_pay2 g p (ix3 0 r n) = p (ix2 r ⟨512 + n.val, by omega⟩) * g (ix2 r n) := by
  pointwise [k1_pay2]
theorem piece3 (g : FVec Ideal S2048x128 .f32) (p : FVec Ideal S2048x1024 .f32) (r : Fin 2048) (n : Fin 128) :
    k1_pay3 g p (ix3 0 r n) = p (ix2 r ⟨640 + n.val, by omega⟩) * g (ix2 r n) := by
  pointwise [k1_pay3]
theorem piece4 (g : FVec Ideal S2048x128 .f32) (p : FVec Ideal S2048x1024 .f32) (r : Fin 2048) (n : Fin 128) :
    k1_pay4 g p (ix3 0 r n) = p (ix2 r ⟨768 + n.val, by omega⟩) * g (ix2 r n) := by
  pointwise [k1_pay4]
theorem piece5 (g : FVec Ideal S2048x128 .f32) (p : FVec Ideal S2048x1024 .f32) (r : Fin 2048) (n : Fin 128) :
    k1_pay5 g p (ix3 0 r n) = p (ix2 r ⟨896 + n.val, by omega⟩) * g (ix2 r n) := by
  pointwise [k1_pay5]

theorem piece8 (g : Vec Ideal S1x16x2048 .bf16) (x : Vec Ideal S1x2048x2048 .bf16) (w : Vec Ideal S1x1x2048x1024 .f32) (r : Fin 2048) (n : Fin 128) :
    k1_pay8 g x w (ix3 0 r n) = k1_pay7 x w (ix2 r ⟨0 + n.val, by omega⟩) * k1_pay6 g (ix2 r n) := by
  unfold k1_pay8
  generalize k1_pay7 x w = p
  generalize k1_pay6 g = q
  pointwise
theorem piece9 (g : Vec Ideal S1x16x2048 .bf16) (x : Vec Ideal S1x2048x2048 .bf16) (w : Vec Ideal S1x1x2048x1024 .f32) (r : Fin 2048) (n : Fin 128) :
    k1_pay9 g x w (ix3 0 r n) = k1_pay7 x w (ix2 r ⟨128 + n.val, by omega⟩) * k1_pay6 g (ix2 r n) := by
  unfold k1_pay9
  generalize k1_pay7 x w = p
  generalize k1_pay6 g = q
  pointwise
theorem piece10 (g : Vec Ideal S1x16x2048 .bf16) (x : Vec Ideal S1x2048x2048 .bf16) (w : Vec Ideal S1x1x2048x1024 .f32) (r : Fin 2048) (n : Fin 128) :
    k1_pay10 g x w (ix3 0 r n) = k1_pay7 x w (ix2 r ⟨256 + n.val, by omega⟩) * k1_pay6 g (ix2 r n) := by
  unfold k1_pay10
  generalize k1_pay7 x w = p
  generalize k1_pay6 g = q
  pointwise
theorem piece11 (g : Vec Ideal S1x16x2048 .bf16) (x : Vec Ideal S1x2048x2048 .bf16) (w : Vec Ideal S1x1x2048x1024 .f32) (r : Fin 2048) (n : Fin 128) :
    k1_pay1 (k1_pay11 g x w) (ix3 0 r n) = k1_pay7 x w (ix2 r ⟨384 + n.val, by omega⟩) * k1_pay6 g (ix2 r n) := by
  unfold k1_pay1 k1_pay11
  generalize k1_pay7 x w = p
  generalize k1_pay6 g = q
  pointwise

/-- The block's value at a row and a column. -/
def down (x : Vec Ideal S1x2048x2048 .bf16) (w : Vec Ideal S1x1x2048x1024 .f32) (g : Vec Ideal S1x16x2048 .bf16) : S1x2048x1024.Idx → EReal := fun y =>
  (∑ k : Fin 2048, x (ix3 0 (y 1) k) * w (ix4 0 0 k (y 2))) * ∑ k : Fin 16, g (ix3 0 k (y 1)) * 1

/-- A piece that holds the products of its columns holds the block's values there. -/
theorem down_piece (x : Vec Ideal S1x2048x2048 .bf16) (w : Vec Ideal S1x1x2048x1024 .f32) (g : Vec Ideal S1x16x2048 .bf16)
    (o : ℕ) (ho : o + 128 ≤ 1024) (f : Vec Ideal S1x2048x128 .bf16)
    (hf : ∀ (r : Fin 2048) (n : Fin 128), f (ix3 0 r n) = k1_pay7 (F := Ideal) x w (ix2 r ⟨o + n.val, by omega⟩) * k1_pay6 (F := Ideal) g (ix2 r n))
    (z : S1x2048x128.Idx) (u : S1x2048x1024.Idx) (h1 : (u 1).val = (z 1).val) (h2 : (u 2).val = o + (z 2).val) :
    f z = down x w g u := by
  have hz2 : (z 2).val < 128 := (z 2).isLt
  have hz0 : (z 0).val < 1 := (z 0).isLt
  have hz : z = ix3 0 (z 1) (z 2) := by
    funext k; fin_cases k <;> first | rfl | (apply Fin.ext; show (z 0).val = 0; omega)
  refine (congrArg f hz).trans ((hf (z 1) (z 2)).trans ?_)
  refine (congrArg₂ (· * ·) (prod_apply x w _ _) (gate_apply g _ _)).trans ?_
  have e1 : u 1 = z 1 := Fin.ext h1
  have e2 : u 2 = (⟨o + (z 2).val, by omega⟩ : Fin 1024) := Fin.ext h2
  unfold down
  rw [e1, e2]

theorem down_at (x : Vec Ideal S1x2048x2048 .bf16) (w : Vec Ideal S1x1x2048x1024 .f32) (g : Vec Ideal S1x16x2048 .bf16) (y : S1x2048x1024.Idx) :
    out1_3 (F := Ideal) x w g y = down x w g y := by
  unfold_out out1_3
  frame_out
  refine View.canon_apply_of_pieces (Val := Elt Ideal) (S := S1x2048x1024) (e := .bf16) (fun y => down x w g y) _ ?_ y (cover1_3 _ _ _ _ _ _ _ _ y)
  intro p hp z
  simp only [List.mem_cons, List.not_mem_nil, or_false] at hp
  rcases hp with rfl | rfl | rfl | rfl | rfl | rfl | rfl | rfl
  · refine down_piece x w g 896 (by omega) _ (fun r n => piece5 _ _ r n) z _ ?_ ?_
    · rw [ValueKit.rect_emb_unit_val]; simp
    · rw [ValueKit.rect_emb_unit_val]; simp
  · refine down_piece x w g 768 (by omega) _ (fun r n => piece4 _ _ r n) z _ ?_ ?_
    · rw [ValueKit.rect_emb_unit_val]; simp
    · rw [ValueKit.rect_emb_unit_val]; simp
  · refine down_piece x w g 640 (by omega) _ (fun r n => piece3 _ _ r n) z _ ?_ ?_
    · rw [ValueKit.rect_emb_unit_val]; simp
    · rw [ValueKit.rect_emb_unit_val]; simp
  · refine down_piece x w g 512 (by omega) _ (fun r n => piece2 _ _ r n) z _ ?_ ?_
    · rw [ValueKit.rect_emb_unit_val]; simp
    · rw [ValueKit.rect_emb_unit_val]; simp
  · refine down_piece x w g 384 (by omega) _ (fun r n => piece11 _ _ _ r n) z _ ?_ ?_
    · rw [ValueKit.rect_emb_unit_val]; simp
    · rw [ValueKit.rect_emb_unit_val]; simp
  · refine down_piece x w g 256 (by omega) _ (fun r n => piece10 _ _ _ r n) z _ ?_ ?_
    · rw [ValueKit.rect_emb_unit_val]; simp
    · rw [ValueKit.rect_emb_unit_val]; simp
  · refine down_piece x w g 128 (by omega) _ (fun r n => piece9 _ _ _ r n) z _ ?_ ?_
    · rw [ValueKit.rect_emb_unit_val]; simp
    · rw [ValueKit.rect_emb_unit_val]; simp
  · refine down_piece x w g 0 (by omega) _ (fun r n => piece8 _ _ _ r n) z _ ?_ ?_
    · rw [ValueKit.rect_emb_unit_val]; simp
    · rw [ValueKit.rect_emb_unit_val]; simp

theorem down_idx0 : ∀ t : Fin cfg1.N, win1_0.index t = ![(grid1.coords t 0).val, 0, 0] := (by decide +kernel : ∀ t : Fin grid1.N, _)
theorem down_idx1 : ∀ t : Fin cfg1.N, win1_1.index t = ![1, (grid1.coords t 0).val, 0, (grid1.coords t 1).val] := (by decide +kernel : ∀ t : Fin grid1.N, _)
theorem down_idx2 : ∀ t : Fin cfg1.N, win1_2.index t = ![(grid1.coords t 0).val, 0, 0] := (by decide +kernel : ∀ t : Fin grid1.N, _)
theorem down_idx3 : ∀ t : Fin cfg1.N, win1_3.index t = ![(grid1.coords t 0).val, 0, (grid1.coords t 1).val] := (by decide +kernel : ∀ t : Fin grid1.N, _)

theorem down_blk0 (c : Dev nD) (t : Fin cfg1.N) (y : S1x2048x2048.Idx) :
    iblk1 V c 0 t y = at3 (V c main_v43) (grid1.coords t 0) (y 1).val (y 2).val := by
  have h0 : (y 0).val < 1 := (y 0).isLt
  blk_simp [iblk1]
  apply eq_at3 <;> blk_simp [down_idx0] <;> simp <;> omega

theorem down_blk1 (c : Dev nD) (t : Fin cfg1.N) (y : S1x1x2048x1024.Idx) :
    iblk1 V c 1 t y = at4 (V c main_arg4) 1 (grid1.coords t 0) (y 2).val (1024 * (grid1.coords t 1) + (y 3).val) := by
  have h0 : (y 0).val < 1 := (y 0).isLt
  have h1 : (y 1).val < 1 := (y 1).isLt
  blk_simp [iblk1]
  apply eq_at4 <;> blk_simp [down_idx1] <;> simp <;> omega

theorem down_blk2 (c : Dev nD) (t : Fin cfg1.N) (y : S1x16x2048.Idx) :
    iblk1 V c 2 t y = at3 (V c main_v34) (grid1.coords t 0) (y 1).val (y 2).val := by
  have h0 : (y 0).val < 1 := (y 0).isLt
  blk_simp [iblk1]
  apply eq_at3 <;> blk_simp [down_idx2] <;> simp <;> omega

/-- The result as a function of expert, row and column. -/
def outp (X : S16x2048x2048.Idx → EReal) (A : S2x16x2048x2048.Idx → EReal) (G : S16x16x2048.Idx → EReal) : S16x2048x2048.Idx → EReal := fun y =>
  (∑ k : Fin 2048, at3 X (y 0).val (y 1).val k * at4 A 1 (y 0).val k (y 2).val) * ∑ k : Fin 16, at3 G (y 0).val k (y 1).val * 1

theorem down_final (c : Dev nD) : (dat1 V c).arrAt 3 cfg1.N = outp (V c main_v43) (V c main_arg4) (V c main_v34) := by
  refine (dat1 V c).arrAt_eq_of_covers 3 _ (by decide +kernel) fun t hf y => ?_
  blk_simp
  rw [after1_3]
  refine (down_at _ _ _ y).trans ?_
  have h0 : (y 0).val < 1 := (y 0).isLt
  unfold down outp
  refine congrArg₂ (· * ·) (Finset.sum_congr rfl fun k _ => ?_) (Finset.sum_congr rfl fun k _ => ?_)
  · rw [down_blk0, down_blk1]
    blk_simp [down_idx3]
    simp only [Matrix.cons_val_zero, Matrix.cons_val_one, Matrix.cons_val]
    congr 2 <;> first | rfl | (simp; try omega)
  · rw [down_blk2]
    blk_simp [down_idx3]

end Cert.Kernel5Ideal.Moe

end
-- ==== Proof.LateRef.lean ====
/- The reference's image tokens, read at an index. -/
module

public import proofs.«01_k».proof.Proof.Gen.Reference5Ideal.Read
public import Idealize.ShloMosaic.Lib.Pointwise

@[expose] public section

set_option maxRecDepth 16384

noncomputable section

namespace Cert.Reference5Ideal.Img

open Cert.Reference5Ideal Cert.Reference5Ideal.Gen Cert.Reference5Ideal.Read Idealize.ShloMosaic Idealize.ShloMosaic.TcCoe Idealize.SL.Sem

theorem toInt_nat (t : ℕ) (h : t < 4096) : (BitVec.ofNat 32 t).toInt = (t : ℤ) := by
  rw [BitVec.toInt_eq_toNat_of_lt (by rw [BitVec.toNat_ofNat]; omega), BitVec.toNat_ofNat]; omega

theorem slt_zero (t : ℕ) (h : t < 4096) : (BitVec.ofNat 32 t).slt 0#32 = false := by
  rw [BitVec.slt_eq_decide, toInt_nat t h]; simp

variable (x0 : (⟨S4x4096x2048, .bf16⟩ : BufTy).Contents (Elt Ideal)) (x1 : (⟨S4x4096x16, .f32⟩ : BufTy).Contents (Elt Ideal))
  (x2 x3 x4 : (⟨S2x16x2048x2048, .f32⟩ : BufTy).Contents (Elt Ideal))

/-- The first of a pair of indices: the batch. -/
theorem pair_batch (b : Fin 4) (e : Fin 16) (c : Fin 512) : val_main_v34 (F := Ideal) x1 (ix4 b e c 0) = BitVec.ofNat 32 b.val := by
  have h : val_main_v34 (F := Ideal) x1 (ix4 b e c 0) = val_main_v25 (F := Ideal) (ix3 b 0 0) := by
    pointwise [val_main_v34, val_main_v32, val_main_v31]
  rw [h]
  pointwise [val_main_v25, val_main_v24, val_main_v23, val_main_v22, val_main_v21, val_main_v20, val_main_v19, val_main_c, val_main_c_2]
  simp [IntOp.cmpi, Scalar.select, slt_zero b.val (by omega)]

/-- The second: the token. -/
theorem pair_token (b : Fin 4) (e : Fin 16) (c : Fin 512) (n : ℕ) (hn : n < 4096)
    (h : val_main_indices (F := Ideal) x1 (ix3 b e c) = BitVec.ofNat 32 n) : val_main_v34 (F := Ideal) x1 (ix4 b e c 1) = BitVec.ofNat 32 n := by
  have h' : val_main_v34 (F := Ideal) x1 (ix4 b e c 1) = val_main_v30 (F := Ideal) x1 (ix3 b e c) := by
    pointwise [val_main_v34, val_main_v33]
  rw [h']
  pointwise [val_main_v30, val_main_v29, val_main_v28, val_main_v27, val_main_v26, val_main_c_3, val_main_c_4]
  rw [h]
  simp [IntOp.cmpi, Scalar.select, slt_zero n hn]

/-- The token a pair names. -/
theorem token_at (b : Fin 4) (e : Fin 16) (c : Fin 512) (n : Fin 4096) (d : Fin 2048)
    (h : val_main_indices (F := Ideal) x1 (ix3 b e c) = BitVec.ofNat 32 n.val) :
    val_main_v35 (F := Ideal) x0 x1 (ix4 b e c d) = x0 (ix3 b n d) := by
  have g : val_main_v35 (F := Ideal) x0 x1 (ix4 b e c d) = val_main_v0 (F := Ideal) x0 (ix3 b n d) := by
    have hb := pair_batch x1 b e c
    have ht := pair_token x1 b e c n.val (by omega) h
    unfold val_main_v35
    generalize val_main_v0 (F := Ideal) x0 = z
    generalize val_main_v34 (F := Ideal) x1 = y at hb ht
    unfold Host.gather
    congr 1
    have s0 : gather_S4x4096x2048_S4x16x512x2_S4x16x512x2048_3_01_n_n_01_3_112048.siIdx (ix4 b e c d) ⟨0, by decide⟩ = ix4 b e c 0 := by
      funext a; refine Fin.ext ?_
      match a with
      | ⟨0, _⟩ => rfl
      | ⟨1, _⟩ => rfl
      | ⟨2, _⟩ => rfl
      | ⟨3, _⟩ => rfl
    have s1 : gather_S4x4096x2048_S4x16x512x2_S4x16x512x2048_3_01_n_n_01_3_112048.siIdx (ix4 b e c d) ⟨1, by decide⟩ = ix4 b e c 1 := by
      funext a; refine Fin.ext ?_
      match a with
      | ⟨0, _⟩ => rfl
      | ⟨1, _⟩ => rfl
      | ⟨2, _⟩ => rfl
      | ⟨3, _⟩ => rfl
    funext a
    refine Fin.ext ?_
    match a with
    | ⟨0, _⟩ =>
      show min (BitVec.toInt (y (gather_S4x4096x2048_S4x16x512x2_S4x16x512x2048_3_01_n_n_01_3_112048.siIdx (ix4 b e c d) ⟨0, _⟩))).toNat 3 + 0 + 0 = b.val
      rw [s0, hb, toInt_nat _ (by omega)]; omega
    | ⟨1, _⟩ =>
      show min (BitVec.toInt (y (gather_S4x4096x2048_S4x16x512x2_S4x16x512x2048_3_01_n_n_01_3_112048.siIdx (ix4 b e c d) ⟨1, _⟩))).toNat 4095 + 0 + 0 = n.val
      rw [s1, ht, toInt_nat _ (by omega)]; omega
    | ⟨2, _⟩ => show 0 + 0 + d.val = d.val; omega
  rw [g]
  pointwise [val_main_v0]

theorem gate_dot (e : Fin 16) (f : Fin 2048) (b : Fin 4) (c : Fin 512) :
    val_main_v36 (F := Ideal) x0 x1 x2 (ix4 e f b c) = ∑ k : Fin 2048, x2 (ix4 1 e k f) * val_main_v35 (F := Ideal) x0 x1 (ix4 b e c k) := by
  pointwise [val_main_v36, val_main_v2, val_main_v1]

theorem up_dot (e : Fin 16) (f : Fin 2048) (b : Fin 4) (c : Fin 512) :
    val_main_v38 (F := Ideal) x0 x1 x3 (ix4 e f b c) = ∑ k : Fin 2048, x3 (ix4 1 e k f) * val_main_v35 (F := Ideal) x0 x1 (ix4 b e c k) := by
  pointwise [val_main_v38, val_main_v4, val_main_v3]

theorem hidden_at (b : Fin 4) (e : Fin 16) (c : Fin 512) (f : Fin 2048) :
    val_main_v41 (F := Ideal) x0 x1 x2 x3 (ix4 b e c f)
      = val_main_v36 (F := Ideal) x0 x1 x2 (ix4 e f b c) * Ideal.logistic (val_main_v36 (F := Ideal) x0 x1 x2 (ix4 e f b c))
        * val_main_v38 (F := Ideal) x0 x1 x3 (ix4 e f b c) := by
  have h39 : val_main_v37 (F := Ideal) x0 x1 x2 (ix4 b e c f) = val_main_v36 (F := Ideal) x0 x1 x2 (ix4 e f b c) := by
    pointwise [val_main_v37]
  have h41 : val_main_v39 (F := Ideal) x0 x1 x3 (ix4 b e c f) = val_main_v38 (F := Ideal) x0 x1 x3 (ix4 e f b c) := by
    pointwise [val_main_v39]
  have h5 : val_main_call0_v5 (F := Ideal) x0 x1 x2 (ix4 b e c f) = Ideal.logistic (val_main_v37 (F := Ideal) x0 x1 x2 (ix4 b e c f)) := by
    pointwise [val_main_call0_v5, val_main_call0_v4, val_main_call0_v3, val_main_call0_v2, val_main_call0_v1, val_main_call0_v0, val_main_call0_cst, val_main_call0_cst_0]
    rfl
  rw [val_main_v41_apply, val_main_v40_apply, h5, h39, h41]
  rfl

theorem down_dot (e : Fin 16) (n : Fin 2048) (b : Fin 4) (c : Fin 512) :
    val_main_v42 (F := Ideal) x0 x1 x2 x3 x4 (ix4 e n b c) = ∑ k : Fin 2048, x4 (ix4 1 e k n) * val_main_v41 (F := Ideal) x0 x1 x2 x3 (ix4 b e c k) := by
  pointwise [val_main_v42, val_main_v6, val_main_v5]

/-- A token's output of one expert. -/
theorem weighted_at (b : Fin 4) (e : Fin 16) (c : Fin 512) (n : Fin 2048) :
    val_main_v46 (F := Ideal) x0 x1 x2 x3 x4 (ix4 b e c n)
      = val_main_v42 (F := Ideal) x0 x1 x2 x3 x4 (ix4 e n b c) * val_main_values (F := Ideal) x1 (ix3 b e c) := by
  pointwise [val_main_v46, val_main_v45, val_main_v44, val_main_v43]

end Cert.Reference5Ideal.Img

end
-- ==== Proof.LateStack.lean ====
/- The reference's result, image tokens then context tokens of each batch, read at an index. -/
module

public import proofs.«01_k».proof.Proof.Gen.Reference5Ideal.Read
public import Idealize.ShloMosaic.Lib.Pointwise

@[expose] public section

set_option maxRecDepth 16384

noncomputable section

namespace Cert.Reference5Ideal.Stack

open Cert.Reference5Ideal Cert.Reference5Ideal.Gen Cert.Reference5Ideal.Read Idealize.ShloMosaic Idealize.ShloMosaic.TcCoe Idealize.SL.Sem

variable (x0 : (⟨S4x4096x2048, .bf16⟩ : BufTy).Contents (Elt Ideal)) (x1 : (⟨S4x4096x16, .f32⟩ : BufTy).Contents (Elt Ideal))
  (x2 x3 x4 : (⟨S2x16x2048x2048, .f32⟩ : BufTy).Contents (Elt Ideal))

theorem stacked (e : Fin 16) (b : Fin 4) (c : Fin 512) (n : Fin 2048) :
    val_main_v49 (F := Ideal) x0 x1 x2 x3 x4 (ix3 e ⟨b.val * 512 + c.val, by omega⟩ n) = val_main_v46 (F := Ideal) x0 x1 x2 x3 x4 (ix4 b e c n) := by
  have h : val_main_v49 (F := Ideal) x0 x1 x2 x3 x4 (ix3 e ⟨b.val * 512 + c.val, by omega⟩ n) = val_main_v47 (F := Ideal) x0 x1 x2 x3 x4 (ix4 e b c n) := by
    rw [val_main_v49_apply, val_main_v48_apply]
    refine congrArg (val_main_v47 (F := Ideal) x0 x1 x2 x3 x4) (funext fun a => Fin.ext ?_)
    match a with
    | ⟨0, _⟩ => show ((e.val * 2048 + (b.val * 512 + c.val)) * 2048 + n.val) / 4194304 = e.val; omega
    | ⟨1, _⟩ => show ((e.val * 2048 + (b.val * 512 + c.val)) * 2048 + n.val) / 1048576 % 4 = b.val; omega
    | ⟨2, _⟩ => show ((e.val * 2048 + (b.val * 512 + c.val)) * 2048 + n.val) / 2048 % 512 = c.val; omega
    | ⟨3, _⟩ => show ((e.val * 2048 + (b.val * 512 + c.val)) * 2048 + n.val) % 2048 = n.val; omega
  rw [h]
  pointwise [val_main_v47]

end Cert.Reference5Ideal.Stack

end
-- ==== Proof.LateSame.lean ====
/- The two launches over what the host prepares compute what the reference does. -/
module

public import proofs.«01_k».proof.Proof.LateHostAt
public import proofs.«01_k».proof.Proof.LateUp
public import proofs.«01_k».proof.Proof.LateDown
public import proofs.«01_k».proof.Proof.LateRef
public import proofs.«01_k».proof.Proof.LateStack

@[expose] public section

set_option maxRecDepth 16384

noncomputable section

namespace Cert.Kernel5Ideal.Moe

open Cert.At Cert.Kernel5Ideal Cert.Kernel5Ideal.Gen Idealize.ShloMosaic Idealize.ShloMosaic.TcCoe Idealize.SL.Sem

section Read

open Cert.Reference5Ideal.Read Cert.Reference5Ideal.Stack

theorem soft_eq (x : FVec Ideal S4x4096x16 .f32) : val_main_v18 (F := Ideal) x = soft x := rfl

theorem values_eq (x : FVec Ideal S4x4096x16 .f32) : val_main_values (F := Ideal) x = best (soft x) := by
  unfold val_main_values best; rw [soft_eq]

theorem bestIdx_at (z : FVec Ideal S4x16x4096 .f32) (i : S4x16x512.Idx) :
    bestIdx z i = (Host.topK S4x16x512 2 (FloatOps.cmpfTotal (F := Ideal) .gt) z sliceFits_S4x16x4096_S4x16x512).2 i + 0#32 := rfl

/-- The image tokens chosen, and their weights. -/
theorem chosen (x : FVec Ideal S4x4096x16 .f32) : ∃ p : Fin 4 → Fin 16 → Fin 512 → Fin 4096, ∀ b e c,
    val_main_values (F := Ideal) x (ix3 b e c) ≠ ⊤ ∧ val_main_indices (F := Ideal) x (ix3 b e c) = BitVec.ofNat 32 (p b e c).val
      ∧ bestIdx (soft x) (ix3 b e c) = BitVec.ofNat 32 (p b e c).val := by
  obtain ⟨p, hp⟩ := Cert.TopK.spec (FloatOps.cmpfTotal (F := Ideal) (φ := .f32) .gt) (soft x) sliceFits_S4x16x4096_S4x16x512
  refine ⟨p, fun b e c => ⟨?_, (hp b e c).2, ?_⟩⟩
  · rw [values_eq]
    exact fun h => soft_ne_top x b e (p b e c) ((hp b e c).1.symm.trans h)
  · rw [bestIdx_at, BitVec.add_zero]
    exact (hp b e c).2

variable (x0 : FVec Ideal S4x4096x2048 .bf16) (x1 : FVec Ideal S4x4096x16 .f32) (x2 x3 x4 : FVec Ideal S2x16x2048x2048 .f32)

/-- The table row of a token of a batch. -/
theorem row_of (b : Fin 4) (n : ℕ) : BitVec.ofNat 32 n + BitVec.ofNat 32 b.val * 4096#32 = BitVec.ofNat 32 (b.val * 4096 + n) := by
  rw [Nat.add_comm, BitVec.ofNat_add, BitVec.ofNat_mul]

/-- An expert's row is the token it names, its weight's rows sum to the weight. -/
theorem piece (b : Fin 4) (e : Fin 16) (c : Fin 512) (n : Fin 2048) (t : Fin 4096) (g : EReal)
    (ht : tokens x1 (ix3 b e c) = BitVec.ofNat 32 t.val) (hg : weights x1 (ix3 b e c) = g) (htop : g ≠ ⊤) :
    outp (hid (taken x0 (rows (tokens x1))) x2 x3) x4 (gates (flat (weights x1))) (ix3 e ⟨b.val * 512 + c.val, by omega⟩ n)
      = (∑ f : Fin 2048, gated (∑ k : Fin 2048, x0 (ix3 b t k) * x2 (ix4 1 e k f)) (∑ k : Fin 2048, x0 (ix3 b t k) * x3 (ix4 1 e k f)) * x4 (ix4 1 e f n)) * g := by
  have hx : ∀ k : Fin 2048, taken x0 (rows (tokens x1)) (ix3 e ⟨b.val * 512 + c.val, by omega⟩ k) = x0 (ix3 b t k) := fun k =>
    taken_at x0 _ e _ b t k (by rw [rows_at, ht, row_of])
  have hw : flat (weights x1) (ix3 e 0 ⟨b.val * 512 + c.val, by omega⟩) = g := by rw [flat_at, hg]
  have hsum := gates_sum (flat (weights x1)) e ⟨b.val * 512 + c.val, by omega⟩ (by rw [hw]; exact htop)
  rw [hw] at hsum
  have hh : ∀ f : Fin 2048, at3 (hid (taken x0 (rows (tokens x1))) x2 x3) e.val (b.val * 512 + c.val) f.val
      = gated (∑ k : Fin 2048, x0 (ix3 b t k) * x2 (ix4 1 e k f)) (∑ k : Fin 2048, x0 (ix3 b t k) * x3 (ix4 1 e k f)) := by
    intro f
    refine (at3_mk (hid (taken x0 (rows (tokens x1))) x2 x3) e ⟨b.val * 512 + c.val, by omega⟩ f).trans ?_
    refine congrArg₂ gated (Finset.sum_congr rfl fun k _ => congrArg₂ (· * ·) ?_ ?_) (Finset.sum_congr rfl fun k _ => congrArg₂ (· * ·) ?_ ?_)
    · exact (at3_mk (taken x0 (rows (tokens x1))) e ⟨b.val * 512 + c.val, by omega⟩ k).trans (hx k)
    · exact at4_mk x2 1 e k f
    · exact (at3_mk (taken x0 (rows (tokens x1))) e ⟨b.val * 512 + c.val, by omega⟩ k).trans (hx k)
    · exact at4_mk x3 1 e k f
  refine congrArg₂ (· * ·) (Finset.sum_congr rfl fun f _ => congrArg₂ (· * ·) (hh f) (at4_mk x4 1 e f n)) hsum

theorem img (e : Fin 16) (b : Fin 4) (c : Fin 512) (n : Fin 2048) (t : Fin 4096)
    (h : ∀ k : Fin 2048, val_main_v35 (F := Ideal) x0 x1 (ix4 b e c k) = x0 (ix3 b t k)) :
    val_main_v46 (F := Ideal) x0 x1 x2 x3 x4 (ix4 b e c n)
      = (∑ f : Fin 2048, gated (∑ k : Fin 2048, x0 (ix3 b t k) * x2 (ix4 1 e k f)) (∑ k : Fin 2048, x0 (ix3 b t k) * x3 (ix4 1 e k f)) * x4 (ix4 1 e f n))
        * val_main_values (F := Ideal) x1 (ix3 b e c) := by
  rw [Cert.Reference5Ideal.Img.weighted_at, Cert.Reference5Ideal.Img.down_dot]
  refine congrArg (· * val_main_values (F := Ideal) x1 (ix3 b e c)) (Finset.sum_congr rfl fun f _ => ?_)
  rw [Cert.Reference5Ideal.Img.hidden_at, Cert.Reference5Ideal.Img.gate_dot, Cert.Reference5Ideal.Img.up_dot, mul_comm]
  have hs : ∀ w : FVec Ideal S2x16x2048x2048 .f32, ∑ k : Fin 2048, w (ix4 1 e k f) * val_main_v35 (F := Ideal) x0 x1 (ix4 b e c k)
      = ∑ k : Fin 2048, x0 (ix3 b t k) * w (ix4 1 e k f) := fun w => Finset.sum_congr rfl fun k _ => by rw [h k]; exact mul_comm _ _
  exact congrArg (· * x4 (ix4 1 e f n)) (congrArg₂ gated (hs x2) (hs x3))

/-- Every entry of the result. -/
theorem same_at (b : Fin 4) (e : Fin 16) (c : Fin 512) (n : Fin 2048) :
    outp (hid (taken x0 (rows (tokens x1))) x2 x3) x4 (gates (flat (weights x1))) (ix3 e ⟨b.val * 512 + c.val, by omega⟩ n)
      = val_main_v49 (F := Ideal) x0 x1 x2 x3 x4 (ix3 e ⟨b.val * 512 + c.val, by omega⟩ n) := by
  rw [stacked x0 x1 x2 x3 x4 e b c n]
  obtain ⟨p, hp⟩ := chosen x1
  obtain ⟨htop, hi, ht⟩ := hp b e c
  rw [piece x0 x1 x2 x3 x4 b e c n (p b e c) _ ht (congrFun (values_eq x1).symm _) htop]
  exact (img x0 x1 x2 x3 x4 e b c n _ fun k => Cert.Reference5Ideal.Img.token_at x0 x1 b e c _ k hi).symm

/-- The whole result. -/
theorem same : outp (hid (taken x0 (rows (tokens x1))) x2 x3) x4 (gates (flat (weights x1))) = val_main_v49 (F := Ideal) x0 x1 x2 x3 x4 := by
  funext y
  have hq : (y 1).val < 2048 := (y 1).isLt
  have hy : y = ix3 ⟨(y 0).val, (y 0).isLt⟩ ⟨((⟨(y 1).val / 512, by omega⟩ : Fin 4)).val * 512 + ((⟨(y 1).val % 512, Nat.mod_lt _ (by decide)⟩ : Fin 512)).val,
      by show (y 1).val / 512 * 512 + (y 1).val % 512 < 2048; omega⟩ ⟨(y 2).val, (y 2).isLt⟩ := by
    funext a; refine Fin.ext ?_
    match a with
    | ⟨0, _⟩ => rfl
    | ⟨1, _⟩ => show (y 1).val = (y 1).val / 512 * 512 + (y 1).val % 512; omega
    | ⟨2, _⟩ => rfl
  rw [hy]
  exact same_at x0 x1 x2 x3 x4 _ _ _ _

end Read

end Cert.Kernel5Ideal.Moe

end
-- ==== Proof.LateFinal.lean ====
/- The two launches' result, from the arguments. -/
module

public import proofs.«01_k».proof.Proof.LateRun
public import proofs.«01_k».proof.Proof.LateSame

@[expose] public section

set_option maxRecDepth 16384

noncomputable section

namespace Cert.Kernel5Ideal.Moe

open Cert.Kernel5Ideal Cert.Kernel5Ideal.Gen Idealize.ShloMosaic Idealize.ShloMosaic.TcCoe Idealize.SL.Sem

variable (m : (ℓ : Loc nD τ sig) → Buf (Elt Ideal) ℓ) (ρ : Dev nD → PrngReg)

theorem V1_up (c : Dev nD) : V1 m ρ c main_arg2 = m ((c.tc : Thread nD τ).loc main_arg2) := W1_args m ρ c _ (by decide)

theorem V1_gate (c : Dev nD) : V1 m ρ c main_arg3 = m ((c.tc : Thread nD τ).loc main_arg3) := W1_args m ρ c _ (by decide)

theorem V2_down (c : Dev nD) : V2 m ρ c main_arg4 = m ((c.tc : Thread nD τ).loc main_arg4) := W2_args m ρ c _ (by decide)

theorem V2_gates (c : Dev nD) : V2 m ρ c main_v34 = V1 m ρ c main_v34 := W2_of m ρ c _ (by decide)

theorem V2_hidden (c : Dev nD) : V2 m ρ c main_v43 = (dat0 (V1 m ρ) c).arrAt 3 cfg0.N := W2_arr m ρ c 3

/-- The result is the reference's. -/
theorem final (c : Dev nD) : (dat1 (V2 m ρ) c).arrAt 3 cfg1.N
    = Cert.Reference5Ideal.Read.val_main_v49 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rw [down_final, V2_hidden, V2_down, V2_gates, up_final, V1_up, V1_gate, V_gates, V_taken]
  exact same _ _ _ _ _

end Cert.Kernel5Ideal.Moe

end
-- ==== Proof.OutPiece.lean ====
/- The attention's output projection: the kernel's payloads read at an index. -/
module

public import proofs.«01_k».proof.Proof.Gen.Kernel6Ideal.Frame
public import proofs.«01_k».proof.Proof.At
public import Idealize.ShloMosaic.Lib.Pointwise

@[expose] public section

set_option maxRecDepth 16384

noncomputable section

namespace Cert.Kernel6Ideal.Out

open Cert.Kernel6Ideal Cert.Kernel6Ideal.Gen Idealize.ShloMosaic Idealize.ShloMosaic.TcCoe Idealize.SL.Sem

/-- Of two values, the first where the token is one of the context. -/
def pick (t : ℕ) (a b : EReal) : EReal := if 4096 ≤ t then a else b

/-- The kernel's comparison of the token's number. -/
theorem pick_eq (i o r : ℕ) (hi : i < 8) (ho : o ≤ 272) (hr : r < 272) (a b : EReal) :
    Scalar.select (IntOp.cmpi .sge (BitVec.ofNat 32 i * 544#32 + BitVec.ofNat 32 o + BitVec.ofNat 32 r) 4096#32) a b = pick (544 * i + (o + r)) a b := by
  have h : BitVec.ofNat 32 i * 544#32 + BitVec.ofNat 32 o + BitVec.ofNat 32 r = BitVec.ofNat 32 (544 * i + (o + r)) := by
    rw [BitVec.ofNat_add, BitVec.ofNat_add, BitVec.ofNat_mul, BitVec.mul_comm, BitVec.add_assoc]
  rw [h]
  have hn : 544 * i + (o + r) < 5000 := by omega
  generalize 544 * i + (o + r) = n at hn
  have hz : (BitVec.ofNat 32 n).toInt = (n : ℤ) := by
    rw [BitVec.toInt_eq_toNat_of_lt (by rw [BitVec.toNat_ofNat]; omega), BitVec.toNat_ofNat]; omega
  unfold pick
  by_cases hp : 4096 ≤ n
  · rw [if_pos hp]
    have : (4096#32).sle (BitVec.ofNat 32 n) = true := by
      rw [BitVec.sle_eq_decide, hz]; simp; omega
    simp [IntOp.cmpi, Scalar.select, this]
  · rw [if_neg hp]
    have : (4096#32).sle (BitVec.ofNat 32 n) = false := by
      rw [BitVec.sle_eq_decide, hz]; simp; omega
    simp [IntOp.cmpi, Scalar.select, this]

/-- The residual of a token: what comes in, plus the gated projection of the two halves of the attention. -/
def resid (t : ℕ) (x gc gl p q : EReal) : EReal := x + pick t gc gl * (p + q)

theorem resid_lo (i : grid0.Coords) (a : Vec Ideal S1x272x1024 .bf16) (v : Vec Ideal S1024x2048 .bf16) (b : Vec Ideal S1x272x1024 .bf16) (w : Vec Ideal S1024x2048 .bf16)
    (x : Vec Ideal S1x272x2048 .f32) (gc : Vec Ideal S1x1x2048 .f32) (gl : Vec Ideal S1x1x1x2048 .f32) (r : Fin 272) (n : Fin 2048) :
    k0_pay5 i a v b w x gc gl (ix2 r n) = resid (544 * (i 1).val + (0 + r.val)) (x (ix3 0 r n)) (gc (ix3 0 0 n)) (gl (ix4 0 0 0 n))
      (∑ k : Fin 1024, a (ix3 0 r k) * v (ix2 k n)) (∑ k : Fin 1024, b (ix3 0 r k) * w (ix2 k n)) := by
  have hi : (i 1).val < 8 := (i 1).isLt
  unfold resid
  rw [← pick_eq _ 0 _ hi (by omega) r.isLt]
  pointwise [k0_pay5]
  rfl

theorem resid_hi (i : grid0.Coords) (a : Vec Ideal S1x272x1024 .bf16) (v : Vec Ideal S1024x2048 .bf16) (b : Vec Ideal S1x272x1024 .bf16) (w : Vec Ideal S1024x2048 .bf16)
    (x : Vec Ideal S1x272x2048 .f32) (gc : Vec Ideal S1x1x2048 .f32) (gl : Vec Ideal S1x1x1x2048 .f32) (r : Fin 272) (n : Fin 2048) :
    k0_pay12 (BitVec.ofNat 32 (i 1).val) a v b w x gc gl (ix2 r n) = resid (544 * (i 1).val + (272 + r.val)) (x (ix3 0 r n)) (gc (ix3 0 0 n)) (gl (ix4 0 0 0 n))
      (∑ k : Fin 1024, a (ix3 0 r k) * v (ix2 k n)) (∑ k : Fin 1024, b (ix3 0 r k) * w (ix2 k n)) := by
  have hi : (i 1).val < 8 := (i 1).isLt
  unfold resid
  rw [← pick_eq _ 272 _ hi (by omega) r.isLt]
  pointwise [k0_pay12]
  rfl

/-- What a row is scaled by: one over the root of its mean square. -/
def inv (f : Fin 2048 → EReal) : EReal :=
  Ideal.rsqrt (Ideal.div (∑ k : Fin 2048, f k * f k) (Ideal.ofBits .f32 0x45000000#32) + Ideal.ofBits .f32 0x358637BD#32)

/-- An entry of the normalized row, times its gain and one plus its scale. -/
def scaled (t : ℕ) (f : Fin 2048 → EReal) (v g sc sl : EReal) : EReal :=
  v * inv f * g * (Ideal.ofBits .f32 0x3F800000#32 + pick t sc sl)

theorem scaled_lo (i : grid0.Coords) (x : FVec Ideal S272x2048 .f32) (g : Vec Ideal S1x2048 .f32) (sc : Vec Ideal S1x1x2048 .f32) (sl : Vec Ideal S1x1x1x2048 .f32)
    (r : Fin 272) (n : Fin 2048) :
    k0_pay7 (BitVec.ofNat 32 (i 1).val) x g sc sl (ix2 r n)
      = scaled (544 * (i 1).val + (0 + r.val)) (fun k => x (ix2 r k)) (x (ix2 r n)) (g (ix2 0 n)) (sc (ix3 0 0 n)) (sl (ix4 0 0 0 n)) := by
  have hi : (i 1).val < 8 := (i 1).isLt
  unfold scaled inv
  rw [← pick_eq _ 0 _ hi (by omega) r.isLt]
  pointwise [k0_pay7]
  rfl

theorem scaled_hi (i : grid0.Coords) (x : FVec Ideal S272x2048 .f32) (g : Vec Ideal S1x2048 .f32) (sc : Vec Ideal S1x1x2048 .f32) (sl : Vec Ideal S1x1x1x2048 .f32)
    (r : Fin 272) (n : Fin 2048) :
    k0_pay14 (BitVec.ofNat 32 (i 1).val) x g sc sl (ix2 r n)
      = scaled (544 * (i 1).val + (272 + r.val)) (fun k => x (ix2 r k)) (x (ix2 r n)) (g (ix2 0 n)) (sc (ix3 0 0 n)) (sl (ix4 0 0 0 n)) := by
  have hi : (i 1).val < 8 := (i 1).isLt
  unfold scaled inv
  rw [← pick_eq _ 272 _ hi (by omega) r.isLt]
  pointwise [k0_pay14]
  rfl

/-- The kernel's logits: the row against the router's weights, then what its rounding leaves out against them. -/
def router (f : Fin 2048 → EReal) (w : Fin 2048 → EReal) : EReal := (∑ k : Fin 2048, f k * w k) + ∑ k : Fin 2048, (f k - f k) * w k

theorem shifted_lo (i : grid0.Coords) (x : FVec Ideal S272x2048 .f32) (sc : Vec Ideal S1x1x2048 .f32) (sl : Vec Ideal S1x1x1x2048 .f32) (r : Fin 272) (n : Fin 2048) :
    k0_pay8 x (Scalar.muli (BitVec.ofNat 32 (i 1).val) 544#32) sc sl (ix2 r n)
      = x (ix2 r n) + pick (544 * (i 1).val + (0 + r.val)) (sc (ix3 0 0 n)) (sl (ix4 0 0 0 n)) := by
  have hi : (i 1).val < 8 := (i 1).isLt
  rw [← pick_eq _ 0 _ hi (by omega) r.isLt]
  pointwise [k0_pay8]
  rfl

theorem shifted_hi (i : grid0.Coords) (x : FVec Ideal S272x2048 .f32) (sc : Vec Ideal S1x1x2048 .f32) (sl : Vec Ideal S1x1x1x2048 .f32) (r : Fin 272) (n : Fin 2048) :
    k0_pay1 x (iota .tc S272x1 32 [0] iota_S272x1_d0_w32) (k0_pay15 (BitVec.ofNat 32 (i 1).val)) sc sl (ix2 r n)
      = x (ix2 r n) + pick (544 * (i 1).val + (272 + r.val)) (sc (ix3 0 0 n)) (sl (ix4 0 0 0 n)) := by
  have hi : (i 1).val < 8 := (i 1).isLt
  rw [← pick_eq _ 272 _ hi (by omega) r.isLt]
  pointwise [k0_pay1, k0_pay15]
  rfl

theorem stored_lo (x : FVec Ideal S272x2048 .f32) (s : BitVec 32) (sc : Vec Ideal S1x1x2048 .f32) (sl : Vec Ideal S1x1x1x2048 .f32) (r : Fin 272) (n : Fin 2048) :
    k0_pay10 x s sc sl (ix3 0 r n) = k0_pay8 x s sc sl (ix2 r n) := by
  unfold k0_pay10 k0_pay9
  generalize k0_pay8 x s sc sl = z
  pointwise

theorem stored_hi (x : FVec Ideal S272x2048 .f32) (a b : IVec S272x1 32) (sc : Vec Ideal S1x1x2048 .f32) (sl : Vec Ideal S1x1x1x2048 .f32) (r : Fin 272) (n : Fin 2048) :
    k0_pay3 x a b sc sl (ix3 0 r n) = k0_pay1 x a b sc sl (ix2 r n) := by
  unfold k0_pay3 k0_pay2
  generalize k0_pay1 x a b sc sl = z
  pointwise

theorem router_lo (x : FVec Ideal S272x2048 .f32) (s : BitVec 32) (sc : Vec Ideal S1x1x2048 .f32) (sl : Vec Ideal S1x1x1x2048 .f32) (w : Vec Ideal S2048x32 .bf16)
    (r : Fin 272) (n : Fin 32) :
    k0_pay11 x s sc sl w w (ix3 0 r n) = router (fun k => k0_pay8 x s sc sl (ix2 r k)) (fun k => w (ix2 k n)) := by
  unfold k0_pay11 k0_pay9 router
  generalize k0_pay8 x s sc sl = z
  pointwise

theorem router_hi (x : FVec Ideal S272x2048 .f32) (a b : IVec S272x1 32) (sc : Vec Ideal S1x1x2048 .f32) (sl : Vec Ideal S1x1x1x2048 .f32) (w : Vec Ideal S2048x32 .bf16)
    (r : Fin 272) (n : Fin 32) :
    k0_pay4 x a b sc sl w w (ix3 0 r n) = router (fun k => k0_pay1 x a b sc sl (ix2 r k)) (fun k => w (ix2 k n)) := by
  unfold k0_pay4 k0_pay2 router
  generalize k0_pay1 x a b sc sl = z
  pointwise

theorem row_lo (z : FVec Ideal S272x2048 .f32) (r : Fin 272) (n : Fin 2048) : k0_pay6 z (ix3 0 r n) = z (ix2 r n) := by
  pointwise [k0_pay6]

theorem row_hi (z : FVec Ideal S272x2048 .f32) (r : Fin 272) (n : Fin 2048) : k0_pay13 z (ix3 0 r n) = z (ix2 r n) := by
  pointwise [k0_pay13]

end Cert.Kernel6Ideal.Out

end
-- ==== Proof.OutBlock.lean ====
/- The attention's output projection: what the body leaves in each output block, and the three arrays of the launch. -/
module

public import proofs.«01_k».proof.Proof.OutPiece
public import proofs.«01_k».proof.Proof.AtTwo
public import Idealize.ShloMosaic.Lib.Pipeline.ValueKit

@[expose] public section

set_option maxRecDepth 16384

noncomputable section

namespace Cert.Kernel6Ideal.Out

open Cert.Kernel6Ideal Cert.Kernel6Ideal.Gen Idealize.ShloMosaic Idealize.ShloMosaic.TcCoe Idealize.SL.Sem
open Cert.At

section Block

variable (i : grid0.Coords) (x0 : Vec Ideal S1x544x1024 .bf16) (x1 : Vec Ideal S1x544x1024 .bf16) (x2 : Vec Ideal S1024x2048 .bf16) (x3 : Vec Ideal S1024x2048 .bf16) (x4 : Vec Ideal S1x544x2048 .f32) (x5 : Vec Ideal S1x1x1x2048 .f32) (x6 : Vec Ideal S1x1x2048 .f32) (x7 : Vec Ideal S1x2048 .f32) (x8 : Vec Ideal S1x1x1x2048 .f32) (x9 : Vec Ideal S1x1x2048 .f32) (x10 : Vec Ideal S1x1x1x2048 .f32) (x11 : Vec Ideal S1x1x2048 .f32) (x12 : Vec Ideal S2048x32 .bf16)

/-- The block's residuals. -/
def bres (r : Fin 544) (n : Fin 2048) : EReal :=
  resid (544 * (i 1).val + r.val) (x4 (ix3 0 r n)) (x6 (ix3 0 0 n)) (x5 (ix4 0 0 0 n))
    (∑ k : Fin 1024, x0 (ix3 0 r k) * x2 (ix2 k n)) (∑ k : Fin 1024, x1 (ix3 0 r k) * x3 (ix2 k n))

/-- The block's normalized and modulated rows. -/
def bhid (r : Fin 544) (n : Fin 2048) : EReal :=
  scaled (544 * (i 1).val + r.val) (fun k => bres i x0 x1 x2 x3 x4 x5 x6 r k) (bres i x0 x1 x2 x3 x4 x5 x6 r n) (x7 (ix2 0 n)) (x9 (ix3 0 0 n)) (x8 (ix4 0 0 0 n))
    + pick (544 * (i 1).val + r.val) (x11 (ix3 0 0 n)) (x10 (ix4 0 0 0 n))

/-- The block's logits, in the two halves of the split weights. -/
def blog (r : Fin 544) (n : Fin 32) : EReal :=
  router (fun k => bhid i x0 x1 x2 x3 x4 x5 x6 x7 x8 x9 x10 x11 r k) (fun k => x12 (ix2 k n))

theorem ld_a_lo (X : Vec Ideal S1x544x1024 .bf16) (r : Fin 272) (k : Fin 1024) : View.ld X r0_0 (ix3 0 r k) = X (ix3 0 ⟨0 + r.val, by omega⟩ k) :=
  View.ld_unit_apply_of X _ _ _ _ _ fun a => match a with
    | ⟨0, _⟩ => rfl
    | ⟨1, _⟩ => rfl
    | ⟨2, _⟩ => (Nat.zero_add _).symm

theorem ld_a_hi (X : Vec Ideal S1x544x1024 .bf16) (r : Fin 272) (k : Fin 1024) : View.ld X r0_8 (ix3 0 r k) = X (ix3 0 ⟨272 + r.val, by omega⟩ k) :=
  View.ld_unit_apply_of X _ _ _ _ _ fun a => match a with
    | ⟨0, _⟩ => rfl
    | ⟨1, _⟩ => rfl
    | ⟨2, _⟩ => (Nat.zero_add _).symm

theorem ld_x_lo (X : Vec Ideal S1x544x2048 .f32) (r : Fin 272) (k : Fin 2048) : View.ld X r0_2 (ix3 0 r k) = X (ix3 0 ⟨0 + r.val, by omega⟩ k) :=
  View.ld_unit_apply_of X _ _ _ _ _ fun a => match a with
    | ⟨0, _⟩ => rfl
    | ⟨1, _⟩ => rfl
    | ⟨2, _⟩ => (Nat.zero_add _).symm

theorem ld_x_hi (X : Vec Ideal S1x544x2048 .f32) (r : Fin 272) (k : Fin 2048) : View.ld X r0_9 (ix3 0 r k) = X (ix3 0 ⟨272 + r.val, by omega⟩ k) :=
  View.ld_unit_apply_of X _ _ _ _ _ fun a => match a with
    | ⟨0, _⟩ => rfl
    | ⟨1, _⟩ => rfl
    | ⟨2, _⟩ => (Nat.zero_add _).symm

theorem ld_w (X : Vec Ideal S1024x2048 .bf16) (k : Fin 1024) (n : Fin 2048) : View.ld X r0_1 (ix2 k n) = X (ix2 k n) :=
  View.ld_unit_apply_of X _ _ _ _ _ fun a => match a with
    | ⟨0, _⟩ => (Nat.zero_add _).symm
    | ⟨1, _⟩ => (Nat.zero_add _).symm

theorem ld_c (X : Vec Ideal S1x1x2048 .f32) (n : Fin 2048) : View.ld X r0_3 (ix3 0 0 n) = X (ix3 0 0 n) :=
  View.ld_unit_apply_of X _ _ _ _ _ fun a => match a with
    | ⟨0, _⟩ => rfl
    | ⟨1, _⟩ => rfl
    | ⟨2, _⟩ => (Nat.zero_add _).symm

theorem ld_l (X : Vec Ideal S1x1x1x2048 .f32) (n : Fin 2048) : View.ld X r0_4 (ix4 0 0 0 n) = X (ix4 0 0 0 n) :=
  View.ld_unit_apply_of X _ _ _ _ _ fun a => match a with
    | ⟨0, _⟩ => rfl
    | ⟨1, _⟩ => rfl
    | ⟨2, _⟩ => rfl
    | ⟨3, _⟩ => (Nat.zero_add _).symm

theorem ld_g (X : Vec Ideal S1x2048 .f32) (n : Fin 2048) : View.ld X r0_5 (ix2 0 n) = X (ix2 0 n) :=
  View.ld_unit_apply_of X _ _ _ _ _ fun a => match a with
    | ⟨0, _⟩ => rfl
    | ⟨1, _⟩ => (Nat.zero_add _).symm

theorem ld_r (X : Vec Ideal S2048x32 .bf16) (k : Fin 2048) (n : Fin 32) : View.ld X r0_6 (ix2 k n) = X (ix2 k n) :=
  View.ld_unit_apply_of X _ _ _ _ _ fun a => match a with
    | ⟨0, _⟩ => (Nat.zero_add _).symm
    | ⟨1, _⟩ => (Nat.zero_add _).symm

theorem resid_congr (t : ℕ) {x x' c c' l l' p p' q q' : EReal} (hx : x = x') (hc : c = c') (hl : l = l') (hp : p = p') (hq : q = q') :
    resid t x c l p q = resid t x' c' l' p' q' := by rw [hx, hc, hl, hp, hq]

theorem scaled_congr (t : ℕ) {f f' : Fin 2048 → EReal} {v v' g g' c c' l l' : EReal} (hf : f = f') (hv : v = v') (hg : g = g') (hc : c = c') (hl : l = l') :
    scaled t f v g c l = scaled t f' v' g' c' l' := by rw [hf, hv, hg, hc, hl]

theorem pick_congr (t : ℕ) {c c' l l' : EReal} (hc : c = c') (hl : l = l') : pick t c l = pick t c' l' := by rw [hc, hl]

theorem res_lo (r : Fin 272) (n : Fin 2048) : k0_pay16 (F := Ideal) i x0 x1 x2 x3 x4 x5 x6 x7 x8 x9 x10 x11 x12 (ix2 r n) = bres i x0 x1 x2 x3 x4 x5 x6 ⟨0 + r.val, by omega⟩ n := by
  unfold k0_pay16 bres
  refine (resid_lo i _ _ _ _ _ _ _ r n).trans ?_
  exact resid_congr _ (ld_x_lo x4 r n) (ld_c x6 n) (ld_l x5 n) (Finset.sum_congr rfl fun k _ => congrArg₂ (· * ·) (ld_a_lo x0 r k) (ld_w x2 k n))
    (Finset.sum_congr rfl fun k _ => congrArg₂ (· * ·) (ld_a_lo x1 r k) (ld_w x3 k n))

theorem sc_lo (r : Fin 272) (n : Fin 2048) : k0_pay17 (F := Ideal) i x0 x1 x2 x3 x4 x5 x6 x7 x8 x9 x10 x11 x12 (ix2 r n)
    = scaled (544 * (i 1).val + (0 + r.val)) (fun k => bres i x0 x1 x2 x3 x4 x5 x6 ⟨0 + r.val, by omega⟩ k) (bres i x0 x1 x2 x3 x4 x5 x6 ⟨0 + r.val, by omega⟩ n) (x7 (ix2 0 n)) (x9 (ix3 0 0 n)) (x8 (ix4 0 0 0 n)) := by
  unfold k0_pay17
  refine (scaled_lo i _ _ _ _ r n).trans ?_
  exact scaled_congr _ (funext fun k => res_lo i x0 x1 x2 x3 x4 x5 x6 x7 x8 x9 x10 x11 x12 r k) (res_lo i x0 x1 x2 x3 x4 x5 x6 x7 x8 x9 x10 x11 x12 r n) (ld_g x7 n) (ld_c x9 n) (ld_l x8 n)

theorem res_hi (r : Fin 272) (n : Fin 2048) : k0_pay18 (F := Ideal) i x0 x1 x2 x3 x4 x5 x6 x7 x8 x9 x10 x11 x12 (ix2 r n) = bres i x0 x1 x2 x3 x4 x5 x6 ⟨272 + r.val, by omega⟩ n := by
  unfold k0_pay18 bres
  refine (resid_hi i _ _ _ _ _ _ _ r n).trans ?_
  exact resid_congr _ (ld_x_hi x4 r n) (ld_c x6 n) (ld_l x5 n) (Finset.sum_congr rfl fun k _ => congrArg₂ (· * ·) (ld_a_hi x0 r k) (ld_w x2 k n))
    (Finset.sum_congr rfl fun k _ => congrArg₂ (· * ·) (ld_a_hi x1 r k) (ld_w x3 k n))

theorem sc_hi (r : Fin 272) (n : Fin 2048) : k0_pay20 (F := Ideal) i x0 x1 x2 x3 x4 x5 x6 x7 x8 x9 x10 x11 x12 (ix2 r n)
    = scaled (544 * (i 1).val + (272 + r.val)) (fun k => bres i x0 x1 x2 x3 x4 x5 x6 ⟨272 + r.val, by omega⟩ k) (bres i x0 x1 x2 x3 x4 x5 x6 ⟨272 + r.val, by omega⟩ n) (x7 (ix2 0 n)) (x9 (ix3 0 0 n)) (x8 (ix4 0 0 0 n)) := by
  unfold k0_pay20
  refine (scaled_hi i _ _ _ _ r n).trans ?_
  exact scaled_congr _ (funext fun k => res_hi i x0 x1 x2 x3 x4 x5 x6 x7 x8 x9 x10 x11 x12 r k) (res_hi i x0 x1 x2 x3 x4 x5 x6 x7 x8 x9 x10 x11 x12 r n) (ld_g x7 n) (ld_c x9 n) (ld_l x8 n)

theorem hid_lo (r : Fin 272) (n : Fin 2048) : k0_pay8 (F := Ideal) (k0_pay17 i x0 x1 x2 x3 x4 x5 x6 x7 x8 x9 x10 x11 x12) (Scalar.muli (BitVec.ofNat 32 (i 1).val) 544#32) (View.ld x11 r0_3) (View.ld x10 r0_4) (ix2 r n) = bhid i x0 x1 x2 x3 x4 x5 x6 x7 x8 x9 x10 x11 ⟨0 + r.val, by omega⟩ n := by
  unfold bhid
  refine (shifted_lo i _ _ _ r n).trans ?_
  exact congrArg₂ (· + ·) (sc_lo i x0 x1 x2 x3 x4 x5 x6 x7 x8 x9 x10 x11 x12 r n) (pick_congr _ (ld_c x11 n) (ld_l x10 n))

theorem hid_hi (r : Fin 272) (n : Fin 2048) : k0_pay1 (F := Ideal) (k0_pay20 i x0 x1 x2 x3 x4 x5 x6 x7 x8 x9 x10 x11 x12) (k0_pay19 (F := Ideal) i x0 x1 x2 x3 x4 x5 x6 x7 x8 x9 x10 x11 x12) (k0_pay21 (F := Ideal) i x0 x1 x2 x3 x4 x5 x6 x7 x8 x9 x10 x11 x12) (View.ld x11 r0_3) (View.ld x10 r0_4) (ix2 r n) = bhid i x0 x1 x2 x3 x4 x5 x6 x7 x8 x9 x10 x11 ⟨272 + r.val, by omega⟩ n := by
  unfold bhid
  refine (shifted_hi i _ _ _ r n).trans ?_
  exact congrArg₂ (· + ·) (sc_hi i x0 x1 x2 x3 x4 x5 x6 x7 x8 x9 x10 x11 x12 r n) (pick_congr _ (ld_c x11 n) (ld_l x10 n))

/-- A piece that holds its rows' values holds the block's. -/
theorem piece {N : ℕ} (G : Fin 544 → Fin N → EReal) (o : ℕ) (ho : o + 272 ≤ 544) (f : (⟨3, ![1, 272, N]⟩ : Shape).Idx → EReal)
    (hf : ∀ (r : Fin 272) (n : Fin N), f (ix3 0 r n) = G ⟨o + r.val, by omega⟩ n)
    (z : (⟨3, ![1, 272, N]⟩ : Shape).Idx) (u : (⟨3, ![1, 544, N]⟩ : Shape).Idx) (h1 : (u 1).val = o + (z 1).val) (h2 : (u 2).val = (z 2).val) :
    f z = G (u 1) (u 2) := by
  have hz0 : (z 0).val < 1 := (z 0).isLt
  have hz1 : (z 1).val < 272 := (z 1).isLt
  have hz : z = ix3 0 (z 1) (z 2) := by
    funext k; fin_cases k <;> first | rfl | (apply Fin.ext; show (z 0).val = 0; omega)
  refine (congrArg f hz).trans ((hf (z 1) (z 2)).trans ?_)
  have e1 : u 1 = (⟨o + (z 1).val, by omega⟩ : Fin 544) := Fin.ext h1
  have e2 : u 2 = z 2 := Fin.ext h2
  rw [e1, e2]

theorem out13_at (y : S1x544x2048.Idx) : out0_13 (F := Ideal) i x0 x1 x2 x3 x4 x5 x6 x7 x8 x9 x10 x11 x12 y = bres i x0 x1 x2 x3 x4 x5 x6 (y 1) (y 2) := by
  unfold out0_13
  refine View.canon_apply_of_pieces (Val := Elt Ideal) (S := S1x544x2048) (e := .f32) (fun y => bres i x0 x1 x2 x3 x4 x5 x6 (y 1) (y 2)) _ ?_ y (cover0_13 _ _ y)
  intro p hp z
  simp only [List.mem_cons, List.not_mem_nil, or_false] at hp
  rcases hp with rfl | rfl
  · refine piece (bres i x0 x1 x2 x3 x4 x5 x6) 272 (by omega) _ (fun r n => (row_hi _ r n).trans (res_hi i x0 x1 x2 x3 x4 x5 x6 x7 x8 x9 x10 x11 x12 r n)) z _ ?_ ?_
    · rw [ValueKit.rect_emb_unit_val]; simp
    · rw [ValueKit.rect_emb_unit_val]; simp
  · refine piece (bres i x0 x1 x2 x3 x4 x5 x6) 0 (by omega) _ (fun r n => (row_lo _ r n).trans (res_lo i x0 x1 x2 x3 x4 x5 x6 x7 x8 x9 x10 x11 x12 r n)) z _ ?_ ?_
    · rw [ValueKit.rect_emb_unit_val]; simp
    · rw [ValueKit.rect_emb_unit_val]; simp

theorem out14_at (y : S1x544x2048.Idx) : out0_14 (F := Ideal) i x0 x1 x2 x3 x4 x5 x6 x7 x8 x9 x10 x11 x12 y = bhid i x0 x1 x2 x3 x4 x5 x6 x7 x8 x9 x10 x11 (y 1) (y 2) := by
  unfold out0_14
  refine View.canon_apply_of_pieces (Val := Elt Ideal) (S := S1x544x2048) (e := .bf16) (fun y => bhid i x0 x1 x2 x3 x4 x5 x6 x7 x8 x9 x10 x11 (y 1) (y 2)) _ ?_ y (cover0_14 _ _ y)
  intro p hp z
  simp only [List.mem_cons, List.not_mem_nil, or_false] at hp
  rcases hp with rfl | rfl
  · refine piece (bhid i x0 x1 x2 x3 x4 x5 x6 x7 x8 x9 x10 x11) 272 (by omega) _ (fun r n => (stored_hi _ _ _ _ _ r n).trans (hid_hi i x0 x1 x2 x3 x4 x5 x6 x7 x8 x9 x10 x11 x12 r n)) z _ ?_ ?_
    · rw [ValueKit.rect_emb_unit_val]; simp
    · rw [ValueKit.rect_emb_unit_val]; simp
  · refine piece (bhid i x0 x1 x2 x3 x4 x5 x6 x7 x8 x9 x10 x11) 0 (by omega) _ (fun r n => (stored_lo _ _ _ _ r n).trans (hid_lo i x0 x1 x2 x3 x4 x5 x6 x7 x8 x9 x10 x11 x12 r n)) z _ ?_ ?_
    · rw [ValueKit.rect_emb_unit_val]; simp
    · rw [ValueKit.rect_emb_unit_val]; simp

theorem logit_hi (r : Fin 272) (n : Fin 32) : k0_pay4 (F := Ideal) (k0_pay20 i x0 x1 x2 x3 x4 x5 x6 x7 x8 x9 x10 x11 x12) (k0_pay19 (F := Ideal) i x0 x1 x2 x3 x4 x5 x6 x7 x8 x9 x10 x11 x12) (k0_pay21 (F := Ideal) i x0 x1 x2 x3 x4 x5 x6 x7 x8 x9 x10 x11 x12) (View.ld x11 r0_3) (View.ld x10 r0_4) (View.ld x12 r0_6) (View.ld x12 r0_6) (ix3 0 r n) = blog i x0 x1 x2 x3 x4 x5 x6 x7 x8 x9 x10 x11 x12 ⟨272 + r.val, by omega⟩ n := by
  unfold blog
  refine (router_hi _ _ _ _ _ _ r n).trans ?_
  exact congrArg₂ router (funext fun k => hid_hi i x0 x1 x2 x3 x4 x5 x6 x7 x8 x9 x10 x11 x12 r k) (funext fun k => ld_r x12 k n)

theorem logit_lo (r : Fin 272) (n : Fin 32) : k0_pay11 (F := Ideal) (k0_pay17 i x0 x1 x2 x3 x4 x5 x6 x7 x8 x9 x10 x11 x12) (Scalar.muli (BitVec.ofNat 32 (i 1).val) 544#32) (View.ld x11 r0_3) (View.ld x10 r0_4) (View.ld x12 r0_6) (View.ld x12 r0_6) (ix3 0 r n) = blog i x0 x1 x2 x3 x4 x5 x6 x7 x8 x9 x10 x11 x12 ⟨0 + r.val, by omega⟩ n := by
  unfold blog
  refine (router_lo _ _ _ _ _ r n).trans ?_
  exact congrArg₂ router (funext fun k => hid_lo i x0 x1 x2 x3 x4 x5 x6 x7 x8 x9 x10 x11 x12 r k) (funext fun k => ld_r x12 k n)

theorem out15_at (y : S1x544x32.Idx) : out0_15 (F := Ideal) i x0 x1 x2 x3 x4 x5 x6 x7 x8 x9 x10 x11 x12 y = blog i x0 x1 x2 x3 x4 x5 x6 x7 x8 x9 x10 x11 x12 (y 1) (y 2) := by
  unfold out0_15
  refine View.canon_apply_of_pieces (Val := Elt Ideal) (S := S1x544x32) (e := .f32) (fun y => blog i x0 x1 x2 x3 x4 x5 x6 x7 x8 x9 x10 x11 x12 (y 1) (y 2)) _ ?_ y (cover0_15 _ _ y)
  intro p hp z
  simp only [List.mem_cons, List.not_mem_nil, or_false] at hp
  rcases hp with rfl | rfl
  · refine piece (blog i x0 x1 x2 x3 x4 x5 x6 x7 x8 x9 x10 x11 x12) 272 (by omega) _ (fun r n => logit_hi i x0 x1 x2 x3 x4 x5 x6 x7 x8 x9 x10 x11 x12 r n) z _ ?_ ?_
    · rw [ValueKit.rect_emb_unit_val]; simp
    · rw [ValueKit.rect_emb_unit_val]; simp
  · refine piece (blog i x0 x1 x2 x3 x4 x5 x6 x7 x8 x9 x10 x11 x12) 0 (by omega) _ (fun r n => logit_lo i x0 x1 x2 x3 x4 x5 x6 x7 x8 x9 x10 x11 x12 r n) z _ ?_ ?_
    · rw [ValueKit.rect_emb_unit_val]; simp
    · rw [ValueKit.rect_emb_unit_val]; simp

end Block

section Arrays

variable (m : (ℓ : Loc nD τ sig) → Buf (Elt Ideal) ℓ)

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, (grid0.coords t 1).val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![1, 0] := (by decide +kernel : ∀ t : Fin grid0.N, _)
theorem idx4 : ∀ t : Fin cfg0.N, win0_4.index t = ![(grid0.coords t 0).val, (grid0.coords t 1).val, 0] := (by decide +kernel : ∀ t : Fin grid0.N, _)
theorem idx5 : ∀ t : Fin cfg0.N, win0_5.index t = ![(grid0.coords t 0).val, 2, 0, 0] := (by decide +kernel : ∀ t : Fin grid0.N, _)
theorem idx6 : ∀ t : Fin cfg0.N, win0_6.index t = ![2, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![(grid0.coords t 0).val, 4, 0, 0] := (by decide +kernel : ∀ t : Fin grid0.N, _)
theorem idx9 : ∀ t : Fin cfg0.N, win0_9.index t = ![4, 0, 0] := (by decide +kernel : ∀ t : Fin grid0.N, _)
theorem idx10 : ∀ t : Fin cfg0.N, win0_10.index t = ![(grid0.coords t 0).val, 3, 0, 0] := (by decide +kernel : ∀ t : Fin grid0.N, _)
theorem idx11 : ∀ t : Fin cfg0.N, win0_11.index t = ![3, 0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![(grid0.coords t 0).val, (grid0.coords t 1).val, 0] := (by decide +kernel : ∀ t : Fin grid0.N, _)
theorem idx14 : ∀ t : Fin cfg0.N, win0_14.index t = ![(grid0.coords t 0).val, (grid0.coords t 1).val, 0] := (by decide +kernel : ∀ t : Fin grid0.N, _)
theorem idx15 : ∀ t : Fin cfg0.N, win0_15.index t = ![(grid0.coords t 0).val, (grid0.coords t 1).val, 0] := (by decide +kernel : ∀ t : Fin grid0.N, _)

theorem blk0 (c : Dev nD) (t : Fin cfg0.N) (r : Fin 544) (k : Fin 1024) : iblk m c 0 t (ix3 0 r k) = at3 (V m c main_arg0) ((grid0.coords t 0).val) (544 * (grid0.coords t 1).val + r.val) (k.val) := by
  blk_simp [iblk]
  apply eq_at3 <;> blk_simp [idx0] <;> simp <;> try omega

theorem blk1 (c : Dev nD) (t : Fin cfg0.N) (r : Fin 544) (k : Fin 1024) : iblk m c 1 t (ix3 0 r k) = at3 (V m c main_arg1) ((grid0.coords t 0).val) (544 * (grid0.coords t 1).val + r.val) (k.val) := by
  blk_simp [iblk]
  apply eq_at3 <;> blk_simp [idx1] <;> simp <;> try omega

theorem blk2 (c : Dev nD) (t : Fin cfg0.N) (k : Fin 1024) (n : Fin 2048) : iblk m c 2 t (ix2 k n) = at2 (V m c main_v3) (k.val) (n.val) := by
  blk_simp [iblk]
  apply eq_at2 <;> blk_simp [idx2] <;> simp <;> try omega

theorem blk3 (c : Dev nD) (t : Fin cfg0.N) (k : Fin 1024) (n : Fin 2048) : iblk m c 3 t (ix2 k n) = at2 (V m c main_v3) (1024 + k.val) (n.val) := by
  blk_simp [iblk]
  apply eq_at2 <;> blk_simp [idx3] <;> simp <;> try omega

theorem blk4 (c : Dev nD) (t : Fin cfg0.N) (r : Fin 544) (k : Fin 2048) : iblk m c 4 t (ix3 0 r k) = at3 (V m c main_arg3) ((grid0.coords t 0).val) (544 * (grid0.coords t 1).val + r.val) (k.val) := by
  blk_simp [iblk]
  apply eq_at3 <;> blk_simp [idx4] <;> simp <;> try omega

theorem blk5 (c : Dev nD) (t : Fin cfg0.N) (n : Fin 2048) : iblk m c 5 t (ix4 0 0 0 n) = at4 (V m c main_v0) ((grid0.coords t 0).val) (2) (0) (n.val) := by
  blk_simp [iblk]
  apply eq_at4 <;> blk_simp [idx5] <;> simp <;> try omega

theorem blk6 (c : Dev nD) (t : Fin cfg0.N) (n : Fin 2048) : iblk m c 6 t (ix3 0 0 n) = at3 (V m c main_v1) (2) (0) (n.val) := by
  blk_simp [iblk]
  apply eq_at3 <;> blk_simp [idx6] <;> simp <;> try omega

theorem blk7 (c : Dev nD) (t : Fin cfg0.N) (n : Fin 2048) : iblk m c 7 t (ix2 0 n) = at2 (V m c main_v4) (0) (n.val) := by
  blk_simp [iblk]
  apply eq_at2 <;> blk_simp [idx7] <;> simp <;> try omega

theorem blk8 (c : Dev nD) (t : Fin cfg0.N) (n : Fin 2048) : iblk m c 8 t (ix4 0 0 0 n) = at4 (V m c main_v0) ((grid0.coords t 0).val) (4) (0) (n.val) := by
  blk_simp [iblk]
  apply eq_at4 <;> blk_simp [idx8] <;> simp <;> try omega

theorem blk9 (c : Dev nD) (t : Fin cfg0.N) (n : Fin 2048) : iblk m c 9 t (ix3 0 0 n) = at3 (V m c main_v1) (4) (0) (n.val) := by
  blk_simp [iblk]
  apply eq_at3 <;> blk_simp [idx9] <;> simp <;> try omega

theorem blk10 (c : Dev nD) (t : Fin cfg0.N) (n : Fin 2048) : iblk m c 10 t (ix4 0 0 0 n) = at4 (V m c main_v0) ((grid0.coords t 0).val) (3) (0) (n.val) := by
  blk_simp [iblk]
  apply eq_at4 <;> blk_simp [idx10] <;> simp <;> try omega

theorem blk11 (c : Dev nD) (t : Fin cfg0.N) (n : Fin 2048) : iblk m c 11 t (ix3 0 0 n) = at3 (V m c main_v1) (3) (0) (n.val) := by
  blk_simp [iblk]
  apply eq_at3 <;> blk_simp [idx11] <;> simp <;> try omega

theorem blk12 (c : Dev nD) (t : Fin cfg0.N) (k : Fin 2048) (n : Fin 32) : iblk m c 12 t (ix2 k n) = at2 (V m c main_v11) (k.val) (n.val) := by
  blk_simp [iblk]
  apply eq_at2 <;> blk_simp [idx12] <;> simp <;> try omega

/-- The residuals as a function of sample, token and column, from the arrays the launch reads. -/
def ares (A1 A2 : S4x4352x1024.Idx → EReal) (W : S2048x2048.Idx → EReal) (X : S4x4352x2048.Idx → EReal) (L : S4x6x1x2048.Idx → EReal) (C : S6x1x2048.Idx → EReal)
    (b t n : ℕ) : EReal :=
  resid t (at3 X b t n) (at3 C 2 0 n) (at4 L b 2 0 n) (∑ k : Fin 1024, at3 A1 b t k.val * at2 W k.val n) (∑ k : Fin 1024, at3 A2 b t k.val * at2 W (1024 + k.val) n)

/-- The normalized and modulated rows likewise, -/
def ahid (R : ℕ → ℕ → ℕ → EReal) (G : S1x2048.Idx → EReal) (L : S4x6x1x2048.Idx → EReal) (C : S6x1x2048.Idx → EReal) (b t n : ℕ) : EReal :=
  scaled t (fun k => R b t k.val) (R b t n) (at2 G 0 n) (at3 C 4 0 n) (at4 L b 4 0 n) + pick t (at3 C 3 0 n) (at4 L b 3 0 n)

/-- and the logits. -/
def alog (H : ℕ → ℕ → ℕ → EReal) (W : S2048x32.Idx → EReal) (b t n : ℕ) : EReal :=
  router (fun k => H b t k.val) (fun k => at2 W k.val n)

/-- The three of them at one launch. -/
abbrev mres (c : Dev nD) : ℕ → ℕ → ℕ → EReal := ares (V m c main_arg0) (V m c main_arg1) (V m c main_v3) (V m c main_arg3) (V m c main_v0) (V m c main_v1)
abbrev mhid (c : Dev nD) : ℕ → ℕ → ℕ → EReal := ahid (mres m c) (V m c main_v4) (V m c main_v0) (V m c main_v1)
abbrev mlog (c : Dev nD) : ℕ → ℕ → ℕ → EReal := alog (mhid m c) (V m c main_v11)

theorem bres_eq (c : Dev nD) (t : Fin cfg0.N) (r : Fin 544) (n : Fin 2048) :
    bres (grid0.coords t) (iblk m c 0 t) (iblk m c 1 t) (iblk m c 2 t) (iblk m c 3 t) (iblk m c 4 t) (iblk m c 5 t) (iblk m c 6 t) r n = mres m c (grid0.coords t 0).val (544 * (grid0.coords t 1).val + r.val) n.val := by
  unfold bres mres ares
  simp only [blk0 m, blk1 m, blk2 m, blk3 m, blk4 m, blk5 m, blk6 m]

theorem bhid_eq (c : Dev nD) (t : Fin cfg0.N) (r : Fin 544) (n : Fin 2048) :
    bhid (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r n = mhid m c (grid0.coords t 0).val (544 * (grid0.coords t 1).val + r.val) n.val := by
  unfold bhid mhid ahid
  simp only [bres_eq m, blk7 m, blk8 m, blk9 m, blk10 m, blk11 m]

theorem blog_eq (c : Dev nD) (t : Fin cfg0.N) (r : Fin 544) (n : Fin 32) :
    blog (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r n = mlog m c (grid0.coords t 0).val (544 * (grid0.coords t 1).val + r.val) n.val := by
  unfold blog mlog alog
  simp only [bhid_eq m, blk12 m]

theorem final13 (c : Dev nD) : (dats m 0 c).arrAt 13 cfg0.N = fun y : S4x4352x2048.Idx => mres m c (y 0).val (y 1).val (y 2).val := by
  refine (dats m 0 c).arrAt_eq_of_covers 13 _ (by decide +kernel) fun t hf y => ?_
  blk_simp
  rw [after0_13]
  refine (out13_at _ _ _ _ _ _ _ _ _ _ _ _ _ _ y).trans ?_
  have h0 : (y 0).val < 1 := (y 0).isLt
  refine (bres_eq m c t (y 1) (y 2)).trans ?_
  blk_simp [idx13]
  simp only [Matrix.cons_val_zero, Matrix.cons_val_one, Matrix.cons_val]
  congr 1 <;> first | rfl | (simp; try omega)

theorem final14 (c : Dev nD) : (dats m 0 c).arrAt 14 cfg0.N = fun y : S4x4352x2048.Idx => mhid m c (y 0).val (y 1).val (y 2).val := by
  refine (dats m 0 c).arrAt_eq_of_covers 14 _ (by decide +kernel) fun t hf y => ?_
  blk_simp
  rw [after0_14]
  refine (out14_at _ _ _ _ _ _ _ _ _ _ _ _ _ _ y).trans ?_
  have h0 : (y 0).val < 1 := (y 0).isLt
  refine (bhid_eq m c t (y 1) (y 2)).trans ?_
  blk_simp [idx14]
  simp only [Matrix.cons_val_zero, Matrix.cons_val_one, Matrix.cons_val]
  congr 1 <;> first | rfl | (simp; try omega)

theorem final15 (c : Dev nD) : (dats m 0 c).arrAt 15 cfg0.N = fun y : S4x4352x32.Idx => mlog m c (y 0).val (y 1).val (y 2).val := by
  refine (dats m 0 c).arrAt_eq_of_covers 15 _ (by decide +kernel) fun t hf y => ?_
  blk_simp
  rw [after0_15]
  refine (out15_at _ _ _ _ _ _ _ _ _ _ _ _ _ _ y).trans ?_
  have h0 : (y 0).val < 1 := (y 0).isLt
  refine (blog_eq m c t (y 1) (y 2)).trans ?_
  blk_simp [idx15]
  simp only [Matrix.cons_val_zero, Matrix.cons_val_one, Matrix.cons_val]
  congr 1 <;> first | rfl | (simp; try omega)

end Arrays

end Cert.Kernel6Ideal.Out

end
-- ==== Proof.OutReal.lean ====
/- Numbers that are real: a normalized entry is one whatever its row, and for real entries the two halves of the split
   router product add up to the plain product. -/
module

public import proofs.«01_k».proof.Proof.OutPiece

@[expose] public section

set_option maxRecDepth 16384

noncomputable section

namespace Cert.Kernel6Ideal.Out

open Idealize.ShloMosaic

/-- A value that is a real number. -/
def IsReal (x : EReal) : Prop := ∃ r : ℝ, x = (r : EReal)

theorem real_of_ne {x : EReal} (h : x ≠ ⊥ ∧ x ≠ ⊤) : IsReal x := by
  induction x using EReal.rec with
  | bot => exact absurd rfl h.1
  | top => exact absurd rfl h.2
  | coe r => exact ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub_self {x : EReal} (hx : IsReal x) : x - x = 0 := by
  obtain ⟨a, rfl⟩ := hx
  rw [← EReal.coe_sub, _root_.sub_self, EReal.coe_zero]

theorem real_one : IsReal (Ideal.ofBits .f32 0x3F800000#32) := by
  refine ⟨1, ?_⟩
  simp [Ideal.ofBits, Ideal.ieee, -EReal.coe_mul]; norm_num

theorem real_pick {t : ℕ} {a b : EReal} (ha : IsReal a) (hb : IsReal b) : IsReal (pick t a b) := by
  unfold pick
  split_ifs
  · exact ha
  · exact hb

/-- The two halves of the split weights add up to the plain product. -/
theorem router_add (f w : Fin 2048 → EReal) (hf : ∀ k, IsReal (f k)) (hw : ∀ k, IsReal (w k)) :
    router f w + router f (fun k => w k - w k) = ∑ k : Fin 2048, f k * w k := by
  unfold router
  simp only [fun k => (hf k).sub_self, fun k => (hw k).sub_self, zero_mul, mul_zero, Finset.sum_const_zero, add_zero]

theorem two048 : Ideal.ofBits .f32 0x45000000#32 = ((2048 : ℝ) : EReal) := by
  simp [Ideal.ofBits, Ideal.ieee, -EReal.coe_mul]; norm_num

theorem small : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

theorem sq_nonneg' (x : EReal) : 0 ≤ x * x := by
  induction x using EReal.rec with
  | bot => rw [EReal.bot_mul_bot]; exact le_top
  | top => rw [EReal.top_mul_top]; exact le_top
  | coe r => rw [← EReal.coe_mul]; exact_mod_cast mul_self_nonneg r

theorem real_of_sq {x : EReal} (h : x * x ≠ ⊤) : IsReal x := by
  induction x using EReal.rec with
  | bot => exact absurd EReal.bot_mul_bot h
  | top => exact absurd EReal.top_mul_top h
  | coe r => exact ⟨r, rfl⟩

/-- An entry of a row times the inverse root of the row's mean square is real. -/
theorem real_norm (f : Fin 2048 → EReal) (n : Fin 2048) : IsReal (f n * inv f) := by
  obtain ⟨e, he, hs⟩ := small
  unfold inv
  rw [two048, hs, Ideal.div_coe (by norm_num)]
  have h0 : 0 ≤ ∑ k : Fin 2048, f k * f k := Finset.sum_nonneg fun k _ => sq_nonneg' (f k)
  have hle : f n * f n ≤ ∑ k : Fin 2048, f k * f k := Finset.single_le_sum (fun k _ => sq_nonneg' (f k)) (Finset.mem_univ n)
  generalize (∑ k : Fin 2048, f k * f k) = S at h0 hle
  induction S using EReal.rec with
  | bot => exact absurd (le_bot_iff.mp h0) EReal.zero_ne_bot
  | top =>
    rw [EReal.top_mul_coe_of_pos (by norm_num), EReal.top_add_coe, Ideal.rsqrt_top, mul_zero]
    exact ⟨0, rfl⟩
  | coe s =>
    have hs0 : (0 : ℝ) ≤ s := by exact_mod_cast h0
    have hp : 0 < s * (1 / 2048) + e := by positivity
    rw [← EReal.coe_mul, ← EReal.coe_add, Ideal.rsqrt_coe, if_neg (not_lt.mpr hp.le), if_neg hp.ne']
    exact (real_of_sq (ne_top_of_le_ne_top (EReal.coe_ne_top s) hle)).mul ⟨_, rfl⟩

/-- The row normalized, times real gains and scales. -/
theorem real_scaled (t : ℕ) (f : Fin 2048 → EReal) (n : Fin 2048) {g sc sl : EReal} (hg : IsReal g) (hc : IsReal sc) (hl : IsReal sl) :
    IsReal (scaled t f (f n) g sc sl) := by
  unfold scaled
  exact ((real_norm f n).mul hg).mul (real_one.add (real_pick hc hl))

end Cert.Kernel6Ideal.Out

end
-- ==== Proof.OutHost.lean ====
/- The host's lines around the output projection's launch: the arrays it prepares, read at an index, and the three
   results after it. -/
module

public import proofs.«01_k».proof.Proof.OutBlock
public import proofs.«01_k».proof.Proof.OutReal
public import Idealize.ShloMosaic.Lib.Pointwise

@[expose] public section

set_option maxRecDepth 16384

noncomputable section

namespace Cert.Kernel6Ideal.Out

open Cert.Kernel6Ideal Cert.Kernel6Ideal.Gen Idealize.ShloMosaic Idealize.ShloMosaic.TcCoe Idealize.SL.Sem
open Cert.At

/-- The latent tokens' modulations by sample and part, -/
def modL (x4 : FVec Ideal S4x12288 .f32) : FVec Ideal S4x6x1x2048 .f32 := shapeCast S4x6x1x2048 x4 shapeCasts_S4x12288_S4x6x1x2048
/-- the context tokens' by part, -/
def modC (x5 : FVec Ideal S12288 .f32) : FVec Ideal S6x1x2048 .f32 := shapeCast S6x1x2048 x5 shapeCasts_S12288_S6x1x2048
/-- the projection's weights, -/
def wout (x2 : FVec Ideal S1x2048x2048 .f32) : FVec Ideal S2048x2048 .bf16 :=
  truncf .bf16 (shapeCast S2048x2048 x2 shapeCasts_S1x2048x2048_S2048x2048) bitsLt_bf16_f32
/-- the first layer's gains, -/
def gain (x6 : FVec Ideal S2x2048 .f32) : FVec Ideal S1x2048 .f32 := extractStridedSlice S1x2048 ![0, 0] x6 slices_S2x2048_S1x2048_0_0
/-- its router's weights, -/
def rw0 (x7 : FVec Ideal S2x2048x16 .f32) : FVec Ideal S2048x16 .f32 :=
  shapeCast S2048x16 (extractStridedSlice S1x2048x16 ![0, 0, 0] x7 slices_S2x2048x16_S1x2048x16_0_0_0) shapeCasts_S1x2048x16_S2048x16
/-- and the same in two parts, side by side. -/
def rw2 (x7 : FVec Ideal S2x2048x16 .f32) : FVec Ideal S2048x32 .bf16 :=
  concatenate S2048x32 1 [⟨S2048x16, truncf .bf16 (rw0 x7) bitsLt_bf16_f32⟩,
    ⟨S2048x16, truncf .bf16 (subf (rw0 x7) (extf .f32 (truncf .bf16 (rw0 x7) bitsLt_bf16_f32) bitsLt_bf16_f32)) bitsLt_bf16_f32⟩]
    concatenates_S2048x16_S2048x16_S2048x32_d1
/-- The two halves of the launch's logits added. -/
def halves (g : FVec Ideal S4x4352x32 .f32) : FVec Ideal S4x4352x16 .f32 :=
  addf (extractStridedSlice S4x4352x16 ![0, 0, 0] g slices_S4x4352x32_S4x4352x16_0_0_0)
    (extractStridedSlice S4x4352x16 ![0, 0, 16] g slices_S4x4352x32_S4x4352x16_0_0_16)

section Run

variable (m : (ℓ : Loc nD τ sig) → Buf (Elt Ideal) ℓ) (ρ : Dev nD → PrngReg)

theorem V_modL (c : Dev nD) : V m c main_v0 = modL (m ((c.tc : Thread nD τ).loc main_arg4)) := rfl
theorem V_modC (c : Dev nD) : V m c main_v1 = modC (m ((c.tc : Thread nD τ).loc main_arg5)) := rfl
theorem V_wout (c : Dev nD) : V m c main_v3 = wout (m ((c.tc : Thread nD τ).loc main_arg2)) := rfl
theorem V_gain (c : Dev nD) : V m c main_v4 = gain (m ((c.tc : Thread nD τ).loc main_arg6)) := rfl
theorem V_rw2 (c : Dev nD) : V m c main_v11 = rw2 (m ((c.tc : Thread nD τ).loc main_arg7)) := rfl

theorem after_logits (W : Valuation τ sig (Elt Ideal)) :
    StableHlo.after (hostOps1 (F := Ideal)) W (Proc.devRef .tc main_v15) = halves (W (Proc.devRef .tc main_v12_2)) := rfl

theorem W_logits (c : Dev nD) :
    Pipeline.afterTail₀ cfgs (dats m) 0 (V0 m) [hostOps1] c main_v15 = halves ((dats m 0 c).arrAt 15 cfg0.N) := by
  unfold Pipeline.afterTail₀
  refine (after_logits _).trans (congrArg halves ?_)
  exact Pipeline.withArrays_arr_shared spec0 c (V0 m c) _ ((dats m 0 c).arrAt_sharedIn sharedIn0 (V0 m c) (A_eq m c) _) 15

/-- The three results after every run, the arguments as launched. -/
theorem run : θ_run defs (onTc (τ := τ) (main (F := Ideal))) ⟨m, fun _ => 0, ρ⟩ (fun r => ∀ c : Dev nD,
      r.2.mem ((c.tc : Thread nD τ).loc main_v12_0) = (dats m 0 c).arrAt 13 cfg0.N
      ∧ r.2.mem ((c.tc : Thread nD τ).loc main_v12_1) = (dats m 0 c).arrAt 14 cfg0.N
      ∧ r.2.mem ((c.tc : Thread nD τ).loc main_v15) = halves ((dats m 0 c).arrAt 15 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1 13, (h c).1 14,
      ((h c).2 main_v15 (Pipeline.mem_restRefs_of main_v15 (by decide) (by decide))).trans (W_logits m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Run

theorem modL_at (x4 : FVec Ideal S4x12288 .f32) (b : Fin 4) (j : Fin 6) (n : Fin 2048) :
    modL x4 (ix4 b j 0 n) = x4 (ix2 b ⟨j.val * 2048 + n.val, by omega⟩) := by
  pointwise [modL]

theorem modC_at (x5 : FVec Ideal S12288 .f32) (j : Fin 6) (n : Fin 2048) :
    modC x5 (ix3 j 0 n) = x5 (ix1 ⟨j.val * 2048 + n.val, by omega⟩) := by
  pointwise [modC]

theorem wout_at (x2 : FVec Ideal S1x2048x2048 .f32) (k n : Fin 2048) : wout x2 (ix2 k n) = x2 (ix3 0 k n) := by
  pointwise [wout]

theorem gain_at (x6 : FVec Ideal S2x2048 .f32) (n : Fin 2048) : gain x6 (ix2 0 n) = x6 (ix2 0 n) := by
  pointwise [gain]

theorem rw2_lo (x7 : FVec Ideal S2x2048x16 .f32) (k : Fin 2048) (e : Fin 16) : rw2 x7 (ix2 k ⟨e.val, by omega⟩) = x7 (ix3 0 k e) := by
  pointwise [rw2, rw0]

theorem rw2_hi (x7 : FVec Ideal S2x2048x16 .f32) (k : Fin 2048) (e : Fin 16) :
    rw2 x7 (ix2 k ⟨16 + e.val, by omega⟩) = x7 (ix3 0 k e) - x7 (ix3 0 k e) := by
  pointwise [rw2, rw0]

theorem halves_at (g : FVec Ideal S4x4352x32 .f32) (b : Fin 4) (t : Fin 4352) (e : Fin 16) :
    halves g (ix3 b t e) = g (ix3 b t ⟨e.val, by omega⟩) + g (ix3 b t ⟨16 + e.val, by omega⟩) := by
  pointwise [halves]

end Cert.Kernel6Ideal.Out

end
-- ==== Proof.OutRef.lean ====
/- The reference's output projection read at an index: the residual of a latent and of a context token, the normalized
   and modulated rows of both, and the logits. -/
module

public import proofs.«01_k».proof.Proof.OutPiece
public import proofs.«01_k».proof.Proof.Gen.Reference6Ideal.Read
public import Idealize.ShloMosaic.Lib.Pointwise

@[expose] public section

set_option maxRecDepth 16384

noncomputable section

namespace Cert.Reference6Ideal.Out

open Cert.Reference6Ideal Cert.Reference6Ideal.Gen Cert.Reference6Ideal.Read Idealize.ShloMosaic

variable (x0 x1 : S4x4352x1024.Idx → EReal) (x2 : S1x2048x2048.Idx → EReal) (x3 : S4x4352x2048.Idx → EReal) (x4 : S4x12288.Idx → EReal)
  (x5 : S12288.Idx → EReal) (x6 : S2x2048.Idx → EReal) (x7 : S2x2048x16.Idx → EReal)

theorem both_lo (b : Fin 4) (t : Fin 4352) (k : Fin 1024) : val_main_v2 (F := Ideal) x0 x1 (ix3 b t ⟨k.val, by omega⟩) = x0 (ix3 b t k) := by
  pointwise [val_main_v2, val_main_v0, val_main_v1]

theorem both_hi (b : Fin 4) (t : Fin 4352) (k : Fin 1024) : val_main_v2 (F := Ideal) x0 x1 (ix3 b t ⟨1024 + k.val, by omega⟩) = x1 (ix3 b t k) := by
  pointwise [val_main_v2, val_main_v0, val_main_v1]

theorem dot_at (b : Fin 4) (t : Fin 4352) (n : Fin 2048) :
    val_main_v4 (F := Ideal) x0 x1 x2 (ix3 b t n)
      = ∑ k : Fin 2048, val_main_v2 (F := Ideal) x0 x1 (ix3 b t k) * x2 (ix3 0 k n) := by
  pointwise [val_main_v4, val_main_v3]

theorem dot_split (b : Fin 4) (t : Fin 4352) (n : Fin 2048) :
    val_main_v4 (F := Ideal) x0 x1 x2 (ix3 b t n)
      = (∑ k : Fin 1024, x0 (ix3 b t k) * x2 (ix3 0 ⟨k.val, by omega⟩ n)) + ∑ k : Fin 1024, x1 (ix3 b t k) * x2 (ix3 0 ⟨1024 + k.val, by omega⟩ n) := by
  rw [dot_at]
  refine (Fin.sum_univ_add (a := 1024) (b := 1024) fun k => val_main_v2 (F := Ideal) x0 x1 (ix3 b t k) * x2 (ix3 0 k n)).trans ?_
  exact congrArg₂ (· + ·)
    (Finset.sum_congr rfl fun k _ => congrArg (· * x2 (ix3 0 ⟨k.val, by omega⟩ n)) (both_lo x0 x1 b t k))
    (Finset.sum_congr rfl fun k _ => congrArg (· * x2 (ix3 0 ⟨1024 + k.val, by omega⟩ n)) (both_hi x0 x1 b t k))

theorem lat_at (b : Fin 4) (t : Fin 4096) (n : Fin 2048) :
    val_main_v27 (F := Ideal) x0 x1 x2 x3 x4 (ix3 b t n)
      = x3 (ix3 b ⟨t.val, by omega⟩ n) + x4 (ix2 b ⟨4096 + n.val, by omega⟩) * val_main_v4 (F := Ideal) x0 x1 x2 (ix3 b ⟨t.val, by omega⟩ n) := by
  pointwise [val_main_v27, val_main_v26, val_main_v25, val_main_v24, val_main_v23, val_main_v13, val_main_v7]

theorem ctx_at (b : Fin 4) (j : Fin 256) (n : Fin 2048) :
    val_main_v33 (F := Ideal) x0 x1 x2 x3 x5 (ix3 b j n)
      = x3 (ix3 b ⟨4096 + j.val, by omega⟩ n) + x5 (ix1 ⟨4096 + n.val, by omega⟩) * val_main_v4 (F := Ideal) x0 x1 x2 (ix3 b ⟨4096 + j.val, by omega⟩ n) := by
  pointwise [val_main_v33, val_main_v32, val_main_v31, val_main_v30, val_main_v29, val_main_v28, val_main_v19]

theorem gain_at (n : Fin 2048) : val_main_v35 (F := Ideal) x6 (ix1 n) = x6 (ix2 0 n) := by
  pointwise [val_main_v35, val_main_v34]

theorem gain_ctx_at (n : Fin 2048) : val_main_v56 (F := Ideal) x6 (ix1 n) = x6 (ix2 0 n) := by
  pointwise [val_main_v56, val_main_v55]

theorem inv_at (b : Fin 4) (t : Fin 4096) :
    val_main_v43 (F := Ideal) x0 x1 x2 x3 x4 (ix3 b t 0) = Cert.Kernel6Ideal.Out.inv fun k => val_main_v27 (F := Ideal) x0 x1 x2 x3 x4 (ix3 b t k) := by
  unfold Cert.Kernel6Ideal.Out.inv
  pointwise [val_main_v43, val_main_v42, val_main_v41, val_main_v40, val_main_v39, val_main_v38, val_main_v37, val_main_v36, val_main_cst, val_main_cst_0, val_main_cst_1]

theorem inv_ctx_at (b : Fin 4) (j : Fin 256) :
    val_main_v64 (F := Ideal) x0 x1 x2 x3 x5 (ix3 b j 0) = Cert.Kernel6Ideal.Out.inv fun k => val_main_v33 (F := Ideal) x0 x1 x2 x3 x5 (ix3 b j k) := by
  unfold Cert.Kernel6Ideal.Out.inv
  pointwise [val_main_v64, val_main_v63, val_main_v62, val_main_v61, val_main_v60, val_main_v59, val_main_v58, val_main_v57, val_main_cst_3, val_main_cst_4, val_main_cst_5]

theorem hid_lat_at (b : Fin 4) (t : Fin 4096) (n : Fin 2048) :
    val_main_v54 (F := Ideal) x0 x1 x2 x3 x4 x6 (ix3 b t n)
      = val_main_v27 (F := Ideal) x0 x1 x2 x3 x4 (ix3 b t n) * val_main_v43 (F := Ideal) x0 x1 x2 x3 x4 (ix3 b t 0) * val_main_v35 (F := Ideal) x6 (ix1 n)
          * (Ideal.ofBits .f32 0x3F800000#32 + x4 (ix2 b ⟨8192 + n.val, by omega⟩))
        + x4 (ix2 b ⟨6144 + n.val, by omega⟩) := by
  pointwise [val_main_v54, val_main_v53, val_main_v52, val_main_v51, val_main_v50, val_main_v49, val_main_v48, val_main_v47, val_main_v46, val_main_v45, val_main_v44,
    val_main_v14, val_main_v8, val_main_v15, val_main_v9, val_main_cst_2]

theorem hid_ctx_at (b : Fin 4) (j : Fin 256) (n : Fin 2048) :
    val_main_v77 (F := Ideal) x0 x1 x2 x3 x5 x6 (ix3 b j n)
      = val_main_v33 (F := Ideal) x0 x1 x2 x3 x5 (ix3 b j n) * val_main_v64 (F := Ideal) x0 x1 x2 x3 x5 (ix3 b j 0) * val_main_v56 (F := Ideal) x6 (ix1 n)
          * (Ideal.ofBits .f32 0x3F800000#32 + x5 (ix1 ⟨8192 + n.val, by omega⟩))
        + x5 (ix1 ⟨6144 + n.val, by omega⟩) := by
  pointwise [val_main_v77, val_main_v76, val_main_v75, val_main_v74, val_main_v73, val_main_v72, val_main_v71, val_main_v70, val_main_v69, val_main_v68, val_main_v67, val_main_v66, val_main_v65,
    val_main_v20, val_main_v21, val_main_cst_6]

theorem out_lat (b : Fin 4) (t : Fin 4096) (n : Fin 2048) :
    val_main_v79 (F := Ideal) x0 x1 x2 x3 x4 x5 (ix3 b ⟨t.val, by omega⟩ n) = val_main_v27 (F := Ideal) x0 x1 x2 x3 x4 (ix3 b t n) := by
  pointwise [val_main_v79]

theorem out_ctx (b : Fin 4) (j : Fin 256) (n : Fin 2048) :
    val_main_v79 (F := Ideal) x0 x1 x2 x3 x4 x5 (ix3 b ⟨4096 + j.val, by omega⟩ n) = val_main_v33 (F := Ideal) x0 x1 x2 x3 x5 (ix3 b j n) := by
  pointwise [val_main_v79]

theorem hid_lat (b : Fin 4) (t : Fin 4096) (n : Fin 2048) :
    val_main_v78 (F := Ideal) x0 x1 x2 x3 x4 x5 x6 (ix3 b ⟨t.val, by omega⟩ n) = val_main_v54 (F := Ideal) x0 x1 x2 x3 x4 x6 (ix3 b t n) := by
  pointwise [val_main_v78]

theorem hid_ctx (b : Fin 4) (j : Fin 256) (n : Fin 2048) :
    val_main_v78 (F := Ideal) x0 x1 x2 x3 x4 x5 x6 (ix3 b ⟨4096 + j.val, by omega⟩ n) = val_main_v77 (F := Ideal) x0 x1 x2 x3 x5 x6 (ix3 b j n) := by
  pointwise [val_main_v78]

theorem logit_at (b : Fin 4) (t : Fin 4352) (e : Fin 16) :
    val_main_v83 (F := Ideal) x0 x1 x2 x3 x4 x5 x6 x7 (ix3 b t e)
      = ∑ k : Fin 2048, val_main_v78 (F := Ideal) x0 x1 x2 x3 x4 x5 x6 (ix3 b t k) * x7 (ix3 0 k e) := by
  pointwise [val_main_v83, val_main_v82, val_main_v81]

end Cert.Reference6Ideal.Out

end
-- ==== Proof.OutSame.lean ====
/- The output projection's three arrays are the reference's. -/
module

public import proofs.«01_k».proof.Proof.OutHost
public import proofs.«01_k».proof.Proof.OutRef

@[expose] public section

set_option maxRecDepth 16384

noncomputable section

namespace Cert.Kernel6Ideal.Out

open Cert.Kernel6Ideal Cert.Kernel6Ideal.Gen Idealize.ShloMosaic Idealize.ShloMosaic.TcCoe Idealize.SL.Sem
open Cert.At
open Cert.Reference6Ideal.Read

variable (x0 x1 : S4x4352x1024.Idx → EReal) (x2 : S1x2048x2048.Idx → EReal) (x3 : S4x4352x2048.Idx → EReal) (x4 : S4x12288.Idx → EReal)
  (x5 : S12288.Idx → EReal) (x6 : S2x2048.Idx → EReal) (x7 : S2x2048x16.Idx → EReal)

theorem pick_lat {t : ℕ} (h : t < 4096) (a b : EReal) : pick t a b = b := if_neg (by omega)
theorem pick_ctx {t : ℕ} (h : 4096 ≤ t) (a b : EReal) : pick t a b = a := if_pos h

theorem lat_part (b : Fin 4) (j : Fin 6) (o : ℕ) (n : Fin 2048) (h : o + n.val < 12288) (e : j.val * 2048 = o) :
    at4 (modL x4) b.val j.val 0 n.val = x4 (ix2 b ⟨o + n.val, h⟩) := by
  refine (at4_mk (modL x4) b j 0 n).trans ((modL_at x4 b j n).trans (congrArg (fun i => x4 (ix2 b i)) (Fin.ext ?_)))
  show j.val * 2048 + n.val = o + n.val
  omega

theorem ctx_part (j : Fin 6) (o : ℕ) (n : Fin 2048) (h : o + n.val < 12288) (e : j.val * 2048 = o) :
    at3 (modC x5) j.val 0 n.val = x5 (ix1 ⟨o + n.val, h⟩) := by
  refine (at3_mk (modC x5) j 0 n).trans ((modC_at x5 j n).trans (congrArg (fun i => x5 (ix1 i)) (Fin.ext ?_)))
  show j.val * 2048 + n.val = o + n.val
  omega

/-- The residuals of one launch. -/
abbrev res : ℕ → ℕ → ℕ → EReal := ares x0 x1 (wout x2) x3 (modL x4) (modC x5)

theorem res_at (b : Fin 4) (t : Fin 4352) (n : Fin 2048) :
    res x0 x1 x2 x3 x4 x5 b.val t.val n.val
      = x3 (ix3 b t n) + pick t.val (x5 (ix1 ⟨4096 + n.val, by omega⟩)) (x4 (ix2 b ⟨4096 + n.val, by omega⟩)) * val_main_v4 (F := Ideal) x0 x1 x2 (ix3 b t n) := by
  unfold res ares resid
  rw [Cert.Reference6Ideal.Out.dot_split]
  refine congrArg₂ (· + ·) (at3_mk x3 b t n) (congrArg₂ (· * ·)
    (congrArg₂ (pick t.val) (ctx_part x5 2 4096 n (by omega) rfl) (lat_part x4 b 2 4096 n (by omega) rfl)) (congrArg₂ (· + ·) ?_ ?_))
  · exact Finset.sum_congr rfl fun k _ => congrArg₂ (· * ·) (at3_mk x0 b t k)
      ((at2_mk (wout x2) ⟨k.val, by omega⟩ n).trans (wout_at x2 ⟨k.val, by omega⟩ n))
  · exact Finset.sum_congr rfl fun k _ => congrArg₂ (· * ·) (at3_mk x1 b t k)
      ((at2_mk (wout x2) ⟨1024 + k.val, by omega⟩ n).trans (wout_at x2 ⟨1024 + k.val, by omega⟩ n))

/-- The normalized and modulated rows of one launch. -/
abbrev hid : ℕ → ℕ → ℕ → EReal := ahid (res x0 x1 x2 x3 x4 x5) (gain x6) (modL x4) (modC x5)

theorem hid_at (b : Fin 4) (t : Fin 4352) (n : Fin 2048) :
    hid x0 x1 x2 x3 x4 x5 x6 b.val t.val n.val
      = scaled t.val (fun k => res x0 x1 x2 x3 x4 x5 b.val t.val k.val) (res x0 x1 x2 x3 x4 x5 b.val t.val n.val) (x6 (ix2 0 n))
          (x5 (ix1 ⟨8192 + n.val, by omega⟩)) (x4 (ix2 b ⟨8192 + n.val, by omega⟩))
        + pick t.val (x5 (ix1 ⟨6144 + n.val, by omega⟩)) (x4 (ix2 b ⟨6144 + n.val, by omega⟩)) := by
  have hg : at2 (gain x6) 0 n.val = x6 (ix2 0 n) := (at2_mk (gain x6) 0 n).trans (gain_at x6 n)
  have hc : at3 (modC x5) 4 0 n.val = _ := ctx_part x5 4 8192 n (by omega) rfl
  have hl : at4 (modL x4) b.val 4 0 n.val = _ := lat_part x4 b 4 8192 n (by omega) rfl
  have hc' : at3 (modC x5) 3 0 n.val = _ := ctx_part x5 3 6144 n (by omega) rfl
  have hl' : at4 (modL x4) b.val 3 0 n.val = _ := lat_part x4 b 3 6144 n (by omega) rfl
  unfold hid ahid
  rw [hg, hc, hl, hc', hl']

theorem res_lat (b : Fin 4) (t : Fin 4096) (n : Fin 2048) :
    res x0 x1 x2 x3 x4 x5 b.val t.val n.val = val_main_v27 (F := Ideal) x0 x1 x2 x3 x4 (ix3 b t n) := by
  refine (res_at x0 x1 x2 x3 x4 x5 b ⟨t.val, by omega⟩ n).trans ?_
  rw [Cert.Reference6Ideal.Out.lat_at, pick_lat t.isLt]

theorem res_ctx (b : Fin 4) (j : Fin 256) (n : Fin 2048) :
    res x0 x1 x2 x3 x4 x5 b.val (4096 + j.val) n.val = val_main_v33 (F := Ideal) x0 x1 x2 x3 x5 (ix3 b j n) := by
  refine (res_at x0 x1 x2 x3 x4 x5 b ⟨4096 + j.val, by omega⟩ n).trans ?_
  rw [Cert.Reference6Ideal.Out.ctx_at, pick_ctx (by show 4096 ≤ 4096 + j.val; omega)]

theorem res_same (b : Fin 4) (t : Fin 4352) (n : Fin 2048) :
    res x0 x1 x2 x3 x4 x5 b.val t.val n.val = val_main_v79 (F := Ideal) x0 x1 x2 x3 x4 x5 (ix3 b t n) := by
  by_cases h : t.val < 4096
  · exact (res_lat x0 x1 x2 x3 x4 x5 b ⟨t.val, h⟩ n).trans (Cert.Reference6Ideal.Out.out_lat x0 x1 x2 x3 x4 x5 b ⟨t.val, h⟩ n).symm
  · obtain ⟨j, hj⟩ : ∃ j : Fin 256, t = ⟨4096 + j.val, by omega⟩ := ⟨⟨t.val - 4096, by omega⟩, Fin.ext (by show t.val = 4096 + (t.val - 4096); omega)⟩
    rw [hj]
    exact (res_ctx x0 x1 x2 x3 x4 x5 b j n).trans (Cert.Reference6Ideal.Out.out_ctx x0 x1 x2 x3 x4 x5 b j n).symm

theorem hid_lat (b : Fin 4) (t : Fin 4096) (n : Fin 2048) :
    hid x0 x1 x2 x3 x4 x5 x6 b.val t.val n.val = val_main_v54 (F := Ideal) x0 x1 x2 x3 x4 x6 (ix3 b t n) := by
  refine (hid_at x0 x1 x2 x3 x4 x5 x6 b ⟨t.val, by omega⟩ n).trans ?_
  rw [Cert.Reference6Ideal.Out.hid_lat_at, Cert.Reference6Ideal.Out.inv_at, Cert.Reference6Ideal.Out.gain_at]
  unfold scaled
  simp only [pick_lat t.isLt, fun k => res_lat x0 x1 x2 x3 x4 x5 b t k]

theorem hid_ctx (b : Fin 4) (j : Fin 256) (n : Fin 2048) :
    hid x0 x1 x2 x3 x4 x5 x6 b.val (4096 + j.val) n.val = val_main_v77 (F := Ideal) x0 x1 x2 x3 x5 x6 (ix3 b j n) := by
  refine (hid_at x0 x1 x2 x3 x4 x5 x6 b ⟨4096 + j.val, by omega⟩ n).trans ?_
  rw [Cert.Reference6Ideal.Out.hid_ctx_at, Cert.Reference6Ideal.Out.inv_ctx_at, Cert.Reference6Ideal.Out.gain_ctx_at]
  unfold scaled
  simp only [pick_ctx (show 4096 ≤ 4096 + j.val by omega), fun k => res_ctx x0 x1 x2 x3 x4 x5 b j k]

theorem hid_same (b : Fin 4) (t : Fin 4352) (n : Fin 2048) :
    hid x0 x1 x2 x3 x4 x5 x6 b.val t.val n.val = val_main_v78 (F := Ideal) x0 x1 x2 x3 x4 x5 x6 (ix3 b t n) := by
  by_cases h : t.val < 4096
  · exact (hid_lat x0 x1 x2 x3 x4 x5 x6 b ⟨t.val, h⟩ n).trans (Cert.Reference6Ideal.Out.hid_lat x0 x1 x2 x3 x4 x5 x6 b ⟨t.val, h⟩ n).symm
  · obtain ⟨j, hj⟩ : ∃ j : Fin 256, t = ⟨4096 + j.val, by omega⟩ := ⟨⟨t.val - 4096, by omega⟩, Fin.ext (by show t.val = 4096 + (t.val - 4096); omega)⟩
    rw [hj]
    exact (hid_ctx x0 x1 x2 x3 x4 x5 x6 b j n).trans (Cert.Reference6Ideal.Out.hid_ctx x0 x1 x2 x3 x4 x5 x6 b j n).symm

/-- With real modulations and gains every normalized and modulated entry is real. -/
theorem hid_real (h4 : ∀ i, IsReal (x4 i)) (h5 : ∀ i, IsReal (x5 i)) (h6 : ∀ i, IsReal (x6 i)) (b : Fin 4) (t : Fin 4352) (n : Fin 2048) :
    IsReal (hid x0 x1 x2 x3 x4 x5 x6 b.val t.val n.val) := by
  rw [hid_at]
  exact (real_scaled t.val (fun k => res x0 x1 x2 x3 x4 x5 b.val t.val k.val) n (h6 _) (h5 _) (h4 _)).add (real_pick (h5 _) (h4 _))

theorem log_same (h4 : ∀ i, IsReal (x4 i)) (h5 : ∀ i, IsReal (x5 i)) (h6 : ∀ i, IsReal (x6 i)) (h7 : ∀ i, IsReal (x7 i))
    (b : Fin 4) (t : Fin 4352) (e : Fin 16) :
    alog (hid x0 x1 x2 x3 x4 x5 x6) (rw2 x7) b.val t.val e.val + alog (hid x0 x1 x2 x3 x4 x5 x6) (rw2 x7) b.val t.val (16 + e.val)
      = val_main_v83 (F := Ideal) x0 x1 x2 x3 x4 x5 x6 x7 (ix3 b t e) := by
  have hlo : (fun k : Fin 2048 => at2 (rw2 x7) k.val e.val) = fun k => x7 (ix3 0 k e) :=
    funext fun k => (at2_mk (rw2 x7) k ⟨e.val, by omega⟩).trans (rw2_lo x7 k e)
  have hhi : (fun k : Fin 2048 => at2 (rw2 x7) k.val (16 + e.val)) = fun k => x7 (ix3 0 k e) - x7 (ix3 0 k e) :=
    funext fun k => (at2_mk (rw2 x7) k ⟨16 + e.val, by omega⟩).trans (rw2_hi x7 k e)
  unfold alog
  rw [hlo, hhi, Cert.Reference6Ideal.Out.logit_at]
  refine (router_add _ _ (fun k => hid_real x0 x1 x2 x3 x4 x5 x6 h4 h5 h6 b t k) (fun k => h7 _)).trans ?_
  exact Finset.sum_congr rfl fun k _ => congrArg (· * x7 (ix3 0 k e)) (hid_same x0 x1 x2 x3 x4 x5 x6 b t k)

section Final

variable (m : (ℓ : Loc nD τ sig) → Buf (Elt Ideal) ℓ)

theorem mres_eq (c : Dev nD) : mres m c = res (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := by
  unfold mres res
  rw [V_main_arg0, V_main_arg1, V_main_arg3, V_wout, V_modL, V_modC]

theorem mhid_eq (c : Dev nD) : mhid m c = hid (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) := by
  unfold mhid hid
  rw [mres_eq, V_gain, V_modL, V_modC]

theorem final_res (c : Dev nD) : (dats m 0 c).arrAt 13 cfg0.N = val_main_v79 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := by
  refine (final13 m c).trans (funext fun y : S4x4352x2048.Idx => ?_)
  rw [mres_eq]
  refine (res_same _ _ _ _ _ _ (y 0) (y 1) (y 2)).trans (congrArg _ ?_)
  exact ix3_eta y

theorem final_hid (c : Dev nD) : (dats m 0 c).arrAt 14 cfg0.N = val_main_v80 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) := by
  refine (final14 m c).trans (funext fun y : S4x4352x2048.Idx => ?_)
  rw [mhid_eq]
  refine (hid_same _ _ _ _ _ _ _ (y 0) (y 1) (y 2)).trans ?_
  exact congrArg (val_main_v78 (F := Ideal) _ _ _ _ _ _ _) (ix3_eta y)

theorem final_log (c : Dev nD) (h4 : ∀ i, IsReal ((m ((c.tc : Thread nD τ).loc main_arg4) : S4x12288.Idx → EReal) i))
    (h5 : ∀ i, IsReal ((m ((c.tc : Thread nD τ).loc main_arg5) : S12288.Idx → EReal) i))
    (h6 : ∀ i, IsReal ((m ((c.tc : Thread nD τ).loc main_arg6) : S2x2048.Idx → EReal) i))
    (h7 : ∀ i, IsReal ((m ((c.tc : Thread nD τ).loc main_arg7) : S2x2048x16.Idx → EReal) i)) :
    halves ((dats m 0 c).arrAt 15 cfg0.N) = val_main_v83 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) := by
  rw [final15 m c]
  refine funext fun y : S4x4352x16.Idx => ?_
  obtain ⟨b, t, e, rfl⟩ : ∃ b t e, y = ix3 b t e := ⟨_, _, _, (ix3_eta y).symm⟩
  rw [halves_at]
  unfold mlog
  rw [mhid_eq, V_rw2]
  exact log_same _ _ _ _ _ _ _ _ h4 h5 h6 h7 b t e

end Final

end Cert.Kernel6Ideal.Out

end
-- ==== Proof.OutFin.lean ====
/- The output projection's precondition read: every entry of the modulations, of the gains and of the router's weights
   is a real number. -/
module

public import proofs.«01_k».proof.Proof.Gen.Pre_finite6
public import Idealize.ShloMosaic.Lib.ReduceAll
public import Idealize.ShloMosaic.Lib.Pointwise

@[expose] public section

set_option maxRecDepth 16384

noncomputable section

namespace Cert.OutFin

open Cert.Pre_finite6 Cert.Pre_finite6.Gen Idealize.ShloMosaic

instance : Subsingleton S_.Idx := ⟨fun a b => funext fun k => k.elim0⟩

theorem and_one {a b : BitVec 1} (h : a &&& b = 1#1) : a = 1#1 ∧ b = 1#1 := by
  revert a b; decide

/-- One entry's two comparisons. -/
theorem entry {x : EReal} (h : IntOp.andi (Ideal.cmp .ogt x (Ideal.ofBits .f32 0xFF800000#32)) (Ideal.cmp .olt x (Ideal.ofBits .f32 0x7F800000#32)) = 1#1) :
    x ≠ ⊥ ∧ x ≠ ⊤ := by
  obtain ⟨h3, h4⟩ := and_one h
  constructor
  · intro e
    rw [e] at h3
    simp [Ideal.ofBits, Ideal.ieee, Ideal.cmp] at h3
  · intro e
    rw [e] at h4
    simp [Ideal.ofBits, Ideal.ieee, Ideal.cmp] at h4

theorem read (a0 a1 : FVec Ideal S4x4352x1024 .bf16) (a2 : FVec Ideal S1x2048x2048 .f32) (a3 : FVec Ideal S4x4352x2048 .f32)
    (L : FVec Ideal S4x12288 .f32) (C : FVec Ideal S12288 .f32) (G : FVec Ideal S2x2048 .f32) (W : FVec Ideal S2x2048x16 .f32)
    (h : Cert.Pre_finite6.fn (F := Ideal) a0 a1 a2 a3 L C G W = fun _ => 1#1) :
    (∀ i, L i ≠ ⊥ ∧ L i ≠ ⊤) ∧ (∀ i, C i ≠ ⊥ ∧ C i ≠ ⊤) ∧ (∀ i, G i ≠ ⊥ ∧ G i ≠ ⊤) ∧ (∀ i, W i ≠ ⊥ ∧ W i ≠ ⊤) := by
  have h0 := congrFun h (Shape.Idx.first h_S_)
  unfold Cert.Pre_finite6.fn Cert.Pre_finite6.fn_part1 at h0
  obtain ⟨h1, hW⟩ := and_one h0
  obtain ⟨h2, hG⟩ := and_one h1
  obtain ⟨hL, hC⟩ := and_one h2
  exact ⟨fun i => entry (Host.reduce_andi_all _ _ _ _ _ hL i), fun i => entry (Host.reduce_andi_all _ _ _ _ _ hC i),
    fun i => entry (Host.reduce_andi_all _ _ _ _ _ hG i), fun i => entry (Host.reduce_andi_all _ _ _ _ _ hW i)⟩

end Cert.OutFin

end
-- ==== Proof.LastPiece.lean ====
/- The second layer's output projection: the kernel's payloads read at an index. -/
module

public import proofs.«01_k».proof.Proof.Gen.Kernel8Ideal.Frame
public import proofs.«01_k».proof.Proof.OutPiece
public import Idealize.ShloMosaic.Lib.Pointwise

@[expose] public section

set_option maxRecDepth 16384

noncomputable section

namespace Cert.Kernel8Ideal.Last

open Cert.Kernel8Ideal Cert.Kernel8Ideal.Gen Idealize.ShloMosaic Idealize.ShloMosaic.TcCoe Idealize.SL.Sem
open Cert.Kernel6Ideal.Out (inv router)

/-- The residual of a token: what comes in, plus the gated projection of the two halves of the attention. -/
def resid (x gl p q : EReal) : EReal := x + gl * (p + q)

/-- An entry of the normalized row, times its gain and one plus its scale. -/
def scaled (f : Fin 2048 → EReal) (v g s : EReal) : EReal := v * inv f * g * (Ideal.ofBits .f32 0x3F800000#32 + s)

section Res

variable (a : Vec Ideal S1x256x1024 .bf16) (v : Vec Ideal S1024x2048 .bf16) (b : Vec Ideal S1x256x1024 .bf16) (w : Vec Ideal S1024x2048 .bf16)
  (x : Vec Ideal S1x256x2048 .f32) (gl : Vec Ideal S1x1x1x2048 .f32)

theorem resid_lo (r : Fin 256) (n : Fin 2048) :
    k0_pay5 a v b w x gl (ix2 r n) = resid (x (ix3 0 r n)) (gl (ix4 0 0 0 n))
      (∑ k : Fin 1024, a (ix3 0 r k) * v (ix2 k n)) (∑ k : Fin 1024, b (ix3 0 r k) * w (ix2 k n)) := by
  unfold resid
  pointwise [k0_pay5]

theorem resid_hi (r : Fin 256) (n : Fin 2048) :
    k0_pay13 (k0_pay12 a) v b w x gl (ix2 r n) = resid (x (ix3 0 r n)) (gl (ix4 0 0 0 n))
      (∑ k : Fin 1024, a (ix3 0 r k) * v (ix2 k n)) (∑ k : Fin 1024, b (ix3 0 r k) * w (ix2 k n)) := by
  unfold resid
  pointwise [k0_pay13, k0_pay12]

theorem row_lo (r : Fin 256) (n : Fin 2048) : k0_pay6 a v b w x gl (ix3 0 r n) = k0_pay5 a v b w x gl (ix2 r n) := by
  unfold k0_pay6
  generalize k0_pay5 a v b w x gl = z
  pointwise

theorem row_hi (a : FVec Ideal S256x1024 .bf16) (r : Fin 256) (n : Fin 2048) : k0_pay14 a v b w x gl (ix3 0 r n) = k0_pay13 a v b w x gl (ix2 r n) := by
  unfold k0_pay14
  generalize k0_pay13 a v b w x gl = z
  pointwise

theorem norm_lo (r : Fin 256) (n : Fin 2048) :
    k0_pay7 a v b w x gl (ix2 r n) = k0_pay5 a v b w x gl (ix2 r n) * inv fun k => k0_pay5 a v b w x gl (ix2 r k) := by
  unfold k0_pay7 Cert.Kernel6Ideal.Out.inv
  generalize k0_pay5 a v b w x gl = z
  pointwise

theorem norm_hi (a : FVec Ideal S256x1024 .bf16) (g : Vec Ideal S1x2048 .f32) (r : Fin 256) (n : Fin 2048) :
    k0_pay15 a v b w x gl g (ix2 r n)
      = k0_pay13 a v b w x gl (ix2 r n) * (inv fun k => k0_pay13 a v b w x gl (ix2 r k)) * g (ix2 0 n) := by
  unfold k0_pay15 Cert.Kernel6Ideal.Out.inv
  generalize k0_pay13 a v b w x gl = z
  pointwise

end Res

section Hid

variable (z : FVec Ideal S256x2048 .f32) (g : Vec Ideal S1x2048 .f32) (s h : Vec Ideal S1x1x1x2048 .f32)

theorem shifted_lo (r : Fin 256) (n : Fin 2048) :
    k0_pay8 z g s h (ix2 r n) = z (ix2 r n) * g (ix2 0 n) * (Ideal.ofBits .f32 0x3F800000#32 + s (ix4 0 0 0 n)) + h (ix4 0 0 0 n) := by
  pointwise [k0_pay8]

theorem shifted_hi (r : Fin 256) (n : Fin 2048) :
    k0_pay1 z s h (ix2 r n) = z (ix2 r n) * (Ideal.ofBits .f32 0x3F800000#32 + s (ix4 0 0 0 n)) + h (ix4 0 0 0 n) := by
  pointwise [k0_pay1]

theorem stored_lo (r : Fin 256) (n : Fin 2048) : k0_pay10 z g s h (ix3 0 r n) = k0_pay8 z g s h (ix2 r n) := by
  unfold k0_pay10 k0_pay9
  generalize k0_pay8 z g s h = y
  pointwise

theorem stored_hi (r : Fin 256) (n : Fin 2048) : k0_pay3 z s h (ix3 0 r n) = k0_pay1 z s h (ix2 r n) := by
  unfold k0_pay3 k0_pay2
  generalize k0_pay1 z s h = y
  pointwise

theorem router_lo (w : Vec Ideal S2048x32 .bf16) (r : Fin 256) (n : Fin 32) :
    k0_pay11 z g s h w w (ix3 0 r n) = router (fun k => k0_pay8 z g s h (ix2 r k)) (fun k => w (ix2 k n)) := by
  unfold k0_pay11 k0_pay9 router
  generalize k0_pay8 z g s h = y
  pointwise

theorem router_hi (w : Vec Ideal S2048x32 .bf16) (r : Fin 256) (n : Fin 32) :
    k0_pay4 z s h w w (ix3 0 r n) = router (fun k => k0_pay1 z s h (ix2 r k)) (fun k => w (ix2 k n)) := by
  unfold k0_pay4 k0_pay2 router
  generalize k0_pay1 z s h = y
  pointwise

end Hid

end Cert.Kernel8Ideal.Last

end
-- ==== Proof.LastBlock.lean ====
/- The second layer's output projection: what the body leaves in each output block, and the three arrays of the launch. -/
module

public import proofs.«01_k».proof.Proof.LastPiece
public import proofs.«01_k».proof.Proof.AtTwo
public import Idealize.ShloMosaic.Lib.Pipeline.ValueKit

@[expose] public section

set_option maxRecDepth 16384

noncomputable section

namespace Cert.Kernel8Ideal.Last

open Cert.Kernel8Ideal Cert.Kernel8Ideal.Gen Idealize.ShloMosaic Idealize.ShloMosaic.TcCoe Idealize.SL.Sem
open Cert.At
open Cert.Kernel6Ideal.Out (router)

/-- The two halves of a block of the mixed arrays, of the residuals and of the logits. -/
abbrev alo : Rect S1x512x1024 := Rect.unit (s := S1x512x1024) ![0, 0, 0] ![1, 256, 1024] inb_S1x512x1024_S1x256x1024_0_0_0
abbrev ahi : Rect S1x512x1024 := Rect.unit (s := S1x512x1024) ![0, 256, 0] ![1, 256, 1024] inb_S1x512x1024_S1x256x1024_0_256_0
abbrev xlo : Rect S1x512x2048 := Rect.unit (s := S1x512x2048) ![0, 0, 0] ![1, 256, 2048] inb_S1x512x2048_S1x256x2048_0_0_0
abbrev xhi : Rect S1x512x2048 := Rect.unit (s := S1x512x2048) ![0, 256, 0] ![1, 256, 2048] inb_S1x512x2048_S1x256x2048_0_256_0
abbrev llo : Rect S1x512x32 := Rect.unit (s := S1x512x32) ![0, 0, 0] ![1, 256, 32] inb_S1x512x32_S1x256x32_0_0_0
abbrev lhi : Rect S1x512x32 := Rect.unit (s := S1x512x32) ![0, 256, 0] ![1, 256, 32] inb_S1x512x32_S1x256x32_0_256_0

section Block

variable (x0 : Vec Ideal S1x512x1024 .bf16) (x1 : Vec Ideal S1x512x1024 .bf16) (x2 : Vec Ideal S1024x2048 .bf16) (x3 : Vec Ideal S1024x2048 .bf16) (x4 : Vec Ideal S1x512x2048 .f32) (x5 : Vec Ideal S1x1x1x2048 .f32) (x7 : Vec Ideal S1x2048 .f32) (x8 : Vec Ideal S1x1x1x2048 .f32) (x10 : Vec Ideal S1x1x1x2048 .f32) (x12 : Vec Ideal S2048x32 .bf16)

/-- The block's residuals. -/
def bres (r : Fin 512) (n : Fin 2048) : EReal :=
  resid (x4 (ix3 0 r n)) (x5 (ix4 0 0 0 n)) (∑ k : Fin 1024, x0 (ix3 0 r k) * x2 (ix2 k n)) (∑ k : Fin 1024, x1 (ix3 0 r k) * x3 (ix2 k n))

/-- The block's normalized and modulated rows. -/
def bhid (r : Fin 512) (n : Fin 2048) : EReal :=
  scaled (fun k => bres x0 x1 x2 x3 x4 x5 r k) (bres x0 x1 x2 x3 x4 x5 r n) (x7 (ix2 0 n)) (x8 (ix4 0 0 0 n)) + x10 (ix4 0 0 0 n)

/-- The block's logits, in the two halves of the split weights. -/
def blog (r : Fin 512) (n : Fin 32) : EReal :=
  router (fun k => bhid x0 x1 x2 x3 x4 x5 x7 x8 x10 r k) (fun k => x12 (ix2 k n))

theorem ld_a_lo (X : Vec Ideal S1x512x1024 .bf16) (r : Fin 256) (k : Fin 1024) : View.ld X alo (ix3 0 r k) = X (ix3 0 ⟨0 + r.val, by omega⟩ k) :=
  View.ld_unit_apply_of X _ _ _ _ _ fun a => match a with
    | ⟨0, _⟩ => rfl
    | ⟨1, _⟩ => rfl
    | ⟨2, _⟩ => (Nat.zero_add _).symm

theorem ld_x_lo (X : Vec Ideal S1x512x2048 .f32) (r : Fin 256) (k : Fin 2048) : View.ld X xlo (ix3 0 r k) = X (ix3 0 ⟨0 + r.val, by omega⟩ k) :=
  View.ld_unit_apply_of X _ _ _ _ _ fun a => match a with
    | ⟨0, _⟩ => rfl
    | ⟨1, _⟩ => rfl
    | ⟨2, _⟩ => (Nat.zero_add _).symm

theorem ld_a_hi (X : Vec Ideal S1x512x1024 .bf16) (r : Fin 256) (k : Fin 1024) : View.ld X ahi (ix3 0 r k) = X (ix3 0 ⟨256 + r.val, by omega⟩ k) :=
  View.ld_unit_apply_of X _ _ _ _ _ fun a => match a with
    | ⟨0, _⟩ => rfl
    | ⟨1, _⟩ => rfl
    | ⟨2, _⟩ => (Nat.zero_add _).symm

theorem ld_x_hi (X : Vec Ideal S1x512x2048 .f32) (r : Fin 256) (k : Fin 2048) : View.ld X xhi (ix3 0 r k) = X (ix3 0 ⟨256 + r.val, by omega⟩ k) :=
  View.ld_unit_apply_of X _ _ _ _ _ fun a => match a with
    | ⟨0, _⟩ => rfl
    | ⟨1, _⟩ => rfl
    | ⟨2, _⟩ => (Nat.zero_add _).symm

theorem resid_congr {x x' l l' p p' q q' : EReal} (hx : x = x') (hl : l = l') (hp : p = p') (hq : q = q') :
    resid x l p q = resid x' l' p' q' := by rw [hx, hl, hp, hq]

theorem res_lo (r : Fin 256) (n : Fin 2048) : k0_pay5 (F := Ideal) (View.ld x0 alo) x2 (View.ld x1 alo) x3 (View.ld x4 xlo) x5 (ix2 r n) = bres x0 x1 x2 x3 x4 x5 ⟨0 + r.val, by omega⟩ n := by
  unfold bres
  refine (resid_lo _ _ _ _ _ _ r n).trans ?_
  exact resid_congr (ld_x_lo x4 r n) rfl (Finset.sum_congr rfl fun k _ => congrArg (· * x2 (ix2 k n)) (ld_a_lo x0 r k))
    (Finset.sum_congr rfl fun k _ => congrArg (· * x3 (ix2 k n)) (ld_a_lo x1 r k))

theorem res_hi (r : Fin 256) (n : Fin 2048) : k0_pay13 (F := Ideal) (k0_pay12 (View.ld x0 ahi)) x2 (View.ld x1 ahi) x3 (View.ld x4 xhi) x5 (ix2 r n) = bres x0 x1 x2 x3 x4 x5 ⟨256 + r.val, by omega⟩ n := by
  unfold bres
  refine (resid_hi _ _ _ _ _ _ r n).trans ?_
  exact resid_congr (ld_x_hi x4 r n) rfl (Finset.sum_congr rfl fun k _ => congrArg (· * x2 (ix2 k n)) (ld_a_hi x0 r k))
    (Finset.sum_congr rfl fun k _ => congrArg (· * x3 (ix2 k n)) (ld_a_hi x1 r k))

theorem hid_lo (r : Fin 256) (n : Fin 2048) : k0_pay8 (F := Ideal) (k0_pay7 (F := Ideal) (View.ld x0 alo) x2 (View.ld x1 alo) x3 (View.ld x4 xlo) x5) x7 x8 x10 (ix2 r n) = bhid x0 x1 x2 x3 x4 x5 x7 x8 x10 ⟨0 + r.val, by omega⟩ n := by
  unfold bhid scaled
  rw [shifted_lo, norm_lo]
  simp only [fun k => res_lo x0 x1 x2 x3 x4 x5 r k]

theorem hid_hi (r : Fin 256) (n : Fin 2048) : k0_pay1 (F := Ideal) (k0_pay15 (F := Ideal) (k0_pay12 (View.ld x0 ahi)) x2 (View.ld x1 ahi) x3 (View.ld x4 xhi) x5 x7) x8 x10 (ix2 r n) = bhid x0 x1 x2 x3 x4 x5 x7 x8 x10 ⟨256 + r.val, by omega⟩ n := by
  unfold bhid scaled
  rw [shifted_hi, norm_hi]
  simp only [fun k => res_hi x0 x1 x2 x3 x4 x5 r k]

theorem logit_lo (r : Fin 256) (n : Fin 32) : k0_pay11 (F := Ideal) (k0_pay7 (F := Ideal) (View.ld x0 alo) x2 (View.ld x1 alo) x3 (View.ld x4 xlo) x5) x7 x8 x10 x12 x12 (ix3 0 r n) = blog x0 x1 x2 x3 x4 x5 x7 x8 x10 x12 ⟨0 + r.val, by omega⟩ n := by
  unfold blog
  refine (router_lo _ _ _ _ _ r n).trans ?_
  exact congrArg (router · fun k => x12 (ix2 k n)) (funext fun k => hid_lo x0 x1 x2 x3 x4 x5 x7 x8 x10 r k)

theorem logit_hi (r : Fin 256) (n : Fin 32) : k0_pay4 (F := Ideal) (k0_pay15 (F := Ideal) (k0_pay12 (View.ld x0 ahi)) x2 (View.ld x1 ahi) x3 (View.ld x4 xhi) x5 x7) x8 x10 x12 x12 (ix3 0 r n) = blog x0 x1 x2 x3 x4 x5 x7 x8 x10 x12 ⟨256 + r.val, by omega⟩ n := by
  unfold blog
  refine (router_hi _ _ _ _ r n).trans ?_
  exact congrArg (router · fun k => x12 (ix2 k n)) (funext fun k => hid_hi x0 x1 x2 x3 x4 x5 x7 x8 x10 r k)

/-- A piece that holds its rows' values holds the block's. -/
theorem piece {N : ℕ} (G : Fin 512 → Fin N → EReal) (o : ℕ) (ho : o + 256 ≤ 512) (f : (⟨3, ![1, 256, N]⟩ : Shape).Idx → EReal)
    (hf : ∀ (r : Fin 256) (n : Fin N), f (ix3 0 r n) = G ⟨o + r.val, by omega⟩ n)
    (z : (⟨3, ![1, 256, N]⟩ : Shape).Idx) (u : (⟨3, ![1, 512, N]⟩ : Shape).Idx) (h1 : (u 1).val = o + (z 1).val) (h2 : (u 2).val = (z 2).val) :
    f z = G (u 1) (u 2) := by
  have hz0 : (z 0).val < 1 := (z 0).isLt
  have hz1 : (z 1).val < 256 := (z 1).isLt
  have hz : z = ix3 0 (z 1) (z 2) := by
    funext k; fin_cases k <;> first | rfl | (apply Fin.ext; show (z 0).val = 0; omega)
  refine (congrArg f hz).trans ((hf (z 1) (z 2)).trans ?_)
  have e1 : u 1 = (⟨o + (z 1).val, by omega⟩ : Fin 512) := Fin.ext h1
  have e2 : u 2 = z 2 := Fin.ext h2
  rw [e1, e2]

theorem cover13 (p q : Vec Ideal S1x256x2048 .f32) (y : S1x512x2048.Idx) :
    ∃ pc ∈ ([⟨xhi, p⟩, ⟨xlo, q⟩] : List (View.Piece (Elt Ideal) S1x512x2048 .f32)), y ∈ pc.1.set :=
  View.cover_of_tiled [⟨xhi, p⟩, ⟨xlo, q⟩] S1x256x2048.size (by rfl) y

theorem out13_at (y : S1x512x2048.Idx) :
    View.canon (Val := Elt Ideal) (s := S1x512x2048) (e := .f32) [⟨xhi, k0_pay14 (F := Ideal) (k0_pay12 (View.ld x0 ahi)) x2 (View.ld x1 ahi) x3 (View.ld x4 xhi) x5⟩, ⟨xlo, k0_pay6 (F := Ideal) (View.ld x0 alo) x2 (View.ld x1 alo) x3 (View.ld x4 xlo) x5⟩] y = bres x0 x1 x2 x3 x4 x5 (y 1) (y 2) := by
  refine View.canon_apply_of_pieces (Val := Elt Ideal) (S := S1x512x2048) (e := .f32) (fun y => bres x0 x1 x2 x3 x4 x5 (y 1) (y 2)) _ ?_ y (cover13 _ _ y)
  intro p hp z
  simp only [List.mem_cons, List.not_mem_nil, or_false] at hp
  rcases hp with rfl | rfl
  · refine piece (bres x0 x1 x2 x3 x4 x5) 256 (by omega) _ (fun r n => (row_hi _ _ _ _ _ _ r n).trans (res_hi x0 x1 x2 x3 x4 x5 r n)) z _ ?_ ?_
    · rw [ValueKit.rect_emb_unit_val]; simp
    · rw [ValueKit.rect_emb_unit_val]; simp
  · refine piece (bres x0 x1 x2 x3 x4 x5) 0 (by omega) _ (fun r n => (row_lo _ _ _ _ _ _ r n).trans (res_lo x0 x1 x2 x3 x4 x5 r n)) z _ ?_ ?_
    · rw [ValueKit.rect_emb_unit_val]; simp
    · rw [ValueKit.rect_emb_unit_val]; simp

theorem cover14 (p q : Vec Ideal S1x256x2048 .bf16) (y : S1x512x2048.Idx) :
    ∃ pc ∈ ([⟨xhi, p⟩, ⟨xlo, q⟩] : List (View.Piece (Elt Ideal) S1x512x2048 .bf16)), y ∈ pc.1.set :=
  View.cover_of_tiled [⟨xhi, p⟩, ⟨xlo, q⟩] S1x256x2048.size (by rfl) y

theorem out14_at (y : S1x512x2048.Idx) :
    View.canon (Val := Elt Ideal) (s := S1x512x2048) (e := .bf16) [⟨xhi, k0_pay3 (F := Ideal) (k0_pay15 (F := Ideal) (k0_pay12 (View.ld x0 ahi)) x2 (View.ld x1 ahi) x3 (View.ld x4 xhi) x5 x7) x8 x10⟩, ⟨xlo, k0_pay10 (F := Ideal) (k0_pay7 (F := Ideal) (View.ld x0 alo) x2 (View.ld x1 alo) x3 (View.ld x4 xlo) x5) x7 x8 x10⟩] y = bhid x0 x1 x2 x3 x4 x5 x7 x8 x10 (y 1) (y 2) := by
  refine View.canon_apply_of_pieces (Val := Elt Ideal) (S := S1x512x2048) (e := .bf16) (fun y => bhid x0 x1 x2 x3 x4 x5 x7 x8 x10 (y 1) (y 2)) _ ?_ y (cover14 _ _ y)
  intro p hp z
  simp only [List.mem_cons, List.not_mem_nil, or_false] at hp
  rcases hp with rfl | rfl
  · refine piece (bhid x0 x1 x2 x3 x4 x5 x7 x8 x10) 256 (by omega) _ (fun r n => (stored_hi _ _ _ r n).trans (hid_hi x0 x1 x2 x3 x4 x5 x7 x8 x10 r n)) z _ ?_ ?_
    · rw [ValueKit.rect_emb_unit_val]; simp
    · rw [ValueKit.rect_emb_unit_val]; simp
  · refine piece (bhid x0 x1 x2 x3 x4 x5 x7 x8 x10) 0 (by omega) _ (fun r n => (stored_lo _ _ _ _ r n).trans (hid_lo x0 x1 x2 x3 x4 x5 x7 x8 x10 r n)) z _ ?_ ?_
    · rw [ValueKit.rect_emb_unit_val]; simp
    · rw [ValueKit.rect_emb_unit_val]; simp

theorem cover15 (p q : Vec Ideal S1x256x32 .f32) (y : S1x512x32.Idx) :
    ∃ pc ∈ ([⟨lhi, p⟩, ⟨llo, q⟩] : List (View.Piece (Elt Ideal) S1x512x32 .f32)), y ∈ pc.1.set :=
  View.cover_of_tiled [⟨lhi, p⟩, ⟨llo, q⟩] S1x256x32.size (by rfl) y

theorem out15_at (y : S1x512x32.Idx) :
    View.canon (Val := Elt Ideal) (s := S1x512x32) (e := .f32) [⟨lhi, k0_pay4 (F := Ideal) (k0_pay15 (F := Ideal) (k0_pay12 (View.ld x0 ahi)) x2 (View.ld x1 ahi) x3 (View.ld x4 xhi) x5 x7) x8 x10 x12 x12⟩, ⟨llo, k0_pay11 (F := Ideal) (k0_pay7 (F := Ideal) (View.ld x0 alo) x2 (View.ld x1 alo) x3 (View.ld x4 xlo) x5) x7 x8 x10 x12 x12⟩] y = blog x0 x1 x2 x3 x4 x5 x7 x8 x10 x12 (y 1) (y 2) := by
  refine View.canon_apply_of_pieces (Val := Elt Ideal) (S := S1x512x32) (e := .f32) (fun y => blog x0 x1 x2 x3 x4 x5 x7 x8 x10 x12 (y 1) (y 2)) _ ?_ y (cover15 _ _ y)
  intro p hp z
  simp only [List.mem_cons, List.not_mem_nil, or_false] at hp
  rcases hp with rfl | rfl
  · refine piece (blog x0 x1 x2 x3 x4 x5 x7 x8 x10 x12) 256 (by omega) _ (fun r n => logit_hi x0 x1 x2 x3 x4 x5 x7 x8 x10 x12 r n) z _ ?_ ?_
    · rw [ValueKit.rect_emb_unit_val]; simp
    · rw [ValueKit.rect_emb_unit_val]; simp
  · refine piece (blog x0 x1 x2 x3 x4 x5 x7 x8 x10 x12) 0 (by omega) _ (fun r n => logit_lo x0 x1 x2 x3 x4 x5 x7 x8 x10 x12 r n) z _ ?_ ?_
    · rw [ValueKit.rect_emb_unit_val]; simp
    · rw [ValueKit.rect_emb_unit_val]; simp

end Block

section Arrays

variable (m : (ℓ : Loc nD τ sig) → Buf (Elt Ideal) ℓ)

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, (grid0.coords t 1).val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![1, 0] := (by decide +kernel : ∀ t : Fin grid0.N, _)
theorem idx4 : ∀ t : Fin cfg0.N, win0_4.index t = ![(grid0.coords t 0).val, (grid0.coords t 1).val, 0] := (by decide +kernel : ∀ t : Fin grid0.N, _)
theorem idx5 : ∀ t : Fin cfg0.N, win0_5.index t = ![(grid0.coords t 0).val, 2, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![(grid0.coords t 0).val, 4, 0, 0] := (by decide +kernel : ∀ t : Fin grid0.N, _)
theorem idx10 : ∀ t : Fin cfg0.N, win0_10.index t = ![(grid0.coords t 0).val, 3, 0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![(grid0.coords t 0).val, (grid0.coords t 1).val, 0] := (by decide +kernel : ∀ t : Fin grid0.N, _)
theorem idx14 : ∀ t : Fin cfg0.N, win0_14.index t = ![(grid0.coords t 0).val, (grid0.coords t 1).val, 0] := (by decide +kernel : ∀ t : Fin grid0.N, _)
theorem idx15 : ∀ t : Fin cfg0.N, win0_15.index t = ![(grid0.coords t 0).val, (grid0.coords t 1).val, 0] := (by decide +kernel : ∀ t : Fin grid0.N, _)

theorem blk0 (c : Dev nD) (t : Fin cfg0.N) (r : Fin 512) (k : Fin 1024) : iblk m c 0 t (ix3 0 r k) = at3 (V m c main_arg0) ((grid0.coords t 0).val) (512 * (grid0.coords t 1).val + r.val) (k.val) := by
  blk_simp [iblk]
  apply eq_at3 <;> blk_simp [idx0] <;> simp <;> try omega

theorem blk1 (c : Dev nD) (t : Fin cfg0.N) (r : Fin 512) (k : Fin 1024) : X0_1 m c t (ix3 0 r k) = at3 (V m c main_arg1) ((grid0.coords t 0).val) (512 * (grid0.coords t 1).val + r.val) (k.val) := by
  unfold X0_1 Pipeline.Window.fill
  rw [dif_pos (moved0_1 t _)]
  blk_simp [iblk]
  apply eq_at3 <;> blk_simp [idx1] <;> simp <;> try omega

theorem blk2 (c : Dev nD) (t : Fin cfg0.N) (k : Fin 1024) (n : Fin 2048) : iblk m c 2 t (ix2 k n) = at2 (V m c main_v3) (k.val) (n.val) := by
  blk_simp [iblk]
  apply eq_at2 <;> blk_simp [idx2] <;> simp <;> try omega

theorem blk3 (c : Dev nD) (t : Fin cfg0.N) (k : Fin 1024) (n : Fin 2048) : iblk m c 3 t (ix2 k n) = at2 (V m c main_v3) (1024 + k.val) (n.val) := by
  blk_simp [iblk]
  apply eq_at2 <;> blk_simp [idx3] <;> simp <;> try omega

theorem blk4 (c : Dev nD) (t : Fin cfg0.N) (r : Fin 512) (k : Fin 2048) : X0_4 m c t (ix3 0 r k) = at3 (V m c main_arg3) ((grid0.coords t 0).val) (512 * (grid0.coords t 1).val + r.val) (k.val) := by
  unfold X0_4 Pipeline.Window.fill
  rw [dif_pos (moved0_4 t _)]
  blk_simp [iblk]
  apply eq_at3 <;> blk_simp [idx4] <;> simp <;> try omega

theorem blk5 (c : Dev nD) (t : Fin cfg0.N) (n : Fin 2048) : iblk m c 5 t (ix4 0 0 0 n) = at4 (V m c main_v0) ((grid0.coords t 0).val) (2) (0) (n.val) := by
  blk_simp [iblk]
  apply eq_at4 <;> blk_simp [idx5] <;> simp <;> try omega

theorem blk7 (c : Dev nD) (t : Fin cfg0.N) (n : Fin 2048) : iblk m c 7 t (ix2 0 n) = at2 (V m c main_v4) (0) (n.val) := by
  blk_simp [iblk]
  apply eq_at2 <;> blk_simp [idx7] <;> simp <;> try omega

theorem blk8 (c : Dev nD) (t : Fin cfg0.N) (n : Fin 2048) : iblk m c 8 t (ix4 0 0 0 n) = at4 (V m c main_v0) ((grid0.coords t 0).val) (4) (0) (n.val) := by
  blk_simp [iblk]
  apply eq_at4 <;> blk_simp [idx8] <;> simp <;> try omega

theorem blk10 (c : Dev nD) (t : Fin cfg0.N) (n : Fin 2048) : iblk m c 10 t (ix4 0 0 0 n) = at4 (V m c main_v0) ((grid0.coords t 0).val) (3) (0) (n.val) := by
  blk_simp [iblk]
  apply eq_at4 <;> blk_simp [idx10] <;> simp <;> try omega

theorem blk12 (c : Dev nD) (t : Fin cfg0.N) (k : Fin 2048) (n : Fin 32) : iblk m c 12 t (ix2 k n) = at2 (V m c main_v11) (k.val) (n.val) := by
  blk_simp [iblk]
  apply eq_at2 <;> blk_simp [idx12] <;> simp <;> try omega

/-- The residuals as a function of sample, token and column, from the arrays the launch reads. -/
def ares (A1 : S4x4096x1024.Idx → EReal) (A2 : S4x4352x1024.Idx → EReal) (W : S2048x2048.Idx → EReal) (X : S4x4352x2048.Idx → EReal) (L : S4x6x1x2048.Idx → EReal)
    (b t n : ℕ) : EReal :=
  resid (at3 X b t n) (at4 L b 2 0 n) (∑ k : Fin 1024, at3 A1 b t k.val * at2 W k.val n) (∑ k : Fin 1024, at3 A2 b t k.val * at2 W (1024 + k.val) n)

/-- The normalized and modulated rows likewise, -/
def ahid (R : ℕ → ℕ → ℕ → EReal) (G : S1x2048.Idx → EReal) (L : S4x6x1x2048.Idx → EReal) (b t n : ℕ) : EReal :=
  scaled (fun k => R b t k.val) (R b t n) (at2 G 0 n) (at4 L b 4 0 n) + at4 L b 3 0 n

/-- and the logits. -/
def alog (H : ℕ → ℕ → ℕ → EReal) (W : S2048x32.Idx → EReal) (b t n : ℕ) : EReal :=
  router (fun k => H b t k.val) (fun k => at2 W k.val n)

/-- The three of them at one launch. -/
abbrev mres (c : Dev nD) : ℕ → ℕ → ℕ → EReal := ares (V m c main_arg0) (V m c main_arg1) (V m c main_v3) (V m c main_arg3) (V m c main_v0)
abbrev mhid (c : Dev nD) : ℕ → ℕ → ℕ → EReal := ahid (mres m c) (V m c main_v4) (V m c main_v0)
abbrev mlog (c : Dev nD) : ℕ → ℕ → ℕ → EReal := alog (mhid m c) (V m c main_v11)

theorem bres_eq (c : Dev nD) (t : Fin cfg0.N) (r : Fin 512) (n : Fin 2048) :
    bres (iblk m c 0 t) (X0_1 m c t) (iblk m c 2 t) (iblk m c 3 t) (X0_4 m c t) (iblk m c 5 t) r n = mres m c (grid0.coords t 0).val (512 * (grid0.coords t 1).val + r.val) n.val := by
  unfold bres mres ares
  simp only [blk0 m, blk1 m, blk2 m, blk3 m, blk4 m, blk5 m]

theorem bhid_eq (c : Dev nD) (t : Fin cfg0.N) (r : Fin 512) (n : Fin 2048) :
    bhid (iblk m c 0 t) (X0_1 m c t) (iblk m c 2 t) (iblk m c 3 t) (X0_4 m c t) (iblk m c 5 t) (iblk m c 7 t) (iblk m c 8 t) (iblk m c 10 t) r n = mhid m c (grid0.coords t 0).val (512 * (grid0.coords t 1).val + r.val) n.val := by
  unfold bhid mhid ahid
  simp only [bres_eq m, blk7 m, blk8 m, blk10 m]

theorem blog_eq (c : Dev nD) (t : Fin cfg0.N) (r : Fin 512) (n : Fin 32) :
    blog (iblk m c 0 t) (X0_1 m c t) (iblk m c 2 t) (iblk m c 3 t) (X0_4 m c t) (iblk m c 5 t) (iblk m c 7 t) (iblk m c 8 t) (iblk m c 10 t) (iblk m c 12 t) r n = mlog m c (grid0.coords t 0).val (512 * (grid0.coords t 1).val + r.val) n.val := by
  unfold blog mlog alog
  simp only [bhid_eq m, blk12 m]

theorem left13 (c : Dev nD) (t : Fin cfg0.N) (y : S1x512x2048.Idx) : (dats m 0 c).after 13 t y = bres (iblk m c 0 t) (X0_1 m c t) (iblk m c 2 t) (iblk m c 3 t) (X0_4 m c t) (iblk m c 5 t) (y 1) (y 2) := by
  rw [after0_13]
  unfold outsAt0
  frame_out
  exact out13_at (iblk m c 0 t) (X0_1 m c t) (iblk m c 2 t) (iblk m c 3 t) (X0_4 m c t) (iblk m c 5 t) y

theorem final13 (c : Dev nD) : (dats m 0 c).arrAt 13 cfg0.N = fun y : S4x4096x2048.Idx => mres m c (y 0).val (y 1).val (y 2).val := by
  refine (dats m 0 c).arrAt_eq_of_covers 13 _ (by decide +kernel) fun t hf y => ?_
  blk_simp
  refine (left13 m c t y).trans ?_
  have h0 : (y 0).val < 1 := (y 0).isLt
  refine (bres_eq m c t (y 1) (y 2)).trans ?_
  blk_simp [idx13]
  simp only [Matrix.cons_val_zero, Matrix.cons_val_one, Matrix.cons_val]
  congr 1 <;> first | rfl | (simp; try omega)

theorem left14 (c : Dev nD) (t : Fin cfg0.N) (y : S1x512x2048.Idx) : (dats m 0 c).after 14 t y = bhid (iblk m c 0 t) (X0_1 m c t) (iblk m c 2 t) (iblk m c 3 t) (X0_4 m c t) (iblk m c 5 t) (iblk m c 7 t) (iblk m c 8 t) (iblk m c 10 t) (y 1) (y 2) := by
  rw [after0_14]
  unfold outsAt0
  frame_out
  exact out14_at (iblk m c 0 t) (X0_1 m c t) (iblk m c 2 t) (iblk m c 3 t) (X0_4 m c t) (iblk m c 5 t) (iblk m c 7 t) (iblk m c 8 t) (iblk m c 10 t) y

theorem final14 (c : Dev nD) : (dats m 0 c).arrAt 14 cfg0.N = fun y : S4x4096x2048.Idx => mhid m c (y 0).val (y 1).val (y 2).val := by
  refine (dats m 0 c).arrAt_eq_of_covers 14 _ (by decide +kernel) fun t hf y => ?_
  blk_simp
  refine (left14 m c t y).trans ?_
  have h0 : (y 0).val < 1 := (y 0).isLt
  refine (bhid_eq m c t (y 1) (y 2)).trans ?_
  blk_simp [idx14]
  simp only [Matrix.cons_val_zero, Matrix.cons_val_one, Matrix.cons_val]
  congr 1 <;> first | rfl | (simp; try omega)

theorem left15 (c : Dev nD) (t : Fin cfg0.N) (y : S1x512x32.Idx) : (dats m 0 c).after 15 t y = blog (iblk m c 0 t) (X0_1 m c t) (iblk m c 2 t) (iblk m c 3 t) (X0_4 m c t) (iblk m c 5 t) (iblk m c 7 t) (iblk m c 8 t) (iblk m c 10 t) (iblk m c 12 t) (y 1) (y 2) := by
  rw [after0_15]
  unfold outsAt0
  frame_out
  exact out15_at (iblk m c 0 t) (X0_1 m c t) (iblk m c 2 t) (iblk m c 3 t) (X0_4 m c t) (iblk m c 5 t) (iblk m c 7 t) (iblk m c 8 t) (iblk m c 10 t) (iblk m c 12 t) y

theorem final15 (c : Dev nD) : (dats m 0 c).arrAt 15 cfg0.N = fun y : S4x4096x32.Idx => mlog m c (y 0).val (y 1).val (y 2).val := by
  refine (dats m 0 c).arrAt_eq_of_covers 15 _ (by decide +kernel) fun t hf y => ?_
  blk_simp
  refine (left15 m c t y).trans ?_
  have h0 : (y 0).val < 1 := (y 0).isLt
  refine (blog_eq m c t (y 1) (y 2)).trans ?_
  blk_simp [idx15]
  simp only [Matrix.cons_val_zero, Matrix.cons_val_one, Matrix.cons_val]
  congr 1 <;> first | rfl | (simp; try omega)

end Arrays

end Cert.Kernel8Ideal.Last

end
-- ==== Proof.LastReal.lean ====
/- The normalized rows of the second layer's output projection are real. -/
module

public import proofs.«01_k».proof.Proof.LastPiece
public import proofs.«01_k».proof.Proof.OutReal

@[expose] public section

set_option maxRecDepth 16384

noncomputable section

namespace Cert.Kernel8Ideal.Last

open Idealize.ShloMosaic
open Cert.Kernel6Ideal.Out (IsReal real_norm real_one)

/-- The row normalized, times a real gain and one plus a real scale. -/
theorem real_scaled (f : Fin 2048 → EReal) (n : Fin 2048) {g s : EReal} (hg : IsReal g) (hs : IsReal s) : IsReal (scaled f (f n) g s) := by
  unfold scaled
  exact ((real_norm f n).mul hg).mul (real_one.add hs)

end Cert.Kernel8Ideal.Last

end
-- ==== Proof.LastHost.lean ====
/- The host's lines around the launch of the second layer's output projection: the arrays it prepares, read at an index, and the three
   results after it. -/
module

public import proofs.«01_k».proof.Proof.LastBlock
public import proofs.«01_k».proof.Proof.LastReal
public import Idealize.ShloMosaic.Lib.Pointwise

@[expose] public section

set_option maxRecDepth 16384

noncomputable section

namespace Cert.Kernel8Ideal.Last

open Cert.Kernel8Ideal Cert.Kernel8Ideal.Gen Idealize.ShloMosaic Idealize.ShloMosaic.TcCoe Idealize.SL.Sem
open Cert.At

/-- The latent tokens' modulations by sample and part, -/
def modL (x4 : FVec Ideal S4x12288 .f32) : FVec Ideal S4x6x1x2048 .f32 := shapeCast S4x6x1x2048 x4 shapeCasts_S4x12288_S4x6x1x2048
/-- the projection's weights, -/
def wout (x2 : FVec Ideal S1x2048x2048 .f32) : FVec Ideal S2048x2048 .bf16 :=
  truncf .bf16 (shapeCast S2048x2048 x2 shapeCasts_S1x2048x2048_S2048x2048) bitsLt_bf16_f32
/-- the second layer's gains, -/
def gain (x6 : FVec Ideal S2x2048 .f32) : FVec Ideal S1x2048 .f32 := extractStridedSlice S1x2048 ![1, 0] x6 slices_S2x2048_S1x2048_1_0
/-- its router's weights, -/
def rw0 (x7 : FVec Ideal S2x2048x16 .f32) : FVec Ideal S2048x16 .f32 :=
  shapeCast S2048x16 (extractStridedSlice S1x2048x16 ![1, 0, 0] x7 slices_S2x2048x16_S1x2048x16_1_0_0) shapeCasts_S1x2048x16_S2048x16
/-- and the same in two parts, side by side. -/
def rw2 (x7 : FVec Ideal S2x2048x16 .f32) : FVec Ideal S2048x32 .bf16 :=
  concatenate S2048x32 1 [⟨S2048x16, truncf .bf16 (rw0 x7) bitsLt_bf16_f32⟩,
    ⟨S2048x16, truncf .bf16 (subf (rw0 x7) (extf .f32 (truncf .bf16 (rw0 x7) bitsLt_bf16_f32) bitsLt_bf16_f32)) bitsLt_bf16_f32⟩]
    concatenates_S2048x16_S2048x16_S2048x32_d1
/-- The two halves of the launch's logits added. -/
def halves (g : FVec Ideal S4x4096x32 .f32) : FVec Ideal S4x4096x16 .f32 :=
  addf (extractStridedSlice S4x4096x16 ![0, 0, 0] g slices_S4x4096x32_S4x4096x16_0_0_0)
    (extractStridedSlice S4x4096x16 ![0, 0, 16] g slices_S4x4096x32_S4x4096x16_0_0_16)

section Run

variable (m : (ℓ : Loc nD τ sig) → Buf (Elt Ideal) ℓ) (ρ : Dev nD → PrngReg)

theorem V_modL (c : Dev nD) : V m c main_v0 = modL (m ((c.tc : Thread nD τ).loc main_arg4)) := rfl
theorem V_wout (c : Dev nD) : V m c main_v3 = wout (m ((c.tc : Thread nD τ).loc main_arg2)) := rfl
theorem V_gain (c : Dev nD) : V m c main_v4 = gain (m ((c.tc : Thread nD τ).loc main_arg6)) := rfl
theorem V_rw2 (c : Dev nD) : V m c main_v11 = rw2 (m ((c.tc : Thread nD τ).loc main_arg7)) := rfl

theorem after_logits (W : Valuation τ sig (Elt Ideal)) :
    StableHlo.after (hostOps1 (F := Ideal)) W (Proc.devRef .tc main_v15) = halves (W (Proc.devRef .tc main_v12_2)) := rfl

theorem W_logits (c : Dev nD) :
    Pipeline.afterTail₀ cfgs (dats m) 0 (V0 m) [hostOps1] c main_v15 = halves ((dats m 0 c).arrAt 15 cfg0.N) := by
  unfold Pipeline.afterTail₀
  refine (after_logits _).trans (congrArg halves ?_)
  exact Pipeline.withArrays_arr_shared spec0 c (V0 m c) _ ((dats m 0 c).arrAt_sharedIn sharedIn0 (V0 m c) (A_eq m c) _) 15

/-- The three results after every run, the arguments as launched. -/
theorem run : θ_run defs (onTc (τ := τ) (main (F := Ideal))) ⟨m, fun _ => 0, ρ⟩ (fun r => ∀ c : Dev nD,
      r.2.mem ((c.tc : Thread nD τ).loc main_v12_0) = (dats m 0 c).arrAt 13 cfg0.N
      ∧ r.2.mem ((c.tc : Thread nD τ).loc main_v12_1) = (dats m 0 c).arrAt 14 cfg0.N
      ∧ r.2.mem ((c.tc : Thread nD τ).loc main_v15) = halves ((dats m 0 c).arrAt 15 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1 13, (h c).1 14,
      ((h c).2 main_v15 (Pipeline.mem_restRefs_of main_v15 (by decide) (by decide))).trans (W_logits m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Run

theorem modL_at (x4 : FVec Ideal S4x12288 .f32) (b : Fin 4) (j : Fin 6) (n : Fin 2048) :
    modL x4 (ix4 b j 0 n) = x4 (ix2 b ⟨j.val * 2048 + n.val, by omega⟩) := by
  pointwise [modL]

theorem wout_at (x2 : FVec Ideal S1x2048x2048 .f32) (k n : Fin 2048) : wout x2 (ix2 k n) = x2 (ix3 0 k n) := by
  pointwise [wout]

theorem gain_at (x6 : FVec Ideal S2x2048 .f32) (n : Fin 2048) : gain x6 (ix2 0 n) = x6 (ix2 1 n) := by
  pointwise [gain]

theorem rw2_lo (x7 : FVec Ideal S2x2048x16 .f32) (k : Fin 2048) (e : Fin 16) : rw2 x7 (ix2 k ⟨e.val, by omega⟩) = x7 (ix3 1 k e) := by
  pointwise [rw2, rw0]

theorem rw2_hi (x7 : FVec Ideal S2x2048x16 .f32) (k : Fin 2048) (e : Fin 16) :
    rw2 x7 (ix2 k ⟨16 + e.val, by omega⟩) = x7 (ix3 1 k e) - x7 (ix3 1 k e) := by
  pointwise [rw2, rw0]

theorem halves_at (g : FVec Ideal S4x4096x32 .f32) (b : Fin 4) (t : Fin 4096) (e : Fin 16) :
    halves g (ix3 b t e) = g (ix3 b t ⟨e.val, by omega⟩) + g (ix3 b t ⟨16 + e.val, by omega⟩) := by
  pointwise [halves]

end Cert.Kernel8Ideal.Last

end
-- ==== Proof.LastRef.lean ====
/- The reference's second output projection read at an index: the residual, the normalized and modulated row, the logits. -/
module

public import proofs.«01_k».proof.Proof.OutPiece
public import proofs.«01_k».proof.Proof.Gen.Reference8Ideal.Read
public import Idealize.ShloMosaic.Lib.Pointwise

@[expose] public section

set_option maxRecDepth 16384

noncomputable section

namespace Cert.Reference8Ideal.Last

open Cert.Reference8Ideal Cert.Reference8Ideal.Gen Cert.Reference8Ideal.Read Idealize.ShloMosaic

variable (x0 : S4x4096x1024.Idx → EReal) (x1 : S4x4352x1024.Idx → EReal) (x2 : S1x2048x2048.Idx → EReal) (x3 : S4x4352x2048.Idx → EReal) (x4 : S4x12288.Idx → EReal)
  (x6 : S2x2048.Idx → EReal) (x7 : S2x2048x16.Idx → EReal)

theorem both_lo (b : Fin 4) (t : Fin 4096) (k : Fin 1024) : val_main_v3 (F := Ideal) x0 x1 (ix3 b t ⟨k.val, by omega⟩) = x0 (ix3 b t k) := by
  pointwise [val_main_v3, val_main_v0, val_main_v1, val_main_v2]

theorem both_hi (b : Fin 4) (t : Fin 4096) (k : Fin 1024) :
    val_main_v3 (F := Ideal) x0 x1 (ix3 b t ⟨1024 + k.val, by omega⟩) = x1 (ix3 b ⟨t.val, by omega⟩ k) := by
  pointwise [val_main_v3, val_main_v0, val_main_v1, val_main_v2]

theorem dot_at (b : Fin 4) (t : Fin 4096) (n : Fin 2048) :
    val_main_v5 (F := Ideal) x0 x1 x2 (ix3 b t n)
      = ∑ k : Fin 2048, val_main_v3 (F := Ideal) x0 x1 (ix3 b t k) * x2 (ix3 0 k n) := by
  pointwise [val_main_v5, val_main_v4]

theorem dot_split (b : Fin 4) (t : Fin 4096) (n : Fin 2048) :
    val_main_v5 (F := Ideal) x0 x1 x2 (ix3 b t n)
      = (∑ k : Fin 1024, x0 (ix3 b t k) * x2 (ix3 0 ⟨k.val, by omega⟩ n))
        + ∑ k : Fin 1024, x1 (ix3 b ⟨t.val, by omega⟩ k) * x2 (ix3 0 ⟨1024 + k.val, by omega⟩ n) := by
  rw [dot_at]
  refine (Fin.sum_univ_add (a := 1024) (b := 1024) fun k => val_main_v3 (F := Ideal) x0 x1 (ix3 b t k) * x2 (ix3 0 k n)).trans ?_
  exact congrArg₂ (· + ·)
    (Finset.sum_congr rfl fun k _ => congrArg (· * x2 (ix3 0 ⟨k.val, by omega⟩ n)) (both_lo x0 x1 b t k))
    (Finset.sum_congr rfl fun k _ => congrArg (· * x2 (ix3 0 ⟨1024 + k.val, by omega⟩ n)) (both_hi x0 x1 b t k))

theorem lat_at (b : Fin 4) (t : Fin 4096) (n : Fin 2048) :
    val_main_v21 (F := Ideal) x0 x1 x2 x3 x4 (ix3 b t n)
      = x3 (ix3 b ⟨t.val, by omega⟩ n) + x4 (ix2 b ⟨4096 + n.val, by omega⟩) * val_main_v5 (F := Ideal) x0 x1 x2 (ix3 b t n) := by
  pointwise [val_main_v21, val_main_v20, val_main_v19, val_main_v18, val_main_v14, val_main_v8]

theorem gain_at (n : Fin 2048) : val_main_v23 (F := Ideal) x6 (ix1 n) = x6 (ix2 1 n) := by
  pointwise [val_main_v23, val_main_v22]

theorem inv_at (b : Fin 4) (t : Fin 4096) :
    val_main_v31 (F := Ideal) x0 x1 x2 x3 x4 (ix3 b t 0) = Cert.Kernel6Ideal.Out.inv fun k => val_main_v21 (F := Ideal) x0 x1 x2 x3 x4 (ix3 b t k) := by
  unfold Cert.Kernel6Ideal.Out.inv
  pointwise [val_main_v31, val_main_v30, val_main_v29, val_main_v28, val_main_v27, val_main_v26, val_main_v25, val_main_v24, val_main_cst, val_main_cst_0, val_main_cst_1]

theorem hid_at (b : Fin 4) (t : Fin 4096) (n : Fin 2048) :
    val_main_v42 (F := Ideal) x0 x1 x2 x3 x4 x6 (ix3 b t n)
      = val_main_v21 (F := Ideal) x0 x1 x2 x3 x4 (ix3 b t n) * val_main_v31 (F := Ideal) x0 x1 x2 x3 x4 (ix3 b t 0) * val_main_v23 (F := Ideal) x6 (ix1 n)
          * (Ideal.ofBits .f32 0x3F800000#32 + x4 (ix2 b ⟨8192 + n.val, by omega⟩))
        + x4 (ix2 b ⟨6144 + n.val, by omega⟩) := by
  pointwise [val_main_v42, val_main_v41, val_main_v40, val_main_v39, val_main_v38, val_main_v37, val_main_v36, val_main_v35, val_main_v34, val_main_v33, val_main_v32,
    val_main_v15, val_main_v9, val_main_v16, val_main_v10, val_main_cst_2]

theorem logit_at (b : Fin 4) (t : Fin 4096) (e : Fin 16) :
    val_main_v46 (F := Ideal) x0 x1 x2 x3 x4 x6 x7 (ix3 b t e)
      = ∑ k : Fin 2048, val_main_v42 (F := Ideal) x0 x1 x2 x3 x4 x6 (ix3 b t k) * x7 (ix3 1 k e) := by
  pointwise [val_main_v46, val_main_v45, val_main_v44]

end Cert.Reference8Ideal.Last

end
-- ==== Proof.LastSame.lean ====
/- The second layer's output projection: its three arrays are the reference's. -/
module

public import proofs.«01_k».proof.Proof.LastHost
public import proofs.«01_k».proof.Proof.LastRef

@[expose] public section

set_option maxRecDepth 16384

noncomputable section

namespace Cert.Kernel8Ideal.Last

open Cert.Kernel8Ideal Cert.Kernel8Ideal.Gen Idealize.ShloMosaic Idealize.ShloMosaic.TcCoe Idealize.SL.Sem
open Cert.At
open Cert.Reference8Ideal.Read
open Cert.Kernel6Ideal.Out (IsReal router_add)

variable (x0 : S4x4096x1024.Idx → EReal) (x1 : S4x4352x1024.Idx → EReal) (x2 : S1x2048x2048.Idx → EReal) (x3 : S4x4352x2048.Idx → EReal) (x4 : S4x12288.Idx → EReal)
  (x6 : S2x2048.Idx → EReal) (x7 : S2x2048x16.Idx → EReal)

theorem lat_part (b : Fin 4) (j : Fin 6) (o : ℕ) (n : Fin 2048) (h : o + n.val < 12288) (e : j.val * 2048 = o) :
    at4 (modL x4) b.val j.val 0 n.val = x4 (ix2 b ⟨o + n.val, h⟩) := by
  refine (at4_mk (modL x4) b j 0 n).trans ((modL_at x4 b j n).trans (congrArg (fun i => x4 (ix2 b i)) (Fin.ext ?_)))
  show j.val * 2048 + n.val = o + n.val
  omega

/-- The residuals of one launch. -/
abbrev res : ℕ → ℕ → ℕ → EReal := ares x0 x1 (wout x2) x3 (modL x4)

theorem res_same (b : Fin 4) (t : Fin 4096) (n : Fin 2048) :
    res x0 x1 x2 x3 x4 b.val t.val n.val = val_main_v21 (F := Ideal) x0 x1 x2 x3 x4 (ix3 b t n) := by
  unfold res ares resid
  rw [Cert.Reference8Ideal.Last.lat_at, Cert.Reference8Ideal.Last.dot_split]
  refine congrArg₂ (· + ·) (at3_mk x3 b ⟨t.val, by omega⟩ n) (congrArg₂ (· * ·)
    (lat_part x4 b 2 4096 n (by omega) rfl) (congrArg₂ (· + ·) ?_ ?_))
  · exact Finset.sum_congr rfl fun k _ => congrArg₂ (· * ·) (at3_mk x0 b t k)
      ((at2_mk (wout x2) ⟨k.val, by omega⟩ n).trans (wout_at x2 ⟨k.val, by omega⟩ n))
  · exact Finset.sum_congr rfl fun k _ => congrArg₂ (· * ·) (at3_mk x1 b ⟨t.val, by omega⟩ k)
      ((at2_mk (wout x2) ⟨1024 + k.val, by omega⟩ n).trans (wout_at x2 ⟨1024 + k.val, by omega⟩ n))

/-- The normalized and modulated rows of one launch. -/
abbrev hid : ℕ → ℕ → ℕ → EReal := ahid (res x0 x1 x2 x3 x4) (gain x6) (modL x4)

theorem hid_at (b : Fin 4) (t : Fin 4096) (n : Fin 2048) :
    hid x0 x1 x2 x3 x4 x6 b.val t.val n.val
      = scaled (fun k => res x0 x1 x2 x3 x4 b.val t.val k.val) (res x0 x1 x2 x3 x4 b.val t.val n.val) (x6 (ix2 1 n))
          (x4 (ix2 b ⟨8192 + n.val, by omega⟩))
        + x4 (ix2 b ⟨6144 + n.val, by omega⟩) := by
  have hg : at2 (gain x6) 0 n.val = x6 (ix2 1 n) := (at2_mk (gain x6) 0 n).trans (gain_at x6 n)
  have hl : at4 (modL x4) b.val 4 0 n.val = _ := lat_part x4 b 4 8192 n (by omega) rfl
  have hl' : at4 (modL x4) b.val 3 0 n.val = _ := lat_part x4 b 3 6144 n (by omega) rfl
  unfold hid ahid
  rw [hg, hl, hl']

theorem hid_same (b : Fin 4) (t : Fin 4096) (n : Fin 2048) :
    hid x0 x1 x2 x3 x4 x6 b.val t.val n.val = val_main_v42 (F := Ideal) x0 x1 x2 x3 x4 x6 (ix3 b t n) := by
  rw [hid_at, Cert.Reference8Ideal.Last.hid_at, Cert.Reference8Ideal.Last.inv_at, Cert.Reference8Ideal.Last.gain_at]
  unfold scaled
  simp only [fun k => res_same x0 x1 x2 x3 x4 b t k]

/-- With real modulations and gains every normalized and modulated entry is real. -/
theorem hid_real (h4 : ∀ i, IsReal (x4 i)) (h6 : ∀ i, IsReal (x6 i)) (b : Fin 4) (t : Fin 4096) (n : Fin 2048) :
    IsReal (hid x0 x1 x2 x3 x4 x6 b.val t.val n.val) := by
  rw [hid_at]
  exact (real_scaled (fun k => res x0 x1 x2 x3 x4 b.val t.val k.val) n (h6 _) (h4 _)).add (h4 _)

theorem log_same (h4 : ∀ i, IsReal (x4 i)) (h6 : ∀ i, IsReal (x6 i)) (h7 : ∀ i, IsReal (x7 i)) (b : Fin 4) (t : Fin 4096) (e : Fin 16) :
    alog (hid x0 x1 x2 x3 x4 x6) (rw2 x7) b.val t.val e.val + alog (hid x0 x1 x2 x3 x4 x6) (rw2 x7) b.val t.val (16 + e.val)
      = val_main_v46 (F := Ideal) x0 x1 x2 x3 x4 x6 x7 (ix3 b t e) := by
  have hlo : (fun k : Fin 2048 => at2 (rw2 x7) k.val e.val) = fun k => x7 (ix3 1 k e) :=
    funext fun k => (at2_mk (rw2 x7) k ⟨e.val, by omega⟩).trans (rw2_lo x7 k e)
  have hhi : (fun k : Fin 2048 => at2 (rw2 x7) k.val (16 + e.val)) = fun k => x7 (ix3 1 k e) - x7 (ix3 1 k e) :=
    funext fun k => (at2_mk (rw2 x7) k ⟨16 + e.val, by omega⟩).trans (rw2_hi x7 k e)
  unfold alog
  rw [hlo, hhi, Cert.Reference8Ideal.Last.logit_at]
  refine (router_add _ _ (fun k => hid_real x0 x1 x2 x3 x4 x6 h4 h6 b t k) (fun k => h7 _)).trans ?_
  exact Finset.sum_congr rfl fun k _ => congrArg (· * x7 (ix3 1 k e)) (hid_same x0 x1 x2 x3 x4 x6 b t k)

section Final

variable (m : (ℓ : Loc nD τ sig) → Buf (Elt Ideal) ℓ)

theorem mres_eq (c : Dev nD) : mres m c = res (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold mres res
  rw [V_main_arg0, V_main_arg1, V_main_arg3, V_wout, V_modL]

theorem mhid_eq (c : Dev nD) : mhid m c = hid (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg6)) := by
  unfold mhid hid
  rw [mres_eq, V_gain, V_modL]

theorem final_res (c : Dev nD) : (dats m 0 c).arrAt 13 cfg0.N = val_main_v21 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (final13 m c).trans (funext fun y : S4x4096x2048.Idx => ?_)
  rw [mres_eq]
  refine (res_same _ _ _ _ _ (y 0) (y 1) (y 2)).trans (congrArg _ ?_)
  exact ix3_eta y

theorem final_hid (c : Dev nD) : (dats m 0 c).arrAt 14 cfg0.N = val_main_v43 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg6)) := by
  refine (final14 m c).trans (funext fun y : S4x4096x2048.Idx => ?_)
  rw [mhid_eq]
  refine (hid_same _ _ _ _ _ _ (y 0) (y 1) (y 2)).trans ?_
  exact congrArg (val_main_v42 (F := Ideal) _ _ _ _ _ _) (ix3_eta y)

theorem final_log (c : Dev nD) (h4 : ∀ i, IsReal ((m ((c.tc : Thread nD τ).loc main_arg4) : S4x12288.Idx → EReal) i))
    (h6 : ∀ i, IsReal ((m ((c.tc : Thread nD τ).loc main_arg6) : S2x2048.Idx → EReal) i))
    (h7 : ∀ i, IsReal ((m ((c.tc : Thread nD τ).loc main_arg7) : S2x2048x16.Idx → EReal) i)) :
    halves ((dats m 0 c).arrAt 15 cfg0.N) = val_main_v46 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg6)) (m ((c.tc : Thread nD τ).loc main_arg7)) := by
  rw [final15 m c]
  refine funext fun y : S4x4096x16.Idx => ?_
  obtain ⟨b, t, e, rfl⟩ : ∃ b t e, y = ix3 b t e := ⟨_, _, _, (ix3_eta y).symm⟩
  rw [halves_at]
  unfold mlog
  rw [mhid_eq, V_rw2]
  exact log_same _ _ _ _ _ _ _ h4 h6 h7 b t e

end Final

end Cert.Kernel8Ideal.Last

end
-- ==== Proof.LastFin.lean ====
/- The precondition of the second layer's output projection read: every entry of the modulations, of the gains and of the
   router's weights is a real number. -/
module

public import proofs.«01_k».proof.Proof.Gen.Pre_finite8
public import proofs.«01_k».proof.Proof.OutFin

@[expose] public section

set_option maxRecDepth 16384

noncomputable section

namespace Cert.LastFin

open Cert.Pre_finite8 Cert.Pre_finite8.Gen Idealize.ShloMosaic
open Cert.OutFin (and_one entry)

instance : Subsingleton S_.Idx := ⟨fun a b => funext fun k => k.elim0⟩

theorem read (a0 : FVec Ideal S4x4096x1024 .bf16) (a1 : FVec Ideal S4x4352x1024 .bf16) (a2 : FVec Ideal S1x2048x2048 .f32) (a3 : FVec Ideal S4x4352x2048 .f32)
    (L : FVec Ideal S4x12288 .f32) (C : FVec Ideal S12288 .f32) (G : FVec Ideal S2x2048 .f32) (W : FVec Ideal S2x2048x16 .f32)
    (h : Cert.Pre_finite8.fn (F := Ideal) a0 a1 a2 a3 L C G W = fun _ => 1#1) :
    (∀ i, L i ≠ ⊥ ∧ L i ≠ ⊤) ∧ (∀ i, G i ≠ ⊥ ∧ G i ≠ ⊤) ∧ (∀ i, W i ≠ ⊥ ∧ W i ≠ ⊤) := by
  have h0 := congrFun h (Shape.Idx.first h_S_)
  unfold Cert.Pre_finite8.fn Cert.Pre_finite8.fn_part1 at h0
  obtain ⟨h1, hW⟩ := and_one h0
  obtain ⟨hL, hG⟩ := and_one h1
  exact ⟨fun i => entry (Host.reduce_andi_all _ _ _ _ _ hL i), fun i => entry (Host.reduce_andi_all _ _ _ _ _ hG i),
    fun i => entry (Host.reduce_andi_all _ _ _ _ _ hW i)⟩

end Cert.LastFin

end
-- ==== Proof.lean ====
/- The claims of the certificate, joined from their proofs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite8
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Same
public import proofs.«01_k».proof.Proof.Fin
public import proofs.«01_k».proof.Proof.MoeFinal
public import proofs.«01_k».proof.Proof.ProjEven
public import proofs.«01_k».proof.Proof.ProjOdd
public import Idealize.ShloMosaic.Adequacy
public import Idealize.ShloMosaic.Init
public import proofs.«01_k».proof.Proof.LateFinal
public import proofs.«01_k».proof.Proof.LateRun
public import proofs.«01_k».proof.Proof.OutHost
public import proofs.«01_k».proof.Proof.OutSame
public import proofs.«01_k».proof.Proof.OutFin
public import proofs.«01_k».proof.Proof.LastSame
public import proofs.«01_k».proof.Proof.LastFin

@[expose] public section

noncomputable section

namespace Cert.Proof

open Idealize.ShloMosaic Idealize.SL.Sem Cert.Kernel

theorem algebraic : Cert.algebraic_KernelIdeal_ReferenceIdeal_pre_finite := by
  intro m g m' g' hpre hargs
  refine ⟨fun c => Cert.ReferenceIdeal.Read.val_main_v134 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run _ _ _).mono (fun r h c => ?_) (Cert.KernelIdeal.Value.run_blocks m g)
    refine ⟨(h c).1.trans ?_, (h c).2⟩
    rw [Cert.KernelIdeal.Entry.final_o, Cert.KernelIdeal.Bias.V_table]
    obtain ⟨hA, hB⟩ := Cert.FinPre.read _ _ (hpre c)
    exact funext fun y => Cert.Same.same _ _ hA hB y
  · refine (θ_run _ _ _).mono (fun r h c => ?_) (Cert.ReferenceIdeal.Value.run m' g')
    refine ⟨(h c).1.trans ?_, (h c).2⟩
    refine (Cert.ReferenceIdeal.Read.val_main_v134_eq (F := Ideal) _).trans ?_
    exact congrArg₂ (Cert.ReferenceIdeal.Read.val_main_v134 (F := Ideal)) (hargs c).1 (hargs c).2

theorem frame_ref (m) (g) : θ_run (Cert.ReferenceIdeal.defs (F := Ideal)) (onTc (τ := Cert.ReferenceIdeal.τ) (Cert.ReferenceIdeal.main (F := Ideal)))
    ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run m g)

theorem algebraic2 : Cert.algebraic_Kernel2Ideal_Reference2Ideal := by
  intro m g m' g' _ hargs
  refine ⟨fun c => Cert.Reference2Ideal.Read.val_main_v100 (F := Ideal)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)), ?_, ?_⟩
  · refine (θ_run _ _ _).mono (fun r h c => ?_) (Cert.Kernel2Ideal.Moe.run m g)
    refine ⟨(h c).1.trans ?_, (h c).2⟩
    exact Cert.Kernel2Ideal.Moe.final m g c
  · refine (θ_run _ _ _).mono (fun r h c => ?_) (Cert.Reference2Ideal.Value.run m' g')
    refine ⟨(h c).1.trans ?_, (h c).2⟩
    refine (Cert.Reference2Ideal.Read.val_main_v100_eq (F := Ideal) _ _).trans ?_
    obtain ⟨h0, h1, h2, h3, h4⟩ := hargs c
    rw [h0, h1, h2, h3, h4]

theorem algebraic3 : Cert.algebraic_Kernel3Ideal_Reference3Ideal := by
  intro m g m' g' _ hargs
  refine ⟨fun c => Cert.Reference3Ideal.Read.val_main_v4 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)), ?_, ?_⟩
  · refine (θ_run _ _ _).mono (fun r h c => ?_) (Cert.Kernel3Ideal.Value.run_blocks m g)
    refine ⟨(h c).1.trans ?_, (h c).2⟩
    rw [Cert.Kernel3Ideal.Proj.final_o, Cert.Kernel3Ideal.Proj.V_rows, Cert.Kernel3Ideal.Gen.V_main_arg1]
    exact Cert.Kernel3Ideal.Proj.same _ _
  · refine (θ_run _ _ _).mono (fun r h c => ?_) (Cert.Reference3Ideal.Value.run m' g')
    refine ⟨(h c).1.trans ?_, (h c).2⟩
    refine (Cert.Reference3Ideal.Read.val_main_v4_eq (F := Ideal) _ _).trans ?_
    exact congrArg₂ (Cert.Reference3Ideal.Read.val_main_v4 (F := Ideal)) (hargs c).1 (hargs c).2

theorem algebraic4 : Cert.algebraic_Kernel4Ideal_Reference4Ideal := by
  intro m g m' g' _ hargs
  refine ⟨fun c => Cert.Reference4Ideal.Read.val_main_v5 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)), ?_, ?_⟩
  · refine (θ_run _ _ _).mono (fun r h c => ?_) (Cert.Kernel4Ideal.Value.run_blocks m g)
    refine ⟨(h c).1.trans ?_, (h c).2⟩
    rw [Cert.Kernel4Ideal.Proj.final_o, Cert.Kernel4Ideal.Proj.V_rows, Cert.Kernel4Ideal.Proj.V_weight]
    exact Cert.Kernel4Ideal.Proj.same _ _
  · refine (θ_run _ _ _).mono (fun r h c => ?_) (Cert.Reference4Ideal.Value.run m' g')
    refine ⟨(h c).1.trans ?_, (h c).2⟩
    refine (Cert.Reference4Ideal.Read.val_main_v5_eq (F := Ideal) _ _).trans ?_
    exact congrArg₂ (Cert.Reference4Ideal.Read.val_main_v5 (F := Ideal)) (hargs c).1 (hargs c).2

theorem frame_ref2 (m) (g) : θ_run (Cert.Reference2Ideal.defs (F := Ideal)) (onTc (τ := Cert.Reference2Ideal.τ) (Cert.Reference2Ideal.main (F := Ideal)))
    ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run _ _ _).mono (fun r h => ⟨fun c => (h c).2, sem_eq_zero_of_no_sems (by decide) r.2⟩) (Cert.Reference2Ideal.Value.run m g)

theorem frame_ref3 (m) (g) : θ_run (Cert.Reference3Ideal.defs (F := Ideal)) (onTc (τ := Cert.Reference3Ideal.τ) (Cert.Reference3Ideal.main (F := Ideal)))
    ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run _ _ _).mono (fun r h => ⟨fun c => (h c).2, sem_eq_zero_of_no_sems (by decide) r.2⟩) (Cert.Reference3Ideal.Value.run m g)

theorem frame_ref4 (m) (g) : θ_run (Cert.Reference4Ideal.defs (F := Ideal)) (onTc (τ := Cert.Reference4Ideal.τ) (Cert.Reference4Ideal.main (F := Ideal)))
    ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run _ _ _).mono (fun r h => ⟨fun c => (h c).2, sem_eq_zero_of_no_sems (by decide) r.2⟩) (Cert.Reference4Ideal.Value.run m g)

theorem algebraic5 : Cert.algebraic_Kernel5Ideal_Reference5Ideal := by
  intro m g m' g' _ hargs
  refine ⟨fun c => Cert.Reference5Ideal.Read.val_main_v49 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4)), ?_, ?_⟩
  · refine (θ_run _ _ _).mono (fun r h c => ?_) (Cert.Kernel5Ideal.Moe.run m g)
    refine ⟨(h c).1.trans ?_, (h c).2⟩
    exact Cert.Kernel5Ideal.Moe.final m g c
  · refine (θ_run _ _ _).mono (fun r h c => ?_) (Cert.Reference5Ideal.Value.run m' g')
    refine ⟨(h c).1.trans ?_, (h c).2⟩
    refine (Cert.Reference5Ideal.Read.val_main_v49_eq (F := Ideal) _ _).trans ?_
    obtain ⟨h0, h1, h2, h3, h4⟩ := hargs c
    rw [h0, h1, h2, h3, h4]

theorem algebraic6 : Cert.algebraic_Kernel6Ideal_Reference6Ideal_pre_finite6 := by
  intro m g m' g' hpre hargs
  refine ⟨fun c => Cert.Reference6Ideal.Read.val_main_v79 (F := Ideal)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg5)),
    fun c => Cert.Reference6Ideal.Read.val_main_v80 (F := Ideal)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg5))
      (m ((c.tc : Thread Cert.Kernel6Ideal.nD Cert.Kernel6Ideal.τ).loc Cert.Kernel6Ideal.main_arg6)),
    fun c => Cert.Reference6Ideal.Read.val_main_v83 (F := Ideal)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg5))
      (m ((c.tc : Thread Cert.Kernel6Ideal.nD Cert.Kernel6Ideal.τ).loc Cert.Kernel6Ideal.main_arg6))
      (m ((c.tc : Thread Cert.Kernel6Ideal.nD Cert.Kernel6Ideal.τ).loc Cert.Kernel6Ideal.main_arg7)), ?_, ?_⟩
  · refine (θ_run _ _ _).mono (fun r h c => ?_) (Cert.Kernel6Ideal.Out.run m g)
    obtain ⟨h4, h5, h6, h7⟩ := Cert.OutFin.read _ _ _ _ _ _ _ _ (hpre c)
    exact ⟨(h c).1.trans (Cert.Kernel6Ideal.Out.final_res m c), (h c).2.1.trans (Cert.Kernel6Ideal.Out.final_hid m c),
      (h c).2.2.1.trans (Cert.Kernel6Ideal.Out.final_log m c (fun i => Cert.Kernel6Ideal.Out.real_of_ne (h4 i)) (fun i => Cert.Kernel6Ideal.Out.real_of_ne (h5 i))
        (fun i => Cert.Kernel6Ideal.Out.real_of_ne (h6 i)) (fun i => Cert.Kernel6Ideal.Out.real_of_ne (h7 i))), (h c).2.2.2⟩
  · refine (θ_run _ _ _).mono (fun r h c => ?_) (Cert.Reference6Ideal.Value.run m' g')
    obtain ⟨h0, h1, h2, h3, h4, h5, h6, h7⟩ := hargs c
    refine ⟨(h c).1.trans ?_, (h c).2.1.trans ?_, (h c).2.2.1.trans ?_, (h c).2.2.2⟩
    · refine (Cert.Reference6Ideal.Read.val_main_v79_eq (F := Ideal) _ _ _ _ _ _).trans ?_
      rw [h0, h1, h2, h3, h4, h5]
    · refine (Cert.Reference6Ideal.Read.val_main_v80_eq (F := Ideal) _ _).trans ?_
      rw [h0, h1, h2, h3, h4, h5, h6]
    · refine (Cert.Reference6Ideal.Read.val_main_v83_eq (F := Ideal) _ _).trans ?_
      rw [h0, h1, h2, h3, h4, h5, h6, h7]

theorem algebraic8 : Cert.algebraic_Kernel8Ideal_Reference8Ideal_pre_finite8 := by
  intro m g m' g' hpre hargs
  refine ⟨fun c => Cert.Reference8Ideal.Read.val_main_v21 (F := Ideal)
      (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1))
      (m ((c.tc : Thread Cert.Kernel8Ideal.nD Cert.Kernel8Ideal.τ).loc Cert.Kernel8Ideal.main_arg2))
      (m ((c.tc : Thread Cert.Kernel8Ideal.nD Cert.Kernel8Ideal.τ).loc Cert.Kernel8Ideal.main_arg3))
      (m ((c.tc : Thread Cert.Kernel8Ideal.nD Cert.Kernel8Ideal.τ).loc Cert.Kernel8Ideal.main_arg4)),
    fun c => Cert.Reference8Ideal.Read.val_main_v43 (F := Ideal)
      (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1))
      (m ((c.tc : Thread Cert.Kernel8Ideal.nD Cert.Kernel8Ideal.τ).loc Cert.Kernel8Ideal.main_arg2))
      (m ((c.tc : Thread Cert.Kernel8Ideal.nD Cert.Kernel8Ideal.τ).loc Cert.Kernel8Ideal.main_arg3))
      (m ((c.tc : Thread Cert.Kernel8Ideal.nD Cert.Kernel8Ideal.τ).loc Cert.Kernel8Ideal.main_arg4))
      (m ((c.tc : Thread Cert.Kernel8Ideal.nD Cert.Kernel8Ideal.τ).loc Cert.Kernel8Ideal.main_arg6)),
    fun c => Cert.Reference8Ideal.Read.val_main_v46 (F := Ideal)
      (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1))
      (m ((c.tc : Thread Cert.Kernel8Ideal.nD Cert.Kernel8Ideal.τ).loc Cert.Kernel8Ideal.main_arg2))
      (m ((c.tc : Thread Cert.Kernel8Ideal.nD Cert.Kernel8Ideal.τ).loc Cert.Kernel8Ideal.main_arg3))
      (m ((c.tc : Thread Cert.Kernel8Ideal.nD Cert.Kernel8Ideal.τ).loc Cert.Kernel8Ideal.main_arg4))
      (m ((c.tc : Thread Cert.Kernel8Ideal.nD Cert.Kernel8Ideal.τ).loc Cert.Kernel8Ideal.main_arg6))
      (m ((c.tc : Thread Cert.Kernel8Ideal.nD Cert.Kernel8Ideal.τ).loc Cert.Kernel8Ideal.main_arg7)), ?_, ?_⟩
  · refine (θ_run _ _ _).mono (fun r h c => ?_) (Cert.Kernel8Ideal.Last.run m g)
    obtain ⟨h4, h6, h7⟩ := Cert.LastFin.read _ _ _ _ _ _ _ _ (hpre c)
    exact ⟨(h c).1.trans (Cert.Kernel8Ideal.Last.final_res m c), (h c).2.1.trans (Cert.Kernel8Ideal.Last.final_hid m c),
      (h c).2.2.1.trans (Cert.Kernel8Ideal.Last.final_log m c (fun i => Cert.Kernel6Ideal.Out.real_of_ne (h4 i)) (fun i => Cert.Kernel6Ideal.Out.real_of_ne (h6 i))
        (fun i => Cert.Kernel6Ideal.Out.real_of_ne (h7 i))), (h c).2.2.2⟩
  · refine (θ_run _ _ _).mono (fun r h c => ?_) (Cert.Reference8Ideal.Value.run m' g')
    obtain ⟨h0, h1, h2, h3, h4, h5, h6, h7⟩ := hargs c
    refine ⟨(h c).1.trans ?_, (h c).2.1.trans ?_, (h c).2.2.1.trans ?_, (h c).2.2.2⟩
    · refine (Cert.Reference8Ideal.Read.val_main_v21_eq (F := Ideal) _ _ _ _ _).trans ?_
      rw [h0, h1, h2, h3, h4]
    · refine (Cert.Reference8Ideal.Read.val_main_v43_eq (F := Ideal) _ _).trans ?_
      rw [h0, h1, h2, h3, h4, h6]
    · refine (Cert.Reference8Ideal.Read.val_main_v46_eq (F := Ideal) _ _).trans ?_
      rw [h0, h1, h2, h3, h4, h6, h7]

theorem frame_ref5 (m) (g) : θ_run (Cert.Reference5Ideal.defs (F := Ideal)) (onTc (τ := Cert.Reference5Ideal.τ) (Cert.Reference5Ideal.main (F := Ideal)))
    ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0) :=
  (θ_run _ _ _).mono (fun r h => ⟨fun c => (h c).2, sem_eq_zero_of_no_sems (by decide) r.2⟩) (Cert.Reference5Ideal.Value.run m g)

theorem frame_ref6 (m) (g) : θ_run (Cert.Reference6Ideal.defs (F := Ideal)) (onTc (τ := Cert.Reference6Ideal.τ) (Cert.Reference6Ideal.main (F := Ideal)))
    ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0) :=
  (θ_run _ _ _).mono (fun r h => ⟨fun c => (h c).2.2.2, sem_eq_zero_of_no_sems (by decide) r.2⟩) (Cert.Reference6Ideal.Value.run m g)

theorem frame_ref8 (m) (g) : θ_run (Cert.Reference8Ideal.defs (F := Ideal)) (onTc (τ := Cert.Reference8Ideal.τ) (Cert.Reference8Ideal.main (F := Ideal)))
    ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0) :=
  (θ_run _ _ _).mono (fun r h => ⟨fun c => (h c).2.2.2, sem_eq_zero_of_no_sems (by decide) r.2⟩) (Cert.Reference8Ideal.Value.run m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel8.Gen.facts, Cert.Kernel8Ideal.Gen.facts, Cert.Reference8Ideal.Gen.facts, Cert.Pre_finite.Gen.facts, Cert.Pre_finite6.Gen.facts, Cert.Pre_finite8.Gen.facts,
  fun m g _ => Cert.Kernel.Gen.frame m g, fun m g _ => Cert.KernelIdeal.Gen.frame m g, fun m g _ => Cert.KernelIdeal.Gen.frame m g,
  fun m g _ => frame_ref m g, fun m g _ => frame_ref m g,
  fun m g _ => Cert.Kernel2.Gen.frame m g, fun m g _ => Cert.Kernel2Ideal.Gen.frame m g, fun m g _ => frame_ref2 m g,
  fun m g _ => Cert.Kernel3.Gen.frame m g, fun m g _ => Cert.Kernel3Ideal.Gen.frame m g, fun m g _ => frame_ref3 m g,
  fun m g _ => Cert.Kernel4.Gen.frame m g, fun m g _ => Cert.Kernel4Ideal.Gen.frame m g, fun m g _ => frame_ref4 m g,
  fun m g _ => Cert.Kernel5.Gen.frame m g, fun m g _ => Cert.Kernel5Ideal.Gen.frame m g, fun m g _ => frame_ref5 m g,
  fun m g _ => Cert.Kernel6.Gen.frame m g, fun m g _ => Cert.Kernel6Ideal.Gen.frame m g, fun m g _ => Cert.Kernel6Ideal.Gen.frame m g,
  fun m g _ => frame_ref6 m g, fun m g _ => frame_ref6 m g,
  fun m g _ => Cert.Kernel8.Gen.frame m g, fun m g _ => Cert.Kernel8Ideal.Gen.frame m g, fun m g _ => Cert.Kernel8Ideal.Gen.frame m g,
  fun m g _ => frame_ref8 m g, fun m g _ => frame_ref8 m g,
  trivial, algebraic, trivial, algebraic2, trivial, algebraic3, trivial, algebraic4, trivial, algebraic5, trivial, algebraic6, trivial, algebraic8⟩

end Cert.Proof

end
